-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_v65) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x1536 : Shape := ⟨2, ![16384, 1536]⟩
abbrev S8x15x31 : Shape := ⟨3, ![8, 15, 31]⟩
abbrev S1x512 : Shape := ⟨2, ![1, 512]⟩
abbrev S16384x1024 : Shape := ⟨2, ![16384, 1024]⟩
abbrev S_ : Shape := ⟨0, ![]⟩

class Facts : Prop where
  slices_S16384x1536_S16384x1024_0_0 : S16384x1536.Slices ![0, 0] S16384x1024
  bcast_S_S16384x1024 : S_.BroadcastsInDim S16384x1024 (![] : Fin 0 → Fin S16384x1024.rank)
  bcast_S_S8x15x31 : S_.BroadcastsInDim S8x15x31 (![] : Fin 0 → Fin S8x15x31.rank)

variable [Facts]

def fn {F : FTy → Type} [FloatOps F] (main_arg0 : FVec F S16384x1536 .f32) (main_arg1 : FVec F S8x15x31 .f32) (main_arg2 : FVec F S1x512 .f32) : IVec S16384x1024 1 × IVec S8x15x31 1 :=
  let main_v0 : FVec F S16384x1024 .f32 := (extractStridedSlice S16384x1024 ![0, 0] · slices_S16384x1536_S16384x1024_0_0) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S8x15x31 .f32 := Host.absf main_arg1
  let main_cst_0 : FVec F S_ .f32 := constant S_ .f32 0x7F800000#32
  let main_v5 : FVec F S8x15x31 .f32 := broadcastInDim S8x15x31 ![] bcast_S_S8x15x31 main_cst_0
  let main_v6 : IVec S8x15x31 1 := cmpf .olt main_v4 main_v5
  (main_v3, main_v6)
-- ==== Kernel.lean ====
abbrev S16384x1536 : Shape := ⟨2, ![16384, 1536]⟩
abbrev S8x15x31 : Shape := ⟨3, ![8, 15, 31]⟩
abbrev S1x512 : Shape := ⟨2, ![1, 512]⟩
abbrev S64x64 : Shape := ⟨2, ![64, 64]⟩
abbrev S16384x512 : Shape := ⟨2, ![16384, 512]⟩
abbrev S_ : Shape := ⟨0, ![]⟩
abbrev S16384x1024 : Shape := ⟨2, ![16384, 1024]⟩
abbrev S8x15x127 : Shape := ⟨3, ![8, 15, 127]⟩
abbrev S8x15x64 : Shape := ⟨3, ![8, 15, 64]⟩
abbrev S8x15x1x64 : Shape := ⟨4, ![8, 15, 1, 64]⟩
abbrev S8x15x16x64 : Shape := ⟨4, ![8, 15, 16, 64]⟩
abbrev S8x15x64x64 : Shape := ⟨4, ![8, 15, 64, 64]⟩
abbrev S8x14x64x64 : Shape := ⟨4, ![8, 14, 64, 64]⟩
abbrev S8x14x64x128 : Shape := ⟨4, ![8, 14, 64, 128]⟩
abbrev S4x2x14x64x128 : Shape := ⟨5, ![4, 2, 14, 64, 128]⟩
abbrev S4x14x2x64x128 : Shape := ⟨5, ![4, 14, 2, 64, 128]⟩
abbrev S4x14x128x128 : Shape := ⟨4, ![4, 14, 128, 128]⟩
abbrev S512x512 : Shape := ⟨2, ![512, 512]⟩
abbrev S1536x512 : Shape := ⟨2, ![1536, 512]⟩
abbrev S64x128 : Shape := ⟨2, ![64, 128]⟩
abbrev S512x128 : Shape := ⟨2, ![512, 128]⟩
abbrev S128x128 : Shape := ⟨2, ![128, 128]⟩
abbrev S128x512 : Shape := ⟨2, ![128, 512]⟩
abbrev S1x1x128x128 : Shape := ⟨4, ![1, 1, 128, 128]⟩
abbrev S128 : Shape := ⟨1, ![128]⟩
abbrev S128x1 : Shape := ⟨2, ![128, 1]⟩
abbrev S512x256 : Shape := ⟨2, ![512, 256]⟩
abbrev S128x256 : Shape := ⟨2, ![128, 256]⟩
abbrev S64x512 : Shape := ⟨2, ![64, 512]⟩
abbrev S64 : Shape := ⟨1, ![64]⟩
abbrev S64x1 : Shape := ⟨2, ![64, 1]⟩

abbrev nBuf : Space → Nat
  | .hbm => 159
  | .vmem => 10
  | .smem => 0
  | _ => 0

abbrev hbmTy0_0 (i : Nat) : BufTy := match i % 128 with
  | 0 => ⟨S16384x1536, .f32⟩
  | 1 => ⟨S8x15x31, .f32⟩
  | 2 => ⟨S1x512, .f32⟩
  | 3 => ⟨S64x64, .i1⟩
  | 4 => ⟨S16384x512, .f32⟩
  | 5 => ⟨S_, .f32⟩
  | 6 => ⟨S16384x512, .f32⟩
  | 7 => ⟨S16384x512, .f32⟩
  | 8 => ⟨S16384x1024, .f32⟩
  | 9 => ⟨S16384x1536, .f32⟩
  | 10 => ⟨S16384x1536, .bf16⟩
  | 11 => ⟨S_, .i32⟩
  | 12 => ⟨S_, .f32⟩
  | 13 => ⟨S8x15x127, .f32⟩
  | 14 => ⟨S8x15x64, .f32⟩
  | 15 => ⟨S8x15x64, .f32⟩
  | 16 => ⟨S8x15x64, .f32⟩
  | 17 => ⟨S8x15x64, .f32⟩
  | 18 => ⟨S8x15x64, .f32⟩
  | 19 => ⟨S8x15x64, .f32⟩
  | 20 => ⟨S8x15x64, .f32⟩
  | 21 => ⟨S8x15x64, .f32⟩
  | 22 => ⟨S8x15x64, .f32⟩
  | 23 => ⟨S8x15x64, .f32⟩
  | 24 => ⟨S8x15x64, .f32⟩
  | 25 => ⟨S8x15x64, .f32⟩
  | 26 => ⟨S8x15x64, .f32⟩
  | 27 => ⟨S8x15x64, .f32⟩
  | 28 => ⟨S8x15x64, .f32⟩
  | 29 => ⟨S8x15x64, .f32⟩
  | 30 => ⟨S8x15x64, .f32⟩
  | 31 => ⟨S8x15x64, .f32⟩
  | 32 => ⟨S8x15x64, .f32⟩
  | 33 => ⟨S8x15x64, .f32⟩
  | 34 => ⟨S8x15x64, .f32⟩
  | 35 => ⟨S8x15x64, .f32⟩
  | 36 => ⟨S8x15x64, .f32⟩
  | 37 => ⟨S8x15x64, .f32⟩
  | 38 => ⟨S8x15x64, .f32⟩
  | 39 => ⟨S8x15x64, .f32⟩
  | 40 => ⟨S8x15x64, .f32⟩
  | 41 => ⟨S8x15x64, .f32⟩
  | 42 => ⟨S8x15x64, .f32⟩
  | 43 => ⟨S8x15x64, .f32⟩
  | 44 => ⟨S8x15x64, .f32⟩
  | 45 => ⟨S8x15x64, .f32⟩
  | 46 => ⟨S8x15x64, .f32⟩
  | 47 => ⟨S8x15x64, .f32⟩
  | 48 => ⟨S8x15x64, .f32⟩
  | 49 => ⟨S8x15x64, .f32⟩
  | 50 => ⟨S8x15x64, .f32⟩
  | 51 => ⟨S8x15x64, .f32⟩
  | 52 => ⟨S8x15x64, .f32⟩
  | 53 => ⟨S8x15x64, .f32⟩
  | 54 => ⟨S8x15x64, .f32⟩
  | 55 => ⟨S8x15x64, .f32⟩
  | 56 => ⟨S8x15x64, .f32⟩
  | 57 => ⟨S8x15x64, .f32⟩
  | 58 => ⟨S8x15x64, .f32⟩
  | 59 => ⟨S8x15x64, .f32⟩
  | 60 => ⟨S8x15x64, .f32⟩
  | 61 => ⟨S8x15x64, .f32⟩
  | 62 => ⟨S8x15x64, .f32⟩
  | 63 => ⟨S8x15x64, .f32⟩
  | 64 => ⟨S8x15x64, .f32⟩
  | 65 => ⟨S8x15x64, .f32⟩
  | 66 => ⟨S8x15x64, .f32⟩
  | 67 => ⟨S8x15x64, .f32⟩
  | 68 => ⟨S8x15x64, .f32⟩
  | 69 => ⟨S8x15x64, .f32⟩
  | 70 => ⟨S8x15x64, .f32⟩
  | 71 => ⟨S8x15x64, .f32⟩
  | 72 => ⟨S8x15x64, .f32⟩
  | 73 => ⟨S8x15x64, .f32⟩
  | 74 => ⟨S8x15x64, .f32⟩
  | 75 => ⟨S8x15x64, .f32⟩
  | 76 => ⟨S8x15x64, .f32⟩
  | 77 => ⟨S8x15x64, .f32⟩
  | 78 => ⟨S8x15x1x64, .f32⟩
  | 79 => ⟨S8x15x1x64, .f32⟩
  | 80 => ⟨S8x15x1x64, .f32⟩
  | 81 => ⟨S8x15x1x64, .f32⟩
  | 82 => ⟨S8x15x1x64, .f32⟩
  | 83 => ⟨S8x15x1x64, .f32⟩
  | 84 => ⟨S8x15x1x64, .f32⟩
  | 85 => ⟨S8x15x1x64, .f32⟩
  | 86 => ⟨S8x15x1x64, .f32⟩
  | 87 => ⟨S8x15x1x64, .f32⟩
  | 88 => ⟨S8x15x1x64, .f32⟩
  | 89 => ⟨S8x15x1x64, .f32⟩
  | 90 => ⟨S8x15x1x64, .f32⟩
  | 91 => ⟨S8x15x1x64, .f32⟩
  | 92 => ⟨S8x15x1x64, .f32⟩
  | 93 => ⟨S8x15x1x64, .f32⟩
  | 94 => ⟨S8x15x1x64, .f32⟩
  | 95 => ⟨S8x15x1x64, .f32⟩
  | 96 => ⟨S8x15x1x64, .f32⟩
  | 97 => ⟨S8x15x1x64, .f32⟩
  | 98 => ⟨S8x15x1x64, .f32⟩
  | 99 => ⟨S8x15x1x64, .f32⟩
  | 100 => ⟨S8x15x1x64, .f32⟩
  | 101 => ⟨S8x15x1x64, .f32⟩
  | 102 => ⟨S8x15x1x64, .f32⟩
  | 103 => ⟨S8x15x1x64, .f32⟩
  | 104 => ⟨S8x15x1x64, .f32⟩
  | 105 => ⟨S8x15x1x64, .f32⟩
  | 106 => ⟨S8x15x1x64, .f32⟩
  | 107 => ⟨S8x15x1x64, .f32⟩
  | 108 => ⟨S8x15x1x64, .f32⟩
  | 109 => ⟨S8x15x1x64, .f32⟩
  | 110 => ⟨S8x15x1x64, .f32⟩
  | 111 => ⟨S8x15x1x64, .f32⟩
  | 112 => ⟨S8x15x1x64, .f32⟩
  | 113 => ⟨S8x15x1x64, .f32⟩
  | 114 => ⟨S8x15x1x64, .f32⟩
  | 115 => ⟨S8x15x1x64, .f32⟩
  | 116 => ⟨S8x15x1x64, .f32⟩
  | 117 => ⟨S8x15x1x64, .f32⟩
  | 118 => ⟨S8x15x1x64, .f32⟩
  | 119 => ⟨S8x15x1x64, .f32⟩
  | 120 => ⟨S8x15x1x64, .f32⟩
  | 121 => ⟨S8x15x1x64, .f32⟩
  | 122 => ⟨S8x15x1x64, .f32⟩
  | 123 => ⟨S8x15x1x64, .f32⟩
  | 124 => ⟨S8x15x1x64, .f32⟩
  | 125 => ⟨S8x15x1x64, .f32⟩
  | 126 => ⟨S8x15x1x64, .f32⟩
  | 127 => ⟨S8x15x1x64, .f32⟩
  | _ => ⟨S16384x1536, .f32⟩

abbrev hbmTy0_1 (i : Nat) : BufTy := match i % 128 with
  | 0 => ⟨S8x15x1x64, .f32⟩
  | 1 => ⟨S8x15x1x64, .f32⟩
  | 2 => ⟨S8x15x1x64, .f32⟩
  | 3 => ⟨S8x15x1x64, .f32⟩
  | 4 => ⟨S8x15x1x64, .f32⟩
  | 5 => ⟨S8x15x1x64, .f32⟩
  | 6 => ⟨S8x15x1x64, .f32⟩
  | 7 => ⟨S8x15x1x64, .f32⟩
  | 8 => ⟨S8x15x1x64, .f32⟩
  | 9 => ⟨S8x15x1x64, .f32⟩
  | 10 => ⟨S8x15x1x64, .f32⟩
  | 11 => ⟨S8x15x1x64, .f32⟩
  | 12 => ⟨S8x15x1x64, .f32⟩
  | 13 => ⟨S8x15x1x64, .f32⟩
  | 14 => ⟨S8x15x16x64, .f32⟩
  | 15 => ⟨S8x15x16x64, .f32⟩
  | 16 => ⟨S8x15x16x64, .f32⟩
  | 17 => ⟨S8x15x16x64, .f32⟩
  | 18 => ⟨S8x15x64x64, .f32⟩
  | 19 => ⟨S_, .f32⟩
  | 20 => ⟨S_, .f32⟩
  | 21 => ⟨S8x15x64x64, .i1⟩
  | 22 => ⟨S8x15x64x64, .f32⟩
  | 23 => ⟨S8x15x64x64, .f32⟩
  | 24 => ⟨S8x14x64x64, .f32⟩
  | 25 => ⟨S8x14x64x64, .f32⟩
  | 26 => ⟨S8x14x64x128, .f32⟩
  | 27 => ⟨S4x2x14x64x128, .f32⟩
  | 28 => ⟨S4x14x2x64x128, .f32⟩
  | 29 => ⟨S4x14x128x128, .f32⟩
  | 30 => ⟨S16384x512, .bf16⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S1536x512, .bf16⟩
  | .local _ .vmem, ⟨3, _⟩ => ⟨S1536x512, .bf16⟩
  | .local _ .vmem, ⟨4, _⟩ => ⟨S1536x512, .bf16⟩
  | .local _ .vmem, ⟨5, _⟩ => ⟨S1536x512, .bf16⟩
  | .local _ .vmem, ⟨6, _⟩ => ⟨S4x14x128x128, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_cst_1 : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c8192_i32 : BitVec 32 := 8192#32
  let v0 : BitVec 32 := Scalar.muli arg0 c8192_i32
  let c104_i32 : BitVec 32 := 104#32
  let c0_i32 : BitVec 32 := 0#32
  let arg1 : BitVec 32 := BitVec.ofNat 32 (i 1).val
  let c1_i32 : BitVec 32 := 1#32
  let v1 : BitVec 32 := Scalar.subi arg1 c1_i32
  let c8_i32 : BitVec 32 := 8#32
  let v2 : BitVec 32 := Scalar.muli v1 c8_i32
  let v3 : BitVec 32 := Scalar.maxsi c0_i32 v2
  let v4 : BitVec 32 := Scalar.minsi c104_i32 v3
  let c64_i32 : BitVec 32 := 64#32
  let v5 : BitVec 32 := Scalar.muli v4 c64_i32
  let v6 : BitVec 32 := Scalar.addi v0 v5
  v6
def k0_mult2 (i : grid0.Coords) : BitVec 32 :=
  let arg0 : BitVec 32 := BitVec.ofNat 32 (i 0).val
  let c8192_i32 : BitVec 32 := 8192#32
  let v0 : BitVec 32 := Scalar.muli arg0 c8192_i32
  let c104_i32 : BitVec 32 := 104#32
  let c0_i32 : BitVec 32 := 0#32
  let arg1 : BitVec 32 := BitVec.ofNat 32 (i 1).val
  let c1_i32 : BitVec 32 := 1#32
  let v1 : BitVec 32 := Scalar.subi arg1 c1_i32
  let c8_i32 : BitVec 32 := 8#32
  let v2 : BitVec 32 := Scalar.muli v1 c8_i32
  let v3 : BitVec 32 := Scalar.maxsi c0_i32 v2
  let v4 : BitVec 32 := Scalar.minsi c104_i32 v3
  let c64_i32 : BitVec 32 := 64#32
  let v5 : BitVec 32 := Scalar.muli v4 c64_i32
  let v6 : BitVec 32 := Scalar.addi v0 v5
  v6
def k0_mult3 (i : grid0.Coords) : BitVec 32 :=
  let c120_i32 : BitVec 32 := 120#32
  let c0_i32_3 : BitVec 32 := 0#32
  let arg1 : BitVec 32 := BitVec.ofNat 32 (i 1).val
  let c8_i32_1 : BitVec 32 := 8#32
  let v9 : BitVec 32 := Scalar.muli arg1 c8_i32_1
  let c0_i32_2 : BitVec 32 := 0#32
  let v10 : BitVec 32 := Scalar.addi v9 c0_i32_2
  let c4_i32 : BitVec 32 := 4#32
  let v11 : BitVec 32 := Scalar.subi v10 c4_i32
  let v12 : BitVec 32 := Scalar.maxsi c0_i32_3 v11
  let v13 : BitVec 32 := Scalar.minsi c120_i32 v12
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v14 : BitVec 32 := Scalar.subi v13 v3
  let c64_i32_4 : BitVec 32 := 64#32
  let v15 : BitVec 32 := Scalar.muli v14 c64_i32_4
  v15
def k0_mult4 (i : grid0.Coords) : BitVec 32 :=
  let c120_i32_9 : BitVec 32 := 120#32
  let c0_i32_8 : BitVec 32 := 0#32
  let arg1 : BitVec 32 := BitVec.ofNat 32 (i 1).val
  let c8_i32_5 : BitVec 32 := 8#32
  let v19 : BitVec 32 := Scalar.muli arg1 c8_i32_5
  let c1_i32_6 : BitVec 32 := 1#32
  let v20 : BitVec 32 := Scalar.addi v19 c1_i32_6
  let c4_i32_7 : BitVec 32 := 4#32
  let v21 : BitVec 32 := Scalar.subi v20 c4_i32_7
  let v22 : BitVec 32 := Scalar.maxsi c0_i32_8 v21
  let v23 : BitVec 32 := Scalar.minsi c120_i32_9 v22
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v24 : BitVec 32 := Scalar.subi v23 v3
  let c64_i32_10 : BitVec 32 := 64#32
  let v25 : BitVec 32 := Scalar.muli v24 c64_i32_10
  v25
def k0_mult5 (i : grid0.Coords) : BitVec 32 :=
  let c120_i32_15 : BitVec 32 := 120#32
  let c0_i32_14 : BitVec 32 := 0#32
  let arg1 : BitVec 32 := BitVec.ofNat 32 (i 1).val
  let c8_i32_12 : BitVec 32 := 8#32
  let v29 : BitVec 32 := Scalar.muli arg1 c8_i32_12
  let c2_i32 : BitVec 32 := 2#32
  let v30 : BitVec 32 := Scalar.addi v29 c2_i32
  let c4_i32_13 : BitVec 32 := 4#32
  let v31 : BitVec 32 := Scalar.subi v30 c4_i32_13
  let v32 : BitVec 32 := Scalar.maxsi c0_i32_14 v31
  let v33 : BitVec 32 := Scalar.minsi c120_i32_15 v32
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v34 : BitVec 32 := Scalar.subi v33 v3
  let c64_i32_16 : BitVec 32 := 64#32
  let v35 : BitVec 32 := Scalar.muli v34 c64_i32_16
  v35
def k0_mult6 (i : grid0.Coords) : BitVec 32 :=
  let c120_i32_21 : BitVec 32 := 120#32
  let c0_i32_20 : BitVec 32 := 0#32
  let arg1 : BitVec 32 := BitVec.ofNat 32 (i 1).val
  let c8_i32_18 : BitVec 32 := 8#32
  let v39 : BitVec 32 := Scalar.muli arg1 c8_i32_18
  let c3_i32 : BitVec 32 := 3#32
  let v40 : BitVec 32 := Scalar.addi v39 c3_i32
  let c4_i32_19 : BitVec 32 := 4#32
  let v41 : BitVec 32 := Scalar.subi v40 c4_i32_19
  let v42 : BitVec 32 := Scalar.maxsi c0_i32_20 v41
  let v43 : BitVec 32 := Scalar.minsi c120_i32_21 v42
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v44 : BitVec 32 := Scalar.subi v43 v3
  let c64_i32_22 : BitVec 32 := 64#32
  let v45 : BitVec 32 := Scalar.muli v44 c64_i32_22
  v45
def k0_mult7 (i : grid0.Coords) : BitVec 32 :=
  let c120_i32_28 : BitVec 32 := 120#32
  let c0_i32_27 : BitVec 32 := 0#32
  let arg1 : BitVec 32 := BitVec.ofNat 32 (i 1).val
  let c8_i32_24 : BitVec 32 := 8#32
  let v49 : BitVec 32 := Scalar.muli arg1 c8_i32_24
  let c4_i32_25 : BitVec 32 := 4#32
  let v50 : BitVec 32 := Scalar.addi v49 c4_i32_25
  let c4_i32_26 : BitVec 32 := 4#32
  let v51 : BitVec 32 := Scalar.subi v50 c4_i32_26
  let v52 : BitVec 32 := Scalar.maxsi c0_i32_27 v51
  let v53 : BitVec 32 := Scalar.minsi c120_i32_28 v52
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v54 : BitVec 32 := Scalar.subi v53 v3
  let c64_i32_29 : BitVec 32 := 64#32
  let v55 : BitVec 32 := Scalar.muli v54 c64_i32_29
  v55
def k0_mult8 (i : grid0.Coords) : BitVec 32 :=
  let c120_i32_34 : BitVec 32 := 120#32
  let c0_i32_33 : BitVec 32 := 0#32
  let arg1 : BitVec 32 := BitVec.ofNat 32 (i 1).val
  let c8_i32_31 : BitVec 32 := 8#32
  let v59 : BitVec 32 := Scalar.muli arg1 c8_i32_31
  let c5_i32 : BitVec 32 := 5#32
  let v60 : BitVec 32 := Scalar.addi v59 c5_i32
  let c4_i32_32 : BitVec 32 := 4#32
  let v61 : BitVec 32 := Scalar.subi v60 c4_i32_32
  let v62 : BitVec 32 := Scalar.maxsi c0_i32_33 v61
  let v63 : BitVec 32 := Scalar.minsi c120_i32_34 v62
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v64 : BitVec 32 := Scalar.subi v63 v3
  let c64_i32_35 : BitVec 32 := 64#32
  let v65 : BitVec 32 := Scalar.muli v64 c64_i32_35
  v65
def k0_mult9 (i : grid0.Coords) : BitVec 32 :=
  let c120_i32_40 : BitVec 32 := 120#32
  let c0_i32_39 : BitVec 32 := 0#32
  let arg1 : BitVec 32 := BitVec.ofNat 32 (i 1).val
  let c8_i32_37 : BitVec 32 := 8#32
  let v69 : BitVec 32 := Scalar.muli arg1 c8_i32_37
  let c6_i32 : BitVec 32 := 6#32
  let v70 : BitVec 32 := Scalar.addi v69 c6_i32
  let c4_i32_38 : BitVec 32 := 4#32
  let v71 : BitVec 32 := Scalar.subi v70 c4_i32_38
  let v72 : BitVec 32 := Scalar.maxsi c0_i32_39 v71
  let v73 : BitVec 32 := Scalar.minsi c120_i32_40 v72
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v74 : BitVec 32 := Scalar.subi v73 v3
  let c64_i32_41 : BitVec 32 := 64#32
  let v75 : BitVec 32 := Scalar.muli v74 c64_i32_41
  v75
def k0_mult10 (i : grid0.Coords) : BitVec 32 :=
  let c120_i32_47 : BitVec 32 := 120#32
  let c0_i32_46 : BitVec 32 := 0#32
  let arg1 : BitVec 32 := BitVec.ofNat 32 (i 1).val
  let c8_i32_43 : BitVec 32 := 8#32
  let v79 : BitVec 32 := Scalar.muli arg1 c8_i32_43
  let c7_i32_44 : BitVec 32 := 7#32
  let v80 : BitVec 32 := Scalar.addi v79 c7_i32_44
  let c4_i32_45 : BitVec 32 := 4#32
  let v81 : BitVec 32 := Scalar.subi v80 c4_i32_45
  let v82 : BitVec 32 := Scalar.maxsi c0_i32_46 v81
  let v83 : BitVec 32 := Scalar.minsi c120_i32_47 v82
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v84 : BitVec 32 := Scalar.subi v83 v3
  let c64_i32_48 : BitVec 32 := 64#32
  let v85 : BitVec 32 := Scalar.muli v84 c64_i32_48
  v85
def k0_off1 (i : grid0.Coords) (c0_i32_2 : BitVec 32) : Fin 2 → Nat :=
  let c120_i32 : BitVec 32 := 120#32
  let c0_i32_3 : BitVec 32 := 0#32
  let arg1 : BitVec 32 := BitVec.ofNat 32 (i 1).val
  let c8_i32_1 : BitVec 32 := 8#32
  let v9 : BitVec 32 := Scalar.muli arg1 c8_i32_1
  let v10 : BitVec 32 := Scalar.addi v9 c0_i32_2
  let c4_i32 : BitVec 32 := 4#32
  let v11 : BitVec 32 := Scalar.subi v10 c4_i32
  let v12 : BitVec 32 := Scalar.maxsi c0_i32_3 v11
  let v13 : BitVec 32 := Scalar.minsi c120_i32 v12
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v14 : BitVec 32 := Scalar.subi v13 v3
  let c64_i32_4 : BitVec 32 := 64#32
  let v15 : BitVec 32 := Scalar.muli v14 c64_i32_4
  let v16 : BitVec 32 := v15
  let v95 : Index := Scalar.indexCast v16
  let c0_53 : Index := 0#32
  ![v95.toNat, 0]
def k0_off2 (i : grid0.Coords) (c0_i32_2 : BitVec 32) (c0_i32_55 : BitVec 32) : Fin 4 → Nat :=
  let c0_56 : Index := 0#32
  let c120_i32 : BitVec 32 := 120#32
  let c0_i32_3 : BitVec 32 := 0#32
  let arg1 : BitVec 32 := BitVec.ofNat 32 (i 1).val
  let c8_i32_1 : BitVec 32 := 8#32
  let v9 : BitVec 32 := Scalar.muli arg1 c8_i32_1
  let v10 : BitVec 32 := Scalar.addi v9 c0_i32_2
  let c4_i32 : BitVec 32 := 4#32
  let v11 : BitVec 32 := Scalar.subi v10 c4_i32
  let v12 : BitVec 32 := Scalar.maxsi c0_i32_3 v11
  let v13 : BitVec 32 := Scalar.minsi c120_i32 v12
  let v17 : BitVec 32 := Scalar.subi v13 v10
  let c7_i32 : BitVec 32 := 7#32
  let v18 : BitVec 32 := Scalar.addi v17 c7_i32
  let v99 : BitVec 32 := Scalar.addi v18 c0_i32_55
  let v100 : Index := Scalar.indexCast v99
  let c0_57 : Index := 0#32
  let c0_58 : Index := 0#32
  ![0, v100.toNat, 0, 0]
def k0_off3 (i : grid0.Coords) (c0_i32_2 : BitVec 32) : Fin 2 → Nat :=
  let c120_i32 : BitVec 32 := 120#32
  let c0_i32_3 : BitVec 32 := 0#32
  let arg1 : BitVec 32 := BitVec.ofNat 32 (i 1).val
  let c8_i32_1 : BitVec 32 := 8#32
  let v9 : BitVec 32 := Scalar.muli arg1 c8_i32_1
  let v10 : BitVec 32 := Scalar.addi v9 c0_i32_2
  let c4_i32 : BitVec 32 := 4#32
  let v11 : BitVec 32 := Scalar.subi v10 c4_i32
  let v12 : BitVec 32 := Scalar.maxsi c0_i32_3 v11
  let v13 : BitVec 32 := Scalar.minsi c120_i32 v12
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v14 : BitVec 32 := Scalar.subi v13 v3
  let c64_i32_4 : BitVec 32 := 64#32
  let v15 : BitVec 32 := Scalar.muli v14 c64_i32_4
  let v16 : BitVec 32 := v15
  let v123 : Index := Scalar.indexCast v16
  let c128_73 : Index := 128#32
  ![v123.toNat, 128]
def k0_off4 (i : grid0.Coords) (c0_i32_2 : BitVec 32) (c0_i32_75 : BitVec 32) : Fin 4 → Nat :=
  let c1 : Index := 1#32
  let c120_i32 : BitVec 32 := 120#32
  let c0_i32_3 : BitVec 32 := 0#32
  let arg1 : BitVec 32 := BitVec.ofNat 32 (i 1).val
  let c8_i32_1 : BitVec 32 := 8#32
  let v9 : BitVec 32 := Scalar.muli arg1 c8_i32_1
  let v10 : BitVec 32 := Scalar.addi v9 c0_i32_2
  let c4_i32 : BitVec 32 := 4#32
  let v11 : BitVec 32 := Scalar.subi v10 c4_i32
  let v12 : BitVec 32 := Scalar.maxsi c0_i32_3 v11
  let v13 : BitVec 32 := Scalar.minsi c120_i32 v12
  let v17 : BitVec 32 := Scalar.subi v13 v10
  let c7_i32 : BitVec 32 := 7#32
  let v18 : BitVec 32 := Scalar.addi v17 c7_i32
  let v127 : BitVec 32 := Scalar.addi v18 c0_i32_75
  let v128 : Index := Scalar.indexCast v127
  let c0_76 : Index := 0#32
  let c0_77 : Index := 0#32
  ![1, v128.toNat, 0, 0]
def k0_off5 (i : grid0.Coords) (c0_i32_2 : BitVec 32) : Fin 2 → Nat :=
  let c120_i32 : BitVec 32 := 120#32
  let c0_i32_3 : BitVec 32 := 0#32
  let arg1 : BitVec 32 := BitVec.ofNat 32 (i 1).val
  let c8_i32_1 : BitVec 32 := 8#32
  let v9 : BitVec 32 := Scalar.muli arg1 c8_i32_1
  let v10 : BitVec 32 := Scalar.addi v9 c0_i32_2
  let c4_i32 : BitVec 32 := 4#32
  let v11 : BitVec 32 := Scalar.subi v10 c4_i32
  let v12 : BitVec 32 := Scalar.maxsi c0_i32_3 v11
  let v13 : BitVec 32 := Scalar.minsi c120_i32 v12
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v14 : BitVec 32 := Scalar.subi v13 v3
  let c64_i32_4 : BitVec 32 := 64#32
  let v15 : BitVec 32 := Scalar.muli v14 c64_i32_4
  let v16 : BitVec 32 := v15
  let v157 : Index := Scalar.indexCast v16
  let c256_93 : Index := 256#32
  ![v157.toNat, 256]
def k0_off6 (i : grid0.Coords) (c0_i32_2 : BitVec 32) (c0_i32_95 : BitVec 32) : Fin 4 → Nat :=
  let c2 : Index := 2#32
  let c120_i32 : BitVec 32 := 120#32
  let c0_i32_3 : BitVec 32 := 0#32
  let arg1 : BitVec 32 := BitVec.ofNat 32 (i 1).val
  let c8_i32_1 : BitVec 32 := 8#32
  let v9 : BitVec 32 := Scalar.muli arg1 c8_i32_1
  let v10 : BitVec 32 := Scalar.addi v9 c0_i32_2
  let c4_i32 : BitVec 32 := 4#32
  let v11 : BitVec 32 := Scalar.subi v10 c4_i32
  let v12 : BitVec 32 := Scalar.maxsi c0_i32_3 v11
  let v13 : BitVec 32 := Scalar.minsi c120_i32 v12
  let v17 : BitVec 32 := Scalar.subi v13 v10
  let c7_i32 : BitVec 32 := 7#32
  let v18 : BitVec 32 := Scalar.addi v17 c7_i32
  let v161 : BitVec 32 := Scalar.addi v18 c0_i32_95
  let v162 : Index := Scalar.indexCast v161
  let c0_96 : Index := 0#32
  let c0_97 : Index := 0#32
  ![2, v162.toNat, 0, 0]
def k0_off7 (i : grid0.Coords) (c0_i32_2 : BitVec 32) : Fin 2 → Nat :=
  let c120_i32 : BitVec 32 := 120#32
  let c0_i32_3 : BitVec 32 := 0#32
  let arg1 : BitVec 32 := BitVec.ofNat 32 (i 1).val
  let c8_i32_1 : BitVec 32 := 8#32
  let v9 : BitVec 32 := Scalar.muli arg1 c8_i32_1
  let v10 : BitVec 32 := Scalar.addi v9 c0_i32_2
  let c4_i32 : BitVec 32 := 4#32
  let v11 : BitVec 32 := Scalar.subi v10 c4_i32
  let v12 : BitVec 32 := Scalar.maxsi c0_i32_3 v11
  let v13 : BitVec 32 := Scalar.minsi c120_i32 v12
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v14 : BitVec 32 := Scalar.subi v13 v3
  let c64_i32_4 : BitVec 32 := 64#32
  let v15 : BitVec 32 := Scalar.muli v14 c64_i32_4
  let v16 : BitVec 32 := v15
  let v202 : Index := Scalar.indexCast v16
  let c384_115 : Index := 384#32
  ![v202.toNat, 384]
def k0_off8 (i : grid0.Coords) (c0_i32_2 : BitVec 32) (c0_i32_117 : BitVec 32) : Fin 4 → Nat :=
  let c3 : Index := 3#32
  let c120_i32 : BitVec 32 := 120#32
  let c0_i32_3 : BitVec 32 := 0#32
  let arg1 : BitVec 32 := BitVec.ofNat 32 (i 1).val
  let c8_i32_1 : BitVec 32 := 8#32
  let v9 : BitVec 32 := Scalar.muli arg1 c8_i32_1
  let v10 : BitVec 32 := Scalar.addi v9 c0_i32_2
  let c4_i32 : BitVec 32 := 4#32
  let v11 : BitVec 32 := Scalar.subi v10 c4_i32
  let v12 : BitVec 32 := Scalar.maxsi c0_i32_3 v11
  let v13 : BitVec 32 := Scalar.minsi c120_i32 v12
  let v17 : BitVec 32 := Scalar.subi v13 v10
  let c7_i32 : BitVec 32 := 7#32
  let v18 : BitVec 32 := Scalar.addi v17 c7_i32
  let v206 : BitVec 32 := Scalar.addi v18 c0_i32_117
  let v207 : Index := Scalar.indexCast v206
  let c0_118 : Index := 0#32
  let c0_119 : Index := 0#32
  ![3, v207.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let c1_i32 : BitVec 32 := 1#32
  let v1 : BitVec 32 := Scalar.subi arg1 c1_i32
  let c8_i32 : BitVec 32 := 8#32
  let v2 : BitVec 32 := Scalar.muli v1 c8_i32
  let c0_i32 : BitVec 32 := 0#32
  let c104_i32 : BitVec 32 := 104#32
  let v3 : BitVec 32 := Scalar.maxsi c0_i32 v2
  let v4 : BitVec 32 := Scalar.minsi c104_i32 v3
  let c64_i32 : BitVec 32 := 64#32
  let v5 : BitVec 32 := Scalar.muli v4 c64_i32
  let v6 : BitVec 32 := Scalar.addi v0 v5
  let v7 : BitVec 32 := v6
  let c512_i32 : BitVec 32 := 512#32
  let c0_i32_0 : BitVec 32 := 0#32
  ![v7.toNat, c512_i32.toNat]

def cc0_transform_2 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let c1_i32 : BitVec 32 := 1#32
  let v1 : BitVec 32 := Scalar.subi arg1 c1_i32
  let c8_i32 : BitVec 32 := 8#32
  let v2 : BitVec 32 := Scalar.muli v1 c8_i32
  let c0_i32 : BitVec 32 := 0#32
  let c104_i32 : BitVec 32 := 104#32
  let v3 : BitVec 32 := Scalar.maxsi c0_i32 v2
  let v4 : BitVec 32 := Scalar.minsi c104_i32 v3
  let c64_i32 : BitVec 32 := 64#32
  let v5 : BitVec 32 := Scalar.muli v4 c64_i32
  let v6 : BitVec 32 := Scalar.addi v0 v5
  let v7 : BitVec 32 := v6
  let c1024_i32 : BitVec 32 := 1024#32
  let c0_i32_0 : BitVec 32 := 0#32
  ![v7.toNat, c1024_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x14x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x1536 : Shape := ⟨2, ![16384, 1536]⟩
abbrev S8x15x31 : Shape := ⟨3, ![8, 15, 31]⟩
abbrev S1x512 : Shape := ⟨2, ![1, 512]⟩
abbrev S16384x512 : Shape := ⟨2, ![16384, 512]⟩
abbrev S2x8192x8x64 : Shape := ⟨4, ![2, 8192, 8, 64]⟩
abbrev S8192 : Shape := ⟨1, ![8192]⟩
abbrev S_ : Shape := ⟨0, ![]⟩
abbrev S128 : Shape := ⟨1, ![128]⟩
abbrev S8192x1 : Shape := ⟨2, ![8192, 1]⟩
abbrev S1x128 : Shape := ⟨2, ![1, 128]⟩
abbrev S8192x128 : Shape := ⟨2, ![8192, 128]⟩
abbrev S8192x128x1 : Shape := ⟨3, ![8192, 128, 1]⟩
abbrev S2x8192x128x8x64 : Shape := ⟨5, ![2, 8192, 128, 8, 64]⟩
abbrev S8x465 : Shape := ⟨2, ![8, 465]⟩
abbrev S8x8192x128 : Shape := ⟨3, ![8, 8192, 128]⟩
abbrev S2x8192x8x128 : Shape := ⟨4, ![2, 8192, 8, 128]⟩
abbrev S8192x8x128 : Shape := ⟨3, ![8192, 8, 128]⟩
abbrev S1x8192x8x128 : Shape := ⟨4, ![1, 8192, 8, 128]⟩
abbrev S2x8192x8 : Shape := ⟨3, ![2, 8192, 8]⟩
abbrev S2x8192x8x1 : Shape := ⟨4, ![2, 8192, 8, 1]⟩
abbrev S16384 : Shape := ⟨1, ![16384]⟩
abbrev S16384x1 : Shape := ⟨2, ![16384, 1]⟩

abbrev nBuf : Space → Nat
  | .hbm => 126
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S8x15x31, .f32⟩
  | .hbm, ⟨2, _⟩ => ⟨S1x512, .f32⟩
  | .hbm, ⟨3, _⟩ => ⟨S16384x512, .f32⟩
  | .hbm, ⟨4, _⟩ => ⟨S2x8192x8x64, .f32⟩
  | .hbm, ⟨5, _⟩ => ⟨S16384x512, .f32⟩
  | .hbm, ⟨6, _⟩ => ⟨S2x8192x8x64, .f32⟩
  | .hbm, ⟨7, _⟩ => ⟨S16384x512, .f32⟩
  | .hbm, ⟨8, _⟩ => ⟨S2x8192x8x64, .f32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S128, .i32⟩
  | .hbm, ⟨39, _⟩ => ⟨S8192x1, .i32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S1x128, .i32⟩
  | .hbm, ⟨44, _⟩ => ⟨S8192x128, .i32⟩
  | .hbm, ⟨45, _⟩ => ⟨S8192x128, .i32⟩
  | .hbm, ⟨46, _⟩ => ⟨S8192x128, .i32⟩
  | .hbm, ⟨47, _⟩ => ⟨S8192x1, .i32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S1x128, .i32⟩
  | .hbm, ⟨52, _⟩ => ⟨S8192x128, .i32⟩
  | .hbm, ⟨53, _⟩ => ⟨S8192x128, .i32⟩
  | .hbm, ⟨54, _⟩ => ⟨S8192x128, .i32⟩
  | .hbm, ⟨55, _⟩ => ⟨S_, .i32⟩
  | .hbm, ⟨56, _⟩ => ⟨S8192x128, .i32⟩
  | .hbm, ⟨57, _⟩ => ⟨S8192x128, .i32⟩
  | .hbm, ⟨58, _⟩ => ⟨S8192x128, .i32⟩
  | .hbm, ⟨59, _⟩ => ⟨S8192x128x1, .i32⟩
  | .hbm, ⟨60, _⟩ => ⟨S2x8192x128x8x64, .f32⟩
  | .hbm, ⟨61, _⟩ => ⟨S_, .i32⟩
  | .hbm, ⟨62, _⟩ => ⟨S8192x128, .i32⟩
  | .hbm, ⟨63, _⟩ => ⟨S8192x128, .i32⟩
  | .hbm, ⟨64, _⟩ => ⟨S8192x128, .i32⟩
  | .hbm, ⟨65, _⟩ => ⟨S8192x128x1, .i32⟩
  | .hbm, ⟨66, _⟩ => ⟨S2x8192x128x8x64, .f32⟩
  | .hbm, ⟨67, _⟩ => ⟨S8192x1, .i32⟩
  | .hbm, ⟨68, _⟩ => ⟨S8192x128, .i32⟩
  | .hbm, ⟨69, _⟩ => ⟨S8192x128, .i32⟩
  | .hbm, ⟨70, _⟩ => ⟨S_, .i32⟩
  | .hbm, ⟨71, _⟩ => ⟨S8192x128, .i32⟩
  | .hbm, ⟨72, _⟩ => ⟨S8192x128, .i32⟩
  | .hbm, ⟨73, _⟩ => ⟨S_, .i32⟩
  | .hbm, ⟨74, _⟩ => ⟨S8192x128, .i32⟩
  | .hbm, ⟨75, _⟩ => ⟨S8192x128, .i32⟩
  | .hbm, ⟨76, _⟩ => ⟨S8192x1, .i32⟩
  | .hbm, ⟨77, _⟩ => ⟨S8192x128, .i32⟩
  | .hbm, ⟨78, _⟩ => ⟨S8192x128, .i32⟩
  | .hbm, ⟨79, _⟩ => ⟨S_, .i32⟩
  | .hbm, ⟨80, _⟩ => ⟨S8192x128, .i32⟩
  | .hbm, ⟨81, _⟩ => ⟨S8192x128, .i32⟩
  | .hbm, ⟨82, _⟩ => ⟨S8192x128, .i32⟩
  | .hbm, ⟨83, _⟩ => ⟨S8x465, .f32⟩
  | .hbm, ⟨84, _⟩ => ⟨S8192x128x1, .i32⟩
  | .hbm, ⟨85, _⟩ => ⟨S8x8192x128, .f32⟩
  | .hbm, ⟨86, _⟩ => ⟨S2x8192x8x128, .f32⟩
  | .hbm, ⟨87, _⟩ => ⟨S_, .f32⟩
  | .hbm, ⟨88, _⟩ => ⟨S2x8192x8x128, .f32⟩
  | .hbm, ⟨89, _⟩ => ⟨S2x8192x8x128, .f32⟩
  | .hbm, ⟨90, _⟩ => ⟨S8192x8x128, .f32⟩
  | .hbm, ⟨91, _⟩ => ⟨S1x8192x8x128, .f32⟩
  | .hbm, ⟨92, _⟩ => ⟨S2x8192x8x128, .f32⟩
  | .hbm, ⟨93, _⟩ => ⟨S2x8192x8x128, .f32⟩
  | .hbm, ⟨94, _⟩ => ⟨S_, .f32⟩
  | .hbm, ⟨95, _⟩ => ⟨S2x8192x8, .f32⟩
  | .hbm, ⟨96, _⟩ => ⟨S_, .f32⟩
  | .hbm, ⟨97, _⟩ => ⟨S2x8192x8, .f32⟩
  | .hbm, ⟨98, _⟩ => ⟨S2x8192x8, .f32⟩
  | .hbm, ⟨99, _⟩ => ⟨S2x8192x8x1, .f32⟩
  | .hbm, ⟨100, _⟩ => ⟨S2x8192x8x128, .f32⟩
  | .hbm, ⟨101, _⟩ => ⟨S2x8192x8x128, .f32⟩
  | .hbm, ⟨102, _⟩ => ⟨S2x8192x8x128, .f32⟩
  | .hbm, ⟨103, _⟩ => ⟨S_, .f32⟩
  | .hbm, ⟨104, _⟩ => ⟨S2x8192x8, .f32⟩
  | .hbm, ⟨105, _⟩ => ⟨S2x8192x8x1, .f32⟩
  | .hbm, ⟨106, _⟩ => ⟨S2x8192x8x128, .f32⟩
  | .hbm, ⟨107, _⟩ => ⟨S2x8192x8x128, .f32⟩
  | .hbm, ⟨108, _⟩ => ⟨S2x8192x8x64, .f32⟩
  | .hbm, ⟨109, _⟩ => ⟨S16384x512, .f32⟩
  | .hbm, ⟨110, _⟩ => ⟨S16384x512, .f32⟩
  | .hbm, ⟨111, _⟩ => ⟨S_, .f32⟩
  | .hbm, ⟨112, _⟩ => ⟨S16384, .f32⟩
  | .hbm, ⟨113, _⟩ => ⟨S16384x1, .f32⟩
  | .hbm, ⟨114, _⟩ => ⟨S_, .f32⟩
  | .hbm, ⟨115, _⟩ => ⟨S16384x1, .f32⟩
  | .hbm, ⟨116, _⟩ => ⟨S16384x1, .f32⟩
  | .hbm, ⟨117, _⟩ => ⟨S_, .f32⟩
  | .hbm, ⟨118, _⟩ => ⟨S16384x1, .f32⟩
  | .hbm, ⟨119, _⟩ => ⟨S16384x1, .f32⟩
  | .hbm, ⟨120, _⟩ => ⟨S16384x1, .f32⟩
  | .hbm, ⟨121, _⟩ => ⟨S16384x512, .f32⟩
  | .hbm, ⟨122, _⟩ => ⟨S16384x512, .f32⟩
  | .hbm, ⟨123, _⟩ => ⟨S16384x512, .f32⟩
  | .hbm, ⟨124, _⟩ => ⟨S16384x512, .f32⟩
  | .hbm, ⟨125, _⟩ => ⟨S16384x512, .bf16⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_c_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_7 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call2_v0 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call3_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call4_v0 : Ref sig .tc := ⟨.hbm, 84, rfl⟩
abbrev main_v54 : Ref sig .tc := ⟨.hbm, 85, rfl⟩
abbrev main_v55 : Ref sig .tc := ⟨.hbm, 86, rfl⟩
abbrev main_cst : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_cst_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_17 : Ref sig .tc := ⟨.hbm, 111, rfl⟩
abbrev main_v76 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_cst_19 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S1536x1024 : Shape := ⟨2, ![1536, 1024]⟩
abbrev S1x1024 : Shape := ⟨2, ![1, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S512x1024 : Shape := ⟨2, ![512, 1024]⟩
abbrev S1024x1024 : Shape := ⟨2, ![1024, 1024]⟩
abbrev S16x1024 : Shape := ⟨2, ![16, 1024]⟩
abbrev S16x512 : Shape := ⟨2, ![16, 512]⟩
abbrev S512x512 : Shape := ⟨2, ![512, 512]⟩
abbrev S544x1024 : Shape := ⟨2, ![544, 1024]⟩
abbrev S544x512 : Shape := ⟨2, ![544, 512]⟩
abbrev S544x256 : Shape := ⟨2, ![544, 256]⟩
abbrev S512x2816 : Shape := ⟨2, ![512, 2816]⟩
abbrev S272x512 : Shape := ⟨2, ![272, 512]⟩
abbrev S272x1024 : Shape := ⟨2, ![272, 1024]⟩
abbrev S272 : Shape := ⟨1, ![272]⟩
abbrev S272x1 : Shape := ⟨2, ![272, 1]⟩
abbrev S512x256 : Shape := ⟨2, ![512, 256]⟩
abbrev S1024x256 : Shape := ⟨2, ![1024, 256]⟩
abbrev S1x256 : Shape := ⟨2, ![1, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x1024, .f32⟩
  | .hbm, ⟨3, _⟩ => ⟨S1536x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x2816, .f32⟩
  | .hbm, ⟨10, _⟩ => ⟨S1x2816, .f32⟩
  | .hbm, ⟨11, _⟩ => ⟨S1x1024, .f32⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S16384x512, .bf16⟩
  | .hbm, ⟨20, _⟩ => ⟨S16384x1024, .bf16⟩
  | .hbm, ⟨21, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S16x1024, .bf16⟩
  | .local _ .vmem, ⟨13, _⟩ => ⟨S16x1024, .bf16⟩
  | .local _ .vmem, ⟨14, _⟩ => ⟨S512x1024, .bf16⟩
  | .local _ .vmem, ⟨15, _⟩ => ⟨S512x1024, .bf16⟩
  | .local _ .vmem, ⟨16, _⟩ => ⟨S16x1024, .bf16⟩
  | .local _ .vmem, ⟨17, _⟩ => ⟨S16x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S2816x1024, .bf16⟩
  | .local _ .vmem, ⟨25, _⟩ => ⟨S3x2816, .f32⟩
  | .local _ .vmem, ⟨26, _⟩ => ⟨S1x2816, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S544x1024, .f32⟩
  | .local _ .vmem, ⟨31, _⟩ => ⟨S544x512, .bf16⟩
  | .local _ .vmem, ⟨32, _⟩ => ⟨S544x1024, .bf16⟩
  | .local _ .vmem, ⟨33, _⟩ => ⟨S544x1024, .bf16⟩
  | .local _ .vmem, ⟨34, _⟩ => ⟨S544x256, .f32⟩
  | .local _ .vmem, ⟨35, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel2Ideal.lean ====
abbrev S16384x1024 : Shape := ⟨2, ![16384, 1024]⟩
abbrev S16384x512 : Shape := ⟨2, ![16384, 512]⟩
abbrev S1536x1024 : Shape := ⟨2, ![1536, 1024]⟩
abbrev S1x1024 : Shape := ⟨2, ![1, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S512x1024 : Shape := ⟨2, ![512, 1024]⟩
abbrev S1024x1024 : Shape := ⟨2, ![1024, 1024]⟩
abbrev S16x1024 : Shape := ⟨2, ![16, 1024]⟩
abbrev S16x512 : Shape := ⟨2, ![16, 512]⟩
abbrev S512x512 : Shape := ⟨2, ![512, 512]⟩
abbrev S544x1024 : Shape := ⟨2, ![544, 1024]⟩
abbrev S544x512 : Shape := ⟨2, ![544, 512]⟩
abbrev S544x256 : Shape := ⟨2, ![544, 256]⟩
abbrev S512x2816 : Shape := ⟨2, ![512, 2816]⟩
abbrev S272x512 : Shape := ⟨2, ![272, 512]⟩
abbrev S272x1024 : Shape := ⟨2, ![272, 1024]⟩
abbrev S272 : Shape := ⟨1, ![272]⟩
abbrev S272x1 : Shape := ⟨2, ![272, 1]⟩
abbrev S512x256 : Shape := ⟨2, ![512, 256]⟩
abbrev S1024x256 : Shape := ⟨2, ![1024, 256]⟩
abbrev S1x256 : Shape := ⟨2, ![1, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x1024, .f32⟩
  | .hbm, ⟨3, _⟩ => ⟨S1536x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x2816, .f32⟩
  | .hbm, ⟨10, _⟩ => ⟨S1x2816, .f32⟩
  | .hbm, ⟨11, _⟩ => ⟨S1x1024, .f32⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S16384x512, .bf16⟩
  | .hbm, ⟨20, _⟩ => ⟨S16384x1024, .bf16⟩
  | .hbm, ⟨21, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S16x1024, .bf16⟩
  | .local _ .vmem, ⟨13, _⟩ => ⟨S16x1024, .bf16⟩
  | .local _ .vmem, ⟨14, _⟩ => ⟨S512x1024, .bf16⟩
  | .local _ .vmem, ⟨15, _⟩ => ⟨S512x1024, .bf16⟩
  | .local _ .vmem, ⟨16, _⟩ => ⟨S16x1024, .bf16⟩
  | .local _ .vmem, ⟨17, _⟩ => ⟨S16x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S2816x1024, .bf16⟩
  | .local _ .vmem, ⟨25, _⟩ => ⟨S3x2816, .f32⟩
  | .local _ .vmem, ⟨26, _⟩ => ⟨S1x2816, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S544x1024, .f32⟩
  | .local _ .vmem, ⟨31, _⟩ => ⟨S544x512, .bf16⟩
  | .local _ .vmem, ⟨32, _⟩ => ⟨S544x1024, .bf16⟩
  | .local _ .vmem, ⟨33, _⟩ => ⟨S544x1024, .bf16⟩
  | .local _ .vmem, ⟨34, _⟩ => ⟨S544x256, .f32⟩
  | .local _ .vmem, ⟨35, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S16384x1024 : Shape := ⟨2, ![16384, 1024]⟩
abbrev S16384x512 : Shape := ⟨2, ![16384, 512]⟩
abbrev S1536x1024 : Shape := ⟨2, ![1536, 1024]⟩
abbrev S1x1024 : Shape := ⟨2, ![1, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S2x8192x2816 : Shape := ⟨3, ![2, 8192, 2816]⟩
abbrev S2x8194x2816 : Shape := ⟨3, ![2, 8194, 2816]⟩
abbrev S2816 : Shape := ⟨1, ![2816]⟩
abbrev S1x1x2816 : Shape := ⟨3, ![1, 1, 2816]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x1024, .f32⟩
  | .hbm, ⟨3, _⟩ => ⟨S1536x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x2816, .f32⟩
  | .hbm, ⟨10, _⟩ => ⟨S1x2816, .f32⟩
  | .hbm, ⟨11, _⟩ => ⟨S1x1024, .f32⟩
  | .hbm, ⟨12, _⟩ => ⟨S16384x1536, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x2816, .f32⟩
  | .hbm, ⟨46, _⟩ => ⟨S2x8192x2816, .f32⟩
  | .hbm, ⟨47, _⟩ => ⟨S_, .i32⟩
  | .hbm, ⟨48, _⟩ => ⟨S_, .f32⟩
  | .hbm, ⟨49, _⟩ => ⟨S2x8194x2816, .f32⟩
  | .hbm, ⟨50, _⟩ => ⟨S2x8192x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S1x2816, .f32⟩
  | .hbm, ⟨58, _⟩ => ⟨S2816, .f32⟩
  | .hbm, ⟨59, _⟩ => ⟨S1x1x2816, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S2x8192x2816, .f32⟩
  | .hbm, ⟨64, _⟩ => ⟨S1x2816, .f32⟩
  | .hbm, ⟨65, _⟩ => ⟨S2816, .f32⟩
  | .hbm, ⟨66, _⟩ => ⟨S1x1x2816, .f32⟩
  | .hbm, ⟨67, _⟩ => ⟨S2x8192x2816, .f32⟩
  | .hbm, ⟨68, _⟩ => ⟨S2x8192x2816, .f32⟩
  | .hbm, ⟨69, _⟩ => ⟨S2x8192x2816, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S_, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S_, .f32⟩
  | .hbm, ⟨80, _⟩ => ⟨S16384x2816, .f32⟩
  | .hbm, ⟨81, _⟩ => ⟨S16384x2816, .f32⟩
  | .hbm, ⟨82, _⟩ => ⟨S16384x2816, .f32⟩
  | .hbm, ⟨83, _⟩ => ⟨S_, .f32⟩
  | .hbm, ⟨84, _⟩ => ⟨S16384x2816, .f32⟩
  | .hbm, ⟨85, _⟩ => ⟨S16384x2816, .f32⟩
  | .hbm, ⟨86, _⟩ => ⟨S_, .f32⟩
  | .hbm, ⟨87, _⟩ => ⟨S16384x2816, .f32⟩
  | .hbm, ⟨88, _⟩ => ⟨S16384x2816, .f32⟩
  | .hbm, ⟨89, _⟩ => ⟨S16384x2816, .f32⟩
  | .hbm, ⟨90, _⟩ => ⟨S16384x2816, .f32⟩
  | .hbm, ⟨91, _⟩ => ⟨S16384x2816, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S16384x1, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S16384x1024, .f32⟩
  | .hbm, ⟨108, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_9 : Ref sig .tc := ⟨.hbm, 94, rfl⟩
abbrev main_v70 : Ref sig .tc := ⟨.hbm, 95, rfl⟩
abbrev main_v71 : Ref sig .tc := ⟨.hbm, 96, rfl⟩
abbrev main_cst_10 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x4128 : Shape := ⟨2, ![1024, 4128]⟩
abbrev S5x1536 : Shape := ⟨2, ![5, 1536]⟩
abbrev S1x1536 : Shape := ⟨2, ![1, 1536]⟩
abbrev S1024x512 : Shape := ⟨2, ![1024, 512]⟩
abbrev S_ : Shape := ⟨0, ![]⟩
abbrev S1024x1024 : Shape := ⟨2, ![1024, 1024]⟩
abbrev S1024x1536 : Shape := ⟨2, ![1024, 1536]⟩
abbrev S1024x32 : Shape := ⟨2, ![1024, 32]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S16384x1536 : Shape := ⟨2, ![16384, 1536]⟩
abbrev S16384x128 : Shape := ⟨2, ![16384, 128]⟩
abbrev S16x1024 : Shape := ⟨2, ![16, 1024]⟩
abbrev S1056x1024 : Shape := ⟨2, ![1056, 1024]⟩
abbrev S1056x256 : Shape := ⟨2, ![1056, 256]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1024x256 : Shape := ⟨2, ![1024, 256]⟩
abbrev S1x256 : Shape := ⟨2, ![1, 256]⟩

abbrev nBuf : Space → Nat
  | .hbm => 25
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4128, .f32⟩
  | .hbm, ⟨3, _⟩ => ⟨S5x1536, .f32⟩
  | .hbm, ⟨4, _⟩ => ⟨S1x1536, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1536, .f32⟩
  | .hbm, ⟨11, _⟩ => ⟨S1024x1536, .bf16⟩
  | .hbm, ⟨12, _⟩ => ⟨S1024x1024, .f32⟩
  | .hbm, ⟨13, _⟩ => ⟨S1024x1024, .bf16⟩
  | .hbm, ⟨14, _⟩ => ⟨S1024x1536, .f32⟩
  | .hbm, ⟨15, _⟩ => ⟨S1024x1536, .bf16⟩
  | .hbm, ⟨16, _⟩ => ⟨S1024x32, .f32⟩
  | .hbm, ⟨17, _⟩ => ⟨S1x1024x1x32, .f32⟩
  | .hbm, ⟨18, _⟩ => ⟨S1x1024x4x32, .f32⟩
  | .hbm, ⟨19, _⟩ => ⟨S1024x128, .f32⟩
  | .hbm, ⟨20, _⟩ => ⟨S1024x128, .bf16⟩
  | .hbm, ⟨21, _⟩ => ⟨S16384x1536, .bf16⟩
  | .hbm, ⟨22, _⟩ => ⟨S16384x1024, .bf16⟩
  | .hbm, ⟨23, _⟩ => ⟨S16384x1536, .bf16⟩
  | .hbm, ⟨24, _⟩ => ⟨S16384x128, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1024, .bf16⟩
  | .local _ .vmem, ⟨9, _⟩ => ⟨S1024x1536, .bf16⟩
  | .local _ .vmem, ⟨10, _⟩ => ⟨S1024x128, .bf16⟩
  | .local _ .vmem, ⟨11, _⟩ => ⟨S5x1536, .f32⟩
  | .local _ .vmem, ⟨12, _⟩ => ⟨S1x1536, .f32⟩
  | .local _ .vmem, ⟨13, _⟩ => ⟨S1024x1536, .bf16⟩
  | .local _ .vmem, ⟨14, _⟩ => ⟨S1024x1536, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1536, .bf16⟩
  | .local _ .vmem, ⟨18, _⟩ => ⟨S1024x1536, .bf16⟩
  | .local _ .vmem, ⟨19, _⟩ => ⟨S1024x128, .f32⟩
  | .local _ .vmem, ⟨20, _⟩ => ⟨S1024x128, .f32⟩
  | .local _ .vmem, ⟨21, _⟩ => ⟨S1056x1024, .bf16⟩
  | .local _ .vmem, ⟨22, _⟩ => ⟨S1056x256, .f32⟩
  | .local _ .vmem, ⟨23, _⟩ => ⟨S1056x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S1x1024 : Shape := ⟨2, ![1, 1024]⟩
abbrev S1024x4128 : Shape := ⟨2, ![1024, 4128]⟩
abbrev S5x1536 : Shape := ⟨2, ![5, 1536]⟩
abbrev S1x1536 : Shape := ⟨2, ![1, 1536]⟩
abbrev S_ : Shape := ⟨0, ![]⟩
abbrev S16384 : Shape := ⟨1, ![16384]⟩
abbrev S16384x1 : Shape := ⟨2, ![16384, 1]⟩
abbrev S16384x4128 : Shape := ⟨2, ![16384, 4128]⟩
abbrev S16384x512 : Shape := ⟨2, ![16384, 512]⟩
abbrev S16384x1536 : Shape := ⟨2, ![16384, 1536]⟩
abbrev S2x8192x1536 : Shape := ⟨3, ![2, 8192, 1536]⟩
abbrev S2x8196x1536 : Shape := ⟨3, ![2, 8196, 1536]⟩
abbrev S1536 : Shape := ⟨1, ![1536]⟩
abbrev S1x1x1536 : Shape := ⟨3, ![1, 1, 1536]⟩
abbrev S16384x32 : Shape := ⟨2, ![16384, 32]⟩
abbrev S16384x128 : Shape := ⟨2, ![16384, 128]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4128, .f32⟩
  | .hbm, ⟨3, _⟩ => ⟨S5x1536, .f32⟩
  | .hbm, ⟨4, _⟩ => ⟨S1x1536, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x4128, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S16384x1024, .f32⟩
  | .hbm, ⟨26, _⟩ => ⟨S16384x1536, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1536, .f32⟩
  | .hbm, ⟨38, _⟩ => ⟨S2x8192x1536, .f32⟩
  | .hbm, ⟨39, _⟩ => ⟨S_, .i32⟩
  | .hbm, ⟨40, _⟩ => ⟨S_, .f32⟩
  | .hbm, ⟨41, _⟩ => ⟨S2x8196x1536, .f32⟩
  | .hbm, ⟨42, _⟩ => ⟨S2x8192x1536, .f32⟩
  | .hbm, ⟨43, _⟩ => ⟨S1x1536, .f32⟩
  | .hbm, ⟨44, _⟩ => ⟨S1536, .f32⟩
  | .hbm, ⟨45, _⟩ => ⟨S1x1x1536, .f32⟩
  | .hbm, ⟨46, _⟩ => ⟨S2x8192x1536, .f32⟩
  | .hbm, ⟨47, _⟩ => ⟨S2x8192x1536, .f32⟩
  | .hbm, ⟨48, _⟩ => ⟨S2x8192x1536, .f32⟩
  | .hbm, ⟨49, _⟩ => ⟨S1x1536, .f32⟩
  | .hbm, ⟨50, _⟩ => ⟨S1536, .f32⟩
  | .hbm, ⟨51, _⟩ => ⟨S1x1x1536, .f32⟩
  | .hbm, ⟨52, _⟩ => ⟨S2x8192x1536, .f32⟩
  | .hbm, ⟨53, _⟩ => ⟨S2x8192x1536, .f32⟩
  | .hbm, ⟨54, _⟩ => ⟨S2x8192x1536, .f32⟩
  | .hbm, ⟨55, _⟩ => ⟨S2x8192x1536, .f32⟩
  | .hbm, ⟨56, _⟩ => ⟨S1x1536, .f32⟩
  | .hbm, ⟨57, _⟩ => ⟨S1536, .f32⟩
  | .hbm, ⟨58, _⟩ => ⟨S1x1x1536, .f32⟩
  | .hbm, ⟨59, _⟩ => ⟨S2x8192x1536, .f32⟩
  | .hbm, ⟨60, _⟩ => ⟨S2x8192x1536, .f32⟩
  | .hbm, ⟨61, _⟩ => ⟨S2x8192x1536, .f32⟩
  | .hbm, ⟨62, _⟩ => ⟨S2x8192x1536, .f32⟩
  | .hbm, ⟨63, _⟩ => ⟨S1x1536, .f32⟩
  | .hbm, ⟨64, _⟩ => ⟨S1536, .f32⟩
  | .hbm, ⟨65, _⟩ => ⟨S1x1x1536, .f32⟩
  | .hbm, ⟨66, _⟩ => ⟨S2x8192x1536, .f32⟩
  | .hbm, ⟨67, _⟩ => ⟨S2x8192x1536, .f32⟩
  | .hbm, ⟨68, _⟩ => ⟨S2x8192x1536, .f32⟩
  | .hbm, ⟨69, _⟩ => ⟨S2x8192x1536, .f32⟩
  | .hbm, ⟨70, _⟩ => ⟨S1x1536, .f32⟩
  | .hbm, ⟨71, _⟩ => ⟨S1536, .f32⟩
  | .hbm, ⟨72, _⟩ => ⟨S1x1x1536, .f32⟩
  | .hbm, ⟨73, _⟩ => ⟨S2x8192x1536, .f32⟩
  | .hbm, ⟨74, _⟩ => ⟨S2x8192x1536, .f32⟩
  | .hbm, ⟨75, _⟩ => ⟨S2x8192x1536, .f32⟩
  | .hbm, ⟨76, _⟩ => ⟨S16384x1536, .f32⟩
  | .hbm, ⟨77, _⟩ => ⟨S16384x1536, .f32⟩
  | .hbm, ⟨78, _⟩ => ⟨S16384x1536, .f32⟩
  | .hbm, ⟨79, _⟩ => ⟨S16384x1536, .f32⟩
  | .hbm, ⟨80, _⟩ => ⟨S16384x1536, .f32⟩
  | .hbm, ⟨81, _⟩ => ⟨S_, .f32⟩
  | .hbm, ⟨82, _⟩ => ⟨S16384x1536, .f32⟩
  | .hbm, ⟨83, _⟩ => ⟨S16384x1536, .f32⟩
  | .hbm, ⟨84, _⟩ => ⟨S_, .f32⟩
  | .hbm, ⟨85, _⟩ => ⟨S16384x1536, .f32⟩
  | .hbm, ⟨86, _⟩ => ⟨S16384x1536, .f32⟩
  | .hbm, ⟨87, _⟩ => ⟨S16384x1536, .f32⟩
  | .hbm, ⟨88, _⟩ => ⟨S16384x32, .f32⟩
  | .hbm, ⟨89, _⟩ => ⟨S16384x1536, .bf16⟩
  | .hbm, ⟨90, _⟩ => ⟨S16384x1024, .bf16⟩
  | .hbm, ⟨91, _⟩ => ⟨S16384x1536, .bf16⟩
  | .hbm, ⟨92, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_call1_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]
-- ==== Kernel4.lean ====
abbrev S65536x1024 : Shape := ⟨2, ![65536, 1024]⟩
abbrev S65536x512 : Shape := ⟨2, ![65536, 512]⟩
abbrev S1536x1024 : Shape := ⟨2, ![1536, 1024]⟩
abbrev S1x1024 : Shape := ⟨2, ![1, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S512x1024 : Shape := ⟨2, ![512, 1024]⟩
abbrev S1024x1024 : Shape := ⟨2, ![1024, 1024]⟩
abbrev S16x1024 : Shape := ⟨2, ![16, 1024]⟩
abbrev S16x512 : Shape := ⟨2, ![16, 512]⟩
abbrev S512x512 : Shape := ⟨2, ![512, 512]⟩
abbrev S544x1024 : Shape := ⟨2, ![544, 1024]⟩
abbrev S544x512 : Shape := ⟨2, ![544, 512]⟩
abbrev S544x256 : Shape := ⟨2, ![544, 256]⟩
abbrev S512x2816 : Shape := ⟨2, ![512, 2816]⟩
abbrev S272x512 : Shape := ⟨2, ![272, 512]⟩
abbrev S272x1024 : Shape := ⟨2, ![272, 1024]⟩
abbrev S272 : Shape := ⟨1, ![272]⟩
abbrev S272x1 : Shape := ⟨2, ![272, 1]⟩
abbrev S512x256 : Shape := ⟨2, ![512, 256]⟩
abbrev S1024x256 : Shape := ⟨2, ![1024, 256]⟩
abbrev S1x256 : Shape := ⟨2, ![1, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 36
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x1024, .f32⟩
  | .hbm, ⟨3, _⟩ => ⟨S1536x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x2816, .f32⟩
  | .hbm, ⟨10, _⟩ => ⟨S1x2816, .f32⟩
  | .hbm, ⟨11, _⟩ => ⟨S1x1024, .f32⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S65536x512, .bf16⟩
  | .hbm, ⟨20, _⟩ => ⟨S65536x1024, .bf16⟩
  | .hbm, ⟨21, _⟩ => ⟨S65536x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S16x1024, .bf16⟩
  | .local _ .vmem, ⟨13, _⟩ => ⟨S16x1024, .bf16⟩
  | .local _ .vmem, ⟨14, _⟩ => ⟨S512x1024, .bf16⟩
  | .local _ .vmem, ⟨15, _⟩ => ⟨S512x1024, .bf16⟩
  | .local _ .vmem, ⟨16, _⟩ => ⟨S16x1024, .bf16⟩
  | .local _ .vmem, ⟨17, _⟩ => ⟨S16x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S2816x1024, .bf16⟩
  | .local _ .vmem, ⟨25, _⟩ => ⟨S3x2816, .f32⟩
  | .local _ .vmem, ⟨26, _⟩ => ⟨S1x2816, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S544x1024, .f32⟩
  | .local _ .vmem, ⟨31, _⟩ => ⟨S544x512, .bf16⟩
  | .local _ .vmem, ⟨32, _⟩ => ⟨S544x1024, .bf16⟩
  | .local _ .vmem, ⟨33, _⟩ => ⟨S544x1024, .bf16⟩
  | .local _ .vmem, ⟨34, _⟩ => ⟨S544x256, .f32⟩
  | .local _ .vmem, ⟨35, _⟩ => ⟨S512x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S65536x1024 : Shape := ⟨2, ![65536, 1024]⟩
abbrev S65536x512 : Shape := ⟨2, ![65536, 512]⟩
abbrev S1536x1024 : Shape := ⟨2, ![1536, 1024]⟩
abbrev S1x1024 : Shape := ⟨2, ![1, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S65536x1536 : Shape := ⟨2, ![65536, 1536]⟩
abbrev S_ : Shape := ⟨0, ![]⟩
abbrev S65536 : Shape := ⟨1, ![65536]⟩
abbrev S65536x1 : Shape := ⟨2, ![65536, 1]⟩
abbrev S65536x2816 : Shape := ⟨2, ![65536, 2816]⟩
abbrev S8x8192x2816 : Shape := ⟨3, ![8, 8192, 2816]⟩
abbrev S8x8194x2816 : Shape := ⟨3, ![8, 8194, 2816]⟩
abbrev S2816 : Shape := ⟨1, ![2816]⟩
abbrev S1x1x2816 : Shape := ⟨3, ![1, 1, 2816]⟩

abbrev nBuf : Space → Nat
  | .hbm => 109
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x1024, .f32⟩
  | .hbm, ⟨3, _⟩ => ⟨S1536x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x2816, .f32⟩
  | .hbm, ⟨10, _⟩ => ⟨S1x2816, .f32⟩
  | .hbm, ⟨11, _⟩ => ⟨S1x1024, .f32⟩
  | .hbm, ⟨12, _⟩ => ⟨S65536x1536, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x1, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S65536x2816, .f32⟩
  | .hbm, ⟨46, _⟩ => ⟨S8x8192x2816, .f32⟩
  | .hbm, ⟨47, _⟩ => ⟨S_, .i32⟩
  | .hbm, ⟨48, _⟩ => ⟨S_, .f32⟩
  | .hbm, ⟨49, _⟩ => ⟨S8x8194x2816, .f32⟩
  | .hbm, ⟨50, _⟩ => ⟨S8x8192x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S8x8192x2816, .f32⟩
  | .hbm, ⟨55, _⟩ => ⟨S8x8192x2816, .f32⟩
  | .hbm, ⟨56, _⟩ => ⟨S8x8192x2816, .f32⟩
  | .hbm, ⟨57, _⟩ => ⟨S1x2816, .f32⟩
  | .hbm, ⟨58, _⟩ => ⟨S2816, .f32⟩
  | .hbm, ⟨59, _⟩ => ⟨S1x1x2816, .f32⟩
  | .hbm, ⟨60, _⟩ => ⟨S8x8192x2816, .f32⟩
  | .hbm, ⟨61, _⟩ => ⟨S8x8192x2816, .f32⟩
  | .hbm, ⟨62, _⟩ => ⟨S8x8192x2816, .f32⟩
  | .hbm, ⟨63, _⟩ => ⟨S8x8192x2816, .f32⟩
  | .hbm, ⟨64, _⟩ => ⟨S1x2816, .f32⟩
  | .hbm, ⟨65, _⟩ => ⟨S2816, .f32⟩
  | .hbm, ⟨66, _⟩ => ⟨S1x1x2816, .f32⟩
  | .hbm, ⟨67, _⟩ => ⟨S8x8192x2816, .f32⟩
  | .hbm, ⟨68, _⟩ => ⟨S8x8192x2816, .f32⟩
  | .hbm, ⟨69, _⟩ => ⟨S8x8192x2816, .f32⟩
  | .hbm, ⟨70, _⟩ => ⟨S65536x2816, .f32⟩
  | .hbm, ⟨71, _⟩ => ⟨S65536x2816, .f32⟩
  | .hbm, ⟨72, _⟩ => ⟨S65536x2816, .f32⟩
  | .hbm, ⟨73, _⟩ => ⟨S65536x2816, .f32⟩
  | .hbm, ⟨74, _⟩ => ⟨S65536x2816, .f32⟩
  | .hbm, ⟨75, _⟩ => ⟨S_, .f32⟩
  | .hbm, ⟨76, _⟩ => ⟨S65536x2816, .f32⟩
  | .hbm, ⟨77, _⟩ => ⟨S65536x2816, .f32⟩
  | .hbm, ⟨78, _⟩ => ⟨S65536x2816, .f32⟩
  | .hbm, ⟨79, _⟩ => ⟨S_, .f32⟩
  | .hbm, ⟨80, _⟩ => ⟨S65536x2816, .f32⟩
  | .hbm, ⟨81, _⟩ => ⟨S65536x2816, .f32⟩
  | .hbm, ⟨82, _⟩ => ⟨S65536x2816, .f32⟩
  | .hbm, ⟨83, _⟩ => ⟨S_, .f32⟩
  | .hbm, ⟨84, _⟩ => ⟨S65536x2816, .f32⟩
  | .hbm, ⟨85, _⟩ => ⟨S65536x2816, .f32⟩
  | .hbm, ⟨86, _⟩ => ⟨S_, .f32⟩
  | .hbm, ⟨87, _⟩ => ⟨S65536x2816, .f32⟩
  | .hbm, ⟨88, _⟩ => ⟨S65536x2816, .f32⟩
  | .hbm, ⟨89, _⟩ => ⟨S65536x2816, .f32⟩
  | .hbm, ⟨90, _⟩ => ⟨S65536x2816, .f32⟩
  | .hbm, ⟨91, _⟩ => ⟨S65536x2816, .f32⟩
  | .hbm, ⟨92, _⟩ => ⟨S65536x1024, .f32⟩
  | .hbm, ⟨93, _⟩ => ⟨S65536x1024, .f32⟩
  | .hbm, ⟨94, _⟩ => ⟨S_, .f32⟩
  | .hbm, ⟨95, _⟩ => ⟨S65536, .f32⟩
  | .hbm, ⟨96, _⟩ => ⟨S65536x1, .f32⟩
  | .hbm, ⟨97, _⟩ => ⟨S_, .f32⟩
  | .hbm, ⟨98, _⟩ => ⟨S65536x1, .f32⟩
  | .hbm, ⟨99, _⟩ => ⟨S65536x1, .f32⟩
  | .hbm, ⟨100, _⟩ => ⟨S_, .f32⟩
  | .hbm, ⟨101, _⟩ => ⟨S65536x1, .f32⟩
  | .hbm, ⟨102, _⟩ => ⟨S65536x1, .f32⟩
  | .hbm, ⟨103, _⟩ => ⟨S65536x1, .f32⟩
  | .hbm, ⟨104, _⟩ => ⟨S65536x1024, .f32⟩
  | .hbm, ⟨105, _⟩ => ⟨S65536x1024, .f32⟩
  | .hbm, ⟨106, _⟩ => ⟨S65536x1024, .f32⟩
  | .hbm, ⟨107, _⟩ => ⟨S65536x1024, .f32⟩
  | .hbm, ⟨108, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_9 : Ref sig .tc := ⟨.hbm, 94, rfl⟩
abbrev main_v70 : Ref sig .tc := ⟨.hbm, 95, rfl⟩
abbrev main_v71 : Ref sig .tc := ⟨.hbm, 96, rfl⟩
abbrev main_cst_10 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Proof.Body.lean ====
/- What the attention kernel's body stores at one grid point, in a uniform vocabulary: eight query rows, each made of
   four tiles of two heads. The printed body is unrolled over these 32 items and cut at places that differ from item to
   item; here each stored piece is shown to be the same function of its loads. -/
module

public import proofs.«01_k».proof.Proof.Gen.KernelIdeal.Value

@[expose] public section

set_option maxRecDepth 65536

noncomputable section

namespace Cert.KernelIdeal.Att

open Cert.KernelIdeal Cert.KernelIdeal.Gen Idealize.ShloMosaic Idealize.ShloMosaic.TcCoe Idealize.SL.Sem

variable {F : FTy → Type} [FloatOps F]

/-- The scores of one tile: two heads' queries against 512 keys, plus the bias of each of four pairs of key rows. -/
def tileScores (q : Vec F S64x128 .bf16) (k : Vec F S512x128 .bf16) (b0 b1 b2 b3 : Vec F S1x1x128x128 .f32) :
    FVec F S128x512 .f32 :=
  addf
    (matmul dot_S128x128_S512x128_S128x512_1_1_0_0_n_n none
      (concatenate S128x128 0
        [⟨S64x128, select k0_pay2 (shapeCast S64x128 q shapeCasts_S64x128_S64x128) (broadcast S64x128 (Scalar.ofBits .bf16 0x0000#16))⟩,
         ⟨S64x128, select k0_pay2 (broadcast S64x128 (Scalar.ofBits .bf16 0x0000#16)) (shapeCast S64x128 q shapeCasts_S64x128_S64x128)⟩]
        concatenates_S64x128_S64x128_S128x128_d0)
      (shapeCast S512x128 k shapeCasts_S512x128_S512x128) (constant S128x512 .f32 0x00000000#32))
    (concatenate S128x512 1
      [⟨S128x128, shapeCast S128x128 b0 shapeCasts_S1x1x128x128_S128x128⟩, ⟨S128x128, shapeCast S128x128 b1 shapeCasts_S1x1x128x128_S128x128⟩,
       ⟨S128x128, shapeCast S128x128 b2 shapeCasts_S1x1x128x128_S128x128⟩, ⟨S128x128, shapeCast S128x128 b3 shapeCasts_S1x1x128x128_S128x128⟩]
      concatenates_S128x128_S128x128_S128x128_S128x128_S128x512_d1)

/-- The unnormalised weights of one tile: the exponential of each score less its row's maximum. -/
def tileProbs (s : FVec F S128x512 .f32) : FVec F S128x512 .bf16 :=
  truncf .bf16
    (exp (subf s (broadcastTo S128x512
      (shapeCast S128x1 (multiReduction .maximumf [1] S128 s 0xFF800000#32 reduces_S128x512_S128 (.inl rfl) rfl) shapeCasts_S128_S128x1)
      broadcasts_S128x1_S128x512)))
    bitsLt_bf16_f32

/-- The weights against the values beside a block of ones. -/
def tileDot (p : FVec F S128x512 .bf16) (v : Vec F S512x128 .bf16) : FVec F S128x256 .f32 :=
  matmul dot_S128x512_S512x256_S128x256_1_0_0_1_n_n none p
    (concatenate S512x256 1 [⟨S512x128, shapeCast S512x128 v shapeCasts_S512x128_S512x128⟩, ⟨S512x128, k0_pay3⟩]
      concatenates_S512x128_S512x128_S512x256_d1)
    (constant S128x256 .f32 0x00000000#32)

/-- The quotient of the two halves, each lane taken from its own head's rows. -/
def tileQuot (o : FVec F S128x256 .f32) : FVec F S64x128 .f32 :=
  select k0_pay2
    (extractStridedSlice S64x128 ![0, 0]
      (divf (extractStridedSlice S128x128 ![0, 0] o slices_S128x256_o0_0_S128x128)
        (extractStridedSlice S128x128 ![0, 128] o slices_S128x256_o0_128_S128x128)) slices_S128x128_o0_0_S64x128)
    (extractStridedSlice S64x128 ![64, 0]
      (divf (extractStridedSlice S128x128 ![0, 0] o slices_S128x256_o0_0_S128x128)
        (extractStridedSlice S128x128 ![0, 128] o slices_S128x256_o0_128_S128x128)) slices_S128x128_o64_0_S64x128)

/-- One tile from its loads. -/
def tile (q : Vec F S64x128 .bf16) (k v : Vec F S512x128 .bf16) (b0 b1 b2 b3 : Vec F S1x1x128x128 .f32) :
    FVec F S64x128 .f32 :=
  tileQuot (tileDot (tileProbs (tileScores q k b0 b1 b2 b3)) v)

/-- Four tiles side by side. -/
def row (t0 t1 t2 t3 : FVec F S64x128 .f32) : FVec F S64x512 .f32 :=
  concatenate S64x512 1 [⟨S64x128, t0⟩, ⟨S64x128, t1⟩, ⟨S64x128, t2⟩, ⟨S64x128, t3⟩]
    concatenates_S64x128_S64x128_S64x128_S64x128_S64x512_d1

/-- A row under root mean square normalisation and its gain. -/
def normed (g : Vec F S1x512 .f32) (a : FVec F S64x512 .f32) : FVec F S64x512 .bf16 :=
  truncf .bf16
    (mulf
      (mulf a
        (broadcastTo S64x512
          (rsqrt (addf
            (divf
              (shapeCast S64x1 (multiReduction .add [1] S64 (mulf a a) 0x00000000#32 reduces_S64x512_S64 (.inl rfl) rfl) shapeCasts_S64_S64x1)
              (broadcast S64x1 (Scalar.ofBits .f32 0x44000000#32)))
            (broadcast S64x1 (Scalar.ofBits .f32 0x358637BD#32))))
          broadcasts_S64x1_S64x512))
      (broadcastTo S64x512 g broadcasts_S1x512_S64x512))
    bitsLt_bf16_f32

/-- The queries of row `r` and head pair `h` in the block of queries. -/
def qTile (x : Vec F S512x512 .bf16) (r : ℕ) (hr : r < 8) (h : ℕ) (hh : h < 4) : Vec F S64x128 .bf16 :=
  View.ld x (Rect.unit ![r * 64, h * 128] S64x128.size (fun a => match a with
    | ⟨0, _⟩ => show r * 64 + 64 ≤ 512 by omega
    | ⟨1, _⟩ => show h * 128 + 128 ≤ 512 by omega))

/-- The 512 keys (or values) that row `r` sees, of head pair `h`. -/
def kTile (i : grid0.Coords) (x : Vec F S1536x512 .bf16) (r : Fin 8) (h : ℕ) (hh : h < 4) : Vec F S512x128 .bf16 :=
  View.ld x (Rect.unit ![k0_off1 i (BitVec.ofNat 32 r.val) 0, h * 128] S512x128.size (fun a => match a with
    | ⟨0, _⟩ => k0_off1_inb i r 0
    | ⟨1, _⟩ => show h * 128 + 128 ≤ 512 by omega))

/-- The bias of head pair `h` for the `t`-th pair of key rows of query row `r`. -/
def bTile (i : grid0.Coords) (x : Vec F S4x14x128x128 .f32) (r : Fin 8) (h : ℕ) (hh : h < 4) (t : Fin 4) :
    Vec F S1x1x128x128 .f32 :=
  View.ld x (Rect.unit ![h, k0_off2 i (BitVec.ofNat 32 r.val) (BitVec.ofNat 32 (2 * t.val)) 1, 0, 0] S1x1x128x128.size (fun a => match a with
    | ⟨0, _⟩ => show h + 1 ≤ 4 by omega
    | ⟨1, _⟩ => k0_off2_inb i r t 1
    | ⟨2, _⟩ => show 0 + 128 ≤ 128 by omega
    | ⟨3, _⟩ => show 0 + 128 ≤ 128 by omega))

/-- Tile `h` of row `r` of the block. -/
def blockTile (i : grid0.Coords) (x0 : Vec F S512x512 .bf16) (x1 x2 : Vec F S1536x512 .bf16) (x3 : Vec F S4x14x128x128 .f32)
    (r : Fin 8) (h : ℕ) (hh : h < 4) : FVec F S64x128 .f32 :=
  tile (qTile x0 r.val r.isLt h hh) (kTile i x1 r h hh) (kTile i x2 r h hh)
    (bTile i x3 r h hh 0) (bTile i x3 r h hh 1) (bTile i x3 r h hh 2) (bTile i x3 r h hh 3)

/-- What is stored for row `r` of the block. -/
def blockRow (i : grid0.Coords) (x0 : Vec F S512x512 .bf16) (x1 x2 : Vec F S1536x512 .bf16) (x3 : Vec F S4x14x128x128 .f32)
    (x4 : Vec F S1x512 .f32) (r : Fin 8) : FVec F S64x512 .bf16 :=
  normed x4 (row (blockTile i x0 x1 x2 x3 r 0 (by omega)) (blockTile i x0 x1 x2 x3 r 1 (by omega))
    (blockTile i x0 x1 x2 x3 r 2 (by omega)) (blockTile i x0 x1 x2 x3 r 3 (by omega)))

end Cert.KernelIdeal.Att

end
end
-- ==== Proof.Pieces.lean ====
/- The eight pieces that the attention kernel's body stores at one grid point are the rows of `Body`. -/
module

public import proofs.«01_k».proof.Proof.Body

@[expose] public section

set_option maxRecDepth 65536

noncomputable section

namespace Cert.KernelIdeal.Att

open Cert.KernelIdeal Cert.KernelIdeal.Gen Idealize.ShloMosaic Idealize.ShloMosaic.TcCoe Idealize.SL.Sem

variable {F : FTy → Type} [FloatOps F]

theorem pieces (c : Dev nD) (i : grid0.Coords) (arg2 : Memref sig .tc .vmem S512x512 .bf16) (harg2 : arg2.IsWhole)
    (arg3 : Memref sig .tc .vmem S1536x512 .bf16) (harg3 : arg3.IsWhole) (arg4 : Memref sig .tc .vmem S1536x512 .bf16)
    (harg4 : arg4.IsWhole) (arg5 : Memref sig .tc .vmem S4x14x128x128 .f32) (harg5 : arg5.IsWhole)
    (arg6 : Memref sig .tc .vmem S1x512 .f32) (harg6 : arg6.IsWhole) (arg7 : Memref sig .tc .vmem S512x512 .bf16)
    (harg7 : arg7.IsWhole) (x0 : Vec F S512x512 .bf16) (x1 : Vec F S1536x512 .bf16) (x2 : Vec F S1536x512 .bf16)
    (x3 : Vec F S4x14x128x128 .f32) (x4 : Vec F S1x512 .f32) :
    (kernelRun0_A c i arg2 harg2 arg3 harg3 arg4 harg4 arg5 harg5 arg6 harg6 arg7 harg7 x0 x1 x2 x3 x4).1 =
      [⟨Rect.unit ![448, 0] S64x512.size inb_S512x512_S64x512_448_0, blockRow i x0 x1 x2 x3 x4 7⟩,
       ⟨Rect.unit ![384, 0] S64x512.size inb_S512x512_S64x512_384_0, blockRow i x0 x1 x2 x3 x4 6⟩,
       ⟨Rect.unit ![320, 0] S64x512.size inb_S512x512_S64x512_320_0, blockRow i x0 x1 x2 x3 x4 5⟩,
       ⟨Rect.unit ![256, 0] S64x512.size inb_S512x512_S64x512_256_0, blockRow i x0 x1 x2 x3 x4 4⟩,
       ⟨Rect.unit ![192, 0] S64x512.size inb_S512x512_S64x512_192_0, blockRow i x0 x1 x2 x3 x4 3⟩,
       ⟨Rect.unit ![128, 0] S64x512.size inb_S512x512_S64x512_128_0, blockRow i x0 x1 x2 x3 x4 2⟩,
       ⟨Rect.unit ![64, 0] S64x512.size inb_S512x512_S64x512_64_0, blockRow i x0 x1 x2 x3 x4 1⟩,
       ⟨Rect.unit ![0, 0] S64x512.size inb_S512x512_S64x512_0_0, blockRow i x0 x1 x2 x3 x4 0⟩] := by
  unfold kernelRun0_A
  dsimp only
  sl_unfold_words
  simp only [View.readAt_eq_ld, harg2.read_unread, harg3.read_unread, harg4.read_unread, harg5.read_unread,
    harg6.read_unread]
  have hg : View.ld x4 (Rect.unit ![0, 0] S1x512.size inb_S1x512_S1x512_0_0) = x4 :=
    View.ld_unit_zero (by funext a; fin_cases a <;> rfl) _ _
  rw [hg]
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  refine congrArg₂ List.cons (congrArg (Sigma.mk _) ?_) ?_
  · rfl
  rfl

end Cert.KernelIdeal.Att

end
end
-- ==== Proof.Spec.lean ====
/- Neighbourhood attention in plain terms, and the two laws of extended reals that carry the kernel's form of it to the
   reference's: a softmax over 512 keys of which all but 128 are masked is the softmax over the 128, and a scale of the
   queries is a scale of the scores. -/
module

public import Idealize.ShloMosaic.PureOps.Ideal.Laws
public import Idealize.ShloMosaic.Lib.ValueIdx

@[expose] public section

noncomputable section

namespace Cert.Att

open Idealize.ShloMosaic

/-! ## Arrays as functions of natural numbers, zero outside -/

/-- A rank-2 array at two numbers. -/
def at2 {a b : ℕ} (x : (⟨2, ![a, b]⟩ : Shape).Idx → EReal) (i j : ℕ) : EReal :=
  if h : i < a ∧ j < b then x (ValueIdx.ix2 ⟨i, h.1⟩ ⟨j, h.2⟩) else 0

/-- A rank-3 array at three numbers. -/
def at3 {a b c : ℕ} (x : (⟨3, ![a, b, c]⟩ : Shape).Idx → EReal) (i j k : ℕ) : EReal :=
  if h : i < a ∧ j < b ∧ k < c then x (ValueIdx.ix3 ⟨i, h.1⟩ ⟨j, h.2.1⟩ ⟨k, h.2.2⟩) else 0

theorem at2_of {a b : ℕ} (x : (⟨2, ![a, b]⟩ : Shape).Idx → EReal) (y : (⟨2, ![a, b]⟩ : Shape).Idx) (i j : ℕ)
    (hi : (y 0).val = i) (hj : (y 1).val = j) : x y = at2 x i j := by
  subst hi hj
  have h0 : (y 0).val < a := (y 0).isLt
  have h1 : (y 1).val < b := (y 1).isLt
  unfold at2
  rw [dif_pos ⟨h0, h1⟩]
  refine congrArg x (funext fun d => ?_)
  match d with
  | ⟨0, _⟩ => rfl
  | ⟨1, _⟩ => rfl

theorem at3_of {a b c : ℕ} (x : (⟨3, ![a, b, c]⟩ : Shape).Idx → EReal) (y : (⟨3, ![a, b, c]⟩ : Shape).Idx) (i j k : ℕ)
    (hi : (y 0).val = i) (hj : (y 1).val = j) (hk : (y 2).val = k) : x y = at3 x i j k := by
  subst hi hj hk
  have h0 : (y 0).val < a := (y 0).isLt
  have h1 : (y 1).val < b := (y 1).isLt
  have h2 : (y 2).val < c := (y 2).isLt
  unfold at3
  rw [dif_pos ⟨h0, h1, h2⟩]
  refine congrArg x (funext fun d => ?_)
  match d with
  | ⟨0, _⟩ => rfl
  | ⟨1, _⟩ => rfl
  | ⟨2, _⟩ => rfl

/-! ## The attention -/

/-- The first row of the window of a query in row `r` of a sequence's 128 rows. -/
def rowStart (r : ℕ) : ℕ := min (r - 4) 120

/-- The first column of the window of a query in column `c` of 64. -/
def colStart (c : ℕ) : ℕ := min (c - 8) 48

/-- The row and the column of a token in its sequence. -/
def tokRow (T : ℕ) : ℕ := T % 8192 / 64
def tokCol (T : ℕ) : ℕ := T % 64

/-- The `n`-th of a token's 128 neighbours, 8 rows of 16. -/
def nbr (T n : ℕ) : ℕ := T / 8192 * 8192 + (rowStart (tokRow T) + n / 16) * 64 + (colStart (tokCol T) + n % 16)

/-- The factor of the scores, one eighth. -/
def scl : EReal := Ideal.ofBits .f32 0x3E000000#32

/-- The score of head `h` of token `T` at its `n`-th neighbour. -/
def score (A : ℕ → ℕ → EReal) (B : ℕ → ℕ → ℕ → EReal) (T h n : ℕ) : EReal :=
  (∑ d : Fin 64, A T (64 * h + d.val) * A (nbr T n) (512 + 64 * h + d.val)) * scl
    + B h (rowStart (tokRow T) + n / 16 + 7 - tokRow T) (colStart (tokCol T) + n % 16 + 15 - tokCol T)

/-- The softmax of 128 scores against 128 values. -/
def softmaxDot (s w : Fin 128 → EReal) : EReal :=
  ∑ n : Fin 128, Ideal.div (Ideal.exp (s n - Finset.univ.fold max ⊥ s)) (∑ k : Fin 128, Ideal.exp (s k - Finset.univ.fold max ⊥ s)) * w n

/-- The attention of token `T` at column `j = 64 h + d` of the result. -/
def attn (A : ℕ → ℕ → EReal) (B : ℕ → ℕ → ℕ → EReal) (T j : ℕ) : EReal :=
  softmaxDot (fun n => score A B T (j / 64) n.val) (fun n => A (nbr T n.val) (1024 + j))

/-- The result: the attention under root mean square normalisation and its gain. -/
def result (A : ℕ → ℕ → EReal) (B : ℕ → ℕ → ℕ → EReal) (G : ℕ → ℕ → EReal) (T j : ℕ) : EReal :=
  attn A B T j
    * Ideal.rsqrt (Ideal.div (∑ k : Fin 512, attn A B T k.val * attn A B T k.val) (Ideal.ofBits .f32 0x44000000#32) + Ideal.ofBits .f32 0x358637BD#32)
    * G 0 j

/-! ## The laws -/

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem sum_mul_coe {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S h ih =>
    rw [Finset.sum_insert h, Finset.sum_insert h,
      EReal.right_distrib_of_nonneg_of_ne_top (by exact_mod_cast hc) (EReal.coe_ne_top c), ih]

theorem scl_real : ∃ r : ℝ, scl = (r : EReal) := by
  refine ⟨1 / 8, ?_⟩
  unfold scl
  simp [Ideal.ofBits, Ideal.ieee]
  norm_num
  rw [← EReal.coe_mul]
  norm_num

/-- Scaling the queries scales the scores, over the reals. -/
theorem scale_sum (a k : Fin 64 → EReal) (ha : ∀ d, ∃ r : ℝ, a d = r) (hk : ∀ d, ∃ r : ℝ, k d = r) :
    ∑ d, a d * scl * k d = (∑ d, a d * k d) * scl := by
  choose a' ha' using ha
  choose k' hk' using hk
  obtain ⟨c, hc⟩ := scl_real
  simp only [ha', hk', hc, ← EReal.coe_mul, ← coe_sum]
  rw [Finset.sum_mul]
  exact congrArg _ (Finset.sum_congr rfl fun d _ => mul_right_comm _ _ _)

theorem sum_of_inj {α : Type} [AddCommMonoid α] (f : Fin 128 → Fin 512) (hf : Function.Injective f) (g : Fin 512 → α)
    (hg : ∀ κ, (∀ n, f n ≠ κ) → g κ = 0) : ∑ κ, g κ = ∑ n, g (f n) := by
  classical
  rw [← Finset.sum_image (s := Finset.univ) (f := g) (g := f) (fun a _ b _ h => hf h)]
  symm
  refine Finset.sum_subset (Finset.subset_univ _) fun κ _ hκ => hg κ fun n hn => hκ ?_
  exact Finset.mem_image.2 ⟨n, Finset.mem_univ _, hn⟩

/-- A softmax over 512 keys, divided after the product with the values, of which every key outside the image of `f` has
    the score −∞: the softmax over the 128 keys that `f` names. -/
theorem softmax_sparse (s : Fin 128 → EReal) (hs : ∀ n, ∃ r : ℝ, s n = r) (t : Fin 512 → EReal) (f : Fin 128 → Fin 512)
    (hf : Function.Injective f) (ht : ∀ n, t (f n) = s n) (hb : ∀ κ, (∀ n, f n ≠ κ) → t κ = ⊥)
    (v : Fin 512 → EReal) (w : Fin 128 → EReal) (hv : ∀ n, v (f n) = w n) :
    Ideal.div (∑ κ, Ideal.exp (t κ - Finset.univ.fold max ⊥ t) * v κ) (∑ κ, Ideal.exp (t κ - Finset.univ.fold max ⊥ t))
      = softmaxDot s w := by
  choose s' hs' using hs
  have hM : Finset.univ.fold max ⊥ t = Finset.univ.fold max ⊥ s := by
    change Finset.univ.sup t = Finset.univ.sup s
    refine le_antisymm (Finset.sup_le fun κ _ => ?_) (Finset.sup_le fun n _ => ?_)
    · by_cases h : ∃ n, f n = κ
      · obtain ⟨n, rfl⟩ := h
        rw [ht]
        exact Finset.le_sup (Finset.mem_univ n)
      · rw [hb κ fun n hn => h ⟨n, hn⟩]
        exact bot_le
    · rw [← ht]
      exact Finset.le_sup (f := t) (Finset.mem_univ (f n))
  obtain ⟨M, hMr⟩ : ∃ M : ℝ, Finset.univ.fold max ⊥ s = (M : EReal) := by
    obtain ⟨n, _, hn⟩ := Finset.exists_mem_eq_sup (Finset.univ : Finset (Fin 128)) ⟨0, Finset.mem_univ _⟩ s
    exact ⟨s' n, (show Finset.univ.sup s = _ from hn).trans (hs' n)⟩
  unfold softmaxDot
  rw [hM, hMr]
  have hz : ∀ κ, (∀ n, f n ≠ κ) → Ideal.exp (t κ - (M : EReal)) = 0 := fun κ h => by
    rw [hb κ h, EReal.bot_sub, Ideal.exp_bot]
  rw [sum_of_inj f hf (fun κ => Ideal.exp (t κ - (M : EReal)) * v κ) (fun κ h => by rw [hz κ h, zero_mul]),
    sum_of_inj f hf (fun κ => Ideal.exp (t κ - (M : EReal))) (fun κ h => hz κ h)]
  have he : ∀ n, Ideal.exp (s n - (M : EReal)) = ((Real.exp (s' n - M) : ℝ) : EReal) := fun n => by
    rw [hs', ← EReal.coe_sub, Ideal.exp_coe]
  simp only [ht, hv, he, ← coe_sum]
  have hpos : 0 < ∑ n : Fin 128, Real.exp (s' n - M) :=
    Finset.sum_pos (fun n _ => Real.exp_pos _) ⟨0, Finset.mem_univ _⟩
  generalize (∑ n : Fin 128, Real.exp (s' n - M)) = L at hpos
  rw [Ideal.div_coe hpos.ne', sum_mul_coe _ _ _ (by positivity)]
  refine Finset.sum_congr rfl fun n _ => ?_
  rw [Ideal.div_coe hpos.ne']
  exact mul_right_comm _ _ _

end Cert.Att

end
end
-- ==== Proof.Tile.lean ====
/- One tile of the kernel's body at an index. -/
module

public import proofs.«01_k».proof.Proof.Body
public import proofs.«01_k».proof.Proof.Spec
public import Idealize.ShloMosaic.Lib.Pointwise
public import Idealize.ShloMosaic.PureOps.Ideal.Laws

@[expose] public section

set_option maxRecDepth 65536

noncomputable section

namespace Cert.KernelIdeal.Att

open Cert.KernelIdeal Cert.KernelIdeal.Gen Idealize.ShloMosaic Idealize.ShloMosaic.TcCoe Idealize.SL.Sem Cert.Att

theorem neg_inf : Ideal.ofBits .f32 0xFF800000#32 = ⊥ := by
  simp [Ideal.ofBits, Ideal.ieee]

theorem tileProbs_at (s : FVec Ideal S128x512 .f32) (R : Fin 128) (κ : Fin 512) :
    tileProbs s (ix2 R κ) = Ideal.exp (s (ix2 R κ) - Finset.univ.fold max ⊥ (fun k : Fin 512 => s (ix2 R k))) := by
  pointwise [tileProbs]
  rw [neg_inf]

theorem pay3_at (i : S512x128.Idx) : k0_pay3 (F := Ideal) i = 1 := by
  pointwise [k0_pay3]

theorem pay2_at (i : S64x128.Idx) : k0_pay2 i = if (i 1).val < 64 then 1#1 else 0#1 := by
  pointwise [k0_pay2]
  exact (by decide +kernel : ∀ x : Fin 128, IntOp.cmpi CmpIPredicate.slt (BitVec.ofNat 32 x.val) 64#32 = if x.val < 64 then 1#1 else 0#1) (i 1)

theorem tileDot_at (p : FVec Ideal S128x512 .bf16) (v : Vec Ideal S512x128 .bf16) (R : Fin 128) (l : Fin 256) :
    tileDot p v (ix2 R l) = ∑ κ : Fin 512, p (ix2 R κ) * (if l.val < 128 then at2 v κ.val l.val else 1) := by
  pointwise [tileDot]
  refine Finset.sum_congr rfl fun κ _ => congrArg (p (ix2 R κ) * ·) ?_
  by_cases h : l.val < 128
  · rw [dif_pos h, if_pos h]
    exact at2_of v _ _ _ rfl rfl
  · rw [dif_neg h, if_neg h]
    exact pay3_at _

/-- A sum over 128 lanes of which only one half counts. -/
theorem half_sum (a : ℕ) (ha : a < 2) (f : ℕ → EReal) :
    ∑ x : Fin 128, (if x.val / 64 = a then f x.val else 0) = ∑ e : Fin 64, f (64 * a + e.val) := by
  have e : ∑ x : Fin 128, (if x.val / 64 = a then f x.val else 0) = ∑ x : Fin (64 + 64), (if x.val / 64 = a then f x.val else 0) := rfl
  rw [e, Fin.sum_univ_add]
  have h1 : ∀ e : Fin 64, (if (Fin.castAdd 64 e).val / 64 = a then f (Fin.castAdd 64 e).val else 0) = if 0 = a then f e.val else 0 := fun e => by
    have : (Fin.castAdd 64 e).val = e.val := rfl
    rw [this, Nat.div_eq_of_lt e.isLt]
  have h2 : ∀ e : Fin 64, (if (Fin.natAdd 64 e).val / 64 = a then f (Fin.natAdd 64 e).val else 0) = if 1 = a then f (64 + e.val) else 0 := fun e => by
    have : (Fin.natAdd 64 e).val = 64 + e.val := rfl
    have h : (64 + e.val) / 64 = 1 := by have := e.isLt; omega
    rw [this, h]
  rw [Finset.sum_congr rfl fun e _ => h1 e, Finset.sum_congr rfl fun e _ => h2 e]
  match a, ha with
  | 0, _ => simp
  | 1, _ => simp

theorem tileScores_at (q : Vec Ideal S64x128 .bf16) (k : Vec Ideal S512x128 .bf16) (b : Fin 4 → Vec Ideal S1x1x128x128 .f32) (R : Fin 128) (κ : Fin 512) :
    tileScores q k (b 0) (b 1) (b 2) (b 3) (ix2 R κ)
      = (∑ e : Fin 64, at2 q (R.val % 64) (64 * (R.val / 64) + e.val) * at2 k κ.val (64 * (R.val / 64) + e.val))
        + b ⟨κ.val / 128, by omega⟩ (ix4 0 0 R ⟨κ.val % 128, by omega⟩) := by
  rw [← half_sum (R.val / 64) (by omega) (fun x => at2 q (R.val % 64) x * at2 k κ.val x)]
  pointwise [tileScores]
  refine congrArg₂ (· + ·) (Finset.sum_congr rfl fun x _ => ?_) ?_
  · have ek : k (ix2 κ x) = at2 k κ.val x.val := at2_of k _ _ _ rfl rfl
    by_cases h : R.val < 64
    · have eq : q (ix2 ⟨R.val, h⟩ x) = at2 q (R.val % 64) x.val := at2_of q _ _ _ (Nat.mod_eq_of_lt h).symm rfl
      rw [dif_pos h, pay2_at]
      by_cases hx : x.val < 64
      · have e : x.val / 64 = R.val / 64 := by omega
        rw [if_pos e, ← ek, ← eq]
        show Scalar.select (if x.val < 64 then 1#1 else 0#1) _ _ * _ = _
        rw [if_pos hx]; rfl
      · have e : ¬ x.val / 64 = R.val / 64 := by omega
        rw [if_neg e]
        show Scalar.select (if x.val < 64 then 1#1 else 0#1) _ _ * _ = _
        rw [if_neg hx]
        exact zero_mul _
    · have eq : q (ix2 ⟨R.val - 64, by omega⟩ x) = at2 q (R.val % 64) x.val := at2_of q _ _ _ (show R.val - 64 = _ by omega) rfl
      rw [dif_neg h, pay2_at]
      by_cases hx : x.val < 64
      · have e : ¬ x.val / 64 = R.val / 64 := by omega
        rw [if_neg e]
        show Scalar.select (if x.val < 64 then 1#1 else 0#1) _ _ * _ = _
        rw [if_pos hx]
        exact zero_mul _
      · have e : x.val / 64 = R.val / 64 := by omega
        rw [if_pos e, ← ek, ← eq]
        show Scalar.select (if x.val < 64 then 1#1 else 0#1) _ _ * _ = _
        rw [if_neg hx]; rfl
  · have key : ∀ (t : Fin 4) (c : Fin 128), κ.val = 128 * t.val + c.val →
        b t (ix4 0 0 R c) = b ⟨κ.val / 128, by omega⟩ (ix4 0 0 R ⟨κ.val % 128, by omega⟩) := fun t c h => by
      have e1 : t = ⟨κ.val / 128, by omega⟩ := Fin.ext (by show t.val = κ.val / 128; omega)
      have e2 : c = ⟨κ.val % 128, by omega⟩ := Fin.ext (by show c.val = κ.val % 128; omega)
      rw [← e1, ← e2]
    have hκ := κ.isLt
    by_cases h0 : κ.val < 128
    · rw [dif_pos h0]
      exact key 0 _ (by show κ.val = 128 * 0 + κ.val; omega)
    rw [dif_neg h0]
    by_cases h1 : κ.val - 128 < 128
    · rw [dif_pos h1]
      exact key 1 _ (by show κ.val = 128 * 1 + (κ.val - 128); omega)
    rw [dif_neg h1]
    by_cases h2 : κ.val - 128 - 128 < 128
    · rw [dif_pos h2]
      exact key 2 _ (by show κ.val = 128 * 2 + (κ.val - 128 - 128); omega)
    rw [dif_neg h2]
    exact key 3 _ (by show κ.val = 128 * 3 + (κ.val - 128 - 128 - 128); omega)

/-- A tile at a query column and a lane, in its row of scores `t`. -/
theorem tile_at (q : Vec Ideal S64x128 .bf16) (k v : Vec Ideal S512x128 .bf16) (b0 b1 b2 b3 : Vec Ideal S1x1x128x128 .f32) (r : Fin 64) (l : Fin 128)
    (t : Fin 512 → EReal) (ht : ∀ κ, tileScores q k b0 b1 b2 b3 (ix2 ⟨64 * (l.val / 64) + r.val, by omega⟩ κ) = t κ) :
    tile q k v b0 b1 b2 b3 (ix2 r l)
      = Ideal.div (∑ κ : Fin 512, Ideal.exp (t κ - Finset.univ.fold max ⊥ t) * at2 v κ.val l.val)
          (∑ κ : Fin 512, Ideal.exp (t κ - Finset.univ.fold max ⊥ t)) := by
  have hp : ∀ κ, tileProbs (tileScores q k b0 b1 b2 b3) (ix2 ⟨64 * (l.val / 64) + r.val, by omega⟩ κ) = Ideal.exp (t κ - Finset.univ.fold max ⊥ t) := fun κ => by
    rw [tileProbs_at]; simp only [ht]
  unfold tile
  have num : ∀ R : Fin 128, R.val = 64 * (l.val / 64) + r.val → tileDot (tileProbs (tileScores q k b0 b1 b2 b3)) v (ix2 R ⟨l.val, by omega⟩)
      = ∑ κ : Fin 512, Ideal.exp (t κ - Finset.univ.fold max ⊥ t) * at2 v κ.val l.val := fun R hR => by
    rw [tileDot_at, show R = ⟨64 * (l.val / 64) + r.val, by omega⟩ from Fin.ext hR]
    refine Finset.sum_congr rfl fun κ _ => ?_
    rw [hp, if_pos l.isLt]
  have den : ∀ R : Fin 128, R.val = 64 * (l.val / 64) + r.val → tileDot (tileProbs (tileScores q k b0 b1 b2 b3)) v (ix2 R ⟨128 + l.val, by omega⟩)
      = ∑ κ : Fin 512, Ideal.exp (t κ - Finset.univ.fold max ⊥ t) := fun R hR => by
    rw [tileDot_at, show R = ⟨64 * (l.val / 64) + r.val, by omega⟩ from Fin.ext hR]
    refine Finset.sum_congr rfl fun κ _ => ?_
    rw [hp, if_neg (show ¬ 128 + l.val < 128 by omega), mul_one]
  generalize tileDot (tileProbs (tileScores q k b0 b1 b2 b3)) v = o at num den
  pointwise [tileQuot]
  rw [pay2_at]
  by_cases h : l.val < 64
  · show Scalar.select (if l.val < 64 then 1#1 else 0#1) _ _ = _
    rw [if_pos h]
    exact congrArg₂ Ideal.div (num ⟨r.val, by omega⟩ (show r.val = _ by omega)) (den ⟨r.val, by omega⟩ (show r.val = _ by omega))
  · show Scalar.select (if l.val < 64 then 1#1 else 0#1) _ _ = _
    rw [if_neg h]
    exact congrArg₂ Ideal.div (num ⟨64 + r.val, by omega⟩ (show 64 + r.val = _ by omega)) (den ⟨64 + r.val, by omega⟩ (show 64 + r.val = _ by omega))

/-- A stored row at an index, its four tiles given as one function `f` of 512 lanes. -/
theorem normed_row_at (g : Vec Ideal S1x512 .f32) (t0 t1 t2 t3 : FVec Ideal S64x128 .f32) (r : Fin 64) (l : Fin 512) (f : ℕ → EReal)
    (h0 : ∀ x : Fin 128, t0 (ix2 r x) = f x.val) (h1 : ∀ x : Fin 128, t1 (ix2 r x) = f (128 + x.val))
    (h2 : ∀ x : Fin 128, t2 (ix2 r x) = f (256 + x.val)) (h3 : ∀ x : Fin 128, t3 (ix2 r x) = f (384 + x.val)) :
    normed g (row t0 t1 t2 t3) (ix2 r l)
      = f l.val * Ideal.rsqrt (Ideal.div (∑ k : Fin 512, f k.val * f k.val) (Ideal.ofBits .f32 0x44000000#32) + Ideal.ofBits .f32 0x358637BD#32)
        * at2 g 0 l.val := by
  have hr : ∀ x : Fin 512, row t0 t1 t2 t3 (ix2 r x) = f x.val := fun x => by
    pointwise [row]
    have hx := x.isLt
    by_cases c0 : x.val < 128
    · rw [dif_pos c0]
      exact h0 _
    rw [dif_neg c0]
    by_cases c1 : x.val - 128 < 128
    · rw [dif_pos c1]
      exact (h1 ⟨x.val - 128, c1⟩).trans (congrArg f (show 128 + (x.val - 128) = x.val by omega))
    rw [dif_neg c1]
    by_cases c2 : x.val - 128 - 128 < 128
    · rw [dif_pos c2]
      exact (h2 ⟨x.val - 128 - 128, c2⟩).trans (congrArg f (show 256 + (x.val - 128 - 128) = x.val by omega))
    rw [dif_neg c2]
    exact (h3 ⟨x.val - 128 - 128 - 128, by omega⟩).trans (congrArg f (show 384 + (x.val - 128 - 128 - 128) = x.val by omega))
  generalize row t0 t1 t2 t3 = a at hr
  pointwise [normed]
  refine congrArg₂ (· * ·) (congrArg₂ (· * ·) (hr l) ?_) (at2_of g _ _ _ rfl rfl)
  refine congrArg (fun z => Ideal.rsqrt (Ideal.div z _ + _)) (Finset.sum_congr rfl fun x _ => ?_)
  exact congrArg₂ (· * ·) (hr x) (hr x)

end Cert.KernelIdeal.Att

end
end
-- ==== Proof.Block.lean ====
/- What one grid point computes: given what its input blocks hold, each row that it stores is the neighbourhood attention
   of that row's tokens. -/
module

public import proofs.«01_k».proof.Proof.Tile
public import Idealize.ShloMosaic.Lib.Pipeline.ValueKit.Tiles

@[expose] public section

set_option maxRecDepth 65536

noncomputable section

namespace Cert.KernelIdeal.Att

open Cert.KernelIdeal Cert.KernelIdeal.Gen Idealize.ShloMosaic Idealize.ShloMosaic.TcCoe Idealize.SL.Sem Cert.Att

/-! ## The offsets of the loads -/

/-- The keys of a row start at its window's first row. -/
theorem key_offset : ∀ (i : grid0.Coords) (r : Fin 8), cc0_transform_1 i 0 + k0_off1 i (BitVec.ofNat 32 r.val) 0
    = (i 0).val * 8192 + rowStart (8 * (i 1).val + r.val) * 64 := by decide +kernel

theorem value_offset : ∀ (i : grid0.Coords) (r : Fin 8), cc0_transform_2 i 0 + k0_off1 i (BitVec.ofNat 32 r.val) 0
    = (i 0).val * 8192 + rowStart (8 * (i 1).val + r.val) * 64 := by decide +kernel

/-- The bias pairs of a row start at its window's first row offset. -/
theorem bias_offset : ∀ (i : grid0.Coords) (r : Fin 8) (t : Fin 4), k0_off2 i (BitVec.ofNat 32 r.val) (BitVec.ofNat 32 (2 * t.val)) 1
    = rowStart (8 * (i 1).val + r.val) + 7 - (8 * (i 1).val + r.val) + 2 * t.val := by decide +kernel

/-- A load of a rank-2 array, read at two numbers. -/
theorem at2_ld {a b a' b' : ℕ} (x : (⟨2, ![a, b]⟩ : Shape).Idx → EReal) (off : Fin 2 → ℕ)
    (inb : ∀ d, off d + (![a', b'] : Fin 2 → ℕ) d ≤ (⟨2, ![a, b]⟩ : Shape).size d) (i j : ℕ) (hi : i < a') (hj : j < b') :
    at2 (a := a') (b := b') (fun y => x ((Rect.unit (s := ⟨2, ![a, b]⟩) off ![a', b'] inb).idx y)) i j = at2 x (off 0 + i) (off 1 + j) := by
  unfold at2
  have h0 : off 0 + a' ≤ a := inb 0
  have h1 : off 1 + b' ≤ b := inb 1
  rw [dif_pos ⟨hi, hj⟩, dif_pos ⟨by omega, by omega⟩]
  refine congrArg x (funext fun d => Fin.ext ?_)
  match d with
  | ⟨0, _⟩ => exact Rect.idx_unit_val _ _ _ _ _
  | ⟨1, _⟩ => exact Rect.idx_unit_val _ _ _ _ _

section

variable (i : grid0.Coords) (x0 : Vec Ideal S512x512 .bf16) (x1 x2 : Vec Ideal S1536x512 .bf16) (x3 : Vec Ideal S4x14x128x128 .f32)
  (x4 : Vec Ideal S1x512 .f32) (A : ℕ → ℕ → EReal) (B : ℕ → ℕ → ℕ → EReal)

theorem bTile_at (r : Fin 8) (h : ℕ) (hh : h < 4) (t : Fin 4) (R k : Fin 128)
    (h3 : ∀ (a : Fin 4) (r : Fin 14) (q k : Fin 128), x3 (ix4 a r q k)
      = if colStart (q.val % 64) ≤ k.val % 64 ∧ k.val % 64 < colStart (q.val % 64) + 16
        then B (2 * a.val + q.val / 64) (r.val + k.val / 64) (k.val % 64 + 15 - q.val % 64) else ⊥) :
    bTile i x3 r h hh t (ix4 0 0 R k)
      = if colStart (R.val % 64) ≤ k.val % 64 ∧ k.val % 64 < colStart (R.val % 64) + 16
        then B (2 * h + R.val / 64) (rowStart (8 * (i 1).val + r.val) + 7 - (8 * (i 1).val + r.val) + 2 * t.val + k.val / 64) (k.val % 64 + 15 - R.val % 64)
        else ⊥ := by
  have hr : k0_off2 i (BitVec.ofNat 32 r.val) (BitVec.ofNat 32 (2 * t.val)) 1 < 14 := by
    have := k0_off2_inb i r t 1
    exact this
  have e : bTile i x3 r h hh t (ix4 0 0 R k) = x3 (ix4 ⟨h, hh⟩ ⟨_, hr⟩ R k) := by
    unfold bTile
    refine congrArg x3 (funext fun d => Fin.ext ?_)
    match d with
    | ⟨0, _⟩ => exact (Rect.idx_unit_val _ _ _ _ _).trans (Nat.add_zero _)
    | ⟨1, _⟩ => exact (Rect.idx_unit_val _ _ _ _ _).trans (Nat.add_zero _)
    | ⟨2, _⟩ => exact (Rect.idx_unit_val _ _ _ _ _).trans (Nat.zero_add _)
    | ⟨3, _⟩ => exact (Rect.idx_unit_val _ _ _ _ _).trans (Nat.zero_add _)
  rw [e, h3]
  simp only [bias_offset]

/-- A score is a real number when the queries, the keys and the biases are. -/
theorem score_real (hA : ∀ T j, j < 1024 → ∃ r : ℝ, A T j = r) (hB : ∀ a b c, ∃ r : ℝ, B a b c = r) (T h n : ℕ) (hh : h < 8) :
    ∃ r : ℝ, score A B T h n = r := by
  unfold score
  obtain ⟨c, hc⟩ := scl_real
  obtain ⟨b, hb⟩ := hB h (rowStart (tokRow T) + n / 16 + 7 - tokRow T) (colStart (tokCol T) + n % 16 + 15 - tokCol T)
  have hq : ∀ d : Fin 64, ∃ r : ℝ, A T (64 * h + d.val) = r := fun d => hA _ _ (by omega)
  have hk : ∀ d : Fin 64, ∃ r : ℝ, A (nbr T n) (512 + 64 * h + d.val) = r := fun d => hA _ _ (by omega)
  choose q' hq' using hq
  choose k' hk' using hk
  refine ⟨(∑ d, q' d * k' d) * c + b, ?_⟩
  simp only [hq', hk', hc, hb, ← EReal.coe_mul, ← coe_sum, ← EReal.coe_add]

/-- One tile: two heads of a row's 64 tokens. -/
theorem blockTile_at (hA : ∀ T j, j < 1024 → ∃ r : ℝ, A T j = r) (hB : ∀ a b c, ∃ r : ℝ, B a b c = r)
    (h0 : ∀ a f, a < 512 → f < 512 → at2 x0 a f = A ((i 0).val * 8192 + (i 1).val * 512 + a) f * scl)
    (h1 : ∀ a f, a < 1536 → f < 512 → at2 x1 a f = A (cc0_transform_1 i 0 + a) (512 + f))
    (h2 : ∀ a f, a < 1536 → f < 512 → at2 x2 a f = A (cc0_transform_2 i 0 + a) (1024 + f))
    (h3 : ∀ (a : Fin 4) (r : Fin 14) (q k : Fin 128), x3 (ix4 a r q k)
      = if colStart (q.val % 64) ≤ k.val % 64 ∧ k.val % 64 < colStart (q.val % 64) + 16
        then B (2 * a.val + q.val / 64) (r.val + k.val / 64) (k.val % 64 + 15 - q.val % 64) else ⊥)
    (r : Fin 8) (h : ℕ) (hh : h < 4) (c : Fin 64) (l : Fin 128) :
    blockTile i x0 x1 x2 x3 r h hh (ix2 c l) = attn A B ((i 0).val * 8192 + (8 * (i 1).val + r.val) * 64 + c.val) (h * 128 + l.val) := by
  have hi0 : (i 0).val < 2 := (i 0).isLt
  have hi1 : (i 1).val < 16 := (i 1).isLt
  have hr := r.isLt
  have hc := c.isLt
  have hl := l.isLt
  generalize hT : (i 0).val * 8192 + (8 * (i 1).val + r.val) * 64 + c.val = T
  have hrow : tokRow T = 8 * (i 1).val + r.val := by unfold tokRow; omega
  have hcol : tokCol T = c.val := by unfold tokCol; omega
  have hhd : (h * 128 + l.val) / 64 = 2 * h + l.val / 64 := by omega
  have hcs : colStart c.val ≤ 48 := by unfold colStart; omega
  have hn : ∀ n, nbr T n = (i 0).val * 8192 + (rowStart (8 * (i 1).val + r.val) + n / 16) * 64 + (colStart c.val + n % 16) := fun n => by
    unfold nbr; rw [hrow, hcol]; omega
  have hq : ∀ x, x < 128 → at2 (qTile x0 r.val r.isLt h hh) c.val x = A T (h * 128 + x) * scl := fun x hx => by
    unfold qTile
    refine (at2_ld x0 _ _ _ _ hc hx).trans ?_
    show at2 x0 (r.val * 64 + c.val) (h * 128 + x) = _
    rw [h0 _ _ (by omega) (by omega)]
    exact congrArg (fun z => A z _ * scl) (by omega)
  have o1 : k0_off1 i (BitVec.ofNat 32 r.val) 0 + 512 ≤ 1536 := k0_off1_inb i r 0
  have hk : ∀ κ x, κ < 512 → x < 128 → at2 (kTile i x1 r h hh) κ x
      = A ((i 0).val * 8192 + rowStart (8 * (i 1).val + r.val) * 64 + κ) (512 + (h * 128 + x)) := fun κ x hκ hx => by
    unfold kTile
    refine (at2_ld x1 _ _ _ _ hκ hx).trans ?_
    show at2 x1 (k0_off1 i (BitVec.ofNat 32 r.val) 0 + κ) (h * 128 + x) = _
    rw [h1 _ _ (by omega) (by omega), ← Nat.add_assoc, key_offset]
  have hv : ∀ κ x, κ < 512 → x < 128 → at2 (kTile i x2 r h hh) κ x
      = A ((i 0).val * 8192 + rowStart (8 * (i 1).val + r.val) * 64 + κ) (1024 + (h * 128 + x)) := fun κ x hκ hx => by
    unfold kTile
    refine (at2_ld x2 _ _ _ _ hκ hx).trans ?_
    show at2 x2 (k0_off1 i (BitVec.ofNat 32 r.val) 0 + κ) (h * 128 + x) = _
    rw [h2 _ _ (by omega) (by omega), ← Nat.add_assoc, value_offset]
  have hs : ∀ κ : Fin 512, tileScores (qTile x0 r.val r.isLt h hh) (kTile i x1 r h hh)
        (bTile i x3 r h hh 0) (bTile i x3 r h hh 1) (bTile i x3 r h hh 2) (bTile i x3 r h hh 3) (ix2 ⟨64 * (l.val / 64) + c.val, by omega⟩ κ)
      = (∑ e : Fin 64, A T (64 * (2 * h + l.val / 64) + e.val) * scl
            * A ((i 0).val * 8192 + rowStart (8 * (i 1).val + r.val) * 64 + κ.val) (512 + 64 * (2 * h + l.val / 64) + e.val))
          + if colStart c.val ≤ κ.val % 64 ∧ κ.val % 64 < colStart c.val + 16
            then B (2 * h + l.val / 64) (rowStart (8 * (i 1).val + r.val) + 7 - (8 * (i 1).val + r.val) + κ.val / 64) (κ.val % 64 + 15 - c.val)
            else ⊥ := fun κ => by
    have hκ := κ.isLt
    rw [tileScores_at _ _ (fun t => bTile i x3 r h hh t), bTile_at i x3 B r h hh _ _ _ h3]
    have e1 : (64 * (l.val / 64) + c.val) % 64 = c.val := by omega
    have e2 : (64 * (l.val / 64) + c.val) / 64 = l.val / 64 := by omega
    have e3 : κ.val % 128 % 64 = κ.val % 64 := by omega
    have e4 : rowStart (8 * (i 1).val + r.val) + 7 - (8 * (i 1).val + r.val) + 2 * (κ.val / 128) + κ.val % 128 / 64
        = rowStart (8 * (i 1).val + r.val) + 7 - (8 * (i 1).val + r.val) + κ.val / 64 := by omega
    simp only [e1, e2, e3, e4]
    refine congrArg (· + _) (Finset.sum_congr rfl fun e _ => ?_)
    have he := e.isLt
    rw [hq _ (by omega), hk _ _ hκ (by omega)]
    have e5 : h * 128 + (64 * (l.val / 64) + e.val) = 64 * (2 * h + l.val / 64) + e.val := by omega
    rw [e5, Nat.add_assoc 512]
  unfold blockTile
  rw [tile_at _ _ _ _ _ _ _ c l _ (fun κ => rfl)]
  have hvv : ∀ κ : Fin 512, at2 (kTile i x2 r h hh) κ.val l.val
      = A ((i 0).val * 8192 + rowStart (8 * (i 1).val + r.val) * 64 + κ.val) (1024 + (h * 128 + l.val)) := fun κ => hv _ _ κ.isLt hl
  simp only [hvv]
  unfold attn
  rw [hhd]
  refine softmax_sparse (fun n => score A B T (2 * h + l.val / 64) n.val) (fun n => score_real A B hA hB T _ _ (by omega)) _
    (fun n => ⟨64 * (n.val / 16) + (colStart c.val + n.val % 16), by omega⟩) ?_ ?_ ?_ _ _ ?_
  · intro n n' he
    have := congrArg Fin.val he
    dsimp only at this
    exact Fin.ext (by omega)
  · intro n
    rw [hs]
    dsimp only
    have e1 : (64 * (n.val / 16) + (colStart c.val + n.val % 16)) % 64 = colStart c.val + n.val % 16 := by omega
    have e2 : (64 * (n.val / 16) + (colStart c.val + n.val % 16)) / 64 = n.val / 16 := by omega
    rw [e1, e2, if_pos ⟨by omega, by omega⟩]
    unfold score
    rw [hrow, hcol, scale_sum _ _ (fun d => hA _ _ (by omega)) (fun d => hA _ _ (by omega)), hn]
    have e3 : (i 0).val * 8192 + rowStart (8 * (i 1).val + r.val) * 64 + (64 * (n.val / 16) + (colStart c.val + n.val % 16))
        = (i 0).val * 8192 + (rowStart (8 * (i 1).val + r.val) + n.val / 16) * 64 + (colStart c.val + n.val % 16) := by omega
    have e4 : rowStart (8 * (i 1).val + r.val) + 7 - (8 * (i 1).val + r.val) + n.val / 16
        = rowStart (8 * (i 1).val + r.val) + n.val / 16 + 7 - (8 * (i 1).val + r.val) := by unfold rowStart; omega
    rw [e3, e4]
  · intro κ hκ
    rw [hs, if_neg, EReal.add_bot]
    rintro ⟨ha, hb⟩
    have := κ.isLt
    refine hκ ⟨16 * (κ.val / 64) + (κ.val % 64 - colStart c.val), by omega⟩ (Fin.ext ?_)
    dsimp only
    omega
  · intro n
    rw [hn]
    exact congrArg (fun z => A z _) (by dsimp only; omega)

/-- One stored row. -/
theorem blockRow_at (G : ℕ → ℕ → EReal) (hA : ∀ T j, j < 1024 → ∃ r : ℝ, A T j = r) (hB : ∀ a b c, ∃ r : ℝ, B a b c = r)
    (h0 : ∀ a f, a < 512 → f < 512 → at2 x0 a f = A ((i 0).val * 8192 + (i 1).val * 512 + a) f * scl)
    (h1 : ∀ a f, a < 1536 → f < 512 → at2 x1 a f = A (cc0_transform_1 i 0 + a) (512 + f))
    (h2 : ∀ a f, a < 1536 → f < 512 → at2 x2 a f = A (cc0_transform_2 i 0 + a) (1024 + f))
    (h3 : ∀ (a : Fin 4) (r : Fin 14) (q k : Fin 128), x3 (ix4 a r q k)
      = if colStart (q.val % 64) ≤ k.val % 64 ∧ k.val % 64 < colStart (q.val % 64) + 16
        then B (2 * a.val + q.val / 64) (r.val + k.val / 64) (k.val % 64 + 15 - q.val % 64) else ⊥)
    (h4 : ∀ f, f < 512 → at2 x4 0 f = G 0 f)
    (r : Fin 8) (c : Fin 64) (l : Fin 512) :
    blockRow i x0 x1 x2 x3 x4 r (ix2 c l) = result A B G ((i 0).val * 8192 + (8 * (i 1).val + r.val) * 64 + c.val) l.val := by
  unfold blockRow
  have ht := blockTile_at i x0 x1 x2 x3 A B hA hB h0 h1 h2 h3 r
  rw [normed_row_at x4 _ _ _ _ c l (attn A B ((i 0).val * 8192 + (8 * (i 1).val + r.val) * 64 + c.val))
    (fun x => (ht 0 (by omega) c x).trans (congrArg _ (by omega))) (fun x => (ht 1 (by omega) c x).trans (congrArg _ (by omega)))
    (fun x => (ht 2 (by omega) c x).trans (congrArg _ (by omega))) (fun x => (ht 3 (by omega) c x).trans (congrArg _ (by omega)))]
  rw [h4 _ l.isLt]
  rfl

end

end Cert.KernelIdeal.Att

end
end
-- ==== Proof.HostV.lean ====
/- What the launch finds in the arrays that the host prepared, as terms over the arguments. -/
module

public import proofs.«01_k».proof.Proof.Gen.KernelIdeal.Value
public import Idealize.ShloMosaic.Lib.Pointwise
public import Idealize.ShloMosaic.Lib.StableHlo.ReadAt
public import Idealize.ShloMosaic.PureOps.Ideal.Laws

@[expose] public section

set_option maxRecDepth 65536

noncomputable section

namespace Cert.KernelIdeal.Att

open Cert.KernelIdeal Cert.KernelIdeal.Gen Idealize.ShloMosaic Idealize.ShloMosaic.TcCoe Idealize.SL.Sem

variable {F : FTy → Type} [FloatOps F]

/-- The queries scaled, beside the keys and the values, in the kernel's input format. -/
def scaled (x : FVec F S16384x1536 .f32) : FVec F S16384x1536 .bf16 :=
  truncf .bf16 (concatenate S16384x1536 1
    [⟨S16384x512, mulf (extractStridedSlice S16384x512 ![0, 0] x slices_S16384x1536_S16384x512_0_0)
        (broadcastInDim S16384x512 ![] bcast_S_S16384x512 (constant S_ .f32 0x3E000000#32))⟩,
     ⟨S16384x1024, extractStridedSlice S16384x1024 ![0, 512] x slices_S16384x1536_S16384x1024_0_512⟩]
    concatenates_S16384x512_S16384x1024_S16384x1536_d1) bitsLt_bf16_f32

/-- The relative biases with 48 more columns on each side. -/
def padded (x : FVec F S8x15x31 .f32) : FVec F S8x15x127 .f32 :=
  pad S8x15x127 ![0, 0, 48] ![0, 0, 48] ![0, 0, 0] x (sitofp .f32 (constantI S_ 32 0#32)) pads_S8x15x31_S8x15x127_000_000_48480 h_S_

/-- The biases that query column `n` meets, one per key column: `n = 63 - o`. -/
def toeplitzPiece (x : FVec F S8x15x127 .f32) (o : ℕ) (h : S8x15x127.Slices ![0, 0, o] S8x15x64) : FVec F S8x15x1x64 .f32 :=
  broadcastInDim S8x15x1x64 ![0, 1, 3] bcast_S8x15x64_S8x15x1x64_0_1_3 (extractStridedSlice S8x15x64 ![0, 0, o] x h)

/-- Query columns 0 to 15 of the biases. -/
def toeplitz0 (x : FVec F S8x15x127 .f32) : FVec F S8x15x16x64 .f32 :=
  concatenate S8x15x16x64 2
    [⟨S8x15x1x64, toeplitzPiece x 63 slices_S8x15x127_S8x15x64_0_0_63⟩,
     ⟨S8x15x1x64, toeplitzPiece x 62 slices_S8x15x127_S8x15x64_0_0_62⟩,
     ⟨S8x15x1x64, toeplitzPiece x 61 slices_S8x15x127_S8x15x64_0_0_61⟩,
     ⟨S8x15x1x64, toeplitzPiece x 60 slices_S8x15x127_S8x15x64_0_0_60⟩,
     ⟨S8x15x1x64, toeplitzPiece x 59 slices_S8x15x127_S8x15x64_0_0_59⟩,
     ⟨S8x15x1x64, toeplitzPiece x 58 slices_S8x15x127_S8x15x64_0_0_58⟩,
     ⟨S8x15x1x64, toeplitzPiece x 57 slices_S8x15x127_S8x15x64_0_0_57⟩,
     ⟨S8x15x1x64, toeplitzPiece x 56 slices_S8x15x127_S8x15x64_0_0_56⟩,
     ⟨S8x15x1x64, toeplitzPiece x 55 slices_S8x15x127_S8x15x64_0_0_55⟩,
     ⟨S8x15x1x64, toeplitzPiece x 54 slices_S8x15x127_S8x15x64_0_0_54⟩,
     ⟨S8x15x1x64, toeplitzPiece x 53 slices_S8x15x127_S8x15x64_0_0_53⟩,
     ⟨S8x15x1x64, toeplitzPiece x 52 slices_S8x15x127_S8x15x64_0_0_52⟩,
     ⟨S8x15x1x64, toeplitzPiece x 51 slices_S8x15x127_S8x15x64_0_0_51⟩,
     ⟨S8x15x1x64, toeplitzPiece x 50 slices_S8x15x127_S8x15x64_0_0_50⟩,
     ⟨S8x15x1x64, toeplitzPiece x 49 slices_S8x15x127_S8x15x64_0_0_49⟩,
     ⟨S8x15x1x64, toeplitzPiece x 48 slices_S8x15x127_S8x15x64_0_0_48⟩]
    concatenates_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x16x64_d2

/-- Query columns 16 to 31 of the biases. -/
def toeplitz1 (x : FVec F S8x15x127 .f32) : FVec F S8x15x16x64 .f32 :=
  concatenate S8x15x16x64 2
    [⟨S8x15x1x64, toeplitzPiece x 47 slices_S8x15x127_S8x15x64_0_0_47⟩,
     ⟨S8x15x1x64, toeplitzPiece x 46 slices_S8x15x127_S8x15x64_0_0_46⟩,
     ⟨S8x15x1x64, toeplitzPiece x 45 slices_S8x15x127_S8x15x64_0_0_45⟩,
     ⟨S8x15x1x64, toeplitzPiece x 44 slices_S8x15x127_S8x15x64_0_0_44⟩,
     ⟨S8x15x1x64, toeplitzPiece x 43 slices_S8x15x127_S8x15x64_0_0_43⟩,
     ⟨S8x15x1x64, toeplitzPiece x 42 slices_S8x15x127_S8x15x64_0_0_42⟩,
     ⟨S8x15x1x64, toeplitzPiece x 41 slices_S8x15x127_S8x15x64_0_0_41⟩,
     ⟨S8x15x1x64, toeplitzPiece x 40 slices_S8x15x127_S8x15x64_0_0_40⟩,
     ⟨S8x15x1x64, toeplitzPiece x 39 slices_S8x15x127_S8x15x64_0_0_39⟩,
     ⟨S8x15x1x64, toeplitzPiece x 38 slices_S8x15x127_S8x15x64_0_0_38⟩,
     ⟨S8x15x1x64, toeplitzPiece x 37 slices_S8x15x127_S8x15x64_0_0_37⟩,
     ⟨S8x15x1x64, toeplitzPiece x 36 slices_S8x15x127_S8x15x64_0_0_36⟩,
     ⟨S8x15x1x64, toeplitzPiece x 35 slices_S8x15x127_S8x15x64_0_0_35⟩,
     ⟨S8x15x1x64, toeplitzPiece x 34 slices_S8x15x127_S8x15x64_0_0_34⟩,
     ⟨S8x15x1x64, toeplitzPiece x 33 slices_S8x15x127_S8x15x64_0_0_33⟩,
     ⟨S8x15x1x64, toeplitzPiece x 32 slices_S8x15x127_S8x15x64_0_0_32⟩]
    concatenates_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x16x64_d2

/-- Query columns 32 to 47 of the biases. -/
def toeplitz2 (x : FVec F S8x15x127 .f32) : FVec F S8x15x16x64 .f32 :=
  concatenate S8x15x16x64 2
    [⟨S8x15x1x64, toeplitzPiece x 31 slices_S8x15x127_S8x15x64_0_0_31⟩,
     ⟨S8x15x1x64, toeplitzPiece x 30 slices_S8x15x127_S8x15x64_0_0_30⟩,
     ⟨S8x15x1x64, toeplitzPiece x 29 slices_S8x15x127_S8x15x64_0_0_29⟩,
     ⟨S8x15x1x64, toeplitzPiece x 28 slices_S8x15x127_S8x15x64_0_0_28⟩,
     ⟨S8x15x1x64, toeplitzPiece x 27 slices_S8x15x127_S8x15x64_0_0_27⟩,
     ⟨S8x15x1x64, toeplitzPiece x 26 slices_S8x15x127_S8x15x64_0_0_26⟩,
     ⟨S8x15x1x64, toeplitzPiece x 25 slices_S8x15x127_S8x15x64_0_0_25⟩,
     ⟨S8x15x1x64, toeplitzPiece x 24 slices_S8x15x127_S8x15x64_0_0_24⟩,
     ⟨S8x15x1x64, toeplitzPiece x 23 slices_S8x15x127_S8x15x64_0_0_23⟩,
     ⟨S8x15x1x64, toeplitzPiece x 22 slices_S8x15x127_S8x15x64_0_0_22⟩,
     ⟨S8x15x1x64, toeplitzPiece x 21 slices_S8x15x127_S8x15x64_0_0_21⟩,
     ⟨S8x15x1x64, toeplitzPiece x 20 slices_S8x15x127_S8x15x64_0_0_20⟩,
     ⟨S8x15x1x64, toeplitzPiece x 19 slices_S8x15x127_S8x15x64_0_0_19⟩,
     ⟨S8x15x1x64, toeplitzPiece x 18 slices_S8x15x127_S8x15x64_0_0_18⟩,
     ⟨S8x15x1x64, toeplitzPiece x 17 slices_S8x15x127_S8x15x64_0_0_17⟩,
     ⟨S8x15x1x64, toeplitzPiece x 16 slices_S8x15x127_S8x15x64_0_0_16⟩]
    concatenates_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x16x64_d2

/-- Query columns 48 to 63 of the biases. -/
def toeplitz3 (x : FVec F S8x15x127 .f32) : FVec F S8x15x16x64 .f32 :=
  concatenate S8x15x16x64 2
    [⟨S8x15x1x64, toeplitzPiece x 15 slices_S8x15x127_S8x15x64_0_0_15⟩,
     ⟨S8x15x1x64, toeplitzPiece x 14 slices_S8x15x127_S8x15x64_0_0_14⟩,
     ⟨S8x15x1x64, toeplitzPiece x 13 slices_S8x15x127_S8x15x64_0_0_13⟩,
     ⟨S8x15x1x64, toeplitzPiece x 12 slices_S8x15x127_S8x15x64_0_0_12⟩,
     ⟨S8x15x1x64, toeplitzPiece x 11 slices_S8x15x127_S8x15x64_0_0_11⟩,
     ⟨S8x15x1x64, toeplitzPiece x 10 slices_S8x15x127_S8x15x64_0_0_10⟩,
     ⟨S8x15x1x64, toeplitzPiece x 9 slices_S8x15x127_S8x15x64_0_0_9⟩,
     ⟨S8x15x1x64, toeplitzPiece x 8 slices_S8x15x127_S8x15x64_0_0_8⟩,
     ⟨S8x15x1x64, toeplitzPiece x 7 slices_S8x15x127_S8x15x64_0_0_7⟩,
     ⟨S8x15x1x64, toeplitzPiece x 6 slices_S8x15x127_S8x15x64_0_0_6⟩,
     ⟨S8x15x1x64, toeplitzPiece x 5 slices_S8x15x127_S8x15x64_0_0_5⟩,
     ⟨S8x15x1x64, toeplitzPiece x 4 slices_S8x15x127_S8x15x64_0_0_4⟩,
     ⟨S8x15x1x64, toeplitzPiece x 3 slices_S8x15x127_S8x15x64_0_0_3⟩,
     ⟨S8x15x1x64, toeplitzPiece x 2 slices_S8x15x127_S8x15x64_0_0_2⟩,
     ⟨S8x15x1x64, toeplitzPiece x 1 slices_S8x15x127_S8x15x64_0_0_1⟩,
     ⟨S8x15x1x64, toeplitzPiece x 0 slices_S8x15x127_S8x15x64_0_0_0⟩]
    concatenates_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x16x64_d2

/-- The biases by query column and key column. -/
def toeplitz (x : FVec F S8x15x127 .f32) : FVec F S8x15x64x64 .f32 :=
  concatenate S8x15x64x64 2
    [⟨S8x15x16x64, toeplitz0 x⟩, ⟨S8x15x16x64, toeplitz1 x⟩, ⟨S8x15x16x64, toeplitz2 x⟩, ⟨S8x15x16x64, toeplitz3 x⟩]
    concatenates_S8x15x16x64_S8x15x16x64_S8x15x16x64_S8x15x16x64_S8x15x64x64_d2

/-- The biases, with −∞ where the key column is outside the query column's window. -/
def masked (w : IVec S64x64 1) (x : FVec F S8x15x64x64 .f32) (b : FVec F S_ .f32) : FVec F S8x15x64x64 .f32 :=
  select (broadcastInDim S8x15x64x64 ![2, 3] bcast_S64x64_S8x15x64x64_2_3 w) x
    (broadcastInDim S8x15x64x64 ![] bcast_S_S8x15x64x64 b)

/-- The bias table of the launch: pairs of neighbouring row offsets side by side, pairs of heads stacked. -/
def table (x : FVec F S8x15x64x64 .f32) : FVec F S4x14x128x128 .f32 :=
  shapeCast S4x14x128x128
    (transpose S4x14x2x64x128 [0, 2, 1, 3, 4]
      (shapeCast S4x2x14x64x128
        (concatenate S8x14x64x128 3
          [⟨S8x14x64x64, extractStridedSlice S8x14x64x64 ![0, 0, 0, 0] x slices_S8x15x64x64_S8x14x64x64_0_0_0_0⟩,
           ⟨S8x14x64x64, extractStridedSlice S8x14x64x64 ![0, 1, 0, 0] x slices_S8x15x64x64_S8x14x64x64_0_1_0_0⟩]
          concatenates_S8x14x64x64_S8x14x64x64_S8x14x64x128_d3)
        shapeCasts_S8x14x64x128_S4x2x14x64x128)
      transposes_S4x2x14x64x128_S4x14x2x64x128_0_2_1_3_4)
    shapeCasts_S4x14x2x64x128_S4x14x128x128

variable (m : (ℓ : Loc nD τ sig) → Buf (Elt F) ℓ)

set_option maxHeartbeats 4000000 in
theorem V_scaled (c : Dev nD) : V m c main_v5 = scaled (m ((c : Thread nD τ).loc main_arg0)) := by
  unfold V
  simp only [List.flatten_cons, List.flatten_nil, List.append_nil, StableHlo.after_append]
  after_reads_simp
  rfl

section line

variable (W : Valuation τ sig (Elt F))

theorem line1_pad : StableHlo.after hostOps0_1 W main_v6
    = pad S8x15x127 ![0, 0, 48] ![0, 0, 48] ![0, 0, 0] (W main_arg1) (sitofp .f32 (W main_c_0)) pads_S8x15x31_S8x15x127_000_000_48480 h_S_ := by
  after_reads_simp
  rfl

set_option maxHeartbeats 4000000 in
theorem line2_toeplitz : StableHlo.after hostOps0_2 W main_v139 = toeplitz (W main_v6) := by
  after_reads_simp
  rfl

theorem line2_cst : StableHlo.after hostOps0_2 W main_cst_1 = constant S_ .f32 0xFF800000#32 := by
  after_reads_simp

theorem line2_c : StableHlo.after hostOps0_2 W main_c = W main_c := by
  after_reads_simp

theorem line3_masked : StableHlo.after hostOps0_3 W main_v140 = masked (W main_c) (W main_v139) (W main_cst_1) := by
  after_reads_simp
  rfl

theorem line4_table : StableHlo.after hostOps0_4 W main_v146 = table (W main_v140) := by
  after_reads_simp
  rfl

end line

set_option maxHeartbeats 4000000 in
theorem V_table (c : Dev nD) : V m c main_v146
    = table (masked (fun i => lit0 (S64x64.rowMajor i)) (toeplitz (padded (m ((c : Thread nD τ).loc main_arg1)))) (constant S_ .f32 0xFF800000#32)) := by
  unfold V
  simp only [List.flatten_cons, List.flatten_nil, List.append_nil, StableHlo.after_append]
  rw [line4_table, line3_masked, line2_toeplitz, line2_c, line2_cst, line1_pad]
  unfold padded
  after_reads_simp
  rfl

end Cert.KernelIdeal.Att

end
end
-- ==== Proof.HostAt.lean ====
/- The host's arrays at an index: the scaled queries beside the keys and the values, and the bias table. -/
module

public import proofs.«01_k».proof.Proof.HostV
public import proofs.«01_k».proof.Proof.Spec
public import Idealize.ShloMosaic.Lib.Pipeline.ValueKit.Tiles

@[expose] public section

set_option maxRecDepth 65536

noncomputable section

namespace Cert.KernelIdeal.Att

open Cert.KernelIdeal Cert.KernelIdeal.Gen Idealize.ShloMosaic Idealize.ShloMosaic.TcCoe Idealize.SL.Sem Cert.Att

/-- The launch's input: the queries scaled, the keys and the values as given. -/
theorem scaled_at (x : FVec Ideal S16384x1536 .f32) (i : Fin 16384) (j : Fin 1536) :
    scaled x (ix2 i j) = if j.val < 512 then at2 x i.val j.val * scl else at2 x i.val j.val := by
  pointwise [scaled]
  by_cases h : j.val < 512
  · rw [dif_pos h, if_pos h]
    exact congrArg (· * scl) (at2_of x _ _ _ rfl rfl)
  · rw [dif_neg h, if_neg h]
    exact at2_of x _ _ _ rfl (show 512 + (j.val - 512) = j.val by omega)

/-- The mask is the window of columns. -/
theorem lit0_at (q k : Fin 64) : lit0 ⟨q.val * 64 + k.val, by omega⟩
    = if colStart q.val ≤ k.val ∧ k.val < colStart q.val + 16 then 1#1 else 0#1 := by
  revert q k; decide +kernel

theorem mask_at (q k : Fin 64) : lit0 (S64x64.rowMajor (ix2 q k))
    = if colStart q.val ≤ k.val ∧ k.val < colStart q.val + 16 then 1#1 else 0#1 := by
  have e : S64x64.rowMajor (ix2 q k) = ⟨q.val * 64 + k.val, by have := q.isLt; have := k.isLt; show _ < 4096; omega⟩ :=
    Fin.ext (Shape.rowMajor_val_two _)
  rw [e]
  exact lit0_at q k

theorem piece_at (x : FVec Ideal S8x15x127 .f32) (o : ℕ) (h : S8x15x127.Slices ![0, 0, o] S8x15x64) (i : S8x15x1x64.Idx)
    (a r c : ℕ) (h0 : (i 0).val = a) (h1 : (i 1).val = r) (h3 : o + (i 3).val = c) :
    toeplitzPiece x o h i = at3 x a r c := by
  unfold toeplitzPiece
  pointwise
  exact at3_of x _ _ _ _ (by subst h0; simp) (by subst h1; simp) h3

theorem toeplitz0_at (x : FVec Ideal S8x15x127 .f32) (a : Fin 8) (r : Fin 15) (q : Fin 16) (k : Fin 64) :
    toeplitz0 x (ix4 a r q k) = at3 x a.val r.val (63 - q.val + k.val) := by
  unfold toeplitz0
  concat_tiles i h <;>
    (refine piece_at x _ _ i _ _ _ h0 h1 ?_
     have hq : q.val = _ := h
     rw [hq]
     exact congrArg (_ + ·) h3)

theorem toeplitz1_at (x : FVec Ideal S8x15x127 .f32) (a : Fin 8) (r : Fin 15) (q : Fin 16) (k : Fin 64) :
    toeplitz1 x (ix4 a r q k) = at3 x a.val r.val (47 - q.val + k.val) := by
  unfold toeplitz1
  concat_tiles i h <;>
    (refine piece_at x _ _ i _ _ _ h0 h1 ?_
     have hq : q.val = _ := h
     rw [hq]
     exact congrArg (_ + ·) h3)

theorem toeplitz2_at (x : FVec Ideal S8x15x127 .f32) (a : Fin 8) (r : Fin 15) (q : Fin 16) (k : Fin 64) :
    toeplitz2 x (ix4 a r q k) = at3 x a.val r.val (31 - q.val + k.val) := by
  unfold toeplitz2
  concat_tiles i h <;>
    (refine piece_at x _ _ i _ _ _ h0 h1 ?_
     have hq : q.val = _ := h
     rw [hq]
     exact congrArg (_ + ·) h3)

theorem toeplitz3_at (x : FVec Ideal S8x15x127 .f32) (a : Fin 8) (r : Fin 15) (q : Fin 16) (k : Fin 64) :
    toeplitz3 x (ix4 a r q k) = at3 x a.val r.val (15 - q.val + k.val) := by
  unfold toeplitz3
  concat_tiles i h <;>
    (refine piece_at x _ _ i _ _ _ h0 h1 ?_
     have hq : q.val = _ := h
     rw [hq]
     exact congrArg (_ + ·) h3)

/-- The biases by query column and key column: a bias depends on their difference. -/
theorem toeplitz_at (x : FVec Ideal S8x15x127 .f32) (a : Fin 8) (r : Fin 15) (q k : Fin 64) :
    toeplitz x (ix4 a r q k) = at3 x a.val r.val (63 - q.val + k.val) := by
  pointwise [toeplitz]
  have hq := q.isLt
  by_cases c0 : q.val < 16
  · refine (dif_pos c0).trans ((toeplitz0_at x a r _ k).trans ?_)
    rfl
  · refine (dif_neg c0).trans ?_
    by_cases c1 : q.val - 16 < 16
    · refine (dif_pos c1).trans ((toeplitz1_at x a r _ k).trans ?_)
      exact congrArg (at3 x a.val r.val) (show 47 - (q.val - 16) + k.val = 63 - q.val + k.val by omega)
    · refine (dif_neg c1).trans ?_
      by_cases c2 : q.val - 16 - 16 < 16
      · refine (dif_pos c2).trans ((toeplitz2_at x a r _ k).trans ?_)
        exact congrArg (at3 x a.val r.val) (show 31 - (q.val - 16 - 16) + k.val = 63 - q.val + k.val by omega)
      · refine (dif_neg c2).trans ((toeplitz3_at x a r _ k).trans ?_)
        exact congrArg (at3 x a.val r.val) (show 15 - (q.val - 16 - 16 - 16) + k.val = 63 - q.val + k.val by omega)

theorem padded_at (x : FVec Ideal S8x15x31 .f32) (a r c : ℕ) (hc : c < 31) :
    at3 (padded x) a r (c + 48) = at3 x a r c := by
  unfold at3
  by_cases h : a < 8 ∧ r < 15
  · rw [dif_pos ⟨h.1, h.2, by omega⟩, dif_pos ⟨h.1, h.2, hc⟩]
    have e : padded x (ix3 ⟨a, h.1⟩ ⟨r, h.2⟩ ⟨c + 48, by omega⟩) = x (ix3 ⟨a, h.1⟩ ⟨r, h.2⟩ ⟨c, hc⟩) := by
      pointwise [padded]
      rw [dif_pos ⟨h.1, h.2, by omega⟩]
      refine congrArg x ?_
      funext d
      match d with
      | ⟨0, _⟩ => rfl
      | ⟨1, _⟩ => rfl
      | ⟨2, _⟩ => exact Fin.ext (show c + 48 - 48 = c by omega)
    refine Eq.trans (congrArg (padded x) ?_) (e.trans (congrArg x ?_))
    · funext d
      match d with
      | ⟨0, _⟩ => rfl
      | ⟨1, _⟩ => rfl
      | ⟨2, _⟩ => rfl
    · funext d
      match d with
      | ⟨0, _⟩ => rfl
      | ⟨1, _⟩ => rfl
      | ⟨2, _⟩ => rfl
  · rw [dif_neg fun hh => h ⟨hh.1, hh.2.1⟩, dif_neg fun hh => h ⟨hh.1, hh.2.1⟩]

/-- A masked bias. -/
theorem masked_at (x : FVec Ideal S8x15x31 .f32) (a : Fin 8) (r : Fin 15) (q k : Fin 64) :
    masked (fun i => lit0 (S64x64.rowMajor i)) (toeplitz (padded x)) (constant S_ .f32 0xFF800000#32) (ix4 a r q k)
      = if colStart q.val ≤ k.val ∧ k.val < colStart q.val + 16 then at3 x a.val r.val (k.val + 15 - q.val) else ⊥ := by
  pointwise [masked]
  rw [mask_at, toeplitz_at]
  by_cases h : colStart q.val ≤ k.val ∧ k.val < colStart q.val + 16
  · rw [if_pos h, if_pos h]
    have e : 63 - q.val + k.val = (k.val + 15 - q.val) + 48 := by
      have := q.isLt; unfold colStart at h; omega
    rw [e]
    exact padded_at x _ _ _ (by have := q.isLt; unfold colStart at h; omega)
  · rw [if_neg h, if_neg h]
    show Ideal.ofBits .f32 0xFF800000#32 = ⊥
    simp [Ideal.ofBits, Ideal.ieee]

/-- The bias table. -/
theorem table_at (x : FVec Ideal S8x15x31 .f32) (a : Fin 4) (r : Fin 14) (q k : Fin 128) :
    table (masked (fun i => lit0 (S64x64.rowMajor i)) (toeplitz (padded x)) (constant S_ .f32 0xFF800000#32)) (ix4 a r q k)
      = if colStart (q.val % 64) ≤ k.val % 64 ∧ k.val % 64 < colStart (q.val % 64) + 16
        then at3 x (2 * a.val + q.val / 64) (r.val + k.val / 64) (k.val % 64 + 15 - q.val % 64) else ⊥ := by
  generalize hy : masked (F := Ideal) (fun i => lit0 (S64x64.rowMajor i)) (toeplitz (padded x)) (constant S_ .f32 0xFF800000#32) = y
  have hat : ∀ (a : Fin 8) (r : Fin 15) (q k : Fin 64), y (ix4 a r q k)
      = if colStart q.val ≤ k.val ∧ k.val < colStart q.val + 16 then at3 x a.val r.val (k.val + 15 - q.val) else ⊥ :=
    fun a r q k => by rw [← hy]; exact masked_at x a r q k
  clear hy
  pointwise [table]
  have hk := k.isLt
  have e0 : a.val * 2 + q.val / 64 = 2 * a.val + q.val / 64 := by omega
  by_cases h : k.val < 64
  · refine (dif_pos h).trans ((hat _ _ _ _).trans ?_)
    have e1 : k.val % 64 = k.val := by omega
    have e2 : r.val + k.val / 64 = r.val := by omega
    simp only [e0, e1, e2]
  · refine (dif_neg h).trans ((hat _ _ _ _).trans ?_)
    have e1 : k.val % 64 = k.val - 64 := by omega
    have e2 : r.val + k.val / 64 = 1 + r.val := by omega
    simp only [e0, e1, e2]

end Cert.KernelIdeal.Att

end
end
-- ==== Proof.Final.lean ====
/- The attention kernel's result array after its run: the neighbourhood attention of its arguments. -/
module

public import proofs.«01_k».proof.Proof.Pieces
public import proofs.«01_k».proof.Proof.Block
public import proofs.«01_k».proof.Proof.HostAt
public import Idealize.ShloMosaic.Lib.Pipeline.ValueKit

@[expose] public section

set_option maxRecDepth 65536

noncomputable section

namespace Cert.KernelIdeal.Att

open Cert.KernelIdeal Cert.KernelIdeal.Gen Idealize.ShloMosaic Idealize.ShloMosaic.TcCoe Idealize.SL.Sem Cert.Att

/-! ## One grid point's block -/

/-- What a grid point leaves, at an index of its block. -/
theorem out_at (c : Dev nD) (i : grid0.Coords) (arg2 : Memref sig .tc .vmem S512x512 .bf16) (harg2 : arg2.IsWhole)
    (arg3 : Memref sig .tc .vmem S1536x512 .bf16) (harg3 : arg3.IsWhole) (arg4 : Memref sig .tc .vmem S1536x512 .bf16)
    (harg4 : arg4.IsWhole) (arg5 : Memref sig .tc .vmem S4x14x128x128 .f32) (harg5 : arg5.IsWhole)
    (arg6 : Memref sig .tc .vmem S1x512 .f32) (harg6 : arg6.IsWhole) (arg7 : Memref sig .tc .vmem S512x512 .bf16)
    (harg7 : arg7.IsWhole) (x0 : Vec Ideal S512x512 .bf16) (x1 x2 : Vec Ideal S1536x512 .bf16)
    (x3 : Vec Ideal S4x14x128x128 .f32) (x4 : Vec Ideal S1x512 .f32) (g : ℕ → ℕ → EReal)
    (hg : ∀ (r : Fin 8) (q : Fin 64) (l : Fin 512), blockRow i x0 x1 x2 x3 x4 r (ix2 q l) = g (r.val * 64 + q.val) l.val)
    (y : S512x512.Idx) :
    out0_A_5 c i arg2 harg2 arg3 harg3 arg4 harg4 arg5 harg5 arg6 harg6 arg7 harg7 x0 x1 x2 x3 x4 y = g (y 0).val (y 1).val := by
  unfold out0_A_5
  rw [View.read_writes_eq_canon _ _ _ (cover0_A_5 c i arg2 harg2 arg3 harg3 arg4 harg4 arg5 harg5 arg6 harg6 arg7 harg7 x0 x1 x2 x3 x4)]
  refine View.canon_apply_of_pieces (fun y : S512x512.Idx => g (y 0).val (y 1).val) _ ?_ y
    (cover0_A_5 c i arg2 harg2 arg3 harg3 arg4 harg4 arg5 harg5 arg6 harg6 arg7 harg7 x0 x1 x2 x3 x4 y)
  rw [pieces]
  have hx : ∀ x : S64x512.Idx, x = ix2 (x 0) (x 1) := fun x => by
    funext a
    match a with
    | ⟨0, _⟩ => rfl
    | ⟨1, _⟩ => rfl
  have hp : ∀ (r : Fin 8) (off : Fin 2 → ℕ) (inb : ∀ a, off a + S64x512.size a ≤ S512x512.size a), off 0 = r.val * 64 → off 1 = 0 →
      ∀ x : S64x512.Idx, blockRow i x0 x1 x2 x3 x4 r x
        = g ((Rect.unit (s := S512x512) off S64x512.size inb).idx x 0).val ((Rect.unit (s := S512x512) off S64x512.size inb).idx x 1).val :=
    fun r off inb e0 e1 x => by
      rw [Rect.idx_unit_val, Rect.idx_unit_val, e0, e1, Nat.zero_add]
      conv_lhs => rw [hx x]
      exact hg r (x 0) (x 1)
  intro p hpm x
  simp only [List.mem_cons, List.not_mem_nil, or_false] at hpm
  rcases hpm with rfl | rfl | rfl | rfl | rfl | rfl | rfl | rfl
  · exact hp 7 ![448, 0] inb_S512x512_S64x512_448_0 rfl rfl x
  · exact hp 6 ![384, 0] inb_S512x512_S64x512_384_0 rfl rfl x
  · exact hp 5 ![320, 0] inb_S512x512_S64x512_320_0 rfl rfl x
  · exact hp 4 ![256, 0] inb_S512x512_S64x512_256_0 rfl rfl x
  · exact hp 3 ![192, 0] inb_S512x512_S64x512_192_0 rfl rfl x
  · exact hp 2 ![128, 0] inb_S512x512_S64x512_128_0 rfl rfl x
  · exact hp 1 ![64, 0] inb_S512x512_S64x512_64_0 rfl rfl x
  · exact hp 0 ![0, 0] inb_S512x512_S64x512_0_0 rfl rfl x

/-! ## The blocks -/

variable (m : (ℓ : Loc nD τ sig) → Buf (Elt Ideal) ℓ)

theorem index0 : ∀ t : Fin cfg0.N, win0_0.index t = ![(grid0.coords t 0).val * 16 + (grid0.coords t 1).val, 0] :=
  (by decide +kernel : ∀ t : Fin grid0.N, win0_0.index t = ![(grid0.coords t 0).val * 16 + (grid0.coords t 1).val, 0])
theorem index3 : ∀ t : Fin cfg0.N, win0_3.index t = ![0, 0, 0, 0] := (by decide +kernel : ∀ t : Fin grid0.N, win0_3.index t = ![0, 0, 0, 0])
theorem index4 : ∀ t : Fin cfg0.N, win0_4.index t = ![0, 0] := (by decide +kernel : ∀ t : Fin grid0.N, win0_4.index t = ![0, 0])
theorem index5 : ∀ t : Fin cfg0.N, win0_5.index t = ![(grid0.coords t 0).val * 16 + (grid0.coords t 1).val, 0] :=
  (by decide +kernel : ∀ t : Fin grid0.N, win0_5.index t = ![(grid0.coords t 0).val * 16 + (grid0.coords t 1).val, 0])
theorem column1 : ∀ i : grid0.Coords, cc0_transform_1 i 1 = 512 := by decide +kernel
theorem column2 : ∀ i : grid0.Coords, cc0_transform_2 i 1 = 1024 := by decide +kernel

theorem blk0 (c : Dev nD) (t : Fin cfg0.N) (a f : ℕ) (ha : a < 512) (hf : f < 512) :
    at2 (a := 512) (b := 512) (iblk m c 0 t) a f = at2 (a := 16384) (b := 1536) (V m c main_v5) ((grid0.coords t 0).val * 8192 + (grid0.coords t 1).val * 512 + a) f := by
  rw [← at2_of (iblk m c 0 t) (ValueIdx.ix2 ⟨a, ha⟩ ⟨f, hf⟩) a f rfl rfl]
  unfold iblk
  refine at2_of (V m c main_v5) (((cfg0.win 0).blk t).view.emb (ValueIdx.ix2 ⟨a, ha⟩ ⟨f, hf⟩)) _ _ ?_ ?_
  · blk_simp [index0]
    show ((grid0.coords t 0).val * 16 + (grid0.coords t 1).val) * 512 + a = _
    omega
  · blk_simp [index0]
    try exact Nat.zero_add f

theorem blk1 (c : Dev nD) (t : Fin cfg0.N) (a f : ℕ) (ha : a < 1536) (hf : f < 512) :
    at2 (a := 1536) (b := 512) (iblk m c 1 t) a f = at2 (a := 16384) (b := 1536) (V m c main_v5) (cc0_transform_1 (grid0.coords t) 0 + a) (512 + f) := by
  rw [← at2_of (iblk m c 1 t) (ValueIdx.ix2 ⟨a, ha⟩ ⟨f, hf⟩) a f rfl rfl]
  unfold iblk
  refine at2_of (V m c main_v5) (((cfg0.win 1).blk t).view.emb (ValueIdx.ix2 ⟨a, ha⟩ ⟨f, hf⟩)) _ _ ?_ ?_
  · show cc0_transform_1 (grid0.coords t) 0 + 1 * a = _
    rw [Nat.one_mul]
  · show cc0_transform_1 (grid0.coords t) 1 + 1 * f = _
    rw [Nat.one_mul, column1]

theorem blk2 (c : Dev nD) (t : Fin cfg0.N) (a f : ℕ) (ha : a < 1536) (hf : f < 512) :
    at2 (a := 1536) (b := 512) (iblk m c 2 t) a f = at2 (a := 16384) (b := 1536) (V m c main_v5) (cc0_transform_2 (grid0.coords t) 0 + a) (1024 + f) := by
  rw [← at2_of (iblk m c 2 t) (ValueIdx.ix2 ⟨a, ha⟩ ⟨f, hf⟩) a f rfl rfl]
  unfold iblk
  refine at2_of (V m c main_v5) (((cfg0.win 2).blk t).view.emb (ValueIdx.ix2 ⟨a, ha⟩ ⟨f, hf⟩)) _ _ ?_ ?_
  · show cc0_transform_2 (grid0.coords t) 0 + 1 * a = _
    rw [Nat.one_mul]
  · show cc0_transform_2 (grid0.coords t) 1 + 1 * f = _
    rw [Nat.one_mul, column2]

theorem blk3 (c : Dev nD) (t : Fin cfg0.N) (a : Fin 4) (r : Fin 14) (q k : Fin 128) : iblk m c 3 t (ix4 a r q k) = V m c main_v146 (ix4 a r q k) := by
  blk_simp [iblk]
  refine congrArg _ ?_
  blk_ext [index3]

theorem blk4 (c : Dev nD) (t : Fin cfg0.N) (f : ℕ) (hf : f < 512) :
    at2 (a := 1) (b := 512) (iblk m c 4 t) 0 f = at2 (a := 1) (b := 512) (V m c main_arg2) 0 f := by
  rw [← at2_of (iblk m c 4 t) (ValueIdx.ix2 ⟨0, Nat.one_pos⟩ ⟨f, hf⟩) 0 f rfl rfl]
  unfold iblk
  refine at2_of (V m c main_arg2) (((cfg0.win 4).blk t).view.emb (ValueIdx.ix2 ⟨0, Nat.one_pos⟩ ⟨f, hf⟩)) _ _ ?_ ?_
  · blk_simp [index4]
    try rfl
  · blk_simp [index4]
    try rfl

theorem hinb1 : ∀ i : grid0.Coords, cc0_transform_1 i 0 + 1536 ≤ 16384 := by decide +kernel
theorem hinb2 : ∀ i : grid0.Coords, cc0_transform_2 i 0 + 1536 ≤ 16384 := by decide +kernel

/-! ## The array -/

/-- Every element of the result array, when the queries, the keys and the biases are real numbers. -/
theorem array (c : Dev nD) (hA : ∀ T j, j < 1024 → ∃ r : ℝ, at2 (a := 16384) (b := 1536) (m (c.tc.loc main_arg0)) T j = r)
    (hB : ∀ a b d, ∃ r : ℝ, at3 (a := 8) (b := 15) (c := 31) (m (c.tc.loc main_arg1)) a b d = r) :
    (dats m 0 c).arrAt 5 cfg0.N = fun y : S16384x512.Idx => result (at2 (a := 16384) (b := 1536) (m (c.tc.loc main_arg0)))
      (at3 (a := 8) (b := 15) (c := 31) (m (c.tc.loc main_arg1))) (at2 (a := 1) (b := 512) (m (c.tc.loc main_arg2))) (y 0).val (y 1).val := by
  refine (dats m 0 c).arrAt_eq_of_covers 5 (fun y : S16384x512.Idx => result (at2 (a := 16384) (b := 1536) (m (c.tc.loc main_arg0)))
      (at3 (a := 8) (b := 15) (c := 31) (m (c.tc.loc main_arg1))) (at2 (a := 1) (b := 512) (m (c.tc.loc main_arg2))) (y 0).val (y 1).val)
      (by decide +kernel) fun t hf y => ?_
  blk_simp
  rw [after0_5]
  simp only [outsAt0]
  have hs : ∀ a f, a < 16384 → f < 1536 → at2 (a := 16384) (b := 1536) (V m c main_v5) a f
      = if f < 512 then at2 (a := 16384) (b := 1536) (m (c.tc.loc main_arg0)) a f * scl else at2 (a := 16384) (b := 1536) (m (c.tc.loc main_arg0)) a f := by
    intro a f ha hf
    rw [← at2_of (V m c main_v5) (ix2 ⟨a, ha⟩ ⟨f, hf⟩) a f rfl rfl, V_scaled]
    exact scaled_at _ ⟨a, ha⟩ ⟨f, hf⟩
  have c0 : (grid0.coords t 0).val < 2 := (grid0.coords t 0).isLt
  have c1 : (grid0.coords t 1).val < 16 := (grid0.coords t 1).isLt
  have b1 := hinb1 (grid0.coords t)
  have b2 := hinb2 (grid0.coords t)
  refine (out_at c (grid0.coords t) _ _ _ _ _ _ _ _ _ _ _ _ _ _ _ _ _ (fun p l => result (at2 (a := 16384) (b := 1536) (m (c.tc.loc main_arg0)))
      (at3 (a := 8) (b := 15) (c := 31) (m (c.tc.loc main_arg1))) (at2 (a := 1) (b := 512) (m (c.tc.loc main_arg2)))
      ((grid0.coords t 0).val * 8192 + (grid0.coords t 1).val * 512 + p) l) ?_ y).trans ?_
  · intro r q l
    refine (blockRow_at (grid0.coords t) _ _ _ _ _ _ _
      (at2 (a := 1) (b := 512) (m (c.tc.loc main_arg2))) hA hB ?_ ?_ ?_ ?_ ?_ r q l).trans ?_
    · intro a f ha hf
      rw [blk0 m c t a f ha hf, hs _ _ (by omega) (by omega), if_pos hf]
    · intro a f ha hf
      rw [blk1 m c t a f ha hf, hs _ _ (by omega) (by omega), if_neg (by omega)]
    · intro a f ha hf
      rw [blk2 m c t a f ha hf, hs _ _ (by omega) (by omega), if_neg (by omega)]
    · intro a r q k
      rw [blk3 m c t a r q k, V_table]
      exact table_at _ a r q k
    · intro f hf
      rw [blk4 m c t f hf, V_main_arg2]
    · refine congrArg (fun p => result _ _ _ p l.val) ?_
      omega
  · refine congrArg₂ (fun p l => result _ _ _ p l) ?_ ?_
    · blk_simp [index5]
      try omega
    · blk_simp [index5]
      try rfl

end Cert.KernelIdeal.Att

end
end
-- ==== Proof.Words.lean ====
/- The words of the reference's index arithmetic at each token and each neighbour. -/
module

public import proofs.«01_k».proof.Proof.Spec
public import Idealize.ShloMosaic.PureOps
public import Idealize.ShloMosaic.Lib.Affine

@[expose] public section

set_option maxRecDepth 65536

noncomputable section

namespace Cert.ReferenceIdeal.Att

open Idealize.ShloMosaic Cert.Att

theorem div_word (t : Fin 8192) : IntOp.divsi .host (BitVec.ofNat 32 t.val) 64#32 = BitVec.ofNat 32 (t.val / 64) := by
  have ht := t.isLt
  have hN : (BitVec.ofNat 32 t.val).toNat = t.val := by rw [BitVec.toNat_ofNat]; omega
  have hm : (BitVec.ofNat 32 t.val).msb = false := by rw [BitVec.msb_eq_false_iff_two_mul_lt]; omega
  unfold IntOp.divsi
  rw [if_neg (IntOp.not_corner_of_pos (by decide)), BitVec.sdiv_eq, hm, show (64#32 : BitVec 32).msb = false from by decide]
  refine BitVec.eq_of_toNat_eq ?_
  show (BitVec.ofNat 32 t.val / 64#32).toNat = _
  rw [BitVec.toNat_udiv, hN]
  simp only [BitVec.toNat_ofNat]
  show t.val / 64 = t.val / 64 % 4294967296
  omega

theorem rem_word (t : Fin 8192) : IntOp.remsi .host (BitVec.ofNat 32 t.val) 64#32 = BitVec.ofNat 32 (t.val % 64) := by
  have ht := t.isLt
  have hN : (BitVec.ofNat 32 t.val).toNat = t.val := by rw [BitVec.toNat_ofNat]; omega
  refine BitVec.eq_of_toNat_eq ?_
  rw [IntOp.toNat_remsi .host (by omega) 64 (by omega) (by omega), hN, BitVec.toNat_ofNat]
  omega

theorem row_word (t : Fin 8192) : IntOp.minsi 120#32 (IntOp.maxsi 0#32 (IntOp.subi (IntOp.divsi .host (BitVec.ofNat 32 t.val) 64#32) 4#32))
    = BitVec.ofNat 32 (rowStart (t.val / 64)) := by
  rw [div_word]
  exact (by decide +kernel : ∀ r : Fin 128, IntOp.minsi 120#32 (IntOp.maxsi 0#32 (IntOp.subi (BitVec.ofNat 32 r.val) 4#32))
    = BitVec.ofNat 32 (rowStart r.val)) ⟨t.val / 64, by have := t.isLt; omega⟩

theorem col_word (t : Fin 8192) : IntOp.minsi 48#32 (IntOp.maxsi 0#32 (IntOp.subi (IntOp.remsi .host (BitVec.ofNat 32 t.val) 64#32) 8#32))
    = BitVec.ofNat 32 (colStart (t.val % 64)) := by
  rw [rem_word]
  exact (by decide +kernel : ∀ r : Fin 64, IntOp.minsi 48#32 (IntOp.maxsi 0#32 (IntOp.subi (BitVec.ofNat 32 r.val) 8#32))
    = BitVec.ofNat 32 (colStart r.val)) ⟨t.val % 64, by omega⟩

theorem ndiv_word (n : Fin 128) : IntOp.divsi .host (BitVec.ofNat 32 n.val) 16#32 = BitVec.ofNat 32 (n.val / 16) := by
  revert n; decide +kernel

theorem nrem_word (n : Fin 128) : IntOp.remsi .host (BitVec.ofNat 32 n.val) 16#32 = BitVec.ofNat 32 (n.val % 16) := by
  revert n; decide +kernel

end Cert.ReferenceIdeal.Att

end
end
-- ==== Proof.RefWords.lean ====
/- The reference's index arrays in closed form: which token is a query's n-th neighbour, and which entry of the relative
   biases it meets. -/
module

public import proofs.«01_k».proof.Proof.Gen.ReferenceIdeal.Read
public import proofs.«01_k».proof.Proof.Words

@[expose] public section

set_option maxRecDepth 65536

noncomputable section

namespace Cert.ReferenceIdeal.Att

open Cert.ReferenceIdeal Cert.ReferenceIdeal.Gen Cert.ReferenceIdeal.Read Idealize.ShloMosaic Idealize.SL.Sem Cert.Att

/-- The row of the `n`-th neighbour of the sequence's token `t`. -/
theorem v24_at (t : Fin 8192) (n : Fin 128) : val_main_v24 (F := Ideal) (ValueIdx.ix2 t n) = BitVec.ofNat 32 (rowStart (t.val / 64) + n.val / 16) := by
  simp only [val_main_v24_apply, val_main_v22_apply, val_main_v23_apply, val_main_v18_apply, val_main_v20_apply, val_main_v21_apply,
    val_main_v19_apply, val_main_c_7_apply, val_main_v17_apply, val_main_v13_apply, val_main_call0_v4_apply, val_main_call0_v2_apply,
    val_main_call0_v1_apply, val_main_call0_v0_apply, val_main_call0_v3_apply, val_main_c_3_apply, val_main_c_2_apply, val_main_v12_apply, val_main_v8_apply,
    val_main_v6_apply, val_main_v7_apply, val_main_c_apply, val_main_v11_apply, val_main_c_1_apply]
  refine (congrArg₂ IntOp.addi (row_word t) (ndiv_word n)).trans ?_
  exact (BitVec.ofNat_add _ _).symm

/-- Its column. -/
theorem v31_at (t : Fin 8192) (n : Fin 128) : val_main_v31 (F := Ideal) (ValueIdx.ix2 t n) = BitVec.ofNat 32 (colStart (t.val % 64) + n.val % 16) := by
  simp only [val_main_v31_apply, val_main_v29_apply, val_main_v30_apply, val_main_v25_apply, val_main_v27_apply, val_main_v28_apply,
    val_main_v26_apply, val_main_c_8_apply, val_main_v17_apply, val_main_v16_apply, val_main_call1_v4_apply, val_main_call1_v2_apply,
    val_main_call1_v1_apply, val_main_call1_v0_apply, val_main_call1_v3_apply, val_main_c_6_apply, val_main_c_5_apply, val_main_v15_apply, val_main_v10_apply,
    val_main_v6_apply, val_main_v9_apply, val_main_c_0_apply, val_main_v14_apply, val_main_c_4_apply]
  refine (congrArg₂ IntOp.addi (col_word t) (nrem_word n)).trans ?_
  exact (BitVec.ofNat_add _ _).symm

/-- The neighbour's place in the sequence. -/
theorem v34_at (t : Fin 8192) (n : Fin 128) : val_main_v34 (F := Ideal) (ValueIdx.ix2 t n)
    = BitVec.ofNat 32 ((rowStart (t.val / 64) + n.val / 16) * 64 + (colStart (t.val % 64) + n.val % 16)) := by
  simp only [val_main_v34_apply, val_main_v33_apply, val_main_v32_apply, val_main_c_9_apply, v24_at, v31_at, IntOp.addi, IntOp.muli]
  refine Eq.trans ?_ (BitVec.ofNat_add _ _).symm
  rw [BitVec.ofNat_mul, BitVec.ofNat_add (rowStart (t.val / 64))]

theorem v38_at (t : Fin 8192) (n : Fin 128) : val_main_v38 (F := Ideal) (ValueIdx.ix2 t n)
    = BitVec.ofNat 32 ((rowStart (t.val / 64) + n.val / 16) * 64 + (colStart (t.val % 64) + n.val % 16)) := by
  simp only [val_main_v38_apply, val_main_v37_apply, val_main_v36_apply, val_main_c_10_apply, v24_at, v31_at, IntOp.addi, IntOp.muli]
  refine Eq.trans ?_ (BitVec.ofNat_add _ _).symm
  rw [BitVec.ofNat_mul, BitVec.ofNat_add (rowStart (t.val / 64))]

theorem sub_word (a b d : ℕ) (h : b ≤ a + d) : BitVec.ofNat 32 a - BitVec.ofNat 32 b + BitVec.ofNat 32 d = BitVec.ofNat 32 (a + d - b) := by
  have e : BitVec.ofNat 32 a + BitVec.ofNat 32 d = BitVec.ofNat 32 (a + d - b) + BitVec.ofNat 32 b := by
    rw [← BitVec.ofNat_add, ← BitVec.ofNat_add]
    congr 1
    omega
  rw [BitVec.sub_add_comm, e, BitVec.add_sub_cancel]

/-- The place of the bias among a head's 15 × 31. -/
theorem v52_at (t : Fin 8192) (n : Fin 128) : val_main_v52 (F := Ideal) (ValueIdx.ix2 t n)
    = BitVec.ofNat 32 ((rowStart (t.val / 64) + n.val / 16 + 7 - t.val / 64) * 31 + (colStart (t.val % 64) + n.val % 16 + 15 - t.val % 64)) := by
  simp only [val_main_v52_apply, val_main_v46_apply, val_main_v51_apply, val_main_v44_apply, val_main_v45_apply, val_main_v43_apply, val_main_c_11_apply,
    val_main_c_12_apply, val_main_v42_apply, val_main_v41_apply, val_main_v40_apply, val_main_v49_apply, val_main_v50_apply, val_main_c_13_apply,
    val_main_v48_apply, val_main_v47_apply, v24_at, v31_at, val_main_v8_apply, val_main_v10_apply,
    val_main_v6_apply, val_main_v7_apply, val_main_c_apply, val_main_v9_apply, val_main_c_0_apply]
  have e1 := sub_word (rowStart (t.val / 64) + n.val / 16) (t.val / 64) 7 (by have := t.isLt; unfold rowStart; omega)
  have e2 := sub_word (colStart (t.val % 64) + n.val % 16) (t.val % 64) 15 (by unfold colStart; omega)
  refine Eq.trans ?_ (BitVec.ofNat_add _ _).symm
  rw [BitVec.ofNat_mul, ← e1, ← e2, ← div_word t, ← rem_word t]
  rfl

end Cert.ReferenceIdeal.Att

end
end
-- ==== Proof.Gathers.lean ====
/- The reference's two gathers read at an index. -/
module

public import proofs.«01_k».proof.Proof.Gen.ReferenceIdeal.Read

@[expose] public section

set_option maxRecDepth 65536

noncomputable section

namespace Cert.ReferenceIdeal.Att

open Cert.ReferenceIdeal Cert.ReferenceIdeal.Gen Idealize.ShloMosaic Idealize.SL.Sem

variable {α : Type}

/-- Where the start index of the `n`-th neighbour of token `t` is kept. -/
def startAt (t : Fin 8192) (n : Fin 128) : S8192x128x1.Idx
  | ⟨0, _⟩ => t
  | ⟨1, _⟩ => n
  | ⟨2, _⟩ => ⟨0, Nat.one_pos⟩

/-- A token's head vectors at a place of its sequence. -/
def placeAt (b : Fin 2) (p : Fin 8192) (h : Fin 8) (d : Fin 64) : S2x8192x8x64.Idx
  | ⟨0, _⟩ => b
  | ⟨1, _⟩ => p
  | ⟨2, _⟩ => h
  | ⟨3, _⟩ => d

/-- The gather of neighbours: every head vector at the place that the start index names. -/
theorem gather_tokens (x : S2x8192x8x64.Idx → α) (idx : IVec S8192x128x1 32) (y : S2x8192x128x8x64.Idx) :
    Host.gather gather_S2x8192x8x64_S8192x128x1_S2x8192x128x8x64_034_1_n_n_1_2_21864 x idx y
      = x (placeAt (y 0) ⟨min (idx (startAt (y 1) (y 2))).toInt.toNat 8191, by omega⟩ (y 3) (y 4)) := by
  unfold Host.gather
  congr 1
  funext a
  refine Fin.ext ?_
  show GatherDims.start _ y idx a + GatherDims.batchCoord _ y a + GatherDims.offCoord _ y a = _
  have hc : a = 0 ∨ a = 1 ∨ a = 2 ∨ a = 3 := by revert a; decide
  rcases hc with rfl | rfl | rfl | rfl
  · unfold GatherDims.start GatherDims.batchCoord GatherDims.offCoord
    rw [dif_neg (by decide), dif_neg (by decide), dif_pos (by decide)]
    exact (Nat.zero_add _).trans (by rfl)
  · unfold GatherDims.start GatherDims.batchCoord GatherDims.offCoord
    rw [dif_pos (by decide), dif_neg (by decide), dif_neg (by decide)]
    have hsi : gather_S2x8192x8x64_S8192x128x1_S2x8192x128x8x64_034_1_n_n_1_2_21864.siIdx y ⟨0, by decide⟩ = startAt (y 1) (y 2) := by
      funext b; refine Fin.ext ?_
      match b with
      | ⟨0, _⟩ => rfl
      | ⟨1, _⟩ => rfl
      | ⟨2, _⟩ => rfl
    exact congrArg (fun z => min (idx z).toInt.toNat 8191) hsi
  · unfold GatherDims.start GatherDims.batchCoord GatherDims.offCoord
    rw [dif_neg (by decide), dif_neg (by decide), dif_pos (by decide)]
    exact (Nat.zero_add _).trans (by rfl)
  · unfold GatherDims.start GatherDims.batchCoord GatherDims.offCoord
    rw [dif_neg (by decide), dif_neg (by decide), dif_pos (by decide)]
    exact (Nat.zero_add _).trans (by rfl)

/-- The gather of biases: every head's entry at the place that the start index names. -/
theorem gather_biases (x : S8x465.Idx → α) (idx : IVec S8192x128x1 32) (y : S8x8192x128.Idx) :
    Host.gather gather_S8x465_S8192x128x1_S8x8192x128_0_1_n_n_1_2_81 x idx y
      = x (ValueIdx.ix2 (y 0) ⟨min (idx (startAt (y 1) (y 2))).toInt.toNat 464, by omega⟩) := by
  unfold Host.gather
  congr 1
  funext a
  refine Fin.ext ?_
  show GatherDims.start _ y idx a + GatherDims.batchCoord _ y a + GatherDims.offCoord _ y a = _
  have hc : a = 0 ∨ a = 1 := by revert a; decide
  rcases hc with rfl | rfl
  · unfold GatherDims.start GatherDims.batchCoord GatherDims.offCoord
    rw [dif_neg (by decide), dif_neg (by decide), dif_pos (by decide)]
    exact (Nat.zero_add _).trans (by rfl)
  · unfold GatherDims.start GatherDims.batchCoord GatherDims.offCoord
    rw [dif_pos (by decide), dif_neg (by decide), dif_neg (by decide)]
    have hsi : gather_S8x465_S8192x128x1_S8x8192x128_0_1_n_n_1_2_81.siIdx y ⟨0, by decide⟩ = startAt (y 1) (y 2) := by
      funext b; refine Fin.ext ?_
      match b with
      | ⟨0, _⟩ => rfl
      | ⟨1, _⟩ => rfl
      | ⟨2, _⟩ => rfl
    exact congrArg (fun z => min (idx z).toInt.toNat 464) hsi

/-- A small word read signed is its number. -/
theorem small_word (k : ℕ) (hk : k < 8192) : (BitVec.ofNat 32 k).toInt.toNat = k := by
  rw [BitVec.toInt_ofNat', Int.bmod_def]
  norm_num
  omega

end Cert.ReferenceIdeal.Att

end
end
-- ==== Proof.RefAt.lean ====
/- The reference's result at an index: the neighbourhood attention in plain terms. -/
module

public import proofs.«01_k».proof.Proof.RefWords
public import proofs.«01_k».proof.Proof.Gathers
public import Idealize.ShloMosaic.Lib.KernelVsHost

@[expose] public section

set_option maxRecDepth 65536

noncomputable section

namespace Cert.ReferenceIdeal.Att

open Cert.ReferenceIdeal Cert.ReferenceIdeal.Gen Cert.ReferenceIdeal.Read Idealize.ShloMosaic Idealize.SL.Sem Cert.Att

variable (x0 : FVec Ideal S16384x1536 .f32) (x1 : FVec Ideal S8x15x31 .f32) (x2 : FVec Ideal S1x512 .f32)

/-- The place in its sequence of the `n`-th neighbour of the token at place `t`. -/
def place (t n : ℕ) : ℕ := (rowStart (t / 64) + n / 16) * 64 + (colStart (t % 64) + n % 16)

theorem place_lt (t : Fin 8192) (n : Fin 128) : place t.val n.val < 8192 := by
  have := t.isLt; have := n.isLt
  unfold place rowStart colStart
  omega

theorem pair_eq (i : S8192x128.Idx) (t : Fin 8192) (n : Fin 128) (ht : (i 0).val = t.val) (hn : (i 1).val = n.val) : i = ValueIdx.ix2 t n := by
  funext a
  match a with
  | ⟨0, _⟩ => exact Fin.ext ht
  | ⟨1, _⟩ => exact Fin.ext hn

theorem query_at (i : S2x8192x8x64.Idx) :
    val_main_v1 (F := Ideal) x0 i = at2 x0 ((i 0).val * 8192 + (i 1).val) (64 * (i 2).val + (i 3).val) := by
  have h2 : (i 2).val < 8 := (i 2).isLt
  have h3 : (i 3).val < 64 := (i 3).isLt
  rw [val_main_v1_apply, val_main_v0_apply]
  refine at2_of x0 _ _ _ ?_ ?_
  · show ((((i 0).val * 8192 + (i 1).val) * 8 + (i 2).val) * 64 + (i 3).val) / 512 = _
    omega
  · show ((((i 0).val * 8192 + (i 1).val) * 8 + (i 2).val) * 64 + (i 3).val) % 512 = _
    omega

theorem key_at (i : S2x8192x8x64.Idx) :
    val_main_v3 (F := Ideal) x0 i = at2 x0 ((i 0).val * 8192 + (i 1).val) (512 + 64 * (i 2).val + (i 3).val) := by
  have h2 : (i 2).val < 8 := (i 2).isLt
  have h3 : (i 3).val < 64 := (i 3).isLt
  rw [val_main_v3_apply, val_main_v2_apply]
  refine at2_of x0 _ _ _ ?_ ?_
  · show ((((i 0).val * 8192 + (i 1).val) * 8 + (i 2).val) * 64 + (i 3).val) / 512 = _
    omega
  · show 512 + ((((i 0).val * 8192 + (i 1).val) * 8 + (i 2).val) * 64 + (i 3).val) % 512 = _
    omega

theorem value_at (i : S2x8192x8x64.Idx) :
    val_main_v5 (F := Ideal) x0 i = at2 x0 ((i 0).val * 8192 + (i 1).val) (1024 + (64 * (i 2).val + (i 3).val)) := by
  have h2 : (i 2).val < 8 := (i 2).isLt
  have h3 : (i 3).val < 64 := (i 3).isLt
  rw [val_main_v5_apply, val_main_v4_apply]
  refine at2_of x0 _ _ _ ?_ ?_
  · show ((((i 0).val * 8192 + (i 1).val) * 8 + (i 2).val) * 64 + (i 3).val) / 512 = _
    omega
  · show 1024 + ((((i 0).val * 8192 + (i 1).val) * 8 + (i 2).val) * 64 + (i 3).val) % 512 = _
    omega

theorem keys_at (i : S2x8192x128x8x64.Idx) :
    val_main_v35 (F := Ideal) x0 i = at2 x0 ((i 0).val * 8192 + place (i 1).val (i 2).val) (512 + 64 * (i 3).val + (i 4).val) := by
  unfold val_main_v35
  rw [gather_tokens, key_at]
  have e : val_main_call2_v0 (F := Ideal) (startAt (i 1) (i 2)) = BitVec.ofNat 32 (place (i 1).val (i 2).val) := by
    rw [val_main_call2_v0_apply, pair_eq (idx_main_call2_v0 (startAt (i 1) (i 2))) (i 1) (i 2) rfl rfl]
    exact v34_at (i 1) (i 2)
  have hl := place_lt (i 1) (i 2)
  show at2 x0 ((i 0).val * 8192 + min (val_main_call2_v0 (F := Ideal) (startAt (i 1) (i 2))).toInt.toNat 8191) (512 + 64 * (i 3).val + (i 4).val) = _
  rw [e, small_word _ hl, Nat.min_eq_left (by omega)]

theorem values_at (i : S2x8192x128x8x64.Idx) :
    val_main_v39 (F := Ideal) x0 i = at2 x0 ((i 0).val * 8192 + place (i 1).val (i 2).val) (1024 + (64 * (i 3).val + (i 4).val)) := by
  unfold val_main_v39
  rw [gather_tokens, value_at]
  have e : val_main_call3_v0 (F := Ideal) (startAt (i 1) (i 2)) = BitVec.ofNat 32 (place (i 1).val (i 2).val) := by
    rw [val_main_call3_v0_apply, pair_eq (idx_main_call3_v0 (startAt (i 1) (i 2))) (i 1) (i 2) rfl rfl]
    exact v38_at (i 1) (i 2)
  have hl := place_lt (i 1) (i 2)
  show at2 x0 ((i 0).val * 8192 + min (val_main_call3_v0 (F := Ideal) (startAt (i 1) (i 2))).toInt.toNat 8191) (1024 + (64 * (i 3).val + (i 4).val)) = _
  rw [e, small_word _ hl, Nat.min_eq_left (by omega)]

theorem bias_at (i : S8x8192x128.Idx) :
    val_main_v54 (F := Ideal) x1 i = at3 x1 (i 0).val (rowStart ((i 1).val / 64) + (i 2).val / 16 + 7 - (i 1).val / 64)
      (colStart ((i 1).val % 64) + (i 2).val % 16 + 15 - (i 1).val % 64) := by
  unfold val_main_v54
  rw [gather_biases, val_main_v53_apply]
  have h1 : (i 1).val < 8192 := (i 1).isLt
  have h2 : (i 2).val < 128 := (i 2).isLt
  have e : val_main_call4_v0 (F := Ideal) (startAt (i 1) (i 2))
      = BitVec.ofNat 32 ((rowStart ((i 1).val / 64) + (i 2).val / 16 + 7 - (i 1).val / 64) * 31
          + (colStart ((i 1).val % 64) + (i 2).val % 16 + 15 - (i 1).val % 64)) := by
    rw [val_main_call4_v0_apply, pair_eq (idx_main_call4_v0 (startAt (i 1) (i 2))) (i 1) (i 2) rfl rfl]
    exact v52_at (i 1) (i 2)
  have hr : rowStart ((i 1).val / 64) + (i 2).val / 16 + 7 - (i 1).val / 64 < 15 := by unfold rowStart; omega
  have hc : colStart ((i 1).val % 64) + (i 2).val % 16 + 15 - (i 1).val % 64 < 31 := by unfold colStart; omega
  generalize hR : rowStart ((i 1).val / 64) + (i 2).val / 16 + 7 - (i 1).val / 64 = R at e hr
  generalize hC : colStart ((i 1).val % 64) + (i 2).val % 16 + 15 - (i 1).val % 64 = C at e hc
  have hm : min (val_main_call4_v0 (F := Ideal) (startAt (i 1) (i 2))).toInt.toNat 464 = R * 31 + C := by
    rw [e, small_word _ (by omega), Nat.min_eq_left (by omega)]
  refine at3_of x1 _ _ _ _ ?_ ?_ ?_
  · show ((i 0).val * 465 + min (val_main_call4_v0 (F := Ideal) (startAt (i 1) (i 2))).toInt.toNat 464) / 465 = _
    rw [hm]; omega
  · show ((i 0).val * 465 + min (val_main_call4_v0 (F := Ideal) (startAt (i 1) (i 2))).toInt.toNat 464) / 31 % 15 = _
    rw [hm]; omega
  · show ((i 0).val * 465 + min (val_main_call4_v0 (F := Ideal) (startAt (i 1) (i 2))).toInt.toNat 464) % 31 = _
    rw [hm]; omega

/-- The scores. -/
theorem scores_at (i : S2x8192x8x128.Idx) :
    val_main_v61 (F := Ideal) x0 x1 i = score (at2 x0) (at3 x1) ((i 0).val * 8192 + (i 1).val) (i 2).val (i 3).val := by
  have h0 : (i 0).val < 2 := (i 0).isLt
  have h1 : (i 1).val < 8192 := (i 1).isLt
  rw [val_main_v61_apply, val_main_v57_apply, val_main_v55_apply, val_main_v60_apply, val_main_v59_apply, val_main_v58_apply, bias_at,
    val_main_v56_apply]
  have e1 : tokRow ((i 0).val * 8192 + (i 1).val) = (i 1).val / 64 := by unfold tokRow; omega
  have e2 : tokCol ((i 0).val * 8192 + (i 1).val) = (i 1).val % 64 := by unfold tokCol; omega
  have e3 : nbr ((i 0).val * 8192 + (i 1).val) (i 3).val = (i 0).val * 8192 + place (i 1).val (i 3).val := by
    unfold nbr place; rw [e1, e2]; omega
  unfold score
  rw [e1, e2, e3]
  refine congrArg₂ (· + ·) (congrArg₂ (· * ·) (Finset.sum_congr rfl fun d _ => ?_) rfl) rfl
  rw [query_at, keys_at]

/-- A row's maximum, of any array of this shape. -/
theorem max_row (x : FVec Ideal S2x8192x8x128 .f32) (h : S2x8192x8x128.ReducesTo [3] S2x8192x8) (hu : 0 < S_.numel) (i : S2x8192x8.Idx) :
   Host.reduce FloatOps.maximumf x (constant S_ .f32 0xFF800000#32) h hu i = Finset.univ.fold max ⊥ (fun n : Fin 128 => x (ValueIdx.ix4 (i 0) (i 1) (i 2) n)) := by
  have hR : S2x8192x8x128.Reduces [3] S2x8192x8 := by decide
  have := hostReduce_maximumf_eq_multiReduction x (u := S_) 0xFF800000#32 h hu hR (.inl rfl) rfl
  rw [this]
  refine (Ideal.multiReduction_maximumf_single x _ _ _ _ _).trans ?_
  have hb : FloatOps.ofBits (F := Ideal) .f32 0xFF800000#32 = (⊥ : EReal) := by
    show Ideal.ofBits .f32 0xFF800000#32 = ⊥
    simp [Ideal.ofBits, Ideal.ieee]
  rw [hb]
  refine Finset.fold_congr fun n _ => congrArg x ?_
  funext a
  match a with
  | ⟨0, _⟩ => rfl
  | ⟨1, _⟩ => rfl
  | ⟨2, _⟩ => rfl
  | ⟨3, _⟩ => rfl

/-- A row's maximum. -/
theorem max_at (i : S2x8192x8.Idx) : val_main_v62 (F := Ideal) x0 x1 i
    = Finset.univ.fold max ⊥ (fun n : Fin 128 => score (at2 x0) (at3 x1) ((i 0).val * 8192 + (i 1).val) (i 2).val n.val) := by
  unfold val_main_v62 val_main_cst_14
  refine (max_row _ _ _ i).trans (Finset.fold_congr fun n _ => ?_)
  exact scores_at x0 x1 _

/-- The weights. -/
theorem weight_at (i : S2x8192x8x128.Idx) : val_main_v68 (F := Ideal) x0 x1 i
    = Ideal.exp (score (at2 x0) (at3 x1) ((i 0).val * 8192 + (i 1).val) (i 2).val (i 3).val
        - Finset.univ.fold max ⊥ (fun n : Fin 128 => score (at2 x0) (at3 x1) ((i 0).val * 8192 + (i 1).val) (i 2).val n.val)) := by
  rw [val_main_v68_apply, val_main_v67_apply, scores_at, val_main_v66_apply, val_main_v65_apply, val_main_v64_apply, max_at, val_main_v63_apply]
  have hb : val_main_cst_15 (F := Ideal) (idx_main_v63 (idx_main_v65 (idx_main_v66 i))) = (⊥ : EReal) := by
    show Ideal.ofBits .f32 0xFF800000#32 = ⊥
    simp [Ideal.ofBits, Ideal.ieee]
  rw [hb]
  show Ideal.exp (_ - max ⊥ _) = _
  rw [max_eq_right bot_le]

theorem weight_of (i : S2x8192x8x128.Idx) (T h n : ℕ) (hT : (i 0).val * 8192 + (i 1).val = T) (hh : (i 2).val = h) (hn : (i 3).val = n) :
    val_main_v68 (F := Ideal) x0 x1 i = Ideal.exp (score (at2 x0) (at3 x1) T h n
        - Finset.univ.fold max ⊥ (fun k : Fin 128 => score (at2 x0) (at3 x1) T h k.val)) := by
  subst hT hh hn
  exact weight_at x0 x1 i

/-- The attention. -/
theorem attn_at (i : S16384x512.Idx) : val_main_v74 (F := Ideal) x0 x1 i = attn (at2 x0) (at3 x1) (i 0).val (i 1).val := by
  have h0 : (i 0).val < 16384 := (i 0).isLt
  have h1 : (i 1).val < 512 := (i 1).isLt
  rw [val_main_v74_apply, val_main_v73_apply]
  unfold attn softmaxDot
  refine Finset.sum_congr rfl fun n _ => ?_
  rw [val_main_v72_apply, val_main_v71_apply, val_main_v70_apply, val_main_v69_apply, values_at]
  have e0 : (((i 0).val * 512 + (i 1).val) / 4194304) * 8192 + ((i 0).val * 512 + (i 1).val) / 512 % 8192 = (i 0).val := by omega
  have e2 : ((i 0).val * 512 + (i 1).val) / 64 % 8 = (i 1).val / 64 := by omega
  have hz : val_main_cst_16 (F := Ideal) (Shape.Idx.first h_S_) = (0 : EReal) := by
    show Ideal.ofBits .f32 0x00000000#32 = 0
    simp [Ideal.ofBits, Ideal.ieee]
  rw [hz, zero_add]
  refine congrArg₂ (· * ·) (congrArg₂ Ideal.div ?_ (Finset.sum_congr rfl fun k _ => ?_)) ?_
  · exact weight_of x0 x1 _ _ _ _ e0 e2 rfl
  · exact weight_of x0 x1 _ _ _ _ e0 e2 rfl
  · show at2 x0 ((((i 0).val * 512 + (i 1).val) / 4194304) * 8192 + place (((i 0).val * 512 + (i 1).val) / 512 % 8192) n.val)
      (1024 + (64 * (((i 0).val * 512 + (i 1).val) / 64 % 8) + ((i 0).val * 512 + (i 1).val) % 64))
      = at2 x0 (nbr (i 0).val n.val) (1024 + (i 1).val)
    have e3 : 1024 + (64 * (((i 0).val * 512 + (i 1).val) / 64 % 8) + ((i 0).val * 512 + (i 1).val) % 64) = 1024 + (i 1).val := by omega
    have e4 : ((i 0).val * 512 + (i 1).val) / 512 % 8192 = (i 0).val % 8192 := by omega
    have e5 : ((i 0).val * 512 + (i 1).val) / 4194304 = (i 0).val / 8192 := by omega
    have e6 : (i 0).val % 8192 % 64 = (i 0).val % 64 := by omega
    have en : nbr (i 0).val n.val = (i 0).val / 8192 * 8192 + place ((i 0).val % 8192) n.val := by
      unfold nbr place tokRow tokCol
      rw [e6]; omega
    rw [e3, e4, e5, en]

/-- The result. -/
theorem result_at (i : S16384x512.Idx) :
    val_main_v87 (F := Ideal) x0 x1 x2 i = result (at2 x0) (at3 x1) (at2 x2) (i 0).val (i 1).val := by
  have hz : val_main_cst_17 (F := Ideal) (Shape.Idx.first h_S_) = (0 : EReal) := by
    show Ideal.ofBits .f32 0x00000000#32 = 0
    simp [Ideal.ofBits, Ideal.ieee]
  rw [val_main_v87_apply, val_main_v86_apply, val_main_v84_apply, val_main_v83_apply, val_main_v82_apply, val_main_v81_apply, val_main_v79_apply,
    val_main_v77_apply, val_main_v76_apply, val_main_v80_apply, val_main_v78_apply, val_main_v85_apply, attn_at, hz, zero_add]
  simp only [val_main_v75_apply, attn_at]
  unfold result
  rw [at2_of x2 _ 0 (i 1).val rfl rfl]
  rfl

end Cert.ReferenceIdeal.Att

end
end
-- ==== Proof.MixBody.lean ====
/- What the mixing kernel's body computes at one grid point, as a chain of named arrays: each scratch array is the one that its
   stores leave. -/
module

public import proofs.«01_k».proof.Proof.Gen.Kernel2Ideal.Frame.RunA
public import Idealize.ShloMosaic.Lib.Pipeline.ReadBack

@[expose] public section

set_option maxRecDepth 65536

noncomputable section

namespace Cert.Kernel2Ideal.Mix

open Cert.Kernel2Ideal Cert.Kernel2Ideal.Gen Idealize.ShloMosaic Idealize.ShloMosaic.TcCoe Idealize.SL.Sem

variable {F : FTy → Type} [FloatOps F]

/-- The rows of the attention's output that a block works on: the 16 before it, its 512, the 16 after. -/
def aExt (x3 : Vec F S16x512 .bf16) (x4 : Vec F S512x512 .bf16) (x5 : Vec F S16x512 .bf16) : Vec F S544x512 .bf16 :=
  View.canon [⟨Rect.unit ![528, 0] ![16, 512] inb_S544x512_S16x512_528_0, k0_pay8 x5⟩,
    ⟨Rect.unit ![16, 0] ![512, 512] inb_S544x512_S512x512_16_0, k0_pay7 (k0_pay6 x4)⟩,
    ⟨Rect.unit ![0, 0] ![16, 512] inb_S544x512_S16x512_0_0, k0_pay5 x3⟩]

/-- The same rows of the SSD mixer's output. -/
def sExt (x6 : Vec F S16x1024 .bf16) (x7 : Vec F S512x1024 .bf16) (x8 : Vec F S16x1024 .bf16) : Vec F S544x1024 .bf16 :=
  View.canon [⟨Rect.unit ![528, 0] ![16, 1024] inb_S544x1024_S16x1024_528_0, k0_pay11 x8⟩,
    ⟨Rect.unit ![16, 0] ![512, 1024] inb_S544x1024_S512x1024_16_0, k0_pay10 x7⟩,
    ⟨Rect.unit ![0, 0] ![16, 1024] inb_S544x1024_S16x1024_0_0, k0_pay9 x6⟩]

/-- The same rows of the layer's input, as pieces. -/
def xPieces (x0 : Vec F S16x1024 .f32) (x1 : Vec F S512x1024 .f32) (x2 : Vec F S16x1024 .f32) : List (View.Piece (Elt F) S544x1024 .f32) :=
  [⟨Rect.unit ![528, 0] ![16, 1024] inb_S544x1024_S16x1024_528_0, k0_pay4 x2⟩,
    ⟨Rect.unit ![16, 0] ![512, 1024] inb_S544x1024_S512x1024_16_0, k0_pay3 x1⟩,
    ⟨Rect.unit ![0, 0] ![16, 1024] inb_S544x1024_S16x1024_0_0, k0_pay2 x0⟩]

/-- The residual stream after mixing, of 272 rows. -/
def x1Half (a : Vec F S272x512 .bf16) (wa : Vec F S512x1024 .bf16) (s : Vec F S272x1024 .bf16) (ws : Vec F S1024x1024 .bf16)
    (x : Vec F S272x1024 .f32) (g : Vec F S1x1024 .f32) : FVec F S272x1024 .f32 := k0_pay18 a wa s ws x g

/-- What the channel mixer reads, of 272 rows. -/
def hHalf (a : Vec F S272x512 .bf16) (wa : Vec F S512x1024 .bf16) (s : Vec F S272x1024 .bf16) (ws : Vec F S1024x1024 .bf16)
    (x : Vec F S272x1024 .f32) (g g' : Vec F S1x1024 .f32) : FVec F S272x1024 .bf16 := k0_pay21 (k0_pay19 a wa s ws x g) (k0_pay20 g')

/-- The rows of the layer's input, the first half replaced by the residual stream after mixing. -/
def xOne (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) : List (View.Piece (Elt F) S544x1024 .f32) :=
  ⟨Rect.unit ![0, 0] ![272, 1024] inb_S544x1024_S272x1024_0_0,
    x1Half (View.ld (aExt x3 x4 x5) (Rect.unit ![0, 0] ![272, 512] inb_S544x512_S272x512_0_0)) x9 (View.ld (sExt x6 x7 x8) (Rect.unit ![0, 0] ![272, 1024] inb_S544x1024_S272x1024_0_0)) x10
      (View.ld (View.canon (xPieces x0 x1 x2)) (Rect.unit ![0, 0] ![272, 1024] inb_S544x1024_S272x1024_0_0)) x11⟩ :: xPieces x0 x1 x2

/-- Both halves replaced. -/
def xTwo (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) : Vec F S544x1024 .f32 :=
  View.canon (⟨Rect.unit ![272, 0] ![272, 1024] inb_S544x1024_S272x1024_272_0,
    x1Half (View.ld (aExt x3 x4 x5) (Rect.unit ![272, 0] ![272, 512] inb_S544x512_S272x512_272_0)) x9 (View.ld (sExt x6 x7 x8) (Rect.unit ![272, 0] ![272, 1024] inb_S544x1024_S272x1024_272_0)) x10
      (View.ld (View.canon (xOne x0 x1 x2 x3 x4 x5 x6 x7 x8 x9 x10 x11)) (Rect.unit ![272, 0] ![272, 1024] inb_S544x1024_S272x1024_272_0)) x11⟩ :: xOne x0 x1 x2 x3 x4 x5 x6 x7 x8 x9 x10 x11)

/-- What the channel mixer reads, of all 544 rows. -/
def hExt (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) (x12 : Vec F S1x1024 .f32) : Vec F S544x1024 .bf16 :=
  View.canon [⟨Rect.unit ![272, 0] ![272, 1024] inb_S544x1024_S272x1024_272_0,
      hHalf (View.ld (aExt x3 x4 x5) (Rect.unit ![272, 0] ![272, 512] inb_S544x512_S272x512_272_0)) x9 (View.ld (sExt x6 x7 x8) (Rect.unit ![272, 0] ![272, 1024] inb_S544x1024_S272x1024_272_0)) x10
        (View.ld (View.canon (xOne x0 x1 x2 x3 x4 x5 x6 x7 x8 x9 x10 x11)) (Rect.unit ![272, 0] ![272, 1024] inb_S544x1024_S272x1024_272_0)) x11 x12⟩,
    ⟨Rect.unit ![0, 0] ![272, 1024] inb_S544x1024_S272x1024_0_0,
      hHalf (View.ld (aExt x3 x4 x5) (Rect.unit ![0, 0] ![272, 512] inb_S544x512_S272x512_0_0)) x9 (View.ld (sExt x6 x7 x8) (Rect.unit ![0, 0] ![272, 1024] inb_S544x1024_S272x1024_0_0)) x10
        (View.ld (View.canon (xPieces x0 x1 x2)) (Rect.unit ![0, 0] ![272, 1024] inb_S544x1024_S272x1024_0_0)) x11 x12⟩]

/-- A block's number within its sequence of 16, as the body computes it. -/
def blockWord (i : grid0.Coords) : BitVec 32 :=
  Scalar.select
    (Scalar.andi (Scalar.xori (Scalar.cmpi .slt (Scalar.remsi (BitVec.ofNat 32 (i 0).val) 16#32) 0#32) 0#1)
      (Scalar.cmpi .ne (Scalar.remsi (BitVec.ofNat 32 (i 0).val) 16#32) 0#32))
    (Scalar.addi (Scalar.remsi (BitVec.ofNat 32 (i 0).val) 16#32) 16#32) (Scalar.remsi (BitVec.ofNat 32 (i 0).val) 16#32)

/-- A window of 256 of the 2816 lanes, over `n` rows from row `r`. -/
theorem lanes_inb {R n : ℕ} (r j : ℕ) (hr : r + n ≤ R) (hj : j < 11) :
    ∀ d, (![r, 256 * j] : Fin 2 → ℕ) d + (![n, 256] : Fin 2 → ℕ) d ≤ (⟨2, ![R, 2816]⟩ : Shape).size d := by
  intro d
  match d with
  | ⟨0, _⟩ => exact hr
  | ⟨1, _⟩ => show 256 * j + 256 ≤ 2816; omega

/-- The activation of 256 lanes, from the gate's values at the row before, the row itself and the row after. -/
def chunk (i : grid0.Coords) (u gp gc gn : FVec F S512x256 .f32) (t0 t1 t2 b : Vec F S1x256 .f32) : FVec F S512x256 .bf16 :=
  k0_pay75 u
    (k0_pay73 (k0_pay22 (blockWord i)) (k0_pay23 (blockWord i)) (iota .tc S512x256 32 [0] iota_S512x256_d0_w32) gp gc gn t0 t1 t2 b)
    (k0_pay74 (k0_pay22 (blockWord i)) (k0_pay23 (blockWord i)) (iota .tc S512x256 32 [0] iota_S512x256_d0_w32) gp gc gn t0 t1 t2 b)
    (Scalar.ofBits .f32 0x3F800000#32)

/-- The activation of 256 lanes, from what the channel mixer reads. -/
def lanes (i : grid0.Coords) (h : Vec F S544x1024 .bf16) (x13 x14 : Vec F S1024x2816 .bf16) (x16 : Vec F S3x2816 .f32)
    (x17 : Vec F S1x2816 .f32) (j : ℕ) (hj : j < 11) : FVec F S512x256 .bf16 :=
  chunk i
    (k0_pay25 (View.ld h (Rect.unit ![16, 0] ![512, 1024] inb_S544x1024_S512x1024_16_0))
      (View.ld x14 (Rect.unit ![0, 256 * j] ![1024, 256] (lanes_inb 0 j (by decide) hj))))
    (View.ld (Val := Elt F) (S := S544x256) (e' := .f32) (k0_pay24 h (View.ld x13 (Rect.unit ![0, 256 * j] ![1024, 256] (lanes_inb 0 j (by decide) hj))))
      (Rect.unit ![15, 0] ![512, 256] inb_S544x256_S512x256_15_0))
    (View.ld (Val := Elt F) (S := S544x256) (e' := .f32) (k0_pay24 h (View.ld x13 (Rect.unit ![0, 256 * j] ![1024, 256] (lanes_inb 0 j (by decide) hj))))
      (Rect.unit ![16, 0] ![512, 256] inb_S544x256_S512x256_16_0))
    (View.ld (Val := Elt F) (S := S544x256) (e' := .f32) (k0_pay24 h (View.ld x13 (Rect.unit ![0, 256 * j] ![1024, 256] (lanes_inb 0 j (by decide) hj))))
      (Rect.unit ![17, 0] ![512, 256] inb_S544x256_S512x256_17_0))
    (View.ld x16 (Rect.unit ![0, 256 * j] ![1, 256] (lanes_inb 0 j (by decide) hj)))
    (View.ld x16 (Rect.unit ![1, 256 * j] ![1, 256] (lanes_inb 1 j (by decide) hj)))
    (View.ld x16 (Rect.unit ![2, 256 * j] ![1, 256] (lanes_inb 2 j (by decide) hj)))
    (View.ld x17 (Rect.unit ![0, 256 * j] ![1, 256] (lanes_inb 0 j (by decide) hj)))

/-- The activation of all 2816 lanes. -/
def actAll (i : grid0.Coords) (h : Vec F S544x1024 .bf16) (x13 x14 : Vec F S1024x2816 .bf16) (x16 : Vec F S3x2816 .f32)
    (x17 : Vec F S1x2816 .f32) : Vec F S512x2816 .bf16 :=
  View.canon [⟨Rect.unit ![0, 2560] ![512, 256] inb_S512x2816_S512x256_0_2560, lanes i h x13 x14 x16 x17 10 (by decide)⟩,
    ⟨Rect.unit ![0, 2304] ![512, 256] inb_S512x2816_S512x256_0_2304, lanes i h x13 x14 x16 x17 9 (by decide)⟩,
    ⟨Rect.unit ![0, 2048] ![512, 256] inb_S512x2816_S512x256_0_2048, lanes i h x13 x14 x16 x17 8 (by decide)⟩,
    ⟨Rect.unit ![0, 1792] ![512, 256] inb_S512x2816_S512x256_0_1792, lanes i h x13 x14 x16 x17 7 (by decide)⟩,
    ⟨Rect.unit ![0, 1536] ![512, 256] inb_S512x2816_S512x256_0_1536, lanes i h x13 x14 x16 x17 6 (by decide)⟩,
    ⟨Rect.unit ![0, 1280] ![512, 256] inb_S512x2816_S512x256_0_1280, lanes i h x13 x14 x16 x17 5 (by decide)⟩,
    ⟨Rect.unit ![0, 1024] ![512, 256] inb_S512x2816_S512x256_0_1024, lanes i h x13 x14 x16 x17 4 (by decide)⟩,
    ⟨Rect.unit ![0, 768] ![512, 256] inb_S512x2816_S512x256_0_768, lanes i h x13 x14 x16 x17 3 (by decide)⟩,
    ⟨Rect.unit ![0, 512] ![512, 256] inb_S512x2816_S512x256_0_512, lanes i h x13 x14 x16 x17 2 (by decide)⟩,
    ⟨Rect.unit ![0, 256] ![512, 256] inb_S512x2816_S512x256_0_256, lanes i h x13 x14 x16 x17 1 (by decide)⟩,
    ⟨Rect.unit ![0, 0] ![512, 256] inb_S512x2816_S512x256_0_0, lanes i h x13 x14 x16 x17 0 (by decide)⟩]

/-- The down projection, normalised and added to the residual stream, of 256 rows. -/
def outRows (z : Vec F S256x2816 .bf16) (w : Vec F S2816x1024 .bf16) (x : Vec F S256x1024 .f32) (g : Vec F S1x1024 .f32) :
    FVec F S256x1024 .f32 := k0_pay76 z w x g

end Cert.Kernel2Ideal.Mix

end
end
-- ==== Proof.MixPieces.lean ====
/- The two pieces that the mixing kernel's body stores at one grid point are the rows of `MixBody`: the body's terms, folded from the
   inside out. -/
module

public import proofs.«01_k».proof.Proof.MixBody
public import Idealize.ShloMosaic.Lib.Pipeline.ValueKit.Basic

@[expose] public section

set_option maxRecDepth 65536

noncomputable section

namespace Cert.Kernel2Ideal.Mix

open Cert.Kernel2Ideal Cert.Kernel2Ideal.Gen Idealize.ShloMosaic Idealize.ShloMosaic.TcCoe Idealize.SL.Sem

variable {F : FTy → Type} [FloatOps F]

/-! ## Loads -/

theorem full16x1024 {Val : EltTy → Type} {e : EltTy} (x : S16x1024.Idx → Val e) :
    View.ld x (Rect.unit ![0, 0] ![16, 1024] inb_S16x1024_S16x1024_0_0) = x :=
  View.ld_unit_zero (by funext a; fin_cases a <;> rfl) _ _

theorem full512x1024 {Val : EltTy → Type} {e : EltTy} (x : S512x1024.Idx → Val e) :
    View.ld x (Rect.unit ![0, 0] ![512, 1024] inb_S512x1024_S512x1024_0_0) = x :=
  View.ld_unit_zero (by funext a; fin_cases a <;> rfl) _ _

theorem full16x512 {Val : EltTy → Type} {e : EltTy} (x : S16x512.Idx → Val e) :
    View.ld x (Rect.unit ![0, 0] ![16, 512] inb_S16x512_S16x512_0_0) = x :=
  View.ld_unit_zero (by funext a; fin_cases a <;> rfl) _ _

theorem full512x512 {Val : EltTy → Type} {e : EltTy} (x : S512x512.Idx → Val e) :
    View.ld x (Rect.unit ![0, 0] ![512, 512] inb_S512x512_S512x512_0_0) = x :=
  View.ld_unit_zero (by funext a; fin_cases a <;> rfl) _ _

theorem full1024x1024 {Val : EltTy → Type} {e : EltTy} (x : S1024x1024.Idx → Val e) :
    View.ld x (Rect.unit ![0, 0] ![1024, 1024] inb_S1024x1024_S1024x1024_0_0) = x :=
  View.ld_unit_zero (by funext a; fin_cases a <;> rfl) _ _

theorem full1x1024 {Val : EltTy → Type} {e : EltTy} (x : S1x1024.Idx → Val e) :
    View.ld x (Rect.unit ![0, 0] ![1, 1024] inb_S1x1024_S1x1024_0_0) = x :=
  View.ld_unit_zero (by funext a; fin_cases a <;> rfl) _ _

theorem full2816x1024 {Val : EltTy → Type} {e : EltTy} (x : S2816x1024.Idx → Val e) :
    View.ld x (Rect.unit ![0, 0] ![2816, 1024] inb_S2816x1024_S2816x1024_0_0) = x :=
  View.ld_unit_zero (by funext a; fin_cases a <;> rfl) _ _

theorem full544x1024 {Val : EltTy → Type} {e : EltTy} (x : S544x1024.Idx → Val e) :
    View.ld x (Rect.unit ![0, 0] ![544, 1024] inb_S544x1024_S544x1024_0_0) = x :=
  View.ld_unit_zero (by funext a; fin_cases a <;> rfl) _ _

/-- A store of the whole gate buffer hides the earlier ones. -/
theorem stored (Z : S544x256.Idx → Elt F .f32) (L : List (View.Piece (Elt F) S544x256 .f32)) :
    View.canon (⟨Rect.unit ![0, 0] ![544, 256] inb_S544x256_S544x256_0_0, Z⟩ :: L) = Z :=
  View.canon_cons_unit_zero (by funext a; fin_cases a <;> rfl) inb_S544x256_S544x256_0_0 Z L

theorem load_canon {s : Shape} {e : EltTy} {κ sp} (v : View sig κ sp s e)
    (L : List (View.Piece (Elt F) s e)) (r : Rect s) : v.readCov (Val := Elt F) L r.toLoadRect = View.ld (View.canon L) r :=
  View.readCov_eq_canon' v L r

/-! ## The 256 lanes' projections and activations -/

theorem gate35 (h : Vec F S544x1024 .bf16) (w : Vec F S1024x256 .bf16) :
    k0_pay35 h w =
      k0_pay24 h w := rfl

theorem gate40 (h : Vec F S544x1024 .bf16) (w : Vec F S1024x256 .bf16) :
    k0_pay40 h w =
      k0_pay24 h w := rfl

theorem gate44 (h : Vec F S544x1024 .bf16) (w : Vec F S1024x256 .bf16) :
    k0_pay44 h w =
      k0_pay24 h w := rfl

theorem gate47 (h : Vec F S544x1024 .bf16) (w : Vec F S1024x256 .bf16) :
    k0_pay47 h w =
      k0_pay24 h w := rfl

theorem gate52 (h : Vec F S544x1024 .bf16) (w : Vec F S1024x256 .bf16) :
    k0_pay52 h w =
      k0_pay24 h w := rfl

theorem gate56 (h : Vec F S544x1024 .bf16) (w : Vec F S1024x256 .bf16) :
    k0_pay56 h w =
      k0_pay24 h w := rfl

theorem gate61 (h : Vec F S544x1024 .bf16) (w : Vec F S1024x256 .bf16) :
    k0_pay61 h w =
      k0_pay24 h w := rfl

theorem gate65 (h : Vec F S544x1024 .bf16) (w : Vec F S1024x256 .bf16) :
    k0_pay65 h w =
      k0_pay24 h w := rfl

theorem gate70 (h : Vec F S544x1024 .bf16) (w : Vec F S1024x256 .bf16) :
    k0_pay70 h w =
      k0_pay24 h w := rfl

theorem gate30 (h : Vec F S544x1024 .bf16) (w : Vec F S1024x256 .bf16) :
    k0_pay30 (k0_pay29 h w) =
      k0_pay24 h w := rfl

theorem up31 (h : Vec F S512x1024 .bf16) (w : Vec F S1024x256 .bf16) :
    k0_pay31 h w =
      k0_pay25 h w := rfl

theorem up36 (h : Vec F S512x1024 .bf16) (w : Vec F S1024x256 .bf16) :
    k0_pay36 h w =
      k0_pay25 h w := rfl

theorem up41 (h : Vec F S512x1024 .bf16) (w : Vec F S1024x256 .bf16) :
    k0_pay41 h w =
      k0_pay25 h w := rfl

theorem up45 (h : Vec F S512x1024 .bf16) (w : Vec F S1024x256 .bf16) :
    k0_pay45 h w =
      k0_pay25 h w := rfl

theorem up48 (h : Vec F S512x1024 .bf16) (w : Vec F S1024x256 .bf16) :
    k0_pay48 h w =
      k0_pay25 h w := rfl

theorem up53 (h : Vec F S512x1024 .bf16) (w : Vec F S1024x256 .bf16) :
    k0_pay53 h w =
      k0_pay25 h w := rfl

theorem up57 (h : Vec F S512x1024 .bf16) (w : Vec F S1024x256 .bf16) :
    k0_pay57 h w =
      k0_pay25 h w := rfl

theorem up62 (h : Vec F S512x1024 .bf16) (w : Vec F S1024x256 .bf16) :
    k0_pay62 h w =
      k0_pay25 h w := rfl

theorem up66 (h : Vec F S512x1024 .bf16) (w : Vec F S1024x256 .bf16) :
    k0_pay66 h w =
      k0_pay25 h w := rfl

theorem up71 (h : Vec F S512x1024 .bf16) (w : Vec F S1024x256 .bf16) :
    k0_pay71 h w =
      k0_pay25 h w := rfl

theorem word (i : grid0.Coords) :
    Scalar.select
      (Scalar.andi (Scalar.xori (Scalar.cmpi .slt (Scalar.remsi (BitVec.ofNat 32 (i 0).val) 16#32) 0#32) 0#1)
        (Scalar.cmpi .ne (Scalar.remsi (BitVec.ofNat 32 (i 0).val) 16#32) 0#32))
      (Scalar.addi (Scalar.remsi (BitVec.ofNat 32 (i 0).val) 16#32) 16#32) (Scalar.remsi (BitVec.ofNat 32 (i 0).val) 16#32) =
      blockWord i := rfl

theorem chunk0 (i : grid0.Coords) (u gp gc gn : FVec F S512x256 .f32) (t0 t1 t2 b : Vec F S1x256 .f32) :
    k0_pay28 (k0_pay23 (blockWord i)) (iota .tc S512x256 32 (@List.cons (Fin 2) (0 : Fin S512x256.rank) (@List.nil (Fin 2))) iota_S512x256_d0_w32) u gc gn (k0_pay26 (blockWord i) gp) k0_pay27 t0 t1 t2 b =
      chunk i u gp gc gn t0 t1 t2 b := rfl

theorem chunk1 (i : grid0.Coords) (u gp gc gn : FVec F S512x256 .f32) (t0 t1 t2 b : Vec F S1x256 .f32) :
    k0_pay34 u (k0_pay32 (k0_pay22 (blockWord i)) (k0_pay23 (blockWord i)) (iota .tc S512x256 32 (@List.cons (Fin 2) (0 : Fin S512x256.rank) (@List.nil (Fin 2))) iota_S512x256_d0_w32) gp gc gn t0 t1 t2 b) k0_pay33 =
      chunk i u gp gc gn t0 t1 t2 b := rfl

theorem chunk2 (i : grid0.Coords) (u gp gc gn : FVec F S512x256 .f32) (t0 t1 t2 b : Vec F S1x256 .f32) :
    k0_pay39 (k0_pay23 (blockWord i)) (iota .tc S512x256 32 (@List.cons (Fin 2) (0 : Fin S512x256.rank) (@List.nil (Fin 2))) iota_S512x256_d0_w32) u gp gc gn (k0_pay37 (iota .tc S512x256 32 (@List.cons (Fin 2) (0 : Fin S512x256.rank) (@List.nil (Fin 2))) iota_S512x256_d0_w32)) (k0_pay38 (k0_pay22 (blockWord i))) t0 t1 t2 b =
      chunk i u gp gc gn t0 t1 t2 b := rfl

theorem chunk3 (i : grid0.Coords) (u gp gc gn : FVec F S512x256 .f32) (t0 t1 t2 b : Vec F S1x256 .f32) :
    k0_pay43 u (k0_pay42 (k0_pay22 (blockWord i)) (k0_pay23 (blockWord i)) (iota .tc S512x256 32 (@List.cons (Fin 2) (0 : Fin S512x256.rank) (@List.nil (Fin 2))) iota_S512x256_d0_w32) gp gc gn t0 t1 t2) b =
      chunk i u gp gc gn t0 t1 t2 b := rfl

theorem chunk4 (i : grid0.Coords) (u gp gc gn : FVec F S512x256 .f32) (t0 t1 t2 b : Vec F S1x256 .f32) :
    k0_pay46 (k0_pay22 (blockWord i)) (k0_pay23 (blockWord i)) (iota .tc S512x256 32 (@List.cons (Fin 2) (0 : Fin S512x256.rank) (@List.nil (Fin 2))) iota_S512x256_d0_w32) u gp gc gn t0 t1 t2 b =
      chunk i u gp gc gn t0 t1 t2 b := rfl

theorem chunk5 (i : grid0.Coords) (u gp gc gn : FVec F S512x256 .f32) (t0 t1 t2 b : Vec F S1x256 .f32) :
    k0_pay51 u (k0_pay49 (k0_pay22 (blockWord i)) (iota .tc S512x256 32 (@List.cons (Fin 2) (0 : Fin S512x256.rank) (@List.nil (Fin 2))) iota_S512x256_d0_w32) gp gc t0 t1) (k0_pay50 (k0_pay23 (blockWord i)) (iota .tc S512x256 32 (@List.cons (Fin 2) (0 : Fin S512x256.rank) (@List.nil (Fin 2))) iota_S512x256_d0_w32) gn t2) b =
      chunk i u gp gc gn t0 t1 t2 b := rfl

theorem chunk6 (i : grid0.Coords) (u gp gc gn : FVec F S512x256 .f32) (t0 t1 t2 b : Vec F S1x256 .f32) :
    k0_pay55 (k0_pay54 (k0_pay22 (blockWord i)) (k0_pay23 (blockWord i)) (iota .tc S512x256 32 (@List.cons (Fin 2) (0 : Fin S512x256.rank) (@List.nil (Fin 2))) iota_S512x256_d0_w32) u gp gc gn t0 t1 t2 b) =
      chunk i u gp gc gn t0 t1 t2 b := rfl

theorem chunk7 (i : grid0.Coords) (u gp gc gn : FVec F S512x256 .f32) (t0 t1 t2 b : Vec F S1x256 .f32) :
    k0_pay60 u (k0_pay58 (k0_pay23 (blockWord i)) (iota .tc S512x256 32 (@List.cons (Fin 2) (0 : Fin S512x256.rank) (@List.nil (Fin 2))) iota_S512x256_d0_w32) gn) (k0_pay59 (k0_pay22 (blockWord i)) (iota .tc S512x256 32 (@List.cons (Fin 2) (0 : Fin S512x256.rank) (@List.nil (Fin 2))) iota_S512x256_d0_w32) gp gc t0 t1) t2 b =
      chunk i u gp gc gn t0 t1 t2 b := rfl

theorem chunk8 (i : grid0.Coords) (u gp gc gn : FVec F S512x256 .f32) (t0 t1 t2 b : Vec F S1x256 .f32) :
    k0_pay64 (k0_pay63 (k0_pay22 (blockWord i)) (k0_pay23 (blockWord i)) (iota .tc S512x256 32 (@List.cons (Fin 2) (0 : Fin S512x256.rank) (@List.nil (Fin 2))) iota_S512x256_d0_w32) u gp gc gn t0 t1 t2 b) =
      chunk i u gp gc gn t0 t1 t2 b := rfl

theorem chunk9 (i : grid0.Coords) (u gp gc gn : FVec F S512x256 .f32) (t0 t1 t2 b : Vec F S1x256 .f32) :
    k0_pay69 u gc (k0_pay67 (k0_pay23 (blockWord i)) (iota .tc S512x256 32 (@List.cons (Fin 2) (0 : Fin S512x256.rank) (@List.nil (Fin 2))) iota_S512x256_d0_w32) gn) (k0_pay68 (k0_pay22 (blockWord i)) (iota .tc S512x256 32 (@List.cons (Fin 2) (0 : Fin S512x256.rank) (@List.nil (Fin 2))) iota_S512x256_d0_w32) gp t0) t1 t2 b =
      chunk i u gp gc gn t0 t1 t2 b := rfl

theorem chunk10 (i : grid0.Coords) (u gp gc gn : FVec F S512x256 .f32) (t0 t1 t2 b : Vec F S1x256 .f32) :
    k0_pay75 u (k0_pay73 (k0_pay22 (blockWord i)) (k0_pay23 (blockWord i)) (iota .tc S512x256 32 (@List.cons (Fin 2) (0 : Fin S512x256.rank) (@List.nil (Fin 2))) iota_S512x256_d0_w32) gp gc gn t0 t1 t2 b)
      (k0_pay74 (k0_pay22 (blockWord i)) (k0_pay23 (blockWord i)) (iota .tc S512x256 32 (@List.cons (Fin 2) (0 : Fin S512x256.rank) (@List.nil (Fin 2))) iota_S512x256_d0_w32) gp gc gn t0 t1 t2 b) (FloatOps.ofBits .f32 0x3F800000#32) =
      chunk i u gp gc gn t0 t1 t2 b := rfl

theorem lanes0 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 0] ![1024, 256] inb_S1024x2816_S1024x256_0_0)))
      (View.ld (Val := Elt F) (S := S544x256) (e' := .f32) (k0_pay24 h (View.ld x13 (Rect.unit ![0, 0] ![1024, 256] inb_S1024x2816_S1024x256_0_0))) (Rect.unit ![15, 0] ![512, 256] inb_S544x256_S512x256_15_0))
      (View.ld (Val := Elt F) (S := S544x256) (e' := .f32) (k0_pay24 h (View.ld x13 (Rect.unit ![0, 0] ![1024, 256] inb_S1024x2816_S1024x256_0_0))) (Rect.unit ![16, 0] ![512, 256] inb_S544x256_S512x256_16_0))
      (View.ld (Val := Elt F) (S := S544x256) (e' := .f32) (k0_pay24 h (View.ld x13 (Rect.unit ![0, 0] ![1024, 256] inb_S1024x2816_S1024x256_0_0))) (Rect.unit ![17, 0] ![512, 256] inb_S544x256_S512x256_17_0))
      (View.ld x16 (Rect.unit ![0, 0] ![1, 256] inb_S3x2816_S1x256_0_0)) (View.ld x16 (Rect.unit ![1, 0] ![1, 256] inb_S3x2816_S1x256_1_0))
      (View.ld x16 (Rect.unit ![2, 0] ![1, 256] inb_S3x2816_S1x256_2_0)) (View.ld x17 (Rect.unit ![0, 0] ![1, 256] inb_S1x2816_S1x256_0_0)) =
      lanes i h x13 x14 x16 x17 0 (by decide) := rfl

theorem lanes1 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 256] ![1024, 256] inb_S1024x2816_S1024x256_0_256)))
      (View.ld (Val := Elt F) (S := S544x256) (e' := .f32) (k0_pay24 h (View.ld x13 (Rect.unit ![0, 256] ![1024, 256] inb_S1024x2816_S1024x256_0_256))) (Rect.unit ![15, 0] ![512, 256] inb_S544x256_S512x256_15_0))
      (View.ld (Val := Elt F) (S := S544x256) (e' := .f32) (k0_pay24 h (View.ld x13 (Rect.unit ![0, 256] ![1024, 256] inb_S1024x2816_S1024x256_0_256))) (Rect.unit ![16, 0] ![512, 256] inb_S544x256_S512x256_16_0))
      (View.ld (Val := Elt F) (S := S544x256) (e' := .f32) (k0_pay24 h (View.ld x13 (Rect.unit ![0, 256] ![1024, 256] inb_S1024x2816_S1024x256_0_256))) (Rect.unit ![17, 0] ![512, 256] inb_S544x256_S512x256_17_0))
      (View.ld x16 (Rect.unit ![0, 256] ![1, 256] inb_S3x2816_S1x256_0_256)) (View.ld x16 (Rect.unit ![1, 256] ![1, 256] inb_S3x2816_S1x256_1_256))
      (View.ld x16 (Rect.unit ![2, 256] ![1, 256] inb_S3x2816_S1x256_2_256)) (View.ld x17 (Rect.unit ![0, 256] ![1, 256] inb_S1x2816_S1x256_0_256)) =
      lanes i h x13 x14 x16 x17 1 (by decide) := rfl

theorem lanes2 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 512] ![1024, 256] inb_S1024x2816_S1024x256_0_512)))
      (View.ld (Val := Elt F) (S := S544x256) (e' := .f32) (k0_pay24 h (View.ld x13 (Rect.unit ![0, 512] ![1024, 256] inb_S1024x2816_S1024x256_0_512))) (Rect.unit ![15, 0] ![512, 256] inb_S544x256_S512x256_15_0))
      (View.ld (Val := Elt F) (S := S544x256) (e' := .f32) (k0_pay24 h (View.ld x13 (Rect.unit ![0, 512] ![1024, 256] inb_S1024x2816_S1024x256_0_512))) (Rect.unit ![16, 0] ![512, 256] inb_S544x256_S512x256_16_0))
      (View.ld (Val := Elt F) (S := S544x256) (e' := .f32) (k0_pay24 h (View.ld x13 (Rect.unit ![0, 512] ![1024, 256] inb_S1024x2816_S1024x256_0_512))) (Rect.unit ![17, 0] ![512, 256] inb_S544x256_S512x256_17_0))
      (View.ld x16 (Rect.unit ![0, 512] ![1, 256] inb_S3x2816_S1x256_0_512)) (View.ld x16 (Rect.unit ![1, 512] ![1, 256] inb_S3x2816_S1x256_1_512))
      (View.ld x16 (Rect.unit ![2, 512] ![1, 256] inb_S3x2816_S1x256_2_512)) (View.ld x17 (Rect.unit ![0, 512] ![1, 256] inb_S1x2816_S1x256_0_512)) =
      lanes i h x13 x14 x16 x17 2 (by decide) := rfl

theorem lanes3 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 768] ![1024, 256] inb_S1024x2816_S1024x256_0_768)))
      (View.ld (Val := Elt F) (S := S544x256) (e' := .f32) (k0_pay24 h (View.ld x13 (Rect.unit ![0, 768] ![1024, 256] inb_S1024x2816_S1024x256_0_768))) (Rect.unit ![15, 0] ![512, 256] inb_S544x256_S512x256_15_0))
      (View.ld (Val := Elt F) (S := S544x256) (e' := .f32) (k0_pay24 h (View.ld x13 (Rect.unit ![0, 768] ![1024, 256] inb_S1024x2816_S1024x256_0_768))) (Rect.unit ![16, 0] ![512, 256] inb_S544x256_S512x256_16_0))
      (View.ld (Val := Elt F) (S := S544x256) (e' := .f32) (k0_pay24 h (View.ld x13 (Rect.unit ![0, 768] ![1024, 256] inb_S1024x2816_S1024x256_0_768))) (Rect.unit ![17, 0] ![512, 256] inb_S544x256_S512x256_17_0))
      (View.ld x16 (Rect.unit ![0, 768] ![1, 256] inb_S3x2816_S1x256_0_768)) (View.ld x16 (Rect.unit ![1, 768] ![1, 256] inb_S3x2816_S1x256_1_768))
      (View.ld x16 (Rect.unit ![2, 768] ![1, 256] inb_S3x2816_S1x256_2_768)) (View.ld x17 (Rect.unit ![0, 768] ![1, 256] inb_S1x2816_S1x256_0_768)) =
      lanes i h x13 x14 x16 x17 3 (by decide) := rfl

theorem lanes4 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 1024] ![1024, 256] inb_S1024x2816_S1024x256_0_1024)))
      (View.ld (Val := Elt F) (S := S544x256) (e' := .f32) (k0_pay24 h (View.ld x13 (Rect.unit ![0, 1024] ![1024, 256] inb_S1024x2816_S1024x256_0_1024))) (Rect.unit ![15, 0] ![512, 256] inb_S544x256_S512x256_15_0))
      (View.ld (Val := Elt F) (S := S544x256) (e' := .f32) (k0_pay24 h (View.ld x13 (Rect.unit ![0, 1024] ![1024, 256] inb_S1024x2816_S1024x256_0_1024))) (Rect.unit ![16, 0] ![512, 256] inb_S544x256_S512x256_16_0))
      (View.ld (Val := Elt F) (S := S544x256) (e' := .f32) (k0_pay24 h (View.ld x13 (Rect.unit ![0, 1024] ![1024, 256] inb_S1024x2816_S1024x256_0_1024))) (Rect.unit ![17, 0] ![512, 256] inb_S544x256_S512x256_17_0))
      (View.ld x16 (Rect.unit ![0, 1024] ![1, 256] inb_S3x2816_S1x256_0_1024)) (View.ld x16 (Rect.unit ![1, 1024] ![1, 256] inb_S3x2816_S1x256_1_1024))
      (View.ld x16 (Rect.unit ![2, 1024] ![1, 256] inb_S3x2816_S1x256_2_1024)) (View.ld x17 (Rect.unit ![0, 1024] ![1, 256] inb_S1x2816_S1x256_0_1024)) =
      lanes i h x13 x14 x16 x17 4 (by decide) := rfl

theorem lanes5 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 1280] ![1024, 256] inb_S1024x2816_S1024x256_0_1280)))
      (View.ld (Val := Elt F) (S := S544x256) (e' := .f32) (k0_pay24 h (View.ld x13 (Rect.unit ![0, 1280] ![1024, 256] inb_S1024x2816_S1024x256_0_1280))) (Rect.unit ![15, 0] ![512, 256] inb_S544x256_S512x256_15_0))
      (View.ld (Val := Elt F) (S := S544x256) (e' := .f32) (k0_pay24 h (View.ld x13 (Rect.unit ![0, 1280] ![1024, 256] inb_S1024x2816_S1024x256_0_1280))) (Rect.unit ![16, 0] ![512, 256] inb_S544x256_S512x256_16_0))
      (View.ld (Val := Elt F) (S := S544x256) (e' := .f32) (k0_pay24 h (View.ld x13 (Rect.unit ![0, 1280] ![1024, 256] inb_S1024x2816_S1024x256_0_1280))) (Rect.unit ![17, 0] ![512, 256] inb_S544x256_S512x256_17_0))
      (View.ld x16 (Rect.unit ![0, 1280] ![1, 256] inb_S3x2816_S1x256_0_1280)) (View.ld x16 (Rect.unit ![1, 1280] ![1, 256] inb_S3x2816_S1x256_1_1280))
      (View.ld x16 (Rect.unit ![2, 1280] ![1, 256] inb_S3x2816_S1x256_2_1280)) (View.ld x17 (Rect.unit ![0, 1280] ![1, 256] inb_S1x2816_S1x256_0_1280)) =
      lanes i h x13 x14 x16 x17 5 (by decide) := rfl

theorem lanes6 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 1536] ![1024, 256] inb_S1024x2816_S1024x256_0_1536)))
      (View.ld (Val := Elt F) (S := S544x256) (e' := .f32) (k0_pay24 h (View.ld x13 (Rect.unit ![0, 1536] ![1024, 256] inb_S1024x2816_S1024x256_0_1536))) (Rect.unit ![15, 0] ![512, 256] inb_S544x256_S512x256_15_0))
      (View.ld (Val := Elt F) (S := S544x256) (e' := .f32) (k0_pay24 h (View.ld x13 (Rect.unit ![0, 1536] ![1024, 256] inb_S1024x2816_S1024x256_0_1536))) (Rect.unit ![16, 0] ![512, 256] inb_S544x256_S512x256_16_0))
      (View.ld (Val := Elt F) (S := S544x256) (e' := .f32) (k0_pay24 h (View.ld x13 (Rect.unit ![0, 1536] ![1024, 256] inb_S1024x2816_S1024x256_0_1536))) (Rect.unit ![17, 0] ![512, 256] inb_S544x256_S512x256_17_0))
      (View.ld x16 (Rect.unit ![0, 1536] ![1, 256] inb_S3x2816_S1x256_0_1536)) (View.ld x16 (Rect.unit ![1, 1536] ![1, 256] inb_S3x2816_S1x256_1_1536))
      (View.ld x16 (Rect.unit ![2, 1536] ![1, 256] inb_S3x2816_S1x256_2_1536)) (View.ld x17 (Rect.unit ![0, 1536] ![1, 256] inb_S1x2816_S1x256_0_1536)) =
      lanes i h x13 x14 x16 x17 6 (by decide) := rfl

theorem lanes7 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 1792] ![1024, 256] inb_S1024x2816_S1024x256_0_1792)))
      (View.ld (Val := Elt F) (S := S544x256) (e' := .f32) (k0_pay24 h (View.ld x13 (Rect.unit ![0, 1792] ![1024, 256] inb_S1024x2816_S1024x256_0_1792))) (Rect.unit ![15, 0] ![512, 256] inb_S544x256_S512x256_15_0))
      (View.ld (Val := Elt F) (S := S544x256) (e' := .f32) (k0_pay24 h (View.ld x13 (Rect.unit ![0, 1792] ![1024, 256] inb_S1024x2816_S1024x256_0_1792))) (Rect.unit ![16, 0] ![512, 256] inb_S544x256_S512x256_16_0))
      (View.ld (Val := Elt F) (S := S544x256) (e' := .f32) (k0_pay24 h (View.ld x13 (Rect.unit ![0, 1792] ![1024, 256] inb_S1024x2816_S1024x256_0_1792))) (Rect.unit ![17, 0] ![512, 256] inb_S544x256_S512x256_17_0))
      (View.ld x16 (Rect.unit ![0, 1792] ![1, 256] inb_S3x2816_S1x256_0_1792)) (View.ld x16 (Rect.unit ![1, 1792] ![1, 256] inb_S3x2816_S1x256_1_1792))
      (View.ld x16 (Rect.unit ![2, 1792] ![1, 256] inb_S3x2816_S1x256_2_1792)) (View.ld x17 (Rect.unit ![0, 1792] ![1, 256] inb_S1x2816_S1x256_0_1792)) =
      lanes i h x13 x14 x16 x17 7 (by decide) := rfl

theorem lanes8 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 2048] ![1024, 256] inb_S1024x2816_S1024x256_0_2048)))
      (View.ld (Val := Elt F) (S := S544x256) (e' := .f32) (k0_pay24 h (View.ld x13 (Rect.unit ![0, 2048] ![1024, 256] inb_S1024x2816_S1024x256_0_2048))) (Rect.unit ![15, 0] ![512, 256] inb_S544x256_S512x256_15_0))
      (View.ld (Val := Elt F) (S := S544x256) (e' := .f32) (k0_pay24 h (View.ld x13 (Rect.unit ![0, 2048] ![1024, 256] inb_S1024x2816_S1024x256_0_2048))) (Rect.unit ![16, 0] ![512, 256] inb_S544x256_S512x256_16_0))
      (View.ld (Val := Elt F) (S := S544x256) (e' := .f32) (k0_pay24 h (View.ld x13 (Rect.unit ![0, 2048] ![1024, 256] inb_S1024x2816_S1024x256_0_2048))) (Rect.unit ![17, 0] ![512, 256] inb_S544x256_S512x256_17_0))
      (View.ld x16 (Rect.unit ![0, 2048] ![1, 256] inb_S3x2816_S1x256_0_2048)) (View.ld x16 (Rect.unit ![1, 2048] ![1, 256] inb_S3x2816_S1x256_1_2048))
      (View.ld x16 (Rect.unit ![2, 2048] ![1, 256] inb_S3x2816_S1x256_2_2048)) (View.ld x17 (Rect.unit ![0, 2048] ![1, 256] inb_S1x2816_S1x256_0_2048)) =
      lanes i h x13 x14 x16 x17 8 (by decide) := rfl

theorem lanes9 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 2304] ![1024, 256] inb_S1024x2816_S1024x256_0_2304)))
      (View.ld (Val := Elt F) (S := S544x256) (e' := .f32) (k0_pay24 h (View.ld x13 (Rect.unit ![0, 2304] ![1024, 256] inb_S1024x2816_S1024x256_0_2304))) (Rect.unit ![15, 0] ![512, 256] inb_S544x256_S512x256_15_0))
      (View.ld (Val := Elt F) (S := S544x256) (e' := .f32) (k0_pay24 h (View.ld x13 (Rect.unit ![0, 2304] ![1024, 256] inb_S1024x2816_S1024x256_0_2304))) (Rect.unit ![16, 0] ![512, 256] inb_S544x256_S512x256_16_0))
      (View.ld (Val := Elt F) (S := S544x256) (e' := .f32) (k0_pay24 h (View.ld x13 (Rect.unit ![0, 2304] ![1024, 256] inb_S1024x2816_S1024x256_0_2304))) (Rect.unit ![17, 0] ![512, 256] inb_S544x256_S512x256_17_0))
      (View.ld x16 (Rect.unit ![0, 2304] ![1, 256] inb_S3x2816_S1x256_0_2304)) (View.ld x16 (Rect.unit ![1, 2304] ![1, 256] inb_S3x2816_S1x256_1_2304))
      (View.ld x16 (Rect.unit ![2, 2304] ![1, 256] inb_S3x2816_S1x256_2_2304)) (View.ld x17 (Rect.unit ![0, 2304] ![1, 256] inb_S1x2816_S1x256_0_2304)) =
      lanes i h x13 x14 x16 x17 9 (by decide) := rfl

theorem lanes10 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 2560] ![1024, 256] inb_S1024x2816_S1024x256_0_2560)))
      (View.ld (Val := Elt F) (S := S544x256) (e' := .f32) (k0_pay24 h (View.ld x13 (Rect.unit ![0, 2560] ![1024, 256] inb_S1024x2816_S1024x256_0_2560))) (Rect.unit ![15, 0] ![512, 256] inb_S544x256_S512x256_15_0))
      (View.ld (Val := Elt F) (S := S544x256) (e' := .f32) (k0_pay24 h (View.ld x13 (Rect.unit ![0, 2560] ![1024, 256] inb_S1024x2816_S1024x256_0_2560))) (Rect.unit ![16, 0] ![512, 256] inb_S544x256_S512x256_16_0))
      (View.ld (Val := Elt F) (S := S544x256) (e' := .f32) (k0_pay24 h (View.ld x13 (Rect.unit ![0, 2560] ![1024, 256] inb_S1024x2816_S1024x256_0_2560))) (Rect.unit ![17, 0] ![512, 256] inb_S544x256_S512x256_17_0))
      (View.ld x16 (Rect.unit ![0, 2560] ![1, 256] inb_S3x2816_S1x256_0_2560)) (View.ld x16 (Rect.unit ![1, 2560] ![1, 256] inb_S3x2816_S1x256_1_2560))
      (View.ld x16 (Rect.unit ![2, 2560] ![1, 256] inb_S3x2816_S1x256_2_2560)) (View.ld x17 (Rect.unit ![0, 2560] ![1, 256] inb_S1x2816_S1x256_0_2560)) =
      lanes i h x13 x14 x16 x17 10 (by decide) := rfl

theorem all_lanes (i : grid0.Coords) (h : Vec F S544x1024 .bf16) (x13 x14 : Vec F S1024x2816 .bf16) (x16 : Vec F S3x2816 .f32) (x17 : Vec F S1x2816 .f32) :
    View.canon [⟨Rect.unit ![0, 2560] ![512, 256] inb_S512x2816_S512x256_0_2560, lanes i h x13 x14 x16 x17 10 (by decide)⟩,
      ⟨Rect.unit ![0, 2304] ![512, 256] inb_S512x2816_S512x256_0_2304, lanes i h x13 x14 x16 x17 9 (by decide)⟩,
      ⟨Rect.unit ![0, 2048] ![512, 256] inb_S512x2816_S512x256_0_2048, lanes i h x13 x14 x16 x17 8 (by decide)⟩,
      ⟨Rect.unit ![0, 1792] ![512, 256] inb_S512x2816_S512x256_0_1792, lanes i h x13 x14 x16 x17 7 (by decide)⟩,
      ⟨Rect.unit ![0, 1536] ![512, 256] inb_S512x2816_S512x256_0_1536, lanes i h x13 x14 x16 x17 6 (by decide)⟩,
      ⟨Rect.unit ![0, 1280] ![512, 256] inb_S512x2816_S512x256_0_1280, lanes i h x13 x14 x16 x17 5 (by decide)⟩,
      ⟨Rect.unit ![0, 1024] ![512, 256] inb_S512x2816_S512x256_0_1024, lanes i h x13 x14 x16 x17 4 (by decide)⟩,
      ⟨Rect.unit ![0, 768] ![512, 256] inb_S512x2816_S512x256_0_768, lanes i h x13 x14 x16 x17 3 (by decide)⟩,
      ⟨Rect.unit ![0, 512] ![512, 256] inb_S512x2816_S512x256_0_512, lanes i h x13 x14 x16 x17 2 (by decide)⟩,
      ⟨Rect.unit ![0, 256] ![512, 256] inb_S512x2816_S512x256_0_256, lanes i h x13 x14 x16 x17 1 (by decide)⟩,
      ⟨Rect.unit ![0, 0] ![512, 256] inb_S512x2816_S512x256_0_0, lanes i h x13 x14 x16 x17 0 (by decide)⟩] =
      actAll i h x13 x14 x16 x17 := rfl

/-! ## The rows -/

theorem rows_a (x3 : Vec F S16x512 .bf16) (x4 : Vec F S512x512 .bf16) (x5 : Vec F S16x512 .bf16) :
    View.canon [⟨Rect.unit ![528, 0] ![16, 512] inb_S544x512_S16x512_528_0, k0_pay8 x5⟩,
    ⟨Rect.unit ![16, 0] ![512, 512] inb_S544x512_S512x512_16_0, k0_pay7 (k0_pay6 x4)⟩,
    ⟨Rect.unit ![0, 0] ![16, 512] inb_S544x512_S16x512_0_0, k0_pay5 x3⟩] =
      aExt x3 x4 x5 := rfl

theorem rows_s (x6 : Vec F S16x1024 .bf16) (x7 : Vec F S512x1024 .bf16) (x8 : Vec F S16x1024 .bf16) :
    View.canon [⟨Rect.unit ![528, 0] ![16, 1024] inb_S544x1024_S16x1024_528_0, k0_pay11 x8⟩,
    ⟨Rect.unit ![16, 0] ![512, 1024] inb_S544x1024_S512x1024_16_0, k0_pay10 x7⟩,
    ⟨Rect.unit ![0, 0] ![16, 1024] inb_S544x1024_S16x1024_0_0, k0_pay9 x6⟩] =
      sExt x6 x7 x8 := rfl

theorem rows_x (x0 : Vec F S16x1024 .f32) (x1 : Vec F S512x1024 .f32) (x2 : Vec F S16x1024 .f32) :
    ([⟨Rect.unit ![528, 0] ![16, 1024] inb_S544x1024_S16x1024_528_0, k0_pay4 x2⟩,
    ⟨Rect.unit ![16, 0] ![512, 1024] inb_S544x1024_S512x1024_16_0, k0_pay3 x1⟩,
    ⟨Rect.unit ![0, 0] ![16, 1024] inb_S544x1024_S16x1024_0_0, k0_pay2 x0⟩] : List (View.Piece (Elt F) S544x1024 .f32)) =
      xPieces x0 x1 x2 := rfl

theorem half_x0 (a : Vec F S272x512 .bf16) (wa : Vec F S512x1024 .bf16) (s : Vec F S272x1024 .bf16) (ws : Vec F S1024x1024 .bf16) (x : Vec F S272x1024 .f32) (g : Vec F S1x1024 .f32) :
    k0_pay15 (k0_pay12 a wa) s (k0_pay13 ws) x g =
      x1Half a wa s ws x g := rfl

theorem half_x1 (a : Vec F S272x512 .bf16) (wa : Vec F S512x1024 .bf16) (s : Vec F S272x1024 .bf16) (ws : Vec F S1024x1024 .bf16) (x : Vec F S272x1024 .f32) (g : Vec F S1x1024 .f32) :
    k0_pay18 a wa s ws x g =
      x1Half a wa s ws x g := rfl

theorem half_h0 (a : Vec F S272x512 .bf16) (wa : Vec F S512x1024 .bf16) (s : Vec F S272x1024 .bf16) (ws : Vec F S1024x1024 .bf16) (x : Vec F S272x1024 .f32) (g : Vec F S1x1024 .f32) (g' : Vec F S1x1024 .f32) :
    k0_pay16 (k0_pay12 a wa) s (k0_pay13 ws) x g g' =
      hHalf a wa s ws x g g' := rfl

theorem half_h1 (a : Vec F S272x512 .bf16) (wa : Vec F S512x1024 .bf16) (s : Vec F S272x1024 .bf16) (ws : Vec F S1024x1024 .bf16) (x : Vec F S272x1024 .f32) (g : Vec F S1x1024 .f32) (g' : Vec F S1x1024 .f32) :
    k0_pay21 (k0_pay19 a wa s ws x g) (k0_pay20 g') =
      hHalf a wa s ws x g g' := rfl

theorem rows_x1 (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) :
    ((⟨Rect.unit ![0, 0] ![272, 1024] inb_S544x1024_S272x1024_0_0,
    x1Half (View.ld (aExt x3 x4 x5) (Rect.unit ![0, 0] ![272, 512] inb_S544x512_S272x512_0_0)) x9 (View.ld (sExt x6 x7 x8) (Rect.unit ![0, 0] ![272, 1024] inb_S544x1024_S272x1024_0_0)) x10
      (View.ld (View.canon (xPieces x0 x1 x2)) (Rect.unit ![0, 0] ![272, 1024] inb_S544x1024_S272x1024_0_0)) x11⟩ :: xPieces x0 x1 x2) : List (View.Piece (Elt F) S544x1024 .f32)) =
      xOne x0 x1 x2 x3 x4 x5 x6 x7 x8 x9 x10 x11 := rfl

theorem rows_x2 (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) :
    View.canon (⟨Rect.unit ![272, 0] ![272, 1024] inb_S544x1024_S272x1024_272_0,
    x1Half (View.ld (aExt x3 x4 x5) (Rect.unit ![272, 0] ![272, 512] inb_S544x512_S272x512_272_0)) x9 (View.ld (sExt x6 x7 x8) (Rect.unit ![272, 0] ![272, 1024] inb_S544x1024_S272x1024_272_0)) x10
      (View.ld (View.canon (xOne x0 x1 x2 x3 x4 x5 x6 x7 x8 x9 x10 x11)) (Rect.unit ![272, 0] ![272, 1024] inb_S544x1024_S272x1024_272_0)) x11⟩ :: xOne x0 x1 x2 x3 x4 x5 x6 x7 x8 x9 x10 x11) =
      xTwo x0 x1 x2 x3 x4 x5 x6 x7 x8 x9 x10 x11 := rfl

theorem rows_h (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) (x12 : Vec F S1x1024 .f32) :
    View.canon [⟨Rect.unit ![272, 0] ![272, 1024] inb_S544x1024_S272x1024_272_0,
      hHalf (View.ld (aExt x3 x4 x5) (Rect.unit ![272, 0] ![272, 512] inb_S544x512_S272x512_272_0)) x9 (View.ld (sExt x6 x7 x8) (Rect.unit ![272, 0] ![272, 1024] inb_S544x1024_S272x1024_272_0)) x10
        (View.ld (View.canon (xOne x0 x1 x2 x3 x4 x5 x6 x7 x8 x9 x10 x11)) (Rect.unit ![272, 0] ![272, 1024] inb_S544x1024_S272x1024_272_0)) x11 x12⟩,
    ⟨Rect.unit ![0, 0] ![272, 1024] inb_S544x1024_S272x1024_0_0,
      hHalf (View.ld (aExt x3 x4 x5) (Rect.unit ![0, 0] ![272, 512] inb_S544x512_S272x512_0_0)) x9 (View.ld (sExt x6 x7 x8) (Rect.unit ![0, 0] ![272, 1024] inb_S544x1024_S272x1024_0_0)) x10
        (View.ld (View.canon (xPieces x0 x1 x2)) (Rect.unit ![0, 0] ![272, 1024] inb_S544x1024_S272x1024_0_0)) x11 x12⟩] =
      hExt x0 x1 x2 x3 x4 x5 x6 x7 x8 x9 x10 x11 x12 := rfl

theorem out_low (z : Vec F S256x2816 .bf16) (w : Vec F S2816x1024 .bf16) (x : Vec F S256x1024 .f32) (g : Vec F S1x1024 .f32) :
    k0_pay76 z w x g =
      outRows z w x g := rfl

theorem out_high (z : Vec F S256x2816 .bf16) (w : Vec F S2816x1024 .bf16) (x : Vec F S256x1024 .f32) (g : Vec F S1x1024 .f32) :
    k0_pay1 (k0_pay77 z w) x g =
      outRows z w x g := rfl

/-! ## The pieces -/

set_option maxHeartbeats 0 in
theorem pieces (c : Dev nD) (i : grid0.Coords) (arg1 : Memref sig .tc .vmem S16x1024 .f32) (harg1 :
    arg1.IsWhole) (arg2 : Memref sig .tc .vmem S512x1024 .f32) (harg2 : arg2.IsWhole) (arg3 : Memref sig .tc .vmem S16x1024
    .f32) (harg3 : arg3.IsWhole) (arg4 : Memref sig .tc .vmem S16x512 .bf16) (harg4 : arg4.IsWhole) (arg5 : Memref sig .tc
    .vmem S512x512 .bf16) (harg5 : arg5.IsWhole) (arg6 : Memref sig .tc .vmem S16x512 .bf16) (harg6 : arg6.IsWhole) (arg7 :
    Memref sig .tc .vmem S16x1024 .bf16) (harg7 : arg7.IsWhole) (arg8 : Memref sig .tc .vmem S512x1024 .bf16) (harg8 :
    arg8.IsWhole) (arg9 : Memref sig .tc .vmem S16x1024 .bf16) (harg9 : arg9.IsWhole) (arg10 : Memref sig .tc .vmem
    S512x1024 .bf16) (harg10 : arg10.IsWhole) (arg11 : Memref sig .tc .vmem S1024x1024 .bf16) (harg11 : arg11.IsWhole)
    (arg12 : Memref sig .tc .vmem S1x1024 .f32) (harg12 : arg12.IsWhole) (arg13 : Memref sig .tc .vmem S1x1024 .f32) (harg13
    : arg13.IsWhole) (arg14 : Memref sig .tc .vmem S1024x2816 .bf16) (harg14 : arg14.IsWhole) (arg15 : Memref sig .tc .vmem
    S1024x2816 .bf16) (harg15 : arg15.IsWhole) (arg16 : Memref sig .tc .vmem S2816x1024 .bf16) (harg16 : arg16.IsWhole)
    (arg17 : Memref sig .tc .vmem S3x2816 .f32) (harg17 : arg17.IsWhole) (arg18 : Memref sig .tc .vmem S1x2816 .f32) (harg18
    : arg18.IsWhole) (arg19 : Memref sig .tc .vmem S1x1024 .f32) (harg19 : arg19.IsWhole) (arg20 : Memref sig .tc .vmem
    S512x1024 .f32) (harg20 : arg20.IsWhole) (arg21 : Memref sig .tc .vmem S544x1024 .f32) (harg21 : arg21.IsWhole) (arg22 :
    Memref sig .tc .vmem S544x512 .bf16) (harg22 : arg22.IsWhole) (arg23 : Memref sig .tc .vmem S544x1024 .bf16) (harg23 :
    arg23.IsWhole) (arg24 : Memref sig .tc .vmem S544x1024 .bf16) (harg24 : arg24.IsWhole) (arg25 : Memref sig .tc .vmem
    S544x256 .f32) (harg25 : arg25.IsWhole) (arg26 : Memref sig .tc .vmem S512x2816 .bf16) (harg26 : arg26.IsWhole) (x0 :
    Vec F S16x1024 .f32) (x1 : Vec F S512x1024 .f32) (x2 : Vec F S16x1024 .f32) (x3 : Vec F S16x512 .bf16) (x4 : Vec F
    S512x512 .bf16) (x5 : Vec F S16x512 .bf16) (x6 : Vec F S16x1024 .bf16) (x7 : Vec F S512x1024 .bf16) (x8 : Vec F S16x1024
    .bf16) (x9 : Vec F S512x1024 .bf16) (x10 : Vec F S1024x1024 .bf16) (x11 : Vec F S1x1024 .f32) (x12 : Vec F S1x1024 .f32)
    (x13 : Vec F S1024x2816 .bf16) (x14 : Vec F S1024x2816 .bf16) (x15 : Vec F S2816x1024 .bf16) (x16 : Vec F S3x2816 .f32)
    (x17 : Vec F S1x2816 .f32) (x18 : Vec F S1x1024 .f32) :
    (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26
      harg26 x0 x1 x2 x3 x4 x5 x6 x7 x8 x9 x10 x11 x12 x13 x14 x15 x16 x17 x18).1 =
      [⟨Rect.unit ![256, 0] ![256, 1024] inb_S512x1024_S256x1024_256_0,
          outRows (View.ld (actAll i (hExt x0 x1 x2 x3 x4 x5 x6 x7 x8 x9 x10 x11 x12) x13 x14 x16 x17) (Rect.unit ![256, 0] ![256, 2816] inb_S512x2816_S256x2816_256_0)) x15
            (View.ld (xTwo x0 x1 x2 x3 x4 x5 x6 x7 x8 x9 x10 x11) (Rect.unit ![272, 0] ![256, 1024] inb_S544x1024_S256x1024_272_0)) x18⟩,
       ⟨Rect.unit ![0, 0] ![256, 1024] inb_S512x1024_S256x1024_0_0,
          outRows (View.ld (actAll i (hExt x0 x1 x2 x3 x4 x5 x6 x7 x8 x9 x10 x11 x12) x13 x14 x16 x17) (Rect.unit ![0, 0] ![256, 2816] inb_S512x2816_S256x2816_0_0)) x15
            (View.ld (xTwo x0 x1 x2 x3 x4 x5 x6 x7 x8 x9 x10 x11) (Rect.unit ![16, 0] ![256, 1024] inb_S544x1024_S256x1024_16_0)) x18⟩] := by
  unfold kernelRun0_A
  dsimp only
  sl_unfold_words
  simp only [load_canon, stored, View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg13.read_unread, harg14.read_unread, harg15.read_unread, harg16.read_unread,
    harg17.read_unread, harg18.read_unread, harg19.read_unread,
    full16x1024, full512x1024, full16x512, full512x512, full1024x1024, full1x1024, full2816x1024, full544x1024,
    gate35, gate40, gate44, gate47, gate52, gate56, gate61, gate65, gate70, gate30, up31, up36, up41, up45, up48, up53,
    up57, up62, up66, up71, word, chunk0, chunk1, chunk2, chunk3, chunk4, chunk5, chunk6, chunk7, chunk8, chunk9,
    chunk10, lanes0, lanes1, lanes2, lanes3, lanes4, lanes5, lanes6, lanes7, lanes8, lanes9, lanes10, all_lanes,
    rows_a, rows_s, rows_x, half_x0, half_x1, half_h0, half_h1, rows_x1, rows_x2, rows_h, out_low, out_high]

end Cert.Kernel2Ideal.Mix

end
end
-- ==== Proof.MixSpec.lean ====
/- The out-projection and the channel mixer in plain terms, over arrays as functions of natural numbers, and the law of
   extended reals that carries the kernel's form of the tanh GELU to the reference's. -/
module

public import proofs.«01_k».proof.Proof.Spec

@[expose] public section

noncomputable section

namespace Cert.Mix

open Idealize.ShloMosaic Cert.Att

/-- The arrays the layer's second half reads: the layer's input, the two mixers' outputs, and the weights. -/
structure Arrays where
  /-- the layer's input -/
  x : ℕ → ℕ → EReal
  /-- the attention's output -/
  a : ℕ → ℕ → EReal
  /-- the SSD mixer's output -/
  s : ℕ → ℕ → EReal
  /-- the out-projection's 1536 rows -/
  w : ℕ → ℕ → EReal
  /-- the gain after mixing -/
  gMix : ℕ → EReal
  /-- the gain before the channel mixer -/
  gPre : ℕ → EReal
  /-- the gate's projection -/
  wg : ℕ → ℕ → EReal
  /-- the up projection -/
  wu : ℕ → ℕ → EReal
  /-- the down projection -/
  wd : ℕ → ℕ → EReal
  /-- the convolution's three taps -/
  cw : ℕ → ℕ → EReal
  /-- the convolution's bias -/
  cb : ℕ → EReal
  /-- the gain after the channel mixer -/
  gPost : ℕ → EReal

/-- A row of 1024 under root mean square normalisation with a gain, at a lane. -/
def rms (row g : ℕ → EReal) (f : ℕ) : EReal :=
  row f * Ideal.rsqrt (Ideal.div (∑ k : Fin 1024, row k.val * row k.val) (Ideal.ofBits .f32 0x44800000#32)
    + Ideal.ofBits .f32 0x358637BD#32) * g f

variable (P : Arrays)

/-- The out-projection of the two mixers' outputs side by side, at token `t`. -/
def mix (t f : ℕ) : EReal :=
  ∑ k : Fin 512, P.a t k.val * P.w k.val f + ∑ k : Fin 1024, P.s t k.val * P.w (512 + k.val) f

/-- The residual stream after mixing. -/
def x1 (t f : ℕ) : EReal := P.x t f + rms (mix P t) P.gMix f

/-- What the channel mixer reads. -/
def hid (t f : ℕ) : EReal := rms (x1 P t) P.gPre f

/-- The gate before its convolution. -/
def lin (t c : ℕ) : EReal := ∑ k : Fin 1024, hid P t k.val * P.wg k.val c

/-- The up projection. -/
def up (t c : ℕ) : EReal := ∑ k : Fin 1024, hid P t k.val * P.wu k.val c

/-- The three taps on a value and its two neighbours, and the bias. -/
def taps (p q n : EReal) (c : ℕ) : EReal := p * P.cw 0 c + q * P.cw 1 c + n * P.cw 2 c + P.cb c

/-- The gate, whose neighbours outside the token's own sequence of 8192 count zero. -/
def gate (t c : ℕ) : EReal :=
  taps P (if t % 8192 = 0 then 0 else lin P (t - 1) c) (lin P t c) (if t % 8192 = 8191 then 0 else lin P (t + 1) c) c

/-- The tanh form of the GELU. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- What the down projection reads. -/
def act (t c : ℕ) : EReal := gelu (gate P t c) * up P t c

/-- The down projection. -/
def down (t f : ℕ) : EReal := ∑ c : Fin 2816, act P t c.val * P.wd c.val f

/-- The layer's output. -/
def out (t f : ℕ) : EReal := x1 P t f + rms (down P t) P.gPost f

/-- The kernel's grouping of the GELU's products. -/
theorem gelu_grouped (x : EReal) :
    Ideal.ofBits .f32 0x3F000000#32 * x * (Ideal.ofBits .f32 0x3F800000#32
      + Ideal.tanh (Ideal.ofBits .f32 0x3F4C422A#32 * (x + Ideal.ofBits .f32 0x3D372713#32 * x * x * x))) = gelu x := by
  unfold gelu
  rw [mul_comm (Ideal.ofBits .f32 0x3F000000#32) x, mul_assoc x, mul_assoc (Ideal.ofBits .f32 0x3D372713#32 * x),
    mul_assoc (Ideal.ofBits .f32 0x3D372713#32), ← mul_assoc x x x]

end Cert.Mix

end
end
-- ==== Proof.MixTile.lean ====
/- The mixing kernel's arithmetic at an index: each step on rows that hold the arrays' tokens gives the tokens' values. -/
module

public import proofs.«01_k».proof.Proof.MixBody
public import proofs.«01_k».proof.Proof.MixSpec
public import Idealize.ShloMosaic.Lib.Pointwise
public import Idealize.ShloMosaic.PureOps.Ideal.Laws

@[expose] public section

set_option maxRecDepth 65536

noncomputable section

namespace Cert.Kernel2Ideal.Mix

open Cert.Kernel2Ideal Cert.Kernel2Ideal.Gen Idealize.ShloMosaic Idealize.ShloMosaic.TcCoe Idealize.SL.Sem
open Cert.Att (at2 at2_of)
open Cert.Mix (Arrays rms mix x1 hid lin up taps gate gelu act down out)

variable (P : Arrays) (T : ℕ)

theorem x1Half_at (a : Vec Ideal S272x512 .bf16) (wa : Vec Ideal S512x1024 .bf16) (s : Vec Ideal S272x1024 .bf16)
    (ws : Vec Ideal S1024x1024 .bf16) (x : Vec Ideal S272x1024 .f32) (g : Vec Ideal S1x1024 .f32) (R : Fin 272) (f : Fin 1024)
    (ha : ∀ k : Fin 512, a (ix2 R k) = P.a T k.val) (hs : ∀ k : Fin 1024, s (ix2 R k) = P.s T k.val)
    (hx : ∀ k : Fin 1024, x (ix2 R k) = P.x T k.val) (hwa : ∀ (k : Fin 512) (l : Fin 1024), wa (ix2 k l) = P.w k.val l.val)
    (hws : ∀ k l : Fin 1024, ws (ix2 k l) = P.w (512 + k.val) l.val) (hg : ∀ l : Fin 1024, g (ix2 0 l) = P.gMix l.val) :
    x1Half a wa s ws x g (ix2 R f) = x1 P T f.val := by
  unfold x1Half
  pointwise [k0_pay18, k0_pay17]
  simp only [ha, hs, hx, hwa, hws, hg]
  rfl

theorem hHalf_at (a : Vec Ideal S272x512 .bf16) (wa : Vec Ideal S512x1024 .bf16) (s : Vec Ideal S272x1024 .bf16)
    (ws : Vec Ideal S1024x1024 .bf16) (x : Vec Ideal S272x1024 .f32) (g g' : Vec Ideal S1x1024 .f32) (R : Fin 272) (f : Fin 1024)
    (ha : ∀ k : Fin 512, a (ix2 R k) = P.a T k.val) (hs : ∀ k : Fin 1024, s (ix2 R k) = P.s T k.val)
    (hx : ∀ k : Fin 1024, x (ix2 R k) = P.x T k.val) (hwa : ∀ (k : Fin 512) (l : Fin 1024), wa (ix2 k l) = P.w k.val l.val)
    (hws : ∀ k l : Fin 1024, ws (ix2 k l) = P.w (512 + k.val) l.val) (hg : ∀ l : Fin 1024, g (ix2 0 l) = P.gMix l.val)
    (hg' : ∀ l : Fin 1024, g' (ix2 0 l) = P.gPre l.val) :
    hHalf a wa s ws x g g' (ix2 R f) = hid P T f.val := by
  have e : ∀ k : Fin 1024, k0_pay17 a wa s ws x g (ix2 R k) = x1 P T k.val := fun k => by
    pointwise [k0_pay17]
    simp only [ha, hs, hx, hwa, hws, hg]
    rfl
  unfold hHalf
  pointwise [k0_pay21, k0_pay20, k0_pay19]
  simp only [e, hg']
  rfl

theorem outRows_at (z : Vec Ideal S256x2816 .bf16) (w : Vec Ideal S2816x1024 .bf16) (x : Vec Ideal S256x1024 .f32)
    (g : Vec Ideal S1x1024 .f32) (R : Fin 256) (f : Fin 1024) (hz : ∀ k : Fin 2816, z (ix2 R k) = act P T k.val)
    (hw : ∀ (k : Fin 2816) (l : Fin 1024), w (ix2 k l) = P.wd k.val l.val) (hx : ∀ k : Fin 1024, x (ix2 R k) = x1 P T k.val)
    (hg : ∀ l : Fin 1024, g (ix2 0 l) = P.gPost l.val) : outRows z w x g (ix2 R f) = out P T f.val := by
  unfold outRows
  pointwise [k0_pay76]
  simp only [hz, hw, hx, hg]
  rfl

theorem gAll_at (h : Vec Ideal S544x1024 .bf16) (w : Vec Ideal S1024x256 .bf16) (e : Fin 544) (l : Fin 256) :
    k0_pay24 h w (ix2 e l) = ∑ k : Fin 1024, h (ix2 e k) * w (ix2 k l) := by
  pointwise [k0_pay24]

theorem uAll_at (h : Vec Ideal S512x1024 .bf16) (w : Vec Ideal S1024x256 .bf16) (r : Fin 512) (l : Fin 256) :
    k0_pay25 h w (ix2 r l) = ∑ k : Fin 1024, h (ix2 r k) * w (ix2 k l) := by
  pointwise [k0_pay25]

theorem zero_bits : Ideal.ofBits .f32 0x00000000#32 = 0 := by
  simp [Ideal.ofBits, Ideal.ieee]

theorem one_bits : Ideal.ofBits .f32 0x3F800000#32 = 1 := by
  simp [Ideal.ofBits, Ideal.ieee]
  rw [← EReal.coe_mul]
  norm_num

theorem keep_prev (i : grid0.Coords) : k0_pay22 (F := Ideal) (blockWord i) = if (i 0).val % 16 = 0 then 0 else 1 := by
  have h : ∀ i : grid0.Coords, Scalar.cmpi .eq (blockWord i) 0#32 = if (i 0).val % 16 = 0 then 1#1 else 0#1 := by decide +kernel
  unfold k0_pay22
  dsimp only
  rw [h i]
  by_cases hi : (i 0).val % 16 = 0
  · rw [if_pos hi, if_pos hi]
    exact zero_bits
  · rw [if_neg hi, if_neg hi]
    exact one_bits

theorem keep_next (i : grid0.Coords) : k0_pay23 (F := Ideal) (blockWord i) = if (i 0).val % 16 = 15 then 0 else 1 := by
  have h : ∀ i : grid0.Coords, Scalar.cmpi .eq (blockWord i) 15#32 = if (i 0).val % 16 = 15 then 1#1 else 0#1 := by decide +kernel
  unfold k0_pay23
  dsimp only
  rw [h i]
  by_cases hi : (i 0).val % 16 = 15
  · rw [if_pos hi, if_pos hi]
    exact zero_bits
  · rw [if_neg hi, if_neg hi]
    exact one_bits

/-- A value that one row multiplies by zero at the edge of a sequence. -/
theorem pick (p q : Prop) [Decidable p] [Decidable q] (x : EReal) :
    Scalar.select (if p then 1#1 else 0#1) (x * if q then 0 else 1) x = if p ∧ q then 0 else x := by
  by_cases hp : p <;> by_cases hq : q <;> simp [hp, hq, Scalar.select]

theorem chunk_at (i : grid0.Coords) (u gp gc gn : FVec Ideal S512x256 .f32) (t0 t1 t2 b : Vec Ideal S1x256 .f32) (r : Fin 512)
    (l : Fin 256) : chunk i u gp gc gn t0 t1 t2 b (ix2 r l)
      = gelu ((if r.val = 0 ∧ (i 0).val % 16 = 0 then 0 else gp (ix2 r l)) * t0 (ix2 0 l) + gc (ix2 r l) * t1 (ix2 0 l)
          + (if r.val = 511 ∧ (i 0).val % 16 = 15 then 0 else gn (ix2 r l)) * t2 (ix2 0 l) + b (ix2 0 l)) * u (ix2 r l) := by
  have e : k0_pay72 (k0_pay22 (blockWord i)) (k0_pay23 (blockWord i)) (iota .tc S512x256 32 [0] iota_S512x256_d0_w32) gp gc gn t0 t1 t2 b (ix2 r l)
      = (if r.val = 0 ∧ (i 0).val % 16 = 0 then 0 else gp (ix2 r l)) * t0 (ix2 0 l) + gc (ix2 r l) * t1 (ix2 0 l)
          + (if r.val = 511 ∧ (i 0).val % 16 = 15 then 0 else gn (ix2 r l)) * t2 (ix2 0 l) + b (ix2 0 l) := by
    pointwise [k0_pay72]
    have c0 : ∀ r : Fin 512, IntOp.cmpi .eq (BitVec.ofNat 32 r.val) 0#32 = if r.val = 0 then 1#1 else 0#1 := by decide +kernel
    have c1 : ∀ r : Fin 512, IntOp.cmpi .eq (BitVec.ofNat 32 r.val) 511#32 = if r.val = 511 then 1#1 else 0#1 := by decide +kernel
    rw [c0 r, c1 r, keep_prev, keep_next, pick, pick]
  unfold chunk
  pointwise [k0_pay75, k0_pay73, k0_pay74]
  rw [e]
  rw [← one_bits]
  exact congrArg (· * _) (Cert.Mix.gelu_grouped _)

end Cert.Kernel2Ideal.Mix

end
end
-- ==== Proof.MixBlock.lean ====
/- What one grid point of the mixing kernel computes: given which tokens its blocks hold, each row that it stores is the
   layer's output at that row's token. -/
module

public import proofs.«01_k».proof.Proof.MixTile
public import Idealize.ShloMosaic.Lib.Pipeline.ValueKit.Tiles

@[expose] public section

set_option maxRecDepth 65536

noncomputable section

namespace Cert.Kernel2Ideal.Mix

open Cert.Kernel2Ideal Cert.Kernel2Ideal.Gen Idealize.ShloMosaic Idealize.ShloMosaic.TcCoe Idealize.SL.Sem
open Cert.Att (at2 at2_of)
open Cert.Mix (Arrays rms mix x1 hid lin up taps gate gelu act down out)

/-! ## Stores and loads of windows -/

/-- A load of a window, at a place. -/
theorem ld2 {Val : EltTy → Type} {e : EltTy} {a b h w : ℕ} (x : (⟨2, ![a, b]⟩ : Shape).Idx → Val e) (o c : ℕ)
    (inb : ∀ d, (![o, c] : Fin 2 → ℕ) d + (![h, w] : Fin 2 → ℕ) d ≤ (⟨2, ![a, b]⟩ : Shape).size d) (i : Fin h) (j : Fin w)
    (hi : o + i.val < a) (hj : c + j.val < b) :
    View.ld x (Rect.unit (s := ⟨2, ![a, b]⟩) ![o, c] ![h, w] inb) (ValueIdx.ix2 i j) = x (ValueIdx.ix2 ⟨o + i.val, hi⟩ ⟨c + j.val, hj⟩) :=
  View.ld_unit_apply_of x _ _ _ _ _ fun d => by
    match d with
    | ⟨0, _⟩ => rfl
    | ⟨1, _⟩ => rfl

/-- The last store, at a place of its window. -/
theorem canon_in {Val : EltTy → Type} [∀ e, Nonempty (Val e)] {e : EltTy} {a b h w : ℕ} (o c : ℕ)
    (inb : ∀ d, (![o, c] : Fin 2 → ℕ) d + (![h, w] : Fin 2 → ℕ) d ≤ (⟨2, ![a, b]⟩ : Shape).size d)
    (p : (⟨2, ![h, w]⟩ : Shape).Idx → Val e) (L : List (View.Piece Val ⟨2, ![a, b]⟩ e)) (i : Fin a) (j : Fin b)
    (i' : Fin h) (j' : Fin w) (hi : i.val = o + i'.val) (hj : j.val = c + j'.val) :
    View.canon (⟨Rect.unit (s := ⟨2, ![a, b]⟩) ![o, c] ![h, w] inb, p⟩ :: L) (ValueIdx.ix2 i j) = p (ValueIdx.ix2 i' j') := by
  have e1 : (ValueIdx.ix2 i j : (⟨2, ![a, b]⟩ : Shape).Idx)
      = (Rect.unit (s := ⟨2, ![a, b]⟩) ![o, c] ![h, w] inb).emb (ValueIdx.ix2 i' j') := by
    refine funext fun d => Fin.ext ?_
    match d with
    | ⟨0, _⟩ => exact hi.trans (Rect.idx_unit_val (s := ⟨2, ![a, b]⟩) ![o, c] ![h, w] inb (ValueIdx.ix2 i' j') 0).symm
    | ⟨1, _⟩ => exact hj.trans (Rect.idx_unit_val (s := ⟨2, ![a, b]⟩) ![o, c] ![h, w] inb (ValueIdx.ix2 i' j') 1).symm
  rw [e1]
  exact View.canon_cons_emb _ _ _ _

/-- The last store does not show outside its rows. -/
theorem canon_out {Val : EltTy → Type} [∀ e, Nonempty (Val e)] {e : EltTy} {a b h w : ℕ} (o c : ℕ)
    (inb : ∀ d, (![o, c] : Fin 2 → ℕ) d + (![h, w] : Fin 2 → ℕ) d ≤ (⟨2, ![a, b]⟩ : Shape).size d)
    (p : (⟨2, ![h, w]⟩ : Shape).Idx → Val e) (L : List (View.Piece Val ⟨2, ![a, b]⟩ e)) (i : Fin a) (j : Fin b)
    (hn : i.val < o ∨ o + h ≤ i.val) :
    View.canon (⟨Rect.unit (s := ⟨2, ![a, b]⟩) ![o, c] ![h, w] inb, p⟩ :: L) (ValueIdx.ix2 i j) = View.canon L (ValueIdx.ix2 i j) := by
  refine View.canon_cons_of_not_mem _ _ fun hm => ?_
  have h0 := (Rect.mem_set_unit (inb := inb)).mp hm 0
  have h1 : o ≤ i.val := h0.1
  have h2 : i.val < o + h := h0.2
  omega

/-! ## Which token a row of a block is -/

/-- The token of row `e` of the 544 that block `i` works on. -/
def tok (i e : ℕ) : ℕ :=
  if e < 16 then (32 * i - 1) * 16 + e else if e < 528 then 512 * i + (e - 16) else min (32 * (i + 1)) 1023 * 16 + (e - 528)

/-- The activation of the 512 tokens of block `i`. -/
def actRows (Q : Arrays) (i : ℕ) (y : S512x2816.Idx) : Elt Ideal .bf16 := act Q (512 * i + (y 0).val) (y 1).val

theorem tok_row (i r : ℕ) (hr : r < 512) : tok i (16 + r) = 512 * i + r := by
  unfold tok
  rw [if_neg (by omega), if_pos (by omega)]
  omega

theorem tok_prev (i r : ℕ) (hr : r < 512) (h : ¬ (r = 0 ∧ i % 16 = 0)) : tok i (15 + r) = 512 * i + r - 1 := by
  unfold tok
  by_cases h0 : r = 0
  · rw [if_pos (by omega)]
    omega
  · rw [if_neg (by omega), if_pos (by omega)]
    omega

theorem tok_next (i r : ℕ) (hi : i < 32) (hr : r < 512) (h : ¬ (r = 511 ∧ i % 16 = 15)) : tok i (17 + r) = 512 * i + r + 1 := by
  unfold tok
  by_cases h0 : r = 511
  · rw [if_neg (by omega), if_neg (by omega)]
    omega
  · rw [if_neg (by omega), if_pos (by omega)]
    omega

/-- What the blocks of grid point `i` hold, of the arrays `Q`. -/
structure Holds (Q : Arrays) (i : ℕ) (x0 : Vec Ideal S16x1024 .f32) (x1 : Vec Ideal S512x1024 .f32) (x2 : Vec Ideal S16x1024 .f32) (x3 : Vec Ideal S16x512 .bf16) (x4 : Vec Ideal S512x512 .bf16) (x5 : Vec Ideal S16x512 .bf16) (x6 : Vec Ideal S16x1024 .bf16) (x7 : Vec Ideal S512x1024 .bf16) (x8 : Vec Ideal S16x1024 .bf16) (x9 : Vec Ideal S512x1024 .bf16) (x10 : Vec Ideal S1024x1024 .bf16) (x11 : Vec Ideal S1x1024 .f32) (x12 : Vec Ideal S1x1024 .f32) (x13 : Vec Ideal S1024x2816 .bf16) (x14 : Vec Ideal S1024x2816 .bf16) (x15 : Vec Ideal S2816x1024 .bf16) (x16 : Vec Ideal S3x2816 .f32) (x17 : Vec Ideal S1x2816 .f32) (x18 : Vec Ideal S1x1024 .f32) : Prop where
  xp : ∀ (e : Fin 16) (k : Fin 1024), x0 (ix2 e k) = Q.x ((32 * i - 1) * 16 + e.val) k.val
  xc : ∀ (e : Fin 512) (k : Fin 1024), x1 (ix2 e k) = Q.x (512 * i + e.val) k.val
  xn : ∀ (e : Fin 16) (k : Fin 1024), x2 (ix2 e k) = Q.x (min (32 * (i + 1)) 1023 * 16 + e.val) k.val
  ap : ∀ (e : Fin 16) (k : Fin 512), x3 (ix2 e k) = Q.a ((32 * i - 1) * 16 + e.val) k.val
  ac : ∀ (e : Fin 512) (k : Fin 512), x4 (ix2 e k) = Q.a (512 * i + e.val) k.val
  an : ∀ (e : Fin 16) (k : Fin 512), x5 (ix2 e k) = Q.a (min (32 * (i + 1)) 1023 * 16 + e.val) k.val
  sp : ∀ (e : Fin 16) (k : Fin 1024), x6 (ix2 e k) = Q.s ((32 * i - 1) * 16 + e.val) k.val
  sc : ∀ (e : Fin 512) (k : Fin 1024), x7 (ix2 e k) = Q.s (512 * i + e.val) k.val
  sn : ∀ (e : Fin 16) (k : Fin 1024), x8 (ix2 e k) = Q.s (min (32 * (i + 1)) 1023 * 16 + e.val) k.val
  wa : ∀ (k : Fin 512) (l : Fin 1024), x9 (ix2 k l) = Q.w k.val l.val
  ws : ∀ k l : Fin 1024, x10 (ix2 k l) = Q.w (512 + k.val) l.val
  gMix : ∀ l : Fin 1024, x11 (ix2 0 l) = Q.gMix l.val
  gPre : ∀ l : Fin 1024, x12 (ix2 0 l) = Q.gPre l.val
  wg : ∀ (k : Fin 1024) (l : Fin 2816), x13 (ix2 k l) = Q.wg k.val l.val
  wu : ∀ (k : Fin 1024) (l : Fin 2816), x14 (ix2 k l) = Q.wu k.val l.val
  wd : ∀ (k : Fin 2816) (l : Fin 1024), x15 (ix2 k l) = Q.wd k.val l.val
  cw : ∀ (k : Fin 3) (l : Fin 2816), x16 (ix2 k l) = Q.cw k.val l.val
  cb : ∀ l : Fin 2816, x17 (ix2 0 l) = Q.cb l.val
  gPost : ∀ l : Fin 1024, x18 (ix2 0 l) = Q.gPost l.val

section

variable {Q : Arrays} {i : ℕ} {x0 : Vec Ideal S16x1024 .f32} {x1 : Vec Ideal S512x1024 .f32} {x2 : Vec Ideal S16x1024 .f32} {x3 : Vec Ideal S16x512 .bf16} {x4 : Vec Ideal S512x512 .bf16} {x5 : Vec Ideal S16x512 .bf16} {x6 : Vec Ideal S16x1024 .bf16} {x7 : Vec Ideal S512x1024 .bf16} {x8 : Vec Ideal S16x1024 .bf16} {x9 : Vec Ideal S512x1024 .bf16} {x10 : Vec Ideal S1024x1024 .bf16} {x11 : Vec Ideal S1x1024 .f32} {x12 : Vec Ideal S1x1024 .f32} {x13 : Vec Ideal S1024x2816 .bf16} {x14 : Vec Ideal S1024x2816 .bf16} {x15 : Vec Ideal S2816x1024 .bf16} {x16 : Vec Ideal S3x2816 .f32} {x17 : Vec Ideal S1x2816 .f32} {x18 : Vec Ideal S1x1024 .f32} (H : Holds Q i x0 x1 x2 x3 x4 x5 x6 x7 x8 x9 x10 x11 x12 x13 x14 x15 x16 x17 x18)
include H

theorem aExt_at (e : Fin 544) (k : Fin 512) : aExt x3 x4 x5 (ix2 e k) = Q.a (tok i e.val) k.val := by
  have he := e.isLt
  unfold aExt tok
  by_cases h0 : e.val < 16
  · rw [if_pos h0]
    refine (canon_out 528 0 inb_S544x512_S16x512_528_0 _ _ e k (by omega)).trans ?_
    refine (canon_out 16 0 inb_S544x512_S512x512_16_0 _ _ e k (by omega)).trans ?_
    refine (canon_in 0 0 inb_S544x512_S16x512_0_0 _ _ e k ⟨e.val, h0⟩ k (by simp) (by simp)).trans ?_
    pointwise [k0_pay5]
    exact H.ap ⟨e.val, h0⟩ k
  by_cases h1 : e.val < 528
  · rw [if_neg h0, if_pos h1]
    refine (canon_out 528 0 inb_S544x512_S16x512_528_0 _ _ e k (by omega)).trans ?_
    refine (canon_in 16 0 inb_S544x512_S512x512_16_0 _ _ e k ⟨e.val - 16, by omega⟩ k (by show e.val = 16 + (e.val - 16); omega) (by simp)).trans ?_
    pointwise [k0_pay7, k0_pay6]
    exact H.ac ⟨e.val - 16, by omega⟩ k
  · rw [if_neg h0, if_neg h1]
    refine (canon_in 528 0 inb_S544x512_S16x512_528_0 _ _ e k ⟨e.val - 528, by omega⟩ k (by show e.val = 528 + (e.val - 528); omega) (by simp)).trans ?_
    pointwise [k0_pay8]
    exact H.an ⟨e.val - 528, by omega⟩ k

theorem sExt_at (e : Fin 544) (k : Fin 1024) : sExt x6 x7 x8 (ix2 e k) = Q.s (tok i e.val) k.val := by
  have he := e.isLt
  unfold sExt tok
  by_cases h0 : e.val < 16
  · rw [if_pos h0]
    refine (canon_out 528 0 inb_S544x1024_S16x1024_528_0 _ _ e k (by omega)).trans ?_
    refine (canon_out 16 0 inb_S544x1024_S512x1024_16_0 _ _ e k (by omega)).trans ?_
    refine (canon_in 0 0 inb_S544x1024_S16x1024_0_0 _ _ e k ⟨e.val, h0⟩ k (by simp) (by simp)).trans ?_
    pointwise [k0_pay9]
    exact H.sp ⟨e.val, h0⟩ k
  by_cases h1 : e.val < 528
  · rw [if_neg h0, if_pos h1]
    refine (canon_out 528 0 inb_S544x1024_S16x1024_528_0 _ _ e k (by omega)).trans ?_
    refine (canon_in 16 0 inb_S544x1024_S512x1024_16_0 _ _ e k ⟨e.val - 16, by omega⟩ k (by show e.val = 16 + (e.val - 16); omega) (by simp)).trans ?_
    pointwise [k0_pay10]
    exact H.sc ⟨e.val - 16, by omega⟩ k
  · rw [if_neg h0, if_neg h1]
    refine (canon_in 528 0 inb_S544x1024_S16x1024_528_0 _ _ e k ⟨e.val - 528, by omega⟩ k (by show e.val = 528 + (e.val - 528); omega) (by simp)).trans ?_
    pointwise [k0_pay11]
    exact H.sn ⟨e.val - 528, by omega⟩ k

theorem xExt_at (e : Fin 544) (k : Fin 1024) : View.canon (xPieces x0 x1 x2) (ix2 e k) = Q.x (tok i e.val) k.val := by
  have he := e.isLt
  unfold xPieces tok
  by_cases h0 : e.val < 16
  · rw [if_pos h0]
    refine (canon_out 528 0 inb_S544x1024_S16x1024_528_0 _ _ e k (by omega)).trans ?_
    refine (canon_out 16 0 inb_S544x1024_S512x1024_16_0 _ _ e k (by omega)).trans ?_
    refine (canon_in 0 0 inb_S544x1024_S16x1024_0_0 _ _ e k ⟨e.val, h0⟩ k (by simp) (by simp)).trans ?_
    pointwise [k0_pay2]
    exact H.xp ⟨e.val, h0⟩ k
  by_cases h1 : e.val < 528
  · rw [if_neg h0, if_pos h1]
    refine (canon_out 528 0 inb_S544x1024_S16x1024_528_0 _ _ e k (by omega)).trans ?_
    refine (canon_in 16 0 inb_S544x1024_S512x1024_16_0 _ _ e k ⟨e.val - 16, by omega⟩ k (by show e.val = 16 + (e.val - 16); omega) (by simp)).trans ?_
    pointwise [k0_pay3]
    exact H.xc ⟨e.val - 16, by omega⟩ k
  · rw [if_neg h0, if_neg h1]
    refine (canon_in 528 0 inb_S544x1024_S16x1024_528_0 _ _ e k ⟨e.val - 528, by omega⟩ k (by show e.val = 528 + (e.val - 528); omega) (by simp)).trans ?_
    pointwise [k0_pay4]
    exact H.xn ⟨e.val - 528, by omega⟩ k

theorem xOne_low (e : Fin 544) (k : Fin 1024) (h : e.val < 272) :
    View.canon (xOne x0 x1 x2 x3 x4 x5 x6 x7 x8 x9 x10 x11) (ix2 e k) = Cert.Mix.x1 Q (tok i e.val) k.val := by
  unfold xOne
  refine (canon_in 0 0 inb_S544x1024_S272x1024_0_0 _ _ e k ⟨e.val, h⟩ k (by simp) (by simp)).trans ?_
  refine x1Half_at Q (tok i e.val) _ _ _ _ _ _ ⟨e.val, h⟩ k (fun k => ?_) (fun k => ?_) (fun k => ?_) H.wa H.ws H.gMix
  · refine (ld2 _ 0 0 inb_S544x512_S272x512_0_0 _ k (by show 0 + e.val < 544; omega) (by simp)).trans ((aExt_at H _ _).trans ?_)
    simp
  · refine (ld2 _ 0 0 inb_S544x1024_S272x1024_0_0 _ k (by show 0 + e.val < 544; omega) (by simp)).trans ((sExt_at H _ _).trans ?_)
    simp
  · refine (ld2 _ 0 0 inb_S544x1024_S272x1024_0_0 _ k (by show 0 + e.val < 544; omega) (by simp)).trans ((xExt_at H _ _).trans ?_)
    simp

theorem xOne_high (e : Fin 544) (k : Fin 1024) (h : 272 ≤ e.val) :
    View.canon (xOne x0 x1 x2 x3 x4 x5 x6 x7 x8 x9 x10 x11) (ix2 e k) = Q.x (tok i e.val) k.val := by
  unfold xOne
  exact (canon_out 0 0 inb_S544x1024_S272x1024_0_0 _ _ e k (by omega)).trans (xExt_at H e k)

theorem xTwo_at (e : Fin 544) (k : Fin 1024) : xTwo x0 x1 x2 x3 x4 x5 x6 x7 x8 x9 x10 x11 (ix2 e k) = Cert.Mix.x1 Q (tok i e.val) k.val := by
  have he := e.isLt
  unfold xTwo
  by_cases h : e.val < 272
  · exact (canon_out 272 0 inb_S544x1024_S272x1024_272_0 _ _ e k (by omega)).trans (xOne_low H e k h)
  refine (canon_in 272 0 inb_S544x1024_S272x1024_272_0 _ _ e k ⟨e.val - 272, by omega⟩ k (by show e.val = 272 + (e.val - 272); omega) (by simp)).trans ?_
  refine x1Half_at Q (tok i e.val) _ _ _ _ _ _ ⟨e.val - 272, by omega⟩ k (fun k => ?_) (fun k => ?_) (fun k => ?_) H.wa H.ws H.gMix
  · refine (ld2 _ 272 0 inb_S544x512_S272x512_272_0 _ k (by show 272 + (e.val - 272) < 544; omega) (by simp)).trans ((aExt_at H _ _).trans ?_)
    exact congrArg₂ Q.a (congrArg (tok i) (by show 272 + (e.val - 272) = e.val; omega)) (Nat.zero_add _)
  · refine (ld2 _ 272 0 inb_S544x1024_S272x1024_272_0 _ k (by show 272 + (e.val - 272) < 544; omega) (by simp)).trans ((sExt_at H _ _).trans ?_)
    exact congrArg₂ Q.s (congrArg (tok i) (by show 272 + (e.val - 272) = e.val; omega)) (Nat.zero_add _)
  · refine (ld2 _ 272 0 inb_S544x1024_S272x1024_272_0 _ k (by show 272 + (e.val - 272) < 544; omega) (by simp)).trans ((xOne_high H _ _ (by show 272 ≤ 272 + (e.val - 272); omega)).trans ?_)
    exact congrArg₂ Q.x (congrArg (tok i) (by show 272 + (e.val - 272) = e.val; omega)) (Nat.zero_add _)

theorem hExt_at (e : Fin 544) (k : Fin 1024) : hExt x0 x1 x2 x3 x4 x5 x6 x7 x8 x9 x10 x11 x12 (ix2 e k) = hid Q (tok i e.val) k.val := by
  have he := e.isLt
  unfold hExt
  by_cases h : e.val < 272
  · refine (canon_out 272 0 inb_S544x1024_S272x1024_272_0 _ _ e k (by omega)).trans ?_
    refine (canon_in 0 0 inb_S544x1024_S272x1024_0_0 _ _ e k ⟨e.val, h⟩ k (by simp) (by simp)).trans ?_
    refine hHalf_at Q (tok i e.val) _ _ _ _ _ _ _ ⟨e.val, h⟩ k (fun k => ?_) (fun k => ?_) (fun k => ?_) H.wa H.ws H.gMix H.gPre
    · refine (ld2 _ 0 0 inb_S544x512_S272x512_0_0 _ k (by show 0 + e.val < 544; omega) (by simp)).trans ((aExt_at H _ _).trans ?_)
      simp
    · refine (ld2 _ 0 0 inb_S544x1024_S272x1024_0_0 _ k (by show 0 + e.val < 544; omega) (by simp)).trans ((sExt_at H _ _).trans ?_)
      simp
    · refine (ld2 _ 0 0 inb_S544x1024_S272x1024_0_0 _ k (by show 0 + e.val < 544; omega) (by simp)).trans ((xExt_at H _ _).trans ?_)
      simp

  refine (canon_in 272 0 inb_S544x1024_S272x1024_272_0 _ _ e k ⟨e.val - 272, by omega⟩ k (by show e.val = 272 + (e.val - 272); omega) (by simp)).trans ?_
  refine hHalf_at Q (tok i e.val) _ _ _ _ _ _ _ ⟨e.val - 272, by omega⟩ k (fun k => ?_) (fun k => ?_) (fun k => ?_) H.wa H.ws H.gMix H.gPre
  · refine (ld2 _ 272 0 inb_S544x512_S272x512_272_0 _ k (by show 272 + (e.val - 272) < 544; omega) (by simp)).trans ((aExt_at H _ _).trans ?_)
    exact congrArg₂ Q.a (congrArg (tok i) (by show 272 + (e.val - 272) = e.val; omega)) (Nat.zero_add _)
  · refine (ld2 _ 272 0 inb_S544x1024_S272x1024_272_0 _ k (by show 272 + (e.val - 272) < 544; omega) (by simp)).trans ((sExt_at H _ _).trans ?_)
    exact congrArg₂ Q.s (congrArg (tok i) (by show 272 + (e.val - 272) = e.val; omega)) (Nat.zero_add _)
  · refine (ld2 _ 272 0 inb_S544x1024_S272x1024_272_0 _ k (by show 272 + (e.val - 272) < 544; omega) (by simp)).trans ((xOne_high H _ _ (by show 272 ≤ 272 + (e.val - 272); omega)).trans ?_)
    exact congrArg₂ Q.x (congrArg (tok i) (by show 272 + (e.val - 272) = e.val; omega)) (Nat.zero_add _)

/-- A lane's row of gate values, loaded from row `o` on. -/
theorem gate_row (j : ℕ) (hj : j < 11) (o : ℕ) (inb : ∀ d, (![o, 0] : Fin 2 → ℕ) d + (![512, 256] : Fin 2 → ℕ) d ≤ S544x256.size d)
    (r : Fin 512) (l : Fin 256) (ho : o + r.val < 544) :
    View.ld (Val := Elt Ideal) (S := S544x256) (e' := .f32)
        (k0_pay24 (hExt x0 x1 x2 x3 x4 x5 x6 x7 x8 x9 x10 x11 x12) (View.ld x13 (Rect.unit ![0, 256 * j] ![1024, 256] (lanes_inb 0 j (by decide) hj))))
        (Rect.unit ![o, 0] ![512, 256] inb) (ix2 r l) = lin Q (tok i (o + r.val)) (256 * j + l.val) := by
  have hl := l.isLt
  refine (ld2 _ o 0 inb r l ho (by omega)).trans ((gAll_at _ _ _ _).trans ?_)
  unfold lin
  refine Finset.sum_congr rfl fun k _ => congrArg₂ (· * ·) (hExt_at H _ k) ?_
  refine (ld2 _ 0 (256 * j) (lanes_inb 0 j (by decide) hj) k _ (by omega) (by show 256 * j + (0 + l.val) < 2816; omega)).trans ((H.wg _ _).trans ?_)
  exact congrArg₂ Q.wg (Nat.zero_add _) (congrArg (256 * j + ·) (Nat.zero_add _))

theorem up_row (j : ℕ) (hj : j < 11) (r : Fin 512) (l : Fin 256) :
    k0_pay25 (View.ld (hExt x0 x1 x2 x3 x4 x5 x6 x7 x8 x9 x10 x11 x12) (Rect.unit ![16, 0] ![512, 1024] inb_S544x1024_S512x1024_16_0))
        (View.ld x14 (Rect.unit ![0, 256 * j] ![1024, 256] (lanes_inb 0 j (by decide) hj))) (ix2 r l)
      = up Q (tok i (16 + r.val)) (256 * j + l.val) := by
  have hl := l.isLt
  have hr := r.isLt
  refine (uAll_at _ _ _ _).trans ?_
  unfold up
  refine Finset.sum_congr rfl fun k _ => congrArg₂ (· * ·) ?_ ?_
  · refine (ld2 _ 16 0 inb_S544x1024_S512x1024_16_0 r k (by omega) (by omega)).trans ((hExt_at H _ _).trans ?_)
    exact congrArg (hid Q _) (Nat.zero_add _)
  · refine (ld2 _ 0 (256 * j) (lanes_inb 0 j (by decide) hj) k l (by omega) (by omega)).trans ((H.wu _ _).trans ?_)
    exact congrArg₂ Q.wu (Nat.zero_add _) rfl

theorem tap_row (j : ℕ) (hj : j < 11) (q : ℕ) (hq : q < 3) (inb) (l : Fin 256) :
    View.ld x16 (Rect.unit (s := S3x2816) ![q, 256 * j] ![1, 256] inb) (ix2 0 l) = Q.cw q (256 * j + l.val) := by
  have hl := l.isLt
  refine (ld2 _ q (256 * j) inb 0 l (by simpa using hq) (by omega)).trans ((H.cw _ _).trans ?_)
  exact congrArg₂ Q.cw (Nat.add_zero _) rfl

theorem bias_row (j : ℕ) (hj : j < 11) (inb) (l : Fin 256) :
    View.ld x17 (Rect.unit (s := S1x2816) ![0, 256 * j] ![1, 256] inb) (ix2 0 l) = Q.cb (256 * j + l.val) := by
  have hl := l.isLt
  exact (ld2 _ 0 (256 * j) inb 0 l (by simp) (by omega)).trans (H.cb _)

/-- The activation of 256 lanes of a block's rows is that of the rows' tokens. -/
theorem lanes_at (g : grid0.Coords) (hg : (g 0).val = i) (j : ℕ) (hj : j < 11) (r : Fin 512) (l : Fin 256) :
    lanes g (hExt x0 x1 x2 x3 x4 x5 x6 x7 x8 x9 x10 x11 x12) x13 x14 x16 x17 j hj (ix2 r l) = act Q (512 * i + r.val) (256 * j + l.val) := by
  have hi : i < 32 := hg ▸ (g 0).isLt
  have hr := r.isLt
  unfold lanes
  rw [chunk_at, up_row H, gate_row H, gate_row H, gate_row H, tap_row H, tap_row H, tap_row H, bias_row H, hg, tok_row i r.val hr]
  · unfold act gate taps
    refine congrArg (· * _) (congrArg gelu (congrArg (· + _) (congrArg₂ (· + ·) (congrArg (· + _) (congrArg (· * _) ?_)) (congrArg (· * _) ?_))))
    · by_cases h : r.val = 0 ∧ i % 16 = 0
      · rw [if_pos h, if_pos (by omega)]
      · rw [if_neg h, if_neg (by omega), tok_prev i r.val hr h]
    · by_cases h : r.val = 511 ∧ i % 16 = 15
      · rw [if_pos h, if_pos (by omega)]
      · rw [if_neg h, if_neg (by omega), tok_next i r.val hi hr h]
  all_goals omega

theorem actAll_at (g : grid0.Coords) (hg : (g 0).val = i) (r : Fin 512) (c : Fin 2816) :
    actAll g (hExt x0 x1 x2 x3 x4 x5 x6 x7 x8 x9 x10 x11 x12) x13 x14 x16 x17 (ix2 r c) = act Q (512 * i + r.val) c.val := by
  have piece : ∀ (j : ℕ) (hj : j < 11) (inb) (x : (Rect.unit (s := S512x2816) ![0, 256 * j] ![512, 256] inb).shape.Idx),
      lanes g (hExt x0 x1 x2 x3 x4 x5 x6 x7 x8 x9 x10 x11 x12) x13 x14 x16 x17 j hj x
        = actRows Q i ((Rect.unit (s := S512x2816) ![0, 256 * j] ![512, 256] inb).emb x) := by
    intro j hj inb x
    have ex : x = (ValueIdx.ix2 ⟨(x 0).val, (x 0).isLt⟩ ⟨(x 1).val, (x 1).isLt⟩ : S512x256.Idx) := by
      refine funext fun d => ?_
      match d with
      | ⟨0, _⟩ => rfl
      | ⟨1, _⟩ => rfl
    refine (congrArg (lanes g (hExt x0 x1 x2 x3 x4 x5 x6 x7 x8 x9 x10 x11 x12) x13 x14 x16 x17 j hj) ex).trans ((lanes_at H g hg j hj _ _).trans ?_)
    refine congrArg₂ (act Q) (congrArg (512 * i + ·) ?_) ?_
    · exact ((Rect.idx_unit_val (s := S512x2816) ![0, 256 * j] ![512, 256] inb x 0).trans (Nat.zero_add _)).symm
    · exact (Rect.idx_unit_val (s := S512x2816) ![0, 256 * j] ![512, 256] inb x 1).symm
  unfold actAll
  refine View.canon_apply_of_pieces (actRows Q i) _ (View.PiecesOf.mem (G := actRows Q i) ?_) (ix2 r c) ?_
  · exact ⟨piece 10 (by decide) inb_S512x2816_S512x256_0_2560, piece 9 (by decide) inb_S512x2816_S512x256_0_2304, piece 8 (by decide) inb_S512x2816_S512x256_0_2048, piece 7 (by decide) inb_S512x2816_S512x256_0_1792, piece 6 (by decide) inb_S512x2816_S512x256_0_1536, piece 5 (by decide) inb_S512x2816_S512x256_0_1280, piece 4 (by decide) inb_S512x2816_S512x256_0_1024, piece 3 (by decide) inb_S512x2816_S512x256_0_768, piece 2 (by decide) inb_S512x2816_S512x256_0_512, piece 1 (by decide) inb_S512x2816_S512x256_0_256, piece 0 (by decide) inb_S512x2816_S512x256_0_0, trivial⟩
  · exact View.cover_of_tiledL _ ![512, 256] (by rfl) _

/-- The rows stored from row `o` on. -/
theorem out_at (g : grid0.Coords) (hg : (g 0).val = i) (o : ℕ) (inb inb') (r : Fin 256) (f : Fin 1024) (ho : o + r.val < 512) :
    outRows (View.ld (actAll g (hExt x0 x1 x2 x3 x4 x5 x6 x7 x8 x9 x10 x11 x12) x13 x14 x16 x17) (Rect.unit (s := S512x2816) ![o, 0] ![256, 2816] inb)) x15
        (View.ld (xTwo x0 x1 x2 x3 x4 x5 x6 x7 x8 x9 x10 x11) (Rect.unit (s := S544x1024) ![16 + o, 0] ![256, 1024] inb')) x18 (ix2 r f)
      = out Q (512 * i + (o + r.val)) f.val := by
  refine outRows_at Q (512 * i + (o + r.val)) _ _ _ _ r f (fun k => ?_) H.wd (fun k => ?_) H.gPost
  · refine (ld2 _ o 0 inb r k ho (by omega)).trans ((actAll_at H g hg _ _).trans ?_)
    exact congrArg (act Q _) (Nat.zero_add _)
  · refine (ld2 _ (16 + o) 0 inb' r k (by omega) (by omega)).trans ((xTwo_at H _ _).trans ?_)
    refine congrArg₂ (Cert.Mix.x1 Q) ?_ (Nat.zero_add _)
    show tok i (16 + o + r.val) = _
    rw [Nat.add_assoc]
    exact tok_row i _ ho

end

end Cert.Kernel2Ideal.Mix

end
end
-- ==== Proof.MixFinal.lean ====
/- The mixing kernel's blocks hold the tokens of its arguments' arrays, and its result array after the run is the layer's
   output. -/
module

public import proofs.«01_k».proof.Proof.MixPieces
public import proofs.«01_k».proof.Proof.MixBlock
public import proofs.«01_k».proof.Proof.Gen.Kernel2Ideal.Value
public import Idealize.ShloMosaic.Lib.StableHlo.ReadAt
public import Idealize.ShloMosaic.Lib.Pipeline.ValueKit

@[expose] public section

set_option maxRecDepth 65536

noncomputable section

namespace Cert.Kernel2Ideal.Mix

open Cert.Kernel2Ideal Cert.Kernel2Ideal.Gen Idealize.ShloMosaic Idealize.ShloMosaic.TcCoe Idealize.SL.Sem
open Cert.Att (at2 at2_of)
open Cert.Mix (Arrays out)

variable (m : (ℓ : Loc nD τ sig) → Buf (Elt Ideal) ℓ)

/-! ## The arrays that the host prepares -/

theorem V_v1 (c : Dev nD) : V m c main_v1 = (truncf .bf16 (extractStridedSlice S512x1024 ![0, 0] (m ((c : Thread nD τ).loc main_arg3)) slices_S1536x1024_S512x1024_0_0 : FVec Ideal S512x1024 .f32) bitsLt_bf16_f32 : FVec Ideal S512x1024 .bf16) := by
  unfold V
  after_reads_simp
  try rfl

theorem V_v3 (c : Dev nD) : V m c main_v3 = (truncf .bf16 (extractStridedSlice S1024x1024 ![512, 0] (m ((c : Thread nD τ).loc main_arg3)) slices_S1536x1024_S1024x1024_512_0 : FVec Ideal S1024x1024 .f32) bitsLt_bf16_f32 : FVec Ideal S1024x1024 .bf16) := by
  unfold V
  after_reads_simp
  try rfl

theorem V_v4 (c : Dev nD) : V m c main_v4 = (truncf .bf16 ((m ((c : Thread nD τ).loc main_arg6)) : FVec Ideal S1024x2816 .f32) bitsLt_bf16_f32 : FVec Ideal S1024x2816 .bf16) := by
  unfold V
  after_reads_simp
  try rfl

theorem V_v5 (c : Dev nD) : V m c main_v5 = (truncf .bf16 ((m ((c : Thread nD τ).loc main_arg7)) : FVec Ideal S1024x2816 .f32) bitsLt_bf16_f32 : FVec Ideal S1024x2816 .bf16) := by
  unfold V
  after_reads_simp
  try rfl

theorem V_v6 (c : Dev nD) : V m c main_v6 = (truncf .bf16 ((m ((c : Thread nD τ).loc main_arg8)) : FVec Ideal S2816x1024 .f32) bitsLt_bf16_f32 : FVec Ideal S2816x1024 .bf16) := by
  unfold V
  after_reads_simp
  try rfl

theorem V_v7 (c : Dev nD) : V m c main_v7 = (truncf .bf16 ((m ((c : Thread nD τ).loc main_arg1)) : FVec Ideal S16384x512 .f32) bitsLt_bf16_f32 : FVec Ideal S16384x512 .bf16) := by
  unfold V
  after_reads_simp
  try rfl

theorem V_v8 (c : Dev nD) : V m c main_v8 = (truncf .bf16 ((m ((c : Thread nD τ).loc main_arg2)) : FVec Ideal S16384x1024 .f32) bitsLt_bf16_f32 : FVec Ideal S16384x1024 .bf16) := by
  unfold V
  after_reads_simp
  try rfl

/-- The arguments, as functions of natural numbers. -/
def args (c : Dev nD) : Arrays where
  x := at2 (a := 16384) (b := 1024) (m (c.tc.loc main_arg0))
  a := at2 (a := 16384) (b := 512) (m (c.tc.loc main_arg1))
  s := at2 (a := 16384) (b := 1024) (m (c.tc.loc main_arg2))
  w := at2 (a := 1536) (b := 1024) (m (c.tc.loc main_arg3))
  gMix := at2 (a := 1) (b := 1024) (m (c.tc.loc main_arg4)) 0
  gPre := at2 (a := 1) (b := 1024) (m (c.tc.loc main_arg5)) 0
  wg := at2 (a := 1024) (b := 2816) (m (c.tc.loc main_arg6))
  wu := at2 (a := 1024) (b := 2816) (m (c.tc.loc main_arg7))
  wd := at2 (a := 2816) (b := 1024) (m (c.tc.loc main_arg8))
  cw := at2 (a := 3) (b := 2816) (m (c.tc.loc main_arg9))
  cb := at2 (a := 1) (b := 2816) (m (c.tc.loc main_arg10)) 0
  gPost := at2 (a := 1) (b := 1024) (m (c.tc.loc main_arg11)) 0

/-! ## The blocks -/

theorem index0 : ∀ t : Fin cfg0.N, win0_0.index t = ![32 * (grid0.coords t 0).val - 1, 0] :=
  (by decide +kernel : ∀ t : Fin grid0.N, win0_0.index t = ![32 * (grid0.coords t 0).val - 1, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![min (32 * ((grid0.coords t 0).val + 1)) 1023, 0] :=
  (by decide +kernel : ∀ t : Fin grid0.N, win0_2.index t = ![min (32 * ((grid0.coords t 0).val + 1)) 1023, 0])
theorem index3 : ∀ t : Fin cfg0.N, win0_3.index t = ![32 * (grid0.coords t 0).val - 1, 0] :=
  (by decide +kernel : ∀ t : Fin grid0.N, win0_3.index t = ![32 * (grid0.coords t 0).val - 1, 0])
theorem index4 : ∀ t : Fin cfg0.N, win0_4.index t = ![(grid0.coords t 0).val, 0] :=
  (by decide +kernel : ∀ t : Fin grid0.N, win0_4.index t = ![(grid0.coords t 0).val, 0])
theorem index5 : ∀ t : Fin cfg0.N, win0_5.index t = ![min (32 * ((grid0.coords t 0).val + 1)) 1023, 0] :=
  (by decide +kernel : ∀ t : Fin grid0.N, win0_5.index t = ![min (32 * ((grid0.coords t 0).val + 1)) 1023, 0])
theorem index6 : ∀ t : Fin cfg0.N, win0_6.index t = ![32 * (grid0.coords t 0).val - 1, 0] :=
  (by decide +kernel : ∀ t : Fin grid0.N, win0_6.index t = ![32 * (grid0.coords t 0).val - 1, 0])
theorem index7 : ∀ t : Fin cfg0.N, win0_7.index t = ![(grid0.coords t 0).val, 0] :=
  (by decide +kernel : ∀ t : Fin grid0.N, win0_7.index t = ![(grid0.coords t 0).val, 0])
theorem index8 : ∀ t : Fin cfg0.N, win0_8.index t = ![min (32 * ((grid0.coords t 0).val + 1)) 1023, 0] :=
  (by decide +kernel : ∀ t : Fin grid0.N, win0_8.index t = ![min (32 * ((grid0.coords t 0).val + 1)) 1023, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![0, 0] :=
  (by decide +kernel : ∀ t : Fin grid0.N, win0_14.index t = ![0, 0])
theorem index15 : ∀ t : Fin cfg0.N, win0_15.index t = ![0, 0] :=
  (by decide +kernel : ∀ t : Fin grid0.N, win0_15.index t = ![0, 0])
theorem index16 : ∀ t : Fin cfg0.N, win0_16.index t = ![0, 0] :=
  (by decide +kernel : ∀ t : Fin grid0.N, win0_16.index t = ![0, 0])
theorem index17 : ∀ t : Fin cfg0.N, win0_17.index t = ![0, 0] :=
  (by decide +kernel : ∀ t : Fin grid0.N, win0_17.index t = ![0, 0])
theorem index18 : ∀ t : Fin cfg0.N, win0_18.index t = ![0, 0] :=
  (by decide +kernel : ∀ t : Fin grid0.N, win0_18.index t = ![0, 0])
theorem index19 : ∀ t : Fin cfg0.N, win0_19.index t = ![(grid0.coords t 0).val, 0] :=
  (by decide +kernel : ∀ t : Fin grid0.N, win0_19.index t = ![(grid0.coords t 0).val, 0])

theorem blk0 (c : Dev nD) (t : Fin cfg0.N) (e : Fin 16) (k : Fin 1024) :
    iblk m c 0 t (ix2 e k) = at2 (a := 16384) (b := 1024) (V m c main_arg0) ((32 * (grid0.coords t 0).val - 1) * 16 + e.val) k.val := by
  unfold iblk
  refine at2_of (V m c main_arg0) (((cfg0.win 0).blk t).view.emb (ValueIdx.ix2 e k)) _ _ ?_ ?_
  · blk_simp [index0]
    try omega
  · blk_simp [index0]
    try omega

theorem blk1 (c : Dev nD) (t : Fin cfg0.N) (e : Fin 512) (k : Fin 1024) :
    iblk m c 1 t (ix2 e k) = at2 (a := 16384) (b := 1024) (V m c main_arg0) (512 * (grid0.coords t 0).val + e.val) k.val := by
  unfold iblk
  refine at2_of (V m c main_arg0) (((cfg0.win 1).blk t).view.emb (ValueIdx.ix2 e k)) _ _ ?_ ?_
  · blk_simp [index1]
    show (grid0.coords t 0).val * 512 + e.val = _; omega
  · blk_simp [index1]
    try omega

theorem blk2 (c : Dev nD) (t : Fin cfg0.N) (e : Fin 16) (k : Fin 1024) :
    iblk m c 2 t (ix2 e k) = at2 (a := 16384) (b := 1024) (V m c main_arg0) (min (32 * ((grid0.coords t 0).val + 1)) 1023 * 16 + e.val) k.val := by
  unfold iblk
  refine at2_of (V m c main_arg0) (((cfg0.win 2).blk t).view.emb (ValueIdx.ix2 e k)) _ _ ?_ ?_
  · blk_simp [index2]
    try omega
  · blk_simp [index2]
    try omega

theorem blk3 (c : Dev nD) (t : Fin cfg0.N) (e : Fin 16) (k : Fin 512) :
    iblk m c 3 t (ix2 e k) = at2 (a := 16384) (b := 512) (V m c main_v7) ((32 * (grid0.coords t 0).val - 1) * 16 + e.val) k.val := by
  unfold iblk
  refine at2_of (V m c main_v7) (((cfg0.win 3).blk t).view.emb (ValueIdx.ix2 e k)) _ _ ?_ ?_
  · blk_simp [index3]
    try omega
  · blk_simp [index3]
    try omega

theorem blk4 (c : Dev nD) (t : Fin cfg0.N) (e : Fin 512) (k : Fin 512) :
    iblk m c 4 t (ix2 e k) = at2 (a := 16384) (b := 512) (V m c main_v7) (512 * (grid0.coords t 0).val + e.val) k.val := by
  unfold iblk
  refine at2_of (V m c main_v7) (((cfg0.win 4).blk t).view.emb (ValueIdx.ix2 e k)) _ _ ?_ ?_
  · blk_simp [index4]
    show (grid0.coords t 0).val * 512 + e.val = _; omega
  · blk_simp [index4]
    try omega

theorem blk5 (c : Dev nD) (t : Fin cfg0.N) (e : Fin 16) (k : Fin 512) :
    iblk m c 5 t (ix2 e k) = at2 (a := 16384) (b := 512) (V m c main_v7) (min (32 * ((grid0.coords t 0).val + 1)) 1023 * 16 + e.val) k.val := by
  unfold iblk
  refine at2_of (V m c main_v7) (((cfg0.win 5).blk t).view.emb (ValueIdx.ix2 e k)) _ _ ?_ ?_
  · blk_simp [index5]
    try omega
  · blk_simp [index5]
    try omega

theorem blk6 (c : Dev nD) (t : Fin cfg0.N) (e : Fin 16) (k : Fin 1024) :
    iblk m c 6 t (ix2 e k) = at2 (a := 16384) (b := 1024) (V m c main_v8) ((32 * (grid0.coords t 0).val - 1) * 16 + e.val) k.val := by
  unfold iblk
  refine at2_of (V m c main_v8) (((cfg0.win 6).blk t).view.emb (ValueIdx.ix2 e k)) _ _ ?_ ?_
  · blk_simp [index6]
    try omega
  · blk_simp [index6]
    try omega

theorem blk7 (c : Dev nD) (t : Fin cfg0.N) (e : Fin 512) (k : Fin 1024) :
    iblk m c 7 t (ix2 e k) = at2 (a := 16384) (b := 1024) (V m c main_v8) (512 * (grid0.coords t 0).val + e.val) k.val := by
  unfold iblk
  refine at2_of (V m c main_v8) (((cfg0.win 7).blk t).view.emb (ValueIdx.ix2 e k)) _ _ ?_ ?_
  · blk_simp [index7]
    show (grid0.coords t 0).val * 512 + e.val = _; omega
  · blk_simp [index7]
    try omega

theorem blk8 (c : Dev nD) (t : Fin cfg0.N) (e : Fin 16) (k : Fin 1024) :
    iblk m c 8 t (ix2 e k) = at2 (a := 16384) (b := 1024) (V m c main_v8) (min (32 * ((grid0.coords t 0).val + 1)) 1023 * 16 + e.val) k.val := by
  unfold iblk
  refine at2_of (V m c main_v8) (((cfg0.win 8).blk t).view.emb (ValueIdx.ix2 e k)) _ _ ?_ ?_
  · blk_simp [index8]
    try omega
  · blk_simp [index8]
    try omega

theorem blk9 (c : Dev nD) (t : Fin cfg0.N) (e : Fin 512) (k : Fin 1024) :
    iblk m c 9 t (ix2 e k) = at2 (a := 512) (b := 1024) (V m c main_v1) (e.val) k.val := by
  unfold iblk
  refine at2_of (V m c main_v1) (((cfg0.win 9).blk t).view.emb (ValueIdx.ix2 e k)) _ _ ?_ ?_
  · blk_simp [index9]
    try omega
  · blk_simp [index9]
    try omega

theorem blk10 (c : Dev nD) (t : Fin cfg0.N) (e : Fin 1024) (k : Fin 1024) :
    iblk m c 10 t (ix2 e k) = at2 (a := 1024) (b := 1024) (V m c main_v3) (e.val) k.val := by
  unfold iblk
  refine at2_of (V m c main_v3) (((cfg0.win 10).blk t).view.emb (ValueIdx.ix2 e k)) _ _ ?_ ?_
  · blk_simp [index10]
    try omega
  · blk_simp [index10]
    try omega

theorem blk11 (c : Dev nD) (t : Fin cfg0.N) (e : Fin 1) (k : Fin 1024) :
    iblk m c 11 t (ix2 e k) = at2 (a := 1) (b := 1024) (V m c main_arg4) (e.val) k.val := by
  unfold iblk
  refine at2_of (V m c main_arg4) (((cfg0.win 11).blk t).view.emb (ValueIdx.ix2 e k)) _ _ ?_ ?_
  · blk_simp [index11]
    try omega
  · blk_simp [index11]
    try omega

theorem blk12 (c : Dev nD) (t : Fin cfg0.N) (e : Fin 1) (k : Fin 1024) :
    iblk m c 12 t (ix2 e k) = at2 (a := 1) (b := 1024) (V m c main_arg5) (e.val) k.val := by
  unfold iblk
  refine at2_of (V m c main_arg5) (((cfg0.win 12).blk t).view.emb (ValueIdx.ix2 e k)) _ _ ?_ ?_
  · blk_simp [index12]
    try omega
  · blk_simp [index12]
    try omega

theorem blk13 (c : Dev nD) (t : Fin cfg0.N) (e : Fin 1024) (k : Fin 2816) :
    iblk m c 13 t (ix2 e k) = at2 (a := 1024) (b := 2816) (V m c main_v4) (e.val) k.val := by
  unfold iblk
  refine at2_of (V m c main_v4) (((cfg0.win 13).blk t).view.emb (ValueIdx.ix2 e k)) _ _ ?_ ?_
  · blk_simp [index13]
    try omega
  · blk_simp [index13]
    try omega

theorem blk14 (c : Dev nD) (t : Fin cfg0.N) (e : Fin 1024) (k : Fin 2816) :
    iblk m c 14 t (ix2 e k) = at2 (a := 1024) (b := 2816) (V m c main_v5) (e.val) k.val := by
  unfold iblk
  refine at2_of (V m c main_v5) (((cfg0.win 14).blk t).view.emb (ValueIdx.ix2 e k)) _ _ ?_ ?_
  · blk_simp [index14]
    try omega
  · blk_simp [index14]
    try omega

theorem blk15 (c : Dev nD) (t : Fin cfg0.N) (e : Fin 2816) (k : Fin 1024) :
    iblk m c 15 t (ix2 e k) = at2 (a := 2816) (b := 1024) (V m c main_v6) (e.val) k.val := by
  unfold iblk
  refine at2_of (V m c main_v6) (((cfg0.win 15).blk t).view.emb (ValueIdx.ix2 e k)) _ _ ?_ ?_
  · blk_simp [index15]
    try omega
  · blk_simp [index15]
    try omega

theorem blk16 (c : Dev nD) (t : Fin cfg0.N) (e : Fin 3) (k : Fin 2816) :
    iblk m c 16 t (ix2 e k) = at2 (a := 3) (b := 2816) (V m c main_arg9) (e.val) k.val := by
  unfold iblk
  refine at2_of (V m c main_arg9) (((cfg0.win 16).blk t).view.emb (ValueIdx.ix2 e k)) _ _ ?_ ?_
  · blk_simp [index16]
    try omega
  · blk_simp [index16]
    try omega

theorem blk17 (c : Dev nD) (t : Fin cfg0.N) (e : Fin 1) (k : Fin 2816) :
    iblk m c 17 t (ix2 e k) = at2 (a := 1) (b := 2816) (V m c main_arg10) (e.val) k.val := by
  unfold iblk
  refine at2_of (V m c main_arg10) (((cfg0.win 17).blk t).view.emb (ValueIdx.ix2 e k)) _ _ ?_ ?_
  · blk_simp [index17]
    try omega
  · blk_simp [index17]
    try omega

theorem blk18 (c : Dev nD) (t : Fin cfg0.N) (e : Fin 1) (k : Fin 1024) :
    iblk m c 18 t (ix2 e k) = at2 (a := 1) (b := 1024) (V m c main_arg11) (e.val) k.val := by
  unfold iblk
  refine at2_of (V m c main_arg11) (((cfg0.win 18).blk t).view.emb (ValueIdx.ix2 e k)) _ _ ?_ ?_
  · blk_simp [index18]
    try omega
  · blk_simp [index18]
    try omega

/-- What the launch finds, as the arguments. -/
theorem slice_low (x : FVec Ideal S1536x1024 .f32) (k : Fin 512) (l : Fin 1024) :
    at2 (a := 512) (b := 1024) (truncf .bf16 (extractStridedSlice S512x1024 ![0, 0] x slices_S1536x1024_S512x1024_0_0 : FVec Ideal S512x1024 .f32) bitsLt_bf16_f32 : FVec Ideal S512x1024 .bf16) k.val l.val
      = at2 (a := 1536) (b := 1024) x k.val l.val := by
  rw [← at2_of (a := 512) (b := 1024) _ (ix2 k l) k.val l.val rfl rfl]
  pointwise
  exact at2_of x _ _ _ (by simp) (by simp)

theorem slice_high (x : FVec Ideal S1536x1024 .f32) (k l : Fin 1024) :
    at2 (a := 1024) (b := 1024) (truncf .bf16 (extractStridedSlice S1024x1024 ![512, 0] x slices_S1536x1024_S1024x1024_512_0 : FVec Ideal S1024x1024 .f32) bitsLt_bf16_f32 : FVec Ideal S1024x1024 .bf16) k.val l.val
      = at2 (a := 1536) (b := 1024) x (512 + k.val) l.val := by
  rw [← at2_of (a := 1024) (b := 1024) _ (ix2 k l) k.val l.val rfl rfl]
  pointwise
  exact at2_of x _ _ _ (by simp) (by simp)

theorem holds (c : Dev nD) (t : Fin cfg0.N) : Holds (args m c) (grid0.coords t 0).val
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) where
  xp e k := (blk0 m c t e k).trans (by rw [V_main_arg0]; rfl)
  xc e k := (blk1 m c t e k).trans (by rw [V_main_arg0]; rfl)
  xn e k := (blk2 m c t e k).trans (by rw [V_main_arg0]; rfl)
  ap e k := (blk3 m c t e k).trans (by rw [V_v7]; rfl)
  ac e k := (blk4 m c t e k).trans (by rw [V_v7]; rfl)
  an e k := (blk5 m c t e k).trans (by rw [V_v7]; rfl)
  sp e k := (blk6 m c t e k).trans (by rw [V_v8]; rfl)
  sc e k := (blk7 m c t e k).trans (by rw [V_v8]; rfl)
  sn e k := (blk8 m c t e k).trans (by rw [V_v8]; rfl)
  wa k l := (blk9 m c t k l).trans (by rw [V_v1]; exact slice_low _ k l)
  ws k l := (blk10 m c t k l).trans (by rw [V_v3]; exact slice_high _ k l)
  gMix l := (blk11 m c t 0 l).trans (by rw [V_main_arg4]; rfl)
  gPre l := (blk12 m c t 0 l).trans (by rw [V_main_arg5]; rfl)
  wg k l := (blk13 m c t k l).trans (by rw [V_v4]; rfl)
  wu k l := (blk14 m c t k l).trans (by rw [V_v5]; rfl)
  wd k l := (blk15 m c t k l).trans (by rw [V_v6]; rfl)
  cw k l := (blk16 m c t k l).trans (by rw [V_main_arg9]; rfl)
  cb l := (blk17 m c t 0 l).trans (by rw [V_main_arg10]; rfl)
  gPost l := (blk18 m c t 0 l).trans (by rw [V_main_arg11]; rfl)

/-! ## One grid point's block -/

/-- The output of the 512 tokens of block `n`. -/
def outBlock (Q : Arrays) (n : ℕ) (y : S512x1024.Idx) : Elt Ideal .f32 := out Q (512 * n + (y 0).val) (y 1).val

theorem block_at (c : Dev nD) (i : grid0.Coords) (arg1 : Memref sig .tc .vmem S16x1024 .f32) (harg1 : arg1.IsWhole) (arg2 :
      Memref sig .tc .vmem S512x1024 .f32) (harg2 : arg2.IsWhole) (arg3 : Memref sig .tc .vmem S16x1024 .f32) (harg3
      : arg3.IsWhole) (arg4 : Memref sig .tc .vmem S16x512 .bf16) (harg4 : arg4.IsWhole) (arg5 : Memref sig .tc
      .vmem S512x512 .bf16) (harg5 : arg5.IsWhole) (arg6 : Memref sig .tc .vmem S16x512 .bf16) (harg6 :
      arg6.IsWhole) (arg7 : Memref sig .tc .vmem S16x1024 .bf16) (harg7 : arg7.IsWhole) (arg8 : Memref sig .tc .vmem
      S512x1024 .bf16) (harg8 : arg8.IsWhole) (arg9 : Memref sig .tc .vmem S16x1024 .bf16) (harg9 : arg9.IsWhole)
      (arg10 : Memref sig .tc .vmem S512x1024 .bf16) (harg10 : arg10.IsWhole) (arg11 : Memref sig .tc .vmem
      S1024x1024 .bf16) (harg11 : arg11.IsWhole) (arg12 : Memref sig .tc .vmem S1x1024 .f32) (harg12 :
      arg12.IsWhole) (arg13 : Memref sig .tc .vmem S1x1024 .f32) (harg13 : arg13.IsWhole) (arg14 : Memref sig .tc
      .vmem S1024x2816 .bf16) (harg14 : arg14.IsWhole) (arg15 : Memref sig .tc .vmem S1024x2816 .bf16) (harg15 :
      arg15.IsWhole) (arg16 : Memref sig .tc .vmem S2816x1024 .bf16) (harg16 : arg16.IsWhole) (arg17 : Memref sig
      .tc .vmem S3x2816 .f32) (harg17 : arg17.IsWhole) (arg18 : Memref sig .tc .vmem S1x2816 .f32) (harg18 :
      arg18.IsWhole) (arg19 : Memref sig .tc .vmem S1x1024 .f32) (harg19 : arg19.IsWhole) (arg20 : Memref sig .tc
      .vmem S512x1024 .f32) (harg20 : arg20.IsWhole) (arg21 : Memref sig .tc .vmem S544x1024 .f32) (harg21 :
      arg21.IsWhole) (arg22 : Memref sig .tc .vmem S544x512 .bf16) (harg22 : arg22.IsWhole) (arg23 : Memref sig .tc
      .vmem S544x1024 .bf16) (harg23 : arg23.IsWhole) (arg24 : Memref sig .tc .vmem S544x1024 .bf16) (harg24 :
      arg24.IsWhole) (arg25 : Memref sig .tc .vmem S544x256 .f32) (harg25 : arg25.IsWhole) (arg26 : Memref sig .tc
      .vmem S512x2816 .bf16) (harg26 : arg26.IsWhole) (x0 : Vec Ideal S16x1024 .f32) (x1 : Vec Ideal S512x1024 .f32)
      (x2 : Vec Ideal S16x1024 .f32) (x3 : Vec Ideal S16x512 .bf16) (x4 : Vec Ideal S512x512 .bf16) (x5 : Vec Ideal
      S16x512 .bf16) (x6 : Vec Ideal S16x1024 .bf16) (x7 : Vec Ideal S512x1024 .bf16) (x8 : Vec Ideal S16x1024
      .bf16) (x9 : Vec Ideal S512x1024 .bf16) (x10 : Vec Ideal S1024x1024 .bf16) (x11 : Vec Ideal S1x1024 .f32) (x12
      : Vec Ideal S1x1024 .f32) (x13 : Vec Ideal S1024x2816 .bf16) (x14 : Vec Ideal S1024x2816 .bf16) (x15 : Vec
      Ideal S2816x1024 .bf16) (x16 : Vec Ideal S3x2816 .f32) (x17 : Vec Ideal S1x2816 .f32) (x18 : Vec Ideal S1x1024
      .f32)
      (Q : Arrays) (H : Holds Q (i 0).val x0 x1 x2 x3 x4 x5 x6 x7 x8 x9 x10 x11 x12 x13 x14 x15 x16 x17 x18) (y : S512x1024.Idx) :
    out0_A_19 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 x0 x1
      x2 x3 x4 x5 x6 x7 x8 x9 x10 x11 x12 x13 x14 x15 x16 x17 x18 y = outBlock Q (i 0).val y := by
  have cover := cover0_A_19 (F := Ideal) c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 x0 x1
      x2 x3 x4 x5 x6 x7 x8 x9 x10 x11 x12 x13 x14 x15 x16 x17 x18
  unfold out0_A_19
  rw [View.read_writes_eq_canon _ _ _ cover]
  refine View.canon_apply_of_pieces (outBlock Q (i 0).val) _ ?_ y (cover y)
  rw [pieces]
  have hx : ∀ x : S256x1024.Idx, x = ix2 (x 0) (x 1) := fun x => by
    funext a
    match a with
    | ⟨0, _⟩ => rfl
    | ⟨1, _⟩ => rfl
  refine View.PiecesOf.mem (G := outBlock Q (i 0).val) ⟨fun x => ?_, fun x => ?_, trivial⟩
  · refine (congrArg (outRows _ _ _ _) (hx x)).trans ((out_at H i rfl 256 inb_S512x2816_S256x2816_256_0 inb_S544x1024_S256x1024_272_0 (x 0) (x 1) (by
      have : (x 0).val < 256 := (x 0).isLt
      omega)).trans ?_)
    unfold outBlock
    refine congrArg₂ (out Q) (congrArg (512 * (i 0).val + ·) ?_) ?_
    · exact (Rect.idx_unit_val (s := S512x1024) ![256, 0] ![256, 1024] inb_S512x1024_S256x1024_256_0 x 0).symm
    · exact ((Rect.idx_unit_val (s := S512x1024) ![256, 0] ![256, 1024] inb_S512x1024_S256x1024_256_0 x 1).trans (Nat.zero_add _)).symm
  · refine (congrArg (outRows _ _ _ _) (hx x)).trans ((out_at H i rfl 0 inb_S512x2816_S256x2816_0_0 inb_S544x1024_S256x1024_16_0 (x 0) (x 1) (by
      have : (x 0).val < 256 := (x 0).isLt
      omega)).trans ?_)
    unfold outBlock
    refine congrArg₂ (out Q) (congrArg (512 * (i 0).val + ·) ?_) ?_
    · exact (Rect.idx_unit_val (s := S512x1024) ![0, 0] ![256, 1024] inb_S512x1024_S256x1024_0_0 x 0).symm
    · exact ((Rect.idx_unit_val (s := S512x1024) ![0, 0] ![256, 1024] inb_S512x1024_S256x1024_0_0 x 1).trans (Nat.zero_add _)).symm

/-! ## The array -/

/-- Every element of the result array is the layer's output at its token. -/
theorem array (c : Dev nD) : (dats m 0 c).arrAt 19 cfg0.N = fun y : S16384x1024.Idx => out (args m c) (y 0).val (y 1).val := by
  refine (dats m 0 c).arrAt_eq_of_covers 19 (fun y : S16384x1024.Idx => out (args m c) (y 0).val (y 1).val)
      (by decide +kernel) fun t hf y => ?_
  blk_simp
  rw [after0_19]
  unfold outsAt0
  refine (block_at c (grid0.coords t) _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ (args m c) (holds m c t) y).trans ?_
  unfold outBlock
  refine congrArg₂ (out (args m c)) ?_ ?_
  · blk_simp [index19]
    try omega
  · blk_simp [index19]
    try rfl

end Cert.Kernel2Ideal.Mix

end
end
-- ==== Proof.MixRef.lean ====
/- The second reference's result at an index: the out-projection and the channel mixer in plain terms. -/
module

public import proofs.«01_k».proof.Proof.Gen.Reference2Ideal.Read
public import proofs.«01_k».proof.Proof.MixSpec
public import Idealize.ShloMosaic.Lib.KernelVsHost

@[expose] public section

set_option maxRecDepth 65536

noncomputable section

namespace Cert.Reference2Ideal.Mix

open Cert.Reference2Ideal Cert.Reference2Ideal.Gen Cert.Reference2Ideal.Read Idealize.ShloMosaic Idealize.SL.Sem
open Cert.Att (at2 at2_of)
open Cert.Mix (Arrays rms mix x1 hid lin up taps gate gelu act down out)

variable (X : FVec Ideal S16384x1024 .f32) (A : FVec Ideal S16384x512 .f32) (S : FVec Ideal S16384x1024 .f32)
  (W : FVec Ideal S1536x1024 .f32) (G1 G2 : FVec Ideal S1x1024 .f32) (Wg Wu : FVec Ideal S1024x2816 .f32)
  (Wd : FVec Ideal S2816x1024 .f32) (Cw : FVec Ideal S3x2816 .f32) (Cb : FVec Ideal S1x2816 .f32) (G3 : FVec Ideal S1x1024 .f32)

/-- The reference's arguments, as functions of natural numbers. -/
def arrays : Arrays where
  x := at2 X
  a := at2 A
  s := at2 S
  w := at2 W
  gMix := at2 G1 0
  gPre := at2 G2 0
  wg := at2 Wg
  wu := at2 Wu
  wd := at2 Wd
  cw := at2 Cw
  cb := at2 Cb 0
  gPost := at2 G3 0

local notation "𝔓" => arrays X A S W G1 G2 Wg Wu Wd Cw Cb G3

theorem zero_bits : Ideal.ofBits .f32 0x00000000#32 = 0 := by
  simp [Ideal.ofBits, Ideal.ieee]

theorem mix_at (i : S16384x1024.Idx) : val_main_v1 (F := Ideal) A S W i = mix 𝔓 (i 0).val (i 1).val := by
  rw [val_main_v1_apply]
  refine (Fin.sum_univ_add (a := 512) (b := 1024) _).trans ?_
  unfold mix
  refine congrArg₂ (· + ·) (Finset.sum_congr rfl fun k _ => congrArg₂ (· * ·) ?_ ?_) (Finset.sum_congr rfl fun k _ => congrArg₂ (· * ·) ?_ ?_)
  · refine (concatenate_pair_apply_left 1 A S concatenates_S16384x512_S16384x1024_S16384x1536_d1 _ rfl (ValueIdx.ix2 ⟨(i 0).val, (i 0).isLt⟩ k) fun b => ?_).trans (at2_of A _ _ _ rfl rfl)
    match b with
    | ⟨0, _⟩ => rfl
    | ⟨1, _⟩ => rfl
  · exact at2_of W _ _ _ rfl rfl
  · refine (concatenate_pair_apply_right 1 A S concatenates_S16384x512_S16384x1024_S16384x1536_d1 _ rfl rfl (ValueIdx.ix2 ⟨(i 0).val, (i 0).isLt⟩ k) (fun b hb => ?_) ?_).trans (at2_of S _ _ _ rfl rfl)
    · match b, hb with
      | ⟨0, _⟩, _ => rfl
      | ⟨1, _⟩, hb => exact absurd rfl hb
    · show k.val + 512 = 512 + k.val
      omega
  · exact at2_of W _ _ _ rfl rfl

theorem x1_at (i : S16384x1024.Idx) : val_main_v14 (F := Ideal) X A S W G1 i = x1 𝔓 (i 0).val (i 1).val := by
  rw [val_main_v14_apply, val_main_v13_apply, val_main_v11_apply, val_main_v10_apply, val_main_v9_apply, val_main_v8_apply,
    val_main_v6_apply, val_main_v4_apply, val_main_v3_apply, val_main_v5_apply, val_main_v7_apply, val_main_v12_apply,
    val_main_cst_apply, val_main_cst_0_apply, val_main_cst_1_apply, mix_at X A S W G1 G2 Wg Wu Wd Cw Cb G3]
  simp only [val_main_v2_apply, mix_at X A S W G1 G2 Wg Wu Wd Cw Cb G3]
  unfold x1 rms
  refine congrArg₂ (· + ·) (at2_of X _ _ _ rfl rfl) (congrArg₂ (· * ·) (congrArg (mix 𝔓 (i 0).val (i 1).val * ·) ?_) (at2_of G1 _ _ _ rfl rfl))
  refine congrArg Ideal.rsqrt (congrArg (· + Ideal.ofBits .f32 0x358637BD#32) (congrArg (Ideal.div · (Ideal.ofBits .f32 0x44800000#32)) ?_))
  exact (congrArg (· + _) zero_bits).trans (zero_add _)

theorem hid_at (i : S16384x1024.Idx) : val_main_v26 (F := Ideal) X A S W G1 G2 i = hid 𝔓 (i 0).val (i 1).val := by
  rw [val_main_v26_apply, val_main_v24_apply, val_main_v23_apply, val_main_v22_apply, val_main_v21_apply,
    val_main_v19_apply, val_main_v17_apply, val_main_v16_apply, val_main_v18_apply, val_main_v20_apply, val_main_v25_apply,
    val_main_cst_2_apply, val_main_cst_3_apply, val_main_cst_4_apply, x1_at X A S W G1 G2 Wg Wu Wd Cw Cb G3]
  simp only [val_main_v15_apply, x1_at X A S W G1 G2 Wg Wu Wd Cw Cb G3]
  unfold hid rms
  refine congrArg₂ (· * ·) (congrArg (x1 𝔓 (i 0).val (i 1).val * ·) ?_) (at2_of G2 _ _ _ rfl rfl)
  refine congrArg Ideal.rsqrt (congrArg (· + Ideal.ofBits .f32 0x358637BD#32) (congrArg (Ideal.div · (Ideal.ofBits .f32 0x44800000#32)) ?_))
  exact (congrArg (· + _) zero_bits).trans (zero_add _)

theorem lin_at (i : S16384x2816.Idx) : val_main_v27 (F := Ideal) X A S W G1 G2 Wg i = lin 𝔓 (i 0).val (i 1).val := by
  rw [val_main_v27_apply]
  simp only [hid_at X A S W G1 G2 Wg Wu Wd Cw Cb G3]
  exact Finset.sum_congr rfl fun k _ => congrArg₂ (· * ·) rfl (at2_of Wg _ _ _ rfl rfl)

theorem up_at (i : S16384x2816.Idx) : val_main_v66 (F := Ideal) X A S W G1 G2 Wu i = up 𝔓 (i 0).val (i 1).val := by
  rw [val_main_v66_apply]
  simp only [hid_at X A S W G1 G2 Wg Wu Wd Cw Cb G3]
  exact Finset.sum_congr rfl fun k _ => congrArg₂ (· * ·) rfl (at2_of Wu _ _ _ rfl rfl)

/-- The padded gate at a place of its sequence counted from one. -/
theorem padded_at (i : S2x8194x2816.Idx) :
    val_main_v29 (F := Ideal) X A S W G1 G2 Wg i
      = if 1 ≤ (i 1).val ∧ (i 1).val ≤ 8192 then lin 𝔓 ((i 0).val * 8192 + (i 1).val - 1) (i 2).val else 0 := by
  have h0 : (i 0).val < 2 := (i 0).isLt
  have h2 : (i 2).val < 2816 := (i 2).isLt
  unfold val_main_v29
  by_cases h : 1 ≤ (i 1).val ∧ (i 1).val ≤ 8192
  · rw [if_pos h]
    refine (pad_apply_of_inside _ _ _ _ _ _ _ i (ValueIdx.ix3 ⟨(i 0).val, h0⟩ ⟨(i 1).val - 1, by omega⟩ ⟨(i 2).val, h2⟩) fun b => ?_).trans ?_
    · match b with
      | ⟨0, _⟩ => show (i 0).val = 0 + (i 0).val * (0 + 1); omega
      | ⟨1, _⟩ => show (i 1).val = 1 + ((i 1).val - 1) * (0 + 1); omega
      | ⟨2, _⟩ => show (i 2).val = 0 + (i 2).val * (0 + 1); omega
    · rw [val_main_v28_apply, lin_at X A S W G1 G2 Wg Wu Wd Cw Cb G3]
      refine congrArg₂ (lin 𝔓) ?_ ?_
      · show (((i 0).val * 8192 + ((i 1).val - 1)) * 2816 + (i 2).val) / 2816 = _
        omega
      · show (((i 0).val * 8192 + ((i 1).val - 1)) * 2816 + (i 2).val) % 2816 = _
        omega
  · rw [if_neg h]
    refine (pad_apply_of_not_inside _ _ _ _ _ _ _ i 1 fun hin => h ?_).trans ?_
    · have a1 : 1 ≤ (i 1).val := hin.1
      have a2 : ((i 1).val - 1) / (0 + 1) < 8192 := hin.2.2
      rw [Nat.div_one] at a2
      omega
    · rw [val_main_call0_v0_apply, val_main_c_apply]
      show ((((0#32 : BitVec 32).toInt : ℝ)) : EReal) = 0
      simp

theorem gate_at (i : S16384x2816.Idx) : val_main_v52 (F := Ideal) X A S W G1 G2 Wg Cw Cb i = gate 𝔓 (i 0).val (i 1).val := by
  have h0 : (i 0).val < 16384 := (i 0).isLt
  have h1 : (i 1).val < 2816 := (i 1).isLt
  rw [val_main_v52_apply, val_main_v50_apply, val_main_v49_apply, val_main_v42_apply, val_main_v35_apply, val_main_v41_apply, val_main_v48_apply,
    val_main_v30_apply, val_main_v36_apply, val_main_v43_apply, val_main_v34_apply, val_main_v33_apply, val_main_v32_apply, val_main_v31_apply,
    val_main_v40_apply, val_main_v39_apply, val_main_v38_apply, val_main_v37_apply, val_main_v47_apply, val_main_v46_apply, val_main_v45_apply,
    val_main_v44_apply, val_main_v51_apply,
    padded_at X A S W G1 G2 Wg Wu Wd Cw Cb G3, padded_at X A S W G1 G2 Wg Wu Wd Cw Cb G3, padded_at X A S W G1 G2 Wg Wu Wd Cw Cb G3]
  have e0 : (idx_main_v50 i 0).val = (i 0).val / 8192 := by
    show ((i 0).val * 2816 + (i 1).val) / (8192 * 2816) = _
    omega
  have e1 : (idx_main_v50 i 1).val = (i 0).val % 8192 := by
    show ((i 0).val * 2816 + (i 1).val) / 2816 % 8192 = _
    omega
  have e2 : (idx_main_v50 i 2).val = (i 1).val := by
    show ((i 0).val * 2816 + (i 1).val) % 2816 = _
    omega
  have e3 : (idx_main_v50 i 2).val % 2816 = (i 1).val := by omega
  unfold gate taps
  refine congrArg₂ (· + ·) (congrArg₂ (· + ·) (congrArg₂ (· + ·) (congrArg₂ (· * ·) ?_ (at2_of Cw _ _ _ rfl ?_)) (congrArg₂ (· * ·) ?_ (at2_of Cw _ _ _ rfl ?_)))
    (congrArg₂ (· * ·) ?_ (at2_of Cw _ _ _ rfl ?_))) (at2_of Cb _ _ _ rfl ?_)
  · show (if 1 ≤ (idx_main_v50 i 1).val ∧ (idx_main_v50 i 1).val ≤ 8192 then
      lin 𝔓 ((idx_main_v50 i 0).val * 8192 + (idx_main_v50 i 1).val - 1) (idx_main_v50 i 2).val else 0) = _
    rw [e0, e1, e2]
    by_cases h : (i 0).val % 8192 = 0
    · rw [if_pos h, if_neg (by omega)]
    · rw [if_neg h, if_pos (by omega)]
      exact congrArg (lin 𝔓 · _) (by omega)
  · exact e3
  · show (if 1 ≤ 1 + (idx_main_v50 i 1).val ∧ 1 + (idx_main_v50 i 1).val ≤ 8192 then
      lin 𝔓 ((idx_main_v50 i 0).val * 8192 + (1 + (idx_main_v50 i 1).val) - 1) (idx_main_v50 i 2).val else 0) = _
    rw [e0, e1, e2, if_pos (by omega)]
    exact congrArg (lin 𝔓 · _) (by omega)
  · exact e3
  · show (if 1 ≤ 2 + (idx_main_v50 i 1).val ∧ 2 + (idx_main_v50 i 1).val ≤ 8192 then
      lin 𝔓 ((idx_main_v50 i 0).val * 8192 + (2 + (idx_main_v50 i 1).val) - 1) (idx_main_v50 i 2).val else 0) = _
    rw [e0, e1, e2]
    by_cases h : (i 0).val % 8192 = 8191
    · rw [if_pos h, if_neg (by omega)]
    · rw [if_neg h, if_pos (by omega)]
      exact congrArg (lin 𝔓 · _) (by omega)
  · exact e3
  · rfl

theorem act_at (i : S16384x2816.Idx) : val_main_v67 (F := Ideal) X A S W G1 G2 Wg Wu Cw Cb i = act 𝔓 (i 0).val (i 1).val := by
  rw [val_main_v67_apply, up_at X A S W G1 G2 Wg Wu Wd Cw Cb G3]
  refine congrArg (· * up 𝔓 (i 0).val (i 1).val) ?_
  rw [val_main_v65_apply, val_main_v64_apply, val_main_v63_apply, val_main_v62_apply, val_main_v61_apply, val_main_v60_apply, val_main_v59_apply,
    val_main_v58_apply, val_main_v57_apply, val_main_v56_apply, val_main_v55_apply, val_main_v54_apply, val_main_v53_apply,
    gate_at X A S W G1 G2 Wg Wu Wd Cw Cb G3]
  rfl

theorem down_at (i : S16384x1024.Idx) : val_main_v68 (F := Ideal) X A S W G1 G2 Wg Wu Wd Cw Cb i = down 𝔓 (i 0).val (i 1).val := by
  rw [val_main_v68_apply]
  simp only [act_at X A S W G1 G2 Wg Wu Wd Cw Cb G3]
  exact Finset.sum_congr rfl fun k _ => congrArg₂ (· * ·) rfl (at2_of Wd _ _ _ rfl rfl)

theorem out_at (i : S16384x1024.Idx) : val_main_v81 (F := Ideal) X A S W G1 G2 Wg Wu Wd Cw Cb G3 i = out 𝔓 (i 0).val (i 1).val := by
  rw [val_main_v81_apply, x1_at X A S W G1 G2 Wg Wu Wd Cw Cb G3, val_main_v80_apply, val_main_v78_apply, val_main_v77_apply, val_main_v76_apply, val_main_v75_apply,
    val_main_v73_apply, val_main_v71_apply, val_main_v70_apply, val_main_v72_apply, val_main_v74_apply, val_main_v79_apply,
    down_at X A S W G1 G2 Wg Wu Wd Cw Cb G3]
  simp only [val_main_v69_apply, down_at X A S W G1 G2 Wg Wu Wd Cw Cb G3]
  unfold out rms
  refine congrArg (x1 𝔓 (i 0).val (i 1).val + ·) (congrArg₂ (· * ·) (congrArg (down 𝔓 (i 0).val (i 1).val * ·) ?_) (at2_of G3 _ _ _ rfl rfl))
  refine congrArg Ideal.rsqrt (congrArg (· + Ideal.ofBits .f32 0x358637BD#32) (congrArg (Ideal.div · (Ideal.ofBits .f32 0x44800000#32)) ?_))
  exact (congrArg (· + _) zero_bits).trans (zero_add _)

end Cert.Reference2Ideal.Mix

end
end
-- ==== Proof.PromptBody.lean ====
/- What the mixing kernel's body computes at one grid point, as a chain of named arrays: each scratch array is the one that its
   stores leave.
   The same as `MixBody`, for the prompt batch of 8 sequences, whose program is another one with its own names. -/
module

public import proofs.«01_k».proof.Proof.Gen.Kernel4Ideal.Frame.RunA
public import Idealize.ShloMosaic.Lib.Pipeline.ReadBack

@[expose] public section

set_option maxRecDepth 65536

noncomputable section

namespace Cert.Kernel4Ideal.Mix

open Cert.Kernel4Ideal Cert.Kernel4Ideal.Gen Idealize.ShloMosaic Idealize.ShloMosaic.TcCoe Idealize.SL.Sem

variable {F : FTy → Type} [FloatOps F]

/-- The rows of the attention's output that a block works on: the 16 before it, its 512, the 16 after. -/
def aExt (x3 : Vec F S16x512 .bf16) (x4 : Vec F S512x512 .bf16) (x5 : Vec F S16x512 .bf16) : Vec F S544x512 .bf16 :=
  View.canon [⟨Rect.unit ![528, 0] ![16, 512] inb_S544x512_S16x512_528_0, k0_pay8 x5⟩,
    ⟨Rect.unit ![16, 0] ![512, 512] inb_S544x512_S512x512_16_0, k0_pay7 (k0_pay6 x4)⟩,
    ⟨Rect.unit ![0, 0] ![16, 512] inb_S544x512_S16x512_0_0, k0_pay5 x3⟩]

/-- The same rows of the SSD mixer's output. -/
def sExt (x6 : Vec F S16x1024 .bf16) (x7 : Vec F S512x1024 .bf16) (x8 : Vec F S16x1024 .bf16) : Vec F S544x1024 .bf16 :=
  View.canon [⟨Rect.unit ![528, 0] ![16, 1024] inb_S544x1024_S16x1024_528_0, k0_pay11 x8⟩,
    ⟨Rect.unit ![16, 0] ![512, 1024] inb_S544x1024_S512x1024_16_0, k0_pay10 x7⟩,
    ⟨Rect.unit ![0, 0] ![16, 1024] inb_S544x1024_S16x1024_0_0, k0_pay9 x6⟩]

/-- The same rows of the layer's input, as pieces. -/
def xPieces (x0 : Vec F S16x1024 .f32) (x1 : Vec F S512x1024 .f32) (x2 : Vec F S16x1024 .f32) : List (View.Piece (Elt F) S544x1024 .f32) :=
  [⟨Rect.unit ![528, 0] ![16, 1024] inb_S544x1024_S16x1024_528_0, k0_pay4 x2⟩,
    ⟨Rect.unit ![16, 0] ![512, 1024] inb_S544x1024_S512x1024_16_0, k0_pay3 x1⟩,
    ⟨Rect.unit ![0, 0] ![16, 1024] inb_S544x1024_S16x1024_0_0, k0_pay2 x0⟩]

/-- The residual stream after mixing, of 272 rows. -/
def x1Half (a : Vec F S272x512 .bf16) (wa : Vec F S512x1024 .bf16) (s : Vec F S272x1024 .bf16) (ws : Vec F S1024x1024 .bf16)
    (x : Vec F S272x1024 .f32) (g : Vec F S1x1024 .f32) : FVec F S272x1024 .f32 := k0_pay18 a wa s ws x g

/-- What the channel mixer reads, of 272 rows. -/
def hHalf (a : Vec F S272x512 .bf16) (wa : Vec F S512x1024 .bf16) (s : Vec F S272x1024 .bf16) (ws : Vec F S1024x1024 .bf16)
    (x : Vec F S272x1024 .f32) (g g' : Vec F S1x1024 .f32) : FVec F S272x1024 .bf16 := k0_pay21 (k0_pay19 a wa s ws x g) (k0_pay20 g')

/-- The rows of the layer's input, the first half replaced by the residual stream after mixing. -/
def xOne (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) : List (View.Piece (Elt F) S544x1024 .f32) :=
  ⟨Rect.unit ![0, 0] ![272, 1024] inb_S544x1024_S272x1024_0_0,
    x1Half (View.ld (aExt x3 x4 x5) (Rect.unit ![0, 0] ![272, 512] inb_S544x512_S272x512_0_0)) x9 (View.ld (sExt x6 x7 x8) (Rect.unit ![0, 0] ![272, 1024] inb_S544x1024_S272x1024_0_0)) x10
      (View.ld (View.canon (xPieces x0 x1 x2)) (Rect.unit ![0, 0] ![272, 1024] inb_S544x1024_S272x1024_0_0)) x11⟩ :: xPieces x0 x1 x2

/-- Both halves replaced. -/
def xTwo (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) : Vec F S544x1024 .f32 :=
  View.canon (⟨Rect.unit ![272, 0] ![272, 1024] inb_S544x1024_S272x1024_272_0,
    x1Half (View.ld (aExt x3 x4 x5) (Rect.unit ![272, 0] ![272, 512] inb_S544x512_S272x512_272_0)) x9 (View.ld (sExt x6 x7 x8) (Rect.unit ![272, 0] ![272, 1024] inb_S544x1024_S272x1024_272_0)) x10
      (View.ld (View.canon (xOne x0 x1 x2 x3 x4 x5 x6 x7 x8 x9 x10 x11)) (Rect.unit ![272, 0] ![272, 1024] inb_S544x1024_S272x1024_272_0)) x11⟩ :: xOne x0 x1 x2 x3 x4 x5 x6 x7 x8 x9 x10 x11)

/-- What the channel mixer reads, of all 544 rows. -/
def hExt (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) (x12 : Vec F S1x1024 .f32) : Vec F S544x1024 .bf16 :=
  View.canon [⟨Rect.unit ![272, 0] ![272, 1024] inb_S544x1024_S272x1024_272_0,
      hHalf (View.ld (aExt x3 x4 x5) (Rect.unit ![272, 0] ![272, 512] inb_S544x512_S272x512_272_0)) x9 (View.ld (sExt x6 x7 x8) (Rect.unit ![272, 0] ![272, 1024] inb_S544x1024_S272x1024_272_0)) x10
        (View.ld (View.canon (xOne x0 x1 x2 x3 x4 x5 x6 x7 x8 x9 x10 x11)) (Rect.unit ![272, 0] ![272, 1024] inb_S544x1024_S272x1024_272_0)) x11 x12⟩,
    ⟨Rect.unit ![0, 0] ![272, 1024] inb_S544x1024_S272x1024_0_0,
      hHalf (View.ld (aExt x3 x4 x5) (Rect.unit ![0, 0] ![272, 512] inb_S544x512_S272x512_0_0)) x9 (View.ld (sExt x6 x7 x8) (Rect.unit ![0, 0] ![272, 1024] inb_S544x1024_S272x1024_0_0)) x10
        (View.ld (View.canon (xPieces x0 x1 x2)) (Rect.unit ![0, 0] ![272, 1024] inb_S544x1024_S272x1024_0_0)) x11 x12⟩]

/-- A block's number within its sequence of 16, as the body computes it. -/
def blockWord (i : grid0.Coords) : BitVec 32 :=
  Scalar.select
    (Scalar.andi (Scalar.xori (Scalar.cmpi .slt (Scalar.remsi (BitVec.ofNat 32 (i 0).val) 16#32) 0#32) 0#1)
      (Scalar.cmpi .ne (Scalar.remsi (BitVec.ofNat 32 (i 0).val) 16#32) 0#32))
    (Scalar.addi (Scalar.remsi (BitVec.ofNat 32 (i 0).val) 16#32) 16#32) (Scalar.remsi (BitVec.ofNat 32 (i 0).val) 16#32)

/-- A window of 256 of the 2816 lanes, over `n` rows from row `r`. -/
theorem lanes_inb {R n : ℕ} (r j : ℕ) (hr : r + n ≤ R) (hj : j < 11) :
    ∀ d, (![r, 256 * j] : Fin 2 → ℕ) d + (![n, 256] : Fin 2 → ℕ) d ≤ (⟨2, ![R, 2816]⟩ : Shape).size d := by
  intro d
  match d with
  | ⟨0, _⟩ => exact hr
  | ⟨1, _⟩ => show 256 * j + 256 ≤ 2816; omega

/-- The activation of 256 lanes, from the gate's values at the row before, the row itself and the row after. -/
def chunk (i : grid0.Coords) (u gp gc gn : FVec F S512x256 .f32) (t0 t1 t2 b : Vec F S1x256 .f32) : FVec F S512x256 .bf16 :=
  k0_pay75 u
    (k0_pay73 (k0_pay22 (blockWord i)) (k0_pay23 (blockWord i)) (iota .tc S512x256 32 [0] iota_S512x256_d0_w32) gp gc gn t0 t1 t2 b)
    (k0_pay74 (k0_pay22 (blockWord i)) (k0_pay23 (blockWord i)) (iota .tc S512x256 32 [0] iota_S512x256_d0_w32) gp gc gn t0 t1 t2 b)
    (Scalar.ofBits .f32 0x3F800000#32)

/-- The activation of 256 lanes, from what the channel mixer reads. -/
def lanes (i : grid0.Coords) (h : Vec F S544x1024 .bf16) (x13 x14 : Vec F S1024x2816 .bf16) (x16 : Vec F S3x2816 .f32)
    (x17 : Vec F S1x2816 .f32) (j : ℕ) (hj : j < 11) : FVec F S512x256 .bf16 :=
  chunk i
    (k0_pay25 (View.ld h (Rect.unit ![16, 0] ![512, 1024] inb_S544x1024_S512x1024_16_0))
      (View.ld x14 (Rect.unit ![0, 256 * j] ![1024, 256] (lanes_inb 0 j (by decide) hj))))
    (View.ld (Val := Elt F) (S := S544x256) (e' := .f32) (k0_pay24 h (View.ld x13 (Rect.unit ![0, 256 * j] ![1024, 256] (lanes_inb 0 j (by decide) hj))))
      (Rect.unit ![15, 0] ![512, 256] inb_S544x256_S512x256_15_0))
    (View.ld (Val := Elt F) (S := S544x256) (e' := .f32) (k0_pay24 h (View.ld x13 (Rect.unit ![0, 256 * j] ![1024, 256] (lanes_inb 0 j (by decide) hj))))
      (Rect.unit ![16, 0] ![512, 256] inb_S544x256_S512x256_16_0))
    (View.ld (Val := Elt F) (S := S544x256) (e' := .f32) (k0_pay24 h (View.ld x13 (Rect.unit ![0, 256 * j] ![1024, 256] (lanes_inb 0 j (by decide) hj))))
      (Rect.unit ![17, 0] ![512, 256] inb_S544x256_S512x256_17_0))
    (View.ld x16 (Rect.unit ![0, 256 * j] ![1, 256] (lanes_inb 0 j (by decide) hj)))
    (View.ld x16 (Rect.unit ![1, 256 * j] ![1, 256] (lanes_inb 1 j (by decide) hj)))
    (View.ld x16 (Rect.unit ![2, 256 * j] ![1, 256] (lanes_inb 2 j (by decide) hj)))
    (View.ld x17 (Rect.unit ![0, 256 * j] ![1, 256] (lanes_inb 0 j (by decide) hj)))

/-- The activation of all 2816 lanes. -/
def actAll (i : grid0.Coords) (h : Vec F S544x1024 .bf16) (x13 x14 : Vec F S1024x2816 .bf16) (x16 : Vec F S3x2816 .f32)
    (x17 : Vec F S1x2816 .f32) : Vec F S512x2816 .bf16 :=
  View.canon [⟨Rect.unit ![0, 2560] ![512, 256] inb_S512x2816_S512x256_0_2560, lanes i h x13 x14 x16 x17 10 (by decide)⟩,
    ⟨Rect.unit ![0, 2304] ![512, 256] inb_S512x2816_S512x256_0_2304, lanes i h x13 x14 x16 x17 9 (by decide)⟩,
    ⟨Rect.unit ![0, 2048] ![512, 256] inb_S512x2816_S512x256_0_2048, lanes i h x13 x14 x16 x17 8 (by decide)⟩,
    ⟨Rect.unit ![0, 1792] ![512, 256] inb_S512x2816_S512x256_0_1792, lanes i h x13 x14 x16 x17 7 (by decide)⟩,
    ⟨Rect.unit ![0, 1536] ![512, 256] inb_S512x2816_S512x256_0_1536, lanes i h x13 x14 x16 x17 6 (by decide)⟩,
    ⟨Rect.unit ![0, 1280] ![512, 256] inb_S512x2816_S512x256_0_1280, lanes i h x13 x14 x16 x17 5 (by decide)⟩,
    ⟨Rect.unit ![0, 1024] ![512, 256] inb_S512x2816_S512x256_0_1024, lanes i h x13 x14 x16 x17 4 (by decide)⟩,
    ⟨Rect.unit ![0, 768] ![512, 256] inb_S512x2816_S512x256_0_768, lanes i h x13 x14 x16 x17 3 (by decide)⟩,
    ⟨Rect.unit ![0, 512] ![512, 256] inb_S512x2816_S512x256_0_512, lanes i h x13 x14 x16 x17 2 (by decide)⟩,
    ⟨Rect.unit ![0, 256] ![512, 256] inb_S512x2816_S512x256_0_256, lanes i h x13 x14 x16 x17 1 (by decide)⟩,
    ⟨Rect.unit ![0, 0] ![512, 256] inb_S512x2816_S512x256_0_0, lanes i h x13 x14 x16 x17 0 (by decide)⟩]

/-- The down projection, normalised and added to the residual stream, of 256 rows. -/
def outRows (z : Vec F S256x2816 .bf16) (w : Vec F S2816x1024 .bf16) (x : Vec F S256x1024 .f32) (g : Vec F S1x1024 .f32) :
    FVec F S256x1024 .f32 := k0_pay76 z w x g

end Cert.Kernel4Ideal.Mix

end
end
-- ==== Proof.PromptPieces.lean ====
/- The two pieces that the mixing kernel's body stores at one grid point are the rows of `PromptBody`: the body's terms, folded from the
   inside out.
   The same as `MixPieces`, for the prompt batch of 8 sequences, whose program is another one with its own names. -/
module

public import proofs.«01_k».proof.Proof.PromptBody
public import Idealize.ShloMosaic.Lib.Pipeline.ValueKit.Basic

@[expose] public section

set_option maxRecDepth 65536

noncomputable section

namespace Cert.Kernel4Ideal.Mix

open Cert.Kernel4Ideal Cert.Kernel4Ideal.Gen Idealize.ShloMosaic Idealize.ShloMosaic.TcCoe Idealize.SL.Sem

variable {F : FTy → Type} [FloatOps F]

/-! ## Loads -/

theorem full16x1024 {Val : EltTy → Type} {e : EltTy} (x : S16x1024.Idx → Val e) :
    View.ld x (Rect.unit ![0, 0] ![16, 1024] inb_S16x1024_S16x1024_0_0) = x :=
  View.ld_unit_zero (by funext a; fin_cases a <;> rfl) _ _

theorem full512x1024 {Val : EltTy → Type} {e : EltTy} (x : S512x1024.Idx → Val e) :
    View.ld x (Rect.unit ![0, 0] ![512, 1024] inb_S512x1024_S512x1024_0_0) = x :=
  View.ld_unit_zero (by funext a; fin_cases a <;> rfl) _ _

theorem full16x512 {Val : EltTy → Type} {e : EltTy} (x : S16x512.Idx → Val e) :
    View.ld x (Rect.unit ![0, 0] ![16, 512] inb_S16x512_S16x512_0_0) = x :=
  View.ld_unit_zero (by funext a; fin_cases a <;> rfl) _ _

theorem full512x512 {Val : EltTy → Type} {e : EltTy} (x : S512x512.Idx → Val e) :
    View.ld x (Rect.unit ![0, 0] ![512, 512] inb_S512x512_S512x512_0_0) = x :=
  View.ld_unit_zero (by funext a; fin_cases a <;> rfl) _ _

theorem full1024x1024 {Val : EltTy → Type} {e : EltTy} (x : S1024x1024.Idx → Val e) :
    View.ld x (Rect.unit ![0, 0] ![1024, 1024] inb_S1024x1024_S1024x1024_0_0) = x :=
  View.ld_unit_zero (by funext a; fin_cases a <;> rfl) _ _

theorem full1x1024 {Val : EltTy → Type} {e : EltTy} (x : S1x1024.Idx → Val e) :
    View.ld x (Rect.unit ![0, 0] ![1, 1024] inb_S1x1024_S1x1024_0_0) = x :=
  View.ld_unit_zero (by funext a; fin_cases a <;> rfl) _ _

theorem full2816x1024 {Val : EltTy → Type} {e : EltTy} (x : S2816x1024.Idx → Val e) :
    View.ld x (Rect.unit ![0, 0] ![2816, 1024] inb_S2816x1024_S2816x1024_0_0) = x :=
  View.ld_unit_zero (by funext a; fin_cases a <;> rfl) _ _

theorem full544x1024 {Val : EltTy → Type} {e : EltTy} (x : S544x1024.Idx → Val e) :
    View.ld x (Rect.unit ![0, 0] ![544, 1024] inb_S544x1024_S544x1024_0_0) = x :=
  View.ld_unit_zero (by funext a; fin_cases a <;> rfl) _ _

/-- A store of the whole gate buffer hides the earlier ones. -/
theorem stored (Z : S544x256.Idx → Elt F .f32) (L : List (View.Piece (Elt F) S544x256 .f32)) :
    View.canon (⟨Rect.unit ![0, 0] ![544, 256] inb_S544x256_S544x256_0_0, Z⟩ :: L) = Z :=
  View.canon_cons_unit_zero (by funext a; fin_cases a <;> rfl) inb_S544x256_S544x256_0_0 Z L

theorem load_canon {s : Shape} {e : EltTy} {κ sp} (v : View sig κ sp s e)
    (L : List (View.Piece (Elt F) s e)) (r : Rect s) : v.readCov (Val := Elt F) L r.toLoadRect = View.ld (View.canon L) r :=
  View.readCov_eq_canon' v L r

/-! ## The 256 lanes' projections and activations -/

theorem gate35 (h : Vec F S544x1024 .bf16) (w : Vec F S1024x256 .bf16) :
    k0_pay35 h w =
      k0_pay24 h w := rfl

theorem gate40 (h : Vec F S544x1024 .bf16) (w : Vec F S1024x256 .bf16) :
    k0_pay40 h w =
      k0_pay24 h w := rfl

theorem gate44 (h : Vec F S544x1024 .bf16) (w : Vec F S1024x256 .bf16) :
    k0_pay44 h w =
      k0_pay24 h w := rfl

theorem gate47 (h : Vec F S544x1024 .bf16) (w : Vec F S1024x256 .bf16) :
    k0_pay47 h w =
      k0_pay24 h w := rfl

theorem gate52 (h : Vec F S544x1024 .bf16) (w : Vec F S1024x256 .bf16) :
    k0_pay52 h w =
      k0_pay24 h w := rfl

theorem gate56 (h : Vec F S544x1024 .bf16) (w : Vec F S1024x256 .bf16) :
    k0_pay56 h w =
      k0_pay24 h w := rfl

theorem gate61 (h : Vec F S544x1024 .bf16) (w : Vec F S1024x256 .bf16) :
    k0_pay61 h w =
      k0_pay24 h w := rfl

theorem gate65 (h : Vec F S544x1024 .bf16) (w : Vec F S1024x256 .bf16) :
    k0_pay65 h w =
      k0_pay24 h w := rfl

theorem gate70 (h : Vec F S544x1024 .bf16) (w : Vec F S1024x256 .bf16) :
    k0_pay70 h w =
      k0_pay24 h w := rfl

theorem gate30 (h : Vec F S544x1024 .bf16) (w : Vec F S1024x256 .bf16) :
    k0_pay30 (k0_pay29 h w) =
      k0_pay24 h w := rfl

theorem up31 (h : Vec F S512x1024 .bf16) (w : Vec F S1024x256 .bf16) :
    k0_pay31 h w =
      k0_pay25 h w := rfl

theorem up36 (h : Vec F S512x1024 .bf16) (w : Vec F S1024x256 .bf16) :
    k0_pay36 h w =
      k0_pay25 h w := rfl

theorem up41 (h : Vec F S512x1024 .bf16) (w : Vec F S1024x256 .bf16) :
    k0_pay41 h w =
      k0_pay25 h w := rfl

theorem up45 (h : Vec F S512x1024 .bf16) (w : Vec F S1024x256 .bf16) :
    k0_pay45 h w =
      k0_pay25 h w := rfl

theorem up48 (h : Vec F S512x1024 .bf16) (w : Vec F S1024x256 .bf16) :
    k0_pay48 h w =
      k0_pay25 h w := rfl

theorem up53 (h : Vec F S512x1024 .bf16) (w : Vec F S1024x256 .bf16) :
    k0_pay53 h w =
      k0_pay25 h w := rfl

theorem up57 (h : Vec F S512x1024 .bf16) (w : Vec F S1024x256 .bf16) :
    k0_pay57 h w =
      k0_pay25 h w := rfl

theorem up62 (h : Vec F S512x1024 .bf16) (w : Vec F S1024x256 .bf16) :
    k0_pay62 h w =
      k0_pay25 h w := rfl

theorem up66 (h : Vec F S512x1024 .bf16) (w : Vec F S1024x256 .bf16) :
    k0_pay66 h w =
      k0_pay25 h w := rfl

theorem up71 (h : Vec F S512x1024 .bf16) (w : Vec F S1024x256 .bf16) :
    k0_pay71 h w =
      k0_pay25 h w := rfl

theorem word (i : grid0.Coords) :
    Scalar.select
      (Scalar.andi (Scalar.xori (Scalar.cmpi .slt (Scalar.remsi (BitVec.ofNat 32 (i 0).val) 16#32) 0#32) 0#1)
        (Scalar.cmpi .ne (Scalar.remsi (BitVec.ofNat 32 (i 0).val) 16#32) 0#32))
      (Scalar.addi (Scalar.remsi (BitVec.ofNat 32 (i 0).val) 16#32) 16#32) (Scalar.remsi (BitVec.ofNat 32 (i 0).val) 16#32) =
      blockWord i := rfl

theorem chunk0 (i : grid0.Coords) (u gp gc gn : FVec F S512x256 .f32) (t0 t1 t2 b : Vec F S1x256 .f32) :
    k0_pay28 (k0_pay23 (blockWord i)) (iota .tc S512x256 32 (@List.cons (Fin 2) (0 : Fin S512x256.rank) (@List.nil (Fin 2))) iota_S512x256_d0_w32) u gc gn (k0_pay26 (blockWord i) gp) k0_pay27 t0 t1 t2 b =
      chunk i u gp gc gn t0 t1 t2 b := rfl

theorem chunk1 (i : grid0.Coords) (u gp gc gn : FVec F S512x256 .f32) (t0 t1 t2 b : Vec F S1x256 .f32) :
    k0_pay34 u (k0_pay32 (k0_pay22 (blockWord i)) (k0_pay23 (blockWord i)) (iota .tc S512x256 32 (@List.cons (Fin 2) (0 : Fin S512x256.rank) (@List.nil (Fin 2))) iota_S512x256_d0_w32) gp gc gn t0 t1 t2 b) k0_pay33 =
      chunk i u gp gc gn t0 t1 t2 b := rfl

theorem chunk2 (i : grid0.Coords) (u gp gc gn : FVec F S512x256 .f32) (t0 t1 t2 b : Vec F S1x256 .f32) :
    k0_pay39 (k0_pay23 (blockWord i)) (iota .tc S512x256 32 (@List.cons (Fin 2) (0 : Fin S512x256.rank) (@List.nil (Fin 2))) iota_S512x256_d0_w32) u gp gc gn (k0_pay37 (iota .tc S512x256 32 (@List.cons (Fin 2) (0 : Fin S512x256.rank) (@List.nil (Fin 2))) iota_S512x256_d0_w32)) (k0_pay38 (k0_pay22 (blockWord i))) t0 t1 t2 b =
      chunk i u gp gc gn t0 t1 t2 b := rfl

theorem chunk3 (i : grid0.Coords) (u gp gc gn : FVec F S512x256 .f32) (t0 t1 t2 b : Vec F S1x256 .f32) :
    k0_pay43 u (k0_pay42 (k0_pay22 (blockWord i)) (k0_pay23 (blockWord i)) (iota .tc S512x256 32 (@List.cons (Fin 2) (0 : Fin S512x256.rank) (@List.nil (Fin 2))) iota_S512x256_d0_w32) gp gc gn t0 t1 t2) b =
      chunk i u gp gc gn t0 t1 t2 b := rfl

theorem chunk4 (i : grid0.Coords) (u gp gc gn : FVec F S512x256 .f32) (t0 t1 t2 b : Vec F S1x256 .f32) :
    k0_pay46 (k0_pay22 (blockWord i)) (k0_pay23 (blockWord i)) (iota .tc S512x256 32 (@List.cons (Fin 2) (0 : Fin S512x256.rank) (@List.nil (Fin 2))) iota_S512x256_d0_w32) u gp gc gn t0 t1 t2 b =
      chunk i u gp gc gn t0 t1 t2 b := rfl

theorem chunk5 (i : grid0.Coords) (u gp gc gn : FVec F S512x256 .f32) (t0 t1 t2 b : Vec F S1x256 .f32) :
    k0_pay51 u (k0_pay49 (k0_pay22 (blockWord i)) (iota .tc S512x256 32 (@List.cons (Fin 2) (0 : Fin S512x256.rank) (@List.nil (Fin 2))) iota_S512x256_d0_w32) gp gc t0 t1) (k0_pay50 (k0_pay23 (blockWord i)) (iota .tc S512x256 32 (@List.cons (Fin 2) (0 : Fin S512x256.rank) (@List.nil (Fin 2))) iota_S512x256_d0_w32) gn t2) b =
      chunk i u gp gc gn t0 t1 t2 b := rfl

theorem chunk6 (i : grid0.Coords) (u gp gc gn : FVec F S512x256 .f32) (t0 t1 t2 b : Vec F S1x256 .f32) :
    k0_pay55 (k0_pay54 (k0_pay22 (blockWord i)) (k0_pay23 (blockWord i)) (iota .tc S512x256 32 (@List.cons (Fin 2) (0 : Fin S512x256.rank) (@List.nil (Fin 2))) iota_S512x256_d0_w32) u gp gc gn t0 t1 t2 b) =
      chunk i u gp gc gn t0 t1 t2 b := rfl

theorem chunk7 (i : grid0.Coords) (u gp gc gn : FVec F S512x256 .f32) (t0 t1 t2 b : Vec F S1x256 .f32) :
    k0_pay60 u (k0_pay58 (k0_pay23 (blockWord i)) (iota .tc S512x256 32 (@List.cons (Fin 2) (0 : Fin S512x256.rank) (@List.nil (Fin 2))) iota_S512x256_d0_w32) gn) (k0_pay59 (k0_pay22 (blockWord i)) (iota .tc S512x256 32 (@List.cons (Fin 2) (0 : Fin S512x256.rank) (@List.nil (Fin 2))) iota_S512x256_d0_w32) gp gc t0 t1) t2 b =
      chunk i u gp gc gn t0 t1 t2 b := rfl

theorem chunk8 (i : grid0.Coords) (u gp gc gn : FVec F S512x256 .f32) (t0 t1 t2 b : Vec F S1x256 .f32) :
    k0_pay64 (k0_pay63 (k0_pay22 (blockWord i)) (k0_pay23 (blockWord i)) (iota .tc S512x256 32 (@List.cons (Fin 2) (0 : Fin S512x256.rank) (@List.nil (Fin 2))) iota_S512x256_d0_w32) u gp gc gn t0 t1 t2 b) =
      chunk i u gp gc gn t0 t1 t2 b := rfl

theorem chunk9 (i : grid0.Coords) (u gp gc gn : FVec F S512x256 .f32) (t0 t1 t2 b : Vec F S1x256 .f32) :
    k0_pay69 u gc (k0_pay67 (k0_pay23 (blockWord i)) (iota .tc S512x256 32 (@List.cons (Fin 2) (0 : Fin S512x256.rank) (@List.nil (Fin 2))) iota_S512x256_d0_w32) gn) (k0_pay68 (k0_pay22 (blockWord i)) (iota .tc S512x256 32 (@List.cons (Fin 2) (0 : Fin S512x256.rank) (@List.nil (Fin 2))) iota_S512x256_d0_w32) gp t0) t1 t2 b =
      chunk i u gp gc gn t0 t1 t2 b := rfl

theorem chunk10 (i : grid0.Coords) (u gp gc gn : FVec F S512x256 .f32) (t0 t1 t2 b : Vec F S1x256 .f32) :
    k0_pay75 u (k0_pay73 (k0_pay22 (blockWord i)) (k0_pay23 (blockWord i)) (iota .tc S512x256 32 (@List.cons (Fin 2) (0 : Fin S512x256.rank) (@List.nil (Fin 2))) iota_S512x256_d0_w32) gp gc gn t0 t1 t2 b)
      (k0_pay74 (k0_pay22 (blockWord i)) (k0_pay23 (blockWord i)) (iota .tc S512x256 32 (@List.cons (Fin 2) (0 : Fin S512x256.rank) (@List.nil (Fin 2))) iota_S512x256_d0_w32) gp gc gn t0 t1 t2 b) (FloatOps.ofBits .f32 0x3F800000#32) =
      chunk i u gp gc gn t0 t1 t2 b := rfl

theorem lanes0 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 0] ![1024, 256] inb_S1024x2816_S1024x256_0_0)))
      (View.ld (Val := Elt F) (S := S544x256) (e' := .f32) (k0_pay24 h (View.ld x13 (Rect.unit ![0, 0] ![1024, 256] inb_S1024x2816_S1024x256_0_0))) (Rect.unit ![15, 0] ![512, 256] inb_S544x256_S512x256_15_0))
      (View.ld (Val := Elt F) (S := S544x256) (e' := .f32) (k0_pay24 h (View.ld x13 (Rect.unit ![0, 0] ![1024, 256] inb_S1024x2816_S1024x256_0_0))) (Rect.unit ![16, 0] ![512, 256] inb_S544x256_S512x256_16_0))
      (View.ld (Val := Elt F) (S := S544x256) (e' := .f32) (k0_pay24 h (View.ld x13 (Rect.unit ![0, 0] ![1024, 256] inb_S1024x2816_S1024x256_0_0))) (Rect.unit ![17, 0] ![512, 256] inb_S544x256_S512x256_17_0))
      (View.ld x16 (Rect.unit ![0, 0] ![1, 256] inb_S3x2816_S1x256_0_0)) (View.ld x16 (Rect.unit ![1, 0] ![1, 256] inb_S3x2816_S1x256_1_0))
      (View.ld x16 (Rect.unit ![2, 0] ![1, 256] inb_S3x2816_S1x256_2_0)) (View.ld x17 (Rect.unit ![0, 0] ![1, 256] inb_S1x2816_S1x256_0_0)) =
      lanes i h x13 x14 x16 x17 0 (by decide) := rfl

theorem lanes1 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 256] ![1024, 256] inb_S1024x2816_S1024x256_0_256)))
      (View.ld (Val := Elt F) (S := S544x256) (e' := .f32) (k0_pay24 h (View.ld x13 (Rect.unit ![0, 256] ![1024, 256] inb_S1024x2816_S1024x256_0_256))) (Rect.unit ![15, 0] ![512, 256] inb_S544x256_S512x256_15_0))
      (View.ld (Val := Elt F) (S := S544x256) (e' := .f32) (k0_pay24 h (View.ld x13 (Rect.unit ![0, 256] ![1024, 256] inb_S1024x2816_S1024x256_0_256))) (Rect.unit ![16, 0] ![512, 256] inb_S544x256_S512x256_16_0))
      (View.ld (Val := Elt F) (S := S544x256) (e' := .f32) (k0_pay24 h (View.ld x13 (Rect.unit ![0, 256] ![1024, 256] inb_S1024x2816_S1024x256_0_256))) (Rect.unit ![17, 0] ![512, 256] inb_S544x256_S512x256_17_0))
      (View.ld x16 (Rect.unit ![0, 256] ![1, 256] inb_S3x2816_S1x256_0_256)) (View.ld x16 (Rect.unit ![1, 256] ![1, 256] inb_S3x2816_S1x256_1_256))
      (View.ld x16 (Rect.unit ![2, 256] ![1, 256] inb_S3x2816_S1x256_2_256)) (View.ld x17 (Rect.unit ![0, 256] ![1, 256] inb_S1x2816_S1x256_0_256)) =
      lanes i h x13 x14 x16 x17 1 (by decide) := rfl

theorem lanes2 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 512] ![1024, 256] inb_S1024x2816_S1024x256_0_512)))
      (View.ld (Val := Elt F) (S := S544x256) (e' := .f32) (k0_pay24 h (View.ld x13 (Rect.unit ![0, 512] ![1024, 256] inb_S1024x2816_S1024x256_0_512))) (Rect.unit ![15, 0] ![512, 256] inb_S544x256_S512x256_15_0))
      (View.ld (Val := Elt F) (S := S544x256) (e' := .f32) (k0_pay24 h (View.ld x13 (Rect.unit ![0, 512] ![1024, 256] inb_S1024x2816_S1024x256_0_512))) (Rect.unit ![16, 0] ![512, 256] inb_S544x256_S512x256_16_0))
      (View.ld (Val := Elt F) (S := S544x256) (e' := .f32) (k0_pay24 h (View.ld x13 (Rect.unit ![0, 512] ![1024, 256] inb_S1024x2816_S1024x256_0_512))) (Rect.unit ![17, 0] ![512, 256] inb_S544x256_S512x256_17_0))
      (View.ld x16 (Rect.unit ![0, 512] ![1, 256] inb_S3x2816_S1x256_0_512)) (View.ld x16 (Rect.unit ![1, 512] ![1, 256] inb_S3x2816_S1x256_1_512))
      (View.ld x16 (Rect.unit ![2, 512] ![1, 256] inb_S3x2816_S1x256_2_512)) (View.ld x17 (Rect.unit ![0, 512] ![1, 256] inb_S1x2816_S1x256_0_512)) =
      lanes i h x13 x14 x16 x17 2 (by decide) := rfl

theorem lanes3 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 768] ![1024, 256] inb_S1024x2816_S1024x256_0_768)))
      (View.ld (Val := Elt F) (S := S544x256) (e' := .f32) (k0_pay24 h (View.ld x13 (Rect.unit ![0, 768] ![1024, 256] inb_S1024x2816_S1024x256_0_768))) (Rect.unit ![15, 0] ![512, 256] inb_S544x256_S512x256_15_0))
      (View.ld (Val := Elt F) (S := S544x256) (e' := .f32) (k0_pay24 h (View.ld x13 (Rect.unit ![0, 768] ![1024, 256] inb_S1024x2816_S1024x256_0_768))) (Rect.unit ![16, 0] ![512, 256] inb_S544x256_S512x256_16_0))
      (View.ld (Val := Elt F) (S := S544x256) (e' := .f32) (k0_pay24 h (View.ld x13 (Rect.unit ![0, 768] ![1024, 256] inb_S1024x2816_S1024x256_0_768))) (Rect.unit ![17, 0] ![512, 256] inb_S544x256_S512x256_17_0))
      (View.ld x16 (Rect.unit ![0, 768] ![1, 256] inb_S3x2816_S1x256_0_768)) (View.ld x16 (Rect.unit ![1, 768] ![1, 256] inb_S3x2816_S1x256_1_768))
      (View.ld x16 (Rect.unit ![2, 768] ![1, 256] inb_S3x2816_S1x256_2_768)) (View.ld x17 (Rect.unit ![0, 768] ![1, 256] inb_S1x2816_S1x256_0_768)) =
      lanes i h x13 x14 x16 x17 3 (by decide) := rfl

theorem lanes4 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 1024] ![1024, 256] inb_S1024x2816_S1024x256_0_1024)))
      (View.ld (Val := Elt F) (S := S544x256) (e' := .f32) (k0_pay24 h (View.ld x13 (Rect.unit ![0, 1024] ![1024, 256] inb_S1024x2816_S1024x256_0_1024))) (Rect.unit ![15, 0] ![512, 256] inb_S544x256_S512x256_15_0))
      (View.ld (Val := Elt F) (S := S544x256) (e' := .f32) (k0_pay24 h (View.ld x13 (Rect.unit ![0, 1024] ![1024, 256] inb_S1024x2816_S1024x256_0_1024))) (Rect.unit ![16, 0] ![512, 256] inb_S544x256_S512x256_16_0))
      (View.ld (Val := Elt F) (S := S544x256) (e' := .f32) (k0_pay24 h (View.ld x13 (Rect.unit ![0, 1024] ![1024, 256] inb_S1024x2816_S1024x256_0_1024))) (Rect.unit ![17, 0] ![512, 256] inb_S544x256_S512x256_17_0))
      (View.ld x16 (Rect.unit ![0, 1024] ![1, 256] inb_S3x2816_S1x256_0_1024)) (View.ld x16 (Rect.unit ![1, 1024] ![1, 256] inb_S3x2816_S1x256_1_1024))
      (View.ld x16 (Rect.unit ![2, 1024] ![1, 256] inb_S3x2816_S1x256_2_1024)) (View.ld x17 (Rect.unit ![0, 1024] ![1, 256] inb_S1x2816_S1x256_0_1024)) =
      lanes i h x13 x14 x16 x17 4 (by decide) := rfl

theorem lanes5 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 1280] ![1024, 256] inb_S1024x2816_S1024x256_0_1280)))
      (View.ld (Val := Elt F) (S := S544x256) (e' := .f32) (k0_pay24 h (View.ld x13 (Rect.unit ![0, 1280] ![1024, 256] inb_S1024x2816_S1024x256_0_1280))) (Rect.unit ![15, 0] ![512, 256] inb_S544x256_S512x256_15_0))
      (View.ld (Val := Elt F) (S := S544x256) (e' := .f32) (k0_pay24 h (View.ld x13 (Rect.unit ![0, 1280] ![1024, 256] inb_S1024x2816_S1024x256_0_1280))) (Rect.unit ![16, 0] ![512, 256] inb_S544x256_S512x256_16_0))
      (View.ld (Val := Elt F) (S := S544x256) (e' := .f32) (k0_pay24 h (View.ld x13 (Rect.unit ![0, 1280] ![1024, 256] inb_S1024x2816_S1024x256_0_1280))) (Rect.unit ![17, 0] ![512, 256] inb_S544x256_S512x256_17_0))
      (View.ld x16 (Rect.unit ![0, 1280] ![1, 256] inb_S3x2816_S1x256_0_1280)) (View.ld x16 (Rect.unit ![1, 1280] ![1, 256] inb_S3x2816_S1x256_1_1280))
      (View.ld x16 (Rect.unit ![2, 1280] ![1, 256] inb_S3x2816_S1x256_2_1280)) (View.ld x17 (Rect.unit ![0, 1280] ![1, 256] inb_S1x2816_S1x256_0_1280)) =
      lanes i h x13 x14 x16 x17 5 (by decide) := rfl

theorem lanes6 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 1536] ![1024, 256] inb_S1024x2816_S1024x256_0_1536)))
      (View.ld (Val := Elt F) (S := S544x256) (e' := .f32) (k0_pay24 h (View.ld x13 (Rect.unit ![0, 1536] ![1024, 256] inb_S1024x2816_S1024x256_0_1536))) (Rect.unit ![15, 0] ![512, 256] inb_S544x256_S512x256_15_0))
      (View.ld (Val := Elt F) (S := S544x256) (e' := .f32) (k0_pay24 h (View.ld x13 (Rect.unit ![0, 1536] ![1024, 256] inb_S1024x2816_S1024x256_0_1536))) (Rect.unit ![16, 0] ![512, 256] inb_S544x256_S512x256_16_0))
      (View.ld (Val := Elt F) (S := S544x256) (e' := .f32) (k0_pay24 h (View.ld x13 (Rect.unit ![0, 1536] ![1024, 256] inb_S1024x2816_S1024x256_0_1536))) (Rect.unit ![17, 0] ![512, 256] inb_S544x256_S512x256_17_0))
      (View.ld x16 (Rect.unit ![0, 1536] ![1, 256] inb_S3x2816_S1x256_0_1536)) (View.ld x16 (Rect.unit ![1, 1536] ![1, 256] inb_S3x2816_S1x256_1_1536))
      (View.ld x16 (Rect.unit ![2, 1536] ![1, 256] inb_S3x2816_S1x256_2_1536)) (View.ld x17 (Rect.unit ![0, 1536] ![1, 256] inb_S1x2816_S1x256_0_1536)) =
      lanes i h x13 x14 x16 x17 6 (by decide) := rfl

theorem lanes7 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 1792] ![1024, 256] inb_S1024x2816_S1024x256_0_1792)))
      (View.ld (Val := Elt F) (S := S544x256) (e' := .f32) (k0_pay24 h (View.ld x13 (Rect.unit ![0, 1792] ![1024, 256] inb_S1024x2816_S1024x256_0_1792))) (Rect.unit ![15, 0] ![512, 256] inb_S544x256_S512x256_15_0))
      (View.ld (Val := Elt F) (S := S544x256) (e' := .f32) (k0_pay24 h (View.ld x13 (Rect.unit ![0, 1792] ![1024, 256] inb_S1024x2816_S1024x256_0_1792))) (Rect.unit ![16, 0] ![512, 256] inb_S544x256_S512x256_16_0))
      (View.ld (Val := Elt F) (S := S544x256) (e' := .f32) (k0_pay24 h (View.ld x13 (Rect.unit ![0, 1792] ![1024, 256] inb_S1024x2816_S1024x256_0_1792))) (Rect.unit ![17, 0] ![512, 256] inb_S544x256_S512x256_17_0))
      (View.ld x16 (Rect.unit ![0, 1792] ![1, 256] inb_S3x2816_S1x256_0_1792)) (View.ld x16 (Rect.unit ![1, 1792] ![1, 256] inb_S3x2816_S1x256_1_1792))
      (View.ld x16 (Rect.unit ![2, 1792] ![1, 256] inb_S3x2816_S1x256_2_1792)) (View.ld x17 (Rect.unit ![0, 1792] ![1, 256] inb_S1x2816_S1x256_0_1792)) =
      lanes i h x13 x14 x16 x17 7 (by decide) := rfl

theorem lanes8 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 2048] ![1024, 256] inb_S1024x2816_S1024x256_0_2048)))
      (View.ld (Val := Elt F) (S := S544x256) (e' := .f32) (k0_pay24 h (View.ld x13 (Rect.unit ![0, 2048] ![1024, 256] inb_S1024x2816_S1024x256_0_2048))) (Rect.unit ![15, 0] ![512, 256] inb_S544x256_S512x256_15_0))
      (View.ld (Val := Elt F) (S := S544x256) (e' := .f32) (k0_pay24 h (View.ld x13 (Rect.unit ![0, 2048] ![1024, 256] inb_S1024x2816_S1024x256_0_2048))) (Rect.unit ![16, 0] ![512, 256] inb_S544x256_S512x256_16_0))
      (View.ld (Val := Elt F) (S := S544x256) (e' := .f32) (k0_pay24 h (View.ld x13 (Rect.unit ![0, 2048] ![1024, 256] inb_S1024x2816_S1024x256_0_2048))) (Rect.unit ![17, 0] ![512, 256] inb_S544x256_S512x256_17_0))
      (View.ld x16 (Rect.unit ![0, 2048] ![1, 256] inb_S3x2816_S1x256_0_2048)) (View.ld x16 (Rect.unit ![1, 2048] ![1, 256] inb_S3x2816_S1x256_1_2048))
      (View.ld x16 (Rect.unit ![2, 2048] ![1, 256] inb_S3x2816_S1x256_2_2048)) (View.ld x17 (Rect.unit ![0, 2048] ![1, 256] inb_S1x2816_S1x256_0_2048)) =
      lanes i h x13 x14 x16 x17 8 (by decide) := rfl

theorem lanes9 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 2304] ![1024, 256] inb_S1024x2816_S1024x256_0_2304)))
      (View.ld (Val := Elt F) (S := S544x256) (e' := .f32) (k0_pay24 h (View.ld x13 (Rect.unit ![0, 2304] ![1024, 256] inb_S1024x2816_S1024x256_0_2304))) (Rect.unit ![15, 0] ![512, 256] inb_S544x256_S512x256_15_0))
      (View.ld (Val := Elt F) (S := S544x256) (e' := .f32) (k0_pay24 h (View.ld x13 (Rect.unit ![0, 2304] ![1024, 256] inb_S1024x2816_S1024x256_0_2304))) (Rect.unit ![16, 0] ![512, 256] inb_S544x256_S512x256_16_0))
      (View.ld (Val := Elt F) (S := S544x256) (e' := .f32) (k0_pay24 h (View.ld x13 (Rect.unit ![0, 2304] ![1024, 256] inb_S1024x2816_S1024x256_0_2304))) (Rect.unit ![17, 0] ![512, 256] inb_S544x256_S512x256_17_0))
      (View.ld x16 (Rect.unit ![0, 2304] ![1, 256] inb_S3x2816_S1x256_0_2304)) (View.ld x16 (Rect.unit ![1, 2304] ![1, 256] inb_S3x2816_S1x256_1_2304))
      (View.ld x16 (Rect.unit ![2, 2304] ![1, 256] inb_S3x2816_S1x256_2_2304)) (View.ld x17 (Rect.unit ![0, 2304] ![1, 256] inb_S1x2816_S1x256_0_2304)) =
      lanes i h x13 x14 x16 x17 9 (by decide) := rfl

theorem lanes10 (i : grid0.Coords) (h : Vec F S544x1024 .bf16) (x13 x14 : Vec F S1024x2816 .bf16) (x16 : Vec F S3x2816 .f32) (x17 : Vec F S1x2816 .f32) :
    chunk i (k0_pay25 (View.ld h (Rect.unit ![16, 0] ![512, 1024] inb_S544x1024_S512x1024_16_0)) (View.ld x14 (Rect.unit ![0, 2560] ![1024, 256] inb_S1024x2816_S1024x256_0_2560)))
      (View.ld (Val := Elt F) (S := S544x256) (e' := .f32) (k0_pay24 h (View.ld x13 (Rect.unit ![0, 2560] ![1024, 256] inb_S1024x2816_S1024x256_0_2560))) (Rect.unit ![15, 0] ![512, 256] inb_S544x256_S512x256_15_0))
      (View.ld (Val := Elt F) (S := S544x256) (e' := .f32) (k0_pay24 h (View.ld x13 (Rect.unit ![0, 2560] ![1024, 256] inb_S1024x2816_S1024x256_0_2560))) (Rect.unit ![16, 0] ![512, 256] inb_S544x256_S512x256_16_0))
      (View.ld (Val := Elt F) (S := S544x256) (e' := .f32) (k0_pay24 h (View.ld x13 (Rect.unit ![0, 2560] ![1024, 256] inb_S1024x2816_S1024x256_0_2560))) (Rect.unit ![17, 0] ![512, 256] inb_S544x256_S512x256_17_0))
      (View.ld x16 (Rect.unit ![0, 2560] ![1, 256] inb_S3x2816_S1x256_0_2560)) (View.ld x16 (Rect.unit ![1, 2560] ![1, 256] inb_S3x2816_S1x256_1_2560))
      (View.ld x16 (Rect.unit ![2, 2560] ![1, 256] inb_S3x2816_S1x256_2_2560)) (View.ld x17 (Rect.unit ![0, 2560] ![1, 256] inb_S1x2816_S1x256_0_2560)) =
      lanes i h x13 x14 x16 x17 10 (by decide) := rfl

theorem all_lanes (i : grid0.Coords) (h : Vec F S544x1024 .bf16) (x13 x14 : Vec F S1024x2816 .bf16) (x16 : Vec F S3x2816 .f32) (x17 : Vec F S1x2816 .f32) :
    View.canon [⟨Rect.unit ![0, 2560] ![512, 256] inb_S512x2816_S512x256_0_2560, lanes i h x13 x14 x16 x17 10 (by decide)⟩,
      ⟨Rect.unit ![0, 2304] ![512, 256] inb_S512x2816_S512x256_0_2304, lanes i h x13 x14 x16 x17 9 (by decide)⟩,
      ⟨Rect.unit ![0, 2048] ![512, 256] inb_S512x2816_S512x256_0_2048, lanes i h x13 x14 x16 x17 8 (by decide)⟩,
      ⟨Rect.unit ![0, 1792] ![512, 256] inb_S512x2816_S512x256_0_1792, lanes i h x13 x14 x16 x17 7 (by decide)⟩,
      ⟨Rect.unit ![0, 1536] ![512, 256] inb_S512x2816_S512x256_0_1536, lanes i h x13 x14 x16 x17 6 (by decide)⟩,
      ⟨Rect.unit ![0, 1280] ![512, 256] inb_S512x2816_S512x256_0_1280, lanes i h x13 x14 x16 x17 5 (by decide)⟩,
      ⟨Rect.unit ![0, 1024] ![512, 256] inb_S512x2816_S512x256_0_1024, lanes i h x13 x14 x16 x17 4 (by decide)⟩,
      ⟨Rect.unit ![0, 768] ![512, 256] inb_S512x2816_S512x256_0_768, lanes i h x13 x14 x16 x17 3 (by decide)⟩,
      ⟨Rect.unit ![0, 512] ![512, 256] inb_S512x2816_S512x256_0_512, lanes i h x13 x14 x16 x17 2 (by decide)⟩,
      ⟨Rect.unit ![0, 256] ![512, 256] inb_S512x2816_S512x256_0_256, lanes i h x13 x14 x16 x17 1 (by decide)⟩,
      ⟨Rect.unit ![0, 0] ![512, 256] inb_S512x2816_S512x256_0_0, lanes i h x13 x14 x16 x17 0 (by decide)⟩] =
      actAll i h x13 x14 x16 x17 := rfl

/-! ## The rows -/

theorem rows_a (x3 : Vec F S16x512 .bf16) (x4 : Vec F S512x512 .bf16) (x5 : Vec F S16x512 .bf16) :
    View.canon [⟨Rect.unit ![528, 0] ![16, 512] inb_S544x512_S16x512_528_0, k0_pay8 x5⟩,
    ⟨Rect.unit ![16, 0] ![512, 512] inb_S544x512_S512x512_16_0, k0_pay7 (k0_pay6 x4)⟩,
    ⟨Rect.unit ![0, 0] ![16, 512] inb_S544x512_S16x512_0_0, k0_pay5 x3⟩] =
      aExt x3 x4 x5 := rfl

theorem rows_s (x6 : Vec F S16x1024 .bf16) (x7 : Vec F S512x1024 .bf16) (x8 : Vec F S16x1024 .bf16) :
    View.canon [⟨Rect.unit ![528, 0] ![16, 1024] inb_S544x1024_S16x1024_528_0, k0_pay11 x8⟩,
    ⟨Rect.unit ![16, 0] ![512, 1024] inb_S544x1024_S512x1024_16_0, k0_pay10 x7⟩,
    ⟨Rect.unit ![0, 0] ![16, 1024] inb_S544x1024_S16x1024_0_0, k0_pay9 x6⟩] =
      sExt x6 x7 x8 := rfl

theorem rows_x (x0 : Vec F S16x1024 .f32) (x1 : Vec F S512x1024 .f32) (x2 : Vec F S16x1024 .f32) :
    ([⟨Rect.unit ![528, 0] ![16, 1024] inb_S544x1024_S16x1024_528_0, k0_pay4 x2⟩,
    ⟨Rect.unit ![16, 0] ![512, 1024] inb_S544x1024_S512x1024_16_0, k0_pay3 x1⟩,
    ⟨Rect.unit ![0, 0] ![16, 1024] inb_S544x1024_S16x1024_0_0, k0_pay2 x0⟩] : List (View.Piece (Elt F) S544x1024 .f32)) =
      xPieces x0 x1 x2 := rfl

theorem half_x0 (a : Vec F S272x512 .bf16) (wa : Vec F S512x1024 .bf16) (s : Vec F S272x1024 .bf16) (ws : Vec F S1024x1024 .bf16) (x : Vec F S272x1024 .f32) (g : Vec F S1x1024 .f32) :
    k0_pay15 (k0_pay12 a wa) s (k0_pay13 ws) x g =
      x1Half a wa s ws x g := rfl

theorem half_x1 (a : Vec F S272x512 .bf16) (wa : Vec F S512x1024 .bf16) (s : Vec F S272x1024 .bf16) (ws : Vec F S1024x1024 .bf16) (x : Vec F S272x1024 .f32) (g : Vec F S1x1024 .f32) :
    k0_pay18 a wa s ws x g =
      x1Half a wa s ws x g := rfl

theorem half_h0 (a : Vec F S272x512 .bf16) (wa : Vec F S512x1024 .bf16) (s : Vec F S272x1024 .bf16) (ws : Vec F S1024x1024 .bf16) (x : Vec F S272x1024 .f32) (g : Vec F S1x1024 .f32) (g' : Vec F S1x1024 .f32) :
    k0_pay16 (k0_pay12 a wa) s (k0_pay13 ws) x g g' =
      hHalf a wa s ws x g g' := rfl

theorem half_h1 (a : Vec F S272x512 .bf16) (wa : Vec F S512x1024 .bf16) (s : Vec F S272x1024 .bf16) (ws : Vec F S1024x1024 .bf16) (x : Vec F S272x1024 .f32) (g : Vec F S1x1024 .f32) (g' : Vec F S1x1024 .f32) :
    k0_pay21 (k0_pay19 a wa s ws x g) (k0_pay20 g') =
      hHalf a wa s ws x g g' := rfl

theorem rows_x1 (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) :
    ((⟨Rect.unit ![0, 0] ![272, 1024] inb_S544x1024_S272x1024_0_0,
    x1Half (View.ld (aExt x3 x4 x5) (Rect.unit ![0, 0] ![272, 512] inb_S544x512_S272x512_0_0)) x9 (View.ld (sExt x6 x7 x8) (Rect.unit ![0, 0] ![272, 1024] inb_S544x1024_S272x1024_0_0)) x10
      (View.ld (View.canon (xPieces x0 x1 x2)) (Rect.unit ![0, 0] ![272, 1024] inb_S544x1024_S272x1024_0_0)) x11⟩ :: xPieces x0 x1 x2) : List (View.Piece (Elt F) S544x1024 .f32)) =
      xOne x0 x1 x2 x3 x4 x5 x6 x7 x8 x9 x10 x11 := rfl

theorem rows_x2 (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) :
    View.canon (⟨Rect.unit ![272, 0] ![272, 1024] inb_S544x1024_S272x1024_272_0,
    x1Half (View.ld (aExt x3 x4 x5) (Rect.unit ![272, 0] ![272, 512] inb_S544x512_S272x512_272_0)) x9 (View.ld (sExt x6 x7 x8) (Rect.unit ![272, 0] ![272, 1024] inb_S544x1024_S272x1024_272_0)) x10
      (View.ld (View.canon (xOne x0 x1 x2 x3 x4 x5 x6 x7 x8 x9 x10 x11)) (Rect.unit ![272, 0] ![272, 1024] inb_S544x1024_S272x1024_272_0)) x11⟩ :: xOne x0 x1 x2 x3 x4 x5 x6 x7 x8 x9 x10 x11) =
      xTwo x0 x1 x2 x3 x4 x5 x6 x7 x8 x9 x10 x11 := rfl

theorem rows_h (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x1024 .bf16) (x7 : Vec F S512x1024 .bf16) (x8 : Vec F S16x1024 .bf16) (x9 : Vec F S512x1024 .bf16) (x10 : Vec F S1024x1024 .bf16) (x11 : Vec F S1x1024 .f32) (x12 : Vec F S1x1024 .f32) :
    View.canon [⟨Rect.unit ![272, 0] ![272, 1024] inb_S544x1024_S272x1024_272_0,
      hHalf (View.ld (aExt x3 x4 x5) (Rect.unit ![272, 0] ![272, 512] inb_S544x512_S272x512_272_0)) x9 (View.ld (sExt x6 x7 x8) (Rect.unit ![272, 0] ![272, 1024] inb_S544x1024_S272x1024_272_0)) x10
        (View.ld (View.canon (xOne x0 x1 x2 x3 x4 x5 x6 x7 x8 x9 x10 x11)) (Rect.unit ![272, 0] ![272, 1024] inb_S544x1024_S272x1024_272_0)) x11 x12⟩,
    ⟨Rect.unit ![0, 0] ![272, 1024] inb_S544x1024_S272x1024_0_0,
      hHalf (View.ld (aExt x3 x4 x5) (Rect.unit ![0, 0] ![272, 512] inb_S544x512_S272x512_0_0)) x9 (View.ld (sExt x6 x7 x8) (Rect.unit ![0, 0] ![272, 1024] inb_S544x1024_S272x1024_0_0)) x10
        (View.ld (View.canon (xPieces x0 x1 x2)) (Rect.unit ![0, 0] ![272, 1024] inb_S544x1024_S272x1024_0_0)) x11 x12⟩] =
      hExt x0 x1 x2 x3 x4 x5 x6 x7 x8 x9 x10 x11 x12 := rfl

theorem out_low (z : Vec F S256x2816 .bf16) (w : Vec F S2816x1024 .bf16) (x : Vec F S256x1024 .f32) (g : Vec F S1x1024 .f32) :
    k0_pay76 z w x g =
      outRows z w x g := rfl

theorem out_high (z : Vec F S256x2816 .bf16) (w : Vec F S2816x1024 .bf16) (x : Vec F S256x1024 .f32) (g : Vec F S1x1024 .f32) :
    k0_pay1 (k0_pay77 z w) x g =
      outRows z w x g := rfl

/-! ## The pieces -/

set_option maxHeartbeats 0 in
theorem pieces (c : Dev nD) (i : grid0.Coords) (arg1 : Memref sig .tc .vmem S16x1024 .f32) (harg1 :
    arg1.IsWhole) (arg2 : Memref sig .tc .vmem S512x1024 .f32) (harg2 : arg2.IsWhole) (arg3 : Memref sig .tc .vmem S16x1024
    .f32) (harg3 : arg3.IsWhole) (arg4 : Memref sig .tc .vmem S16x512 .bf16) (harg4 : arg4.IsWhole) (arg5 : Memref sig .tc
    .vmem S512x512 .bf16) (harg5 : arg5.IsWhole) (arg6 : Memref sig .tc .vmem S16x512 .bf16) (harg6 : arg6.IsWhole) (arg7 :
    Memref sig .tc .vmem S16x1024 .bf16) (harg7 : arg7.IsWhole) (arg8 : Memref sig .tc .vmem S512x1024 .bf16) (harg8 :
    arg8.IsWhole) (arg9 : Memref sig .tc .vmem S16x1024 .bf16) (harg9 : arg9.IsWhole) (arg10 : Memref sig .tc .vmem
    S512x1024 .bf16) (harg10 : arg10.IsWhole) (arg11 : Memref sig .tc .vmem S1024x1024 .bf16) (harg11 : arg11.IsWhole)
    (arg12 : Memref sig .tc .vmem S1x1024 .f32) (harg12 : arg12.IsWhole) (arg13 : Memref sig .tc .vmem S1x1024 .f32) (harg13
    : arg13.IsWhole) (arg14 : Memref sig .tc .vmem S1024x2816 .bf16) (harg14 : arg14.IsWhole) (arg15 : Memref sig .tc .vmem
    S1024x2816 .bf16) (harg15 : arg15.IsWhole) (arg16 : Memref sig .tc .vmem S2816x1024 .bf16) (harg16 : arg16.IsWhole)
    (arg17 : Memref sig .tc .vmem S3x2816 .f32) (harg17 : arg17.IsWhole) (arg18 : Memref sig .tc .vmem S1x2816 .f32) (harg18
    : arg18.IsWhole) (arg19 : Memref sig .tc .vmem S1x1024 .f32) (harg19 : arg19.IsWhole) (arg20 : Memref sig .tc .vmem
    S512x1024 .f32) (harg20 : arg20.IsWhole) (arg21 : Memref sig .tc .vmem S544x1024 .f32) (harg21 : arg21.IsWhole) (arg22 :
    Memref sig .tc .vmem S544x512 .bf16) (harg22 : arg22.IsWhole) (arg23 : Memref sig .tc .vmem S544x1024 .bf16) (harg23 :
    arg23.IsWhole) (arg24 : Memref sig .tc .vmem S544x1024 .bf16) (harg24 : arg24.IsWhole) (arg25 : Memref sig .tc .vmem
    S544x256 .f32) (harg25 : arg25.IsWhole) (arg26 : Memref sig .tc .vmem S512x2816 .bf16) (harg26 : arg26.IsWhole) (x0 :
    Vec F S16x1024 .f32) (x1 : Vec F S512x1024 .f32) (x2 : Vec F S16x1024 .f32) (x3 : Vec F S16x512 .bf16) (x4 : Vec F
    S512x512 .bf16) (x5 : Vec F S16x512 .bf16) (x6 : Vec F S16x1024 .bf16) (x7 : Vec F S512x1024 .bf16) (x8 : Vec F S16x1024
    .bf16) (x9 : Vec F S512x1024 .bf16) (x10 : Vec F S1024x1024 .bf16) (x11 : Vec F S1x1024 .f32) (x12 : Vec F S1x1024 .f32)
    (x13 : Vec F S1024x2816 .bf16) (x14 : Vec F S1024x2816 .bf16) (x15 : Vec F S2816x1024 .bf16) (x16 : Vec F S3x2816 .f32)
    (x17 : Vec F S1x2816 .f32) (x18 : Vec F S1x1024 .f32) :
    (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26
      harg26 x0 x1 x2 x3 x4 x5 x6 x7 x8 x9 x10 x11 x12 x13 x14 x15 x16 x17 x18).1 =
      [⟨Rect.unit ![256, 0] ![256, 1024] inb_S512x1024_S256x1024_256_0,
          outRows (View.ld (actAll i (hExt x0 x1 x2 x3 x4 x5 x6 x7 x8 x9 x10 x11 x12) x13 x14 x16 x17) (Rect.unit ![256, 0] ![256, 2816] inb_S512x2816_S256x2816_256_0)) x15
            (View.ld (xTwo x0 x1 x2 x3 x4 x5 x6 x7 x8 x9 x10 x11) (Rect.unit ![272, 0] ![256, 1024] inb_S544x1024_S256x1024_272_0)) x18⟩,
       ⟨Rect.unit ![0, 0] ![256, 1024] inb_S512x1024_S256x1024_0_0,
          outRows (View.ld (actAll i (hExt x0 x1 x2 x3 x4 x5 x6 x7 x8 x9 x10 x11 x12) x13 x14 x16 x17) (Rect.unit ![0, 0] ![256, 2816] inb_S512x2816_S256x2816_0_0)) x15
            (View.ld (xTwo x0 x1 x2 x3 x4 x5 x6 x7 x8 x9 x10 x11) (Rect.unit ![16, 0] ![256, 1024] inb_S544x1024_S256x1024_16_0)) x18⟩] := by
  unfold kernelRun0_A
  dsimp only
  sl_unfold_words
  simp only [load_canon, stored, View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg13.read_unread, harg14.read_unread, harg15.read_unread, harg16.read_unread,
    harg17.read_unread, harg18.read_unread, harg19.read_unread,
    full16x1024, full512x1024, full16x512, full512x512, full1024x1024, full1x1024, full2816x1024, full544x1024,
    gate35, gate40, gate44, gate47, gate52, gate56, gate61, gate65, gate70, gate30, up31, up36, up41, up45, up48, up53,
    up57, up62, up66, up71, word, chunk0, chunk1, chunk2, chunk3, chunk4, chunk5, chunk6, chunk7, chunk8, chunk9,
    chunk10, lanes0, lanes1, lanes2, lanes3, lanes4, lanes5, lanes6, lanes7, lanes8, lanes9, lanes10, all_lanes,
    rows_a, rows_s, rows_x, half_x0, half_x1, half_h0, half_h1, rows_x1, rows_x2, rows_h, out_low, out_high]

end Cert.Kernel4Ideal.Mix

end
end
-- ==== Proof.PromptTile.lean ====
/- The mixing kernel's arithmetic at an index: each step on rows that hold the arrays' tokens gives the tokens' values.
   The same as `MixTile`, for the prompt batch of 8 sequences, whose program is another one with its own names. -/
module

public import proofs.«01_k».proof.Proof.PromptBody
public import proofs.«01_k».proof.Proof.MixSpec
public import Idealize.ShloMosaic.Lib.Pointwise
public import Idealize.ShloMosaic.PureOps.Ideal.Laws

@[expose] public section

set_option maxRecDepth 65536

noncomputable section

namespace Cert.Kernel4Ideal.Mix

open Cert.Kernel4Ideal Cert.Kernel4Ideal.Gen Idealize.ShloMosaic Idealize.ShloMosaic.TcCoe Idealize.SL.Sem
open Cert.Att (at2 at2_of)
open Cert.Mix (Arrays rms mix x1 hid lin up taps gate gelu act down out)

variable (P : Arrays) (T : ℕ)

theorem x1Half_at (a : Vec Ideal S272x512 .bf16) (wa : Vec Ideal S512x1024 .bf16) (s : Vec Ideal S272x1024 .bf16)
    (ws : Vec Ideal S1024x1024 .bf16) (x : Vec Ideal S272x1024 .f32) (g : Vec Ideal S1x1024 .f32) (R : Fin 272) (f : Fin 1024)
    (ha : ∀ k : Fin 512, a (ix2 R k) = P.a T k.val) (hs : ∀ k : Fin 1024, s (ix2 R k) = P.s T k.val)
    (hx : ∀ k : Fin 1024, x (ix2 R k) = P.x T k.val) (hwa : ∀ (k : Fin 512) (l : Fin 1024), wa (ix2 k l) = P.w k.val l.val)
    (hws : ∀ k l : Fin 1024, ws (ix2 k l) = P.w (512 + k.val) l.val) (hg : ∀ l : Fin 1024, g (ix2 0 l) = P.gMix l.val) :
    x1Half a wa s ws x g (ix2 R f) = x1 P T f.val := by
  unfold x1Half
  pointwise [k0_pay18, k0_pay17]
  simp only [ha, hs, hx, hwa, hws, hg]
  rfl

theorem hHalf_at (a : Vec Ideal S272x512 .bf16) (wa : Vec Ideal S512x1024 .bf16) (s : Vec Ideal S272x1024 .bf16)
    (ws : Vec Ideal S1024x1024 .bf16) (x : Vec Ideal S272x1024 .f32) (g g' : Vec Ideal S1x1024 .f32) (R : Fin 272) (f : Fin 1024)
    (ha : ∀ k : Fin 512, a (ix2 R k) = P.a T k.val) (hs : ∀ k : Fin 1024, s (ix2 R k) = P.s T k.val)
    (hx : ∀ k : Fin 1024, x (ix2 R k) = P.x T k.val) (hwa : ∀ (k : Fin 512) (l : Fin 1024), wa (ix2 k l) = P.w k.val l.val)
    (hws : ∀ k l : Fin 1024, ws (ix2 k l) = P.w (512 + k.val) l.val) (hg : ∀ l : Fin 1024, g (ix2 0 l) = P.gMix l.val)
    (hg' : ∀ l : Fin 1024, g' (ix2 0 l) = P.gPre l.val) :
    hHalf a wa s ws x g g' (ix2 R f) = hid P T f.val := by
  have e : ∀ k : Fin 1024, k0_pay17 a wa s ws x g (ix2 R k) = x1 P T k.val := fun k => by
    pointwise [k0_pay17]
    simp only [ha, hs, hx, hwa, hws, hg]
    rfl
  unfold hHalf
  pointwise [k0_pay21, k0_pay20, k0_pay19]
  simp only [e, hg']
  rfl

theorem outRows_at (z : Vec Ideal S256x2816 .bf16) (w : Vec Ideal S2816x1024 .bf16) (x : Vec Ideal S256x1024 .f32)
    (g : Vec Ideal S1x1024 .f32) (R : Fin 256) (f : Fin 1024) (hz : ∀ k : Fin 2816, z (ix2 R k) = act P T k.val)
    (hw : ∀ (k : Fin 2816) (l : Fin 1024), w (ix2 k l) = P.wd k.val l.val) (hx : ∀ k : Fin 1024, x (ix2 R k) = x1 P T k.val)
    (hg : ∀ l : Fin 1024, g (ix2 0 l) = P.gPost l.val) : outRows z w x g (ix2 R f) = out P T f.val := by
  unfold outRows
  pointwise [k0_pay76]
  simp only [hz, hw, hx, hg]
  rfl

theorem gAll_at (h : Vec Ideal S544x1024 .bf16) (w : Vec Ideal S1024x256 .bf16) (e : Fin 544) (l : Fin 256) :
    k0_pay24 h w (ix2 e l) = ∑ k : Fin 1024, h (ix2 e k) * w (ix2 k l) := by
  pointwise [k0_pay24]

theorem uAll_at (h : Vec Ideal S512x1024 .bf16) (w : Vec Ideal S1024x256 .bf16) (r : Fin 512) (l : Fin 256) :
    k0_pay25 h w (ix2 r l) = ∑ k : Fin 1024, h (ix2 r k) * w (ix2 k l) := by
  pointwise [k0_pay25]

theorem zero_bits : Ideal.ofBits .f32 0x00000000#32 = 0 := by
  simp [Ideal.ofBits, Ideal.ieee]

theorem one_bits : Ideal.ofBits .f32 0x3F800000#32 = 1 := by
  simp [Ideal.ofBits, Ideal.ieee]
  rw [← EReal.coe_mul]
  norm_num

theorem keep_prev (i : grid0.Coords) : k0_pay22 (F := Ideal) (blockWord i) = if (i 0).val % 16 = 0 then 0 else 1 := by
  have h : ∀ i : grid0.Coords, Scalar.cmpi .eq (blockWord i) 0#32 = if (i 0).val % 16 = 0 then 1#1 else 0#1 := by decide +kernel
  unfold k0_pay22
  dsimp only
  rw [h i]
  by_cases hi : (i 0).val % 16 = 0
  · rw [if_pos hi, if_pos hi]
    exact zero_bits
  · rw [if_neg hi, if_neg hi]
    exact one_bits

theorem keep_next (i : grid0.Coords) : k0_pay23 (F := Ideal) (blockWord i) = if (i 0).val % 16 = 15 then 0 else 1 := by
  have h : ∀ i : grid0.Coords, Scalar.cmpi .eq (blockWord i) 15#32 = if (i 0).val % 16 = 15 then 1#1 else 0#1 := by decide +kernel
  unfold k0_pay23
  dsimp only
  rw [h i]
  by_cases hi : (i 0).val % 16 = 15
  · rw [if_pos hi, if_pos hi]
    exact zero_bits
  · rw [if_neg hi, if_neg hi]
    exact one_bits

/-- A value that one row multiplies by zero at the edge of a sequence. -/
theorem pick (p q : Prop) [Decidable p] [Decidable q] (x : EReal) :
    Scalar.select (if p then 1#1 else 0#1) (x * if q then 0 else 1) x = if p ∧ q then 0 else x := by
  by_cases hp : p <;> by_cases hq : q <;> simp [hp, hq, Scalar.select]

theorem chunk_at (i : grid0.Coords) (u gp gc gn : FVec Ideal S512x256 .f32) (t0 t1 t2 b : Vec Ideal S1x256 .f32) (r : Fin 512)
    (l : Fin 256) : chunk i u gp gc gn t0 t1 t2 b (ix2 r l)
      = gelu ((if r.val = 0 ∧ (i 0).val % 16 = 0 then 0 else gp (ix2 r l)) * t0 (ix2 0 l) + gc (ix2 r l) * t1 (ix2 0 l)
          + (if r.val = 511 ∧ (i 0).val % 16 = 15 then 0 else gn (ix2 r l)) * t2 (ix2 0 l) + b (ix2 0 l)) * u (ix2 r l) := by
  have e : k0_pay72 (k0_pay22 (blockWord i)) (k0_pay23 (blockWord i)) (iota .tc S512x256 32 [0] iota_S512x256_d0_w32) gp gc gn t0 t1 t2 b (ix2 r l)
      = (if r.val = 0 ∧ (i 0).val % 16 = 0 then 0 else gp (ix2 r l)) * t0 (ix2 0 l) + gc (ix2 r l) * t1 (ix2 0 l)
          + (if r.val = 511 ∧ (i 0).val % 16 = 15 then 0 else gn (ix2 r l)) * t2 (ix2 0 l) + b (ix2 0 l) := by
    pointwise [k0_pay72]
    have c0 : ∀ r : Fin 512, IntOp.cmpi .eq (BitVec.ofNat 32 r.val) 0#32 = if r.val = 0 then 1#1 else 0#1 := by decide +kernel
    have c1 : ∀ r : Fin 512, IntOp.cmpi .eq (BitVec.ofNat 32 r.val) 511#32 = if r.val = 511 then 1#1 else 0#1 := by decide +kernel
    rw [c0 r, c1 r, keep_prev, keep_next, pick, pick]
  unfold chunk
  pointwise [k0_pay75, k0_pay73, k0_pay74]
  rw [e]
  rw [← one_bits]
  exact congrArg (· * _) (Cert.Mix.gelu_grouped _)

end Cert.Kernel4Ideal.Mix

end
end
-- ==== Proof.PromptBlock.lean ====
/- What one grid point of the mixing kernel computes: given which tokens its blocks hold, each row that it stores is the
   layer's output at that row's token.
   The same as `MixBlock`, for the prompt batch of 8 sequences, whose program is another one with its own names. -/
module

public import proofs.«01_k».proof.Proof.PromptTile
public import Idealize.ShloMosaic.Lib.Pipeline.ValueKit.Tiles

@[expose] public section

set_option maxRecDepth 65536

noncomputable section

namespace Cert.Kernel4Ideal.Mix

open Cert.Kernel4Ideal Cert.Kernel4Ideal.Gen Idealize.ShloMosaic Idealize.ShloMosaic.TcCoe Idealize.SL.Sem
open Cert.Att (at2 at2_of)
open Cert.Mix (Arrays rms mix x1 hid lin up taps gate gelu act down out)

/-! ## Stores and loads of windows -/

/-- A load of a window, at a place. -/
theorem ld2 {Val : EltTy → Type} {e : EltTy} {a b h w : ℕ} (x : (⟨2, ![a, b]⟩ : Shape).Idx → Val e) (o c : ℕ)
    (inb : ∀ d, (![o, c] : Fin 2 → ℕ) d + (![h, w] : Fin 2 → ℕ) d ≤ (⟨2, ![a, b]⟩ : Shape).size d) (i : Fin h) (j : Fin w)
    (hi : o + i.val < a) (hj : c + j.val < b) :
    View.ld x (Rect.unit (s := ⟨2, ![a, b]⟩) ![o, c] ![h, w] inb) (ValueIdx.ix2 i j) = x (ValueIdx.ix2 ⟨o + i.val, hi⟩ ⟨c + j.val, hj⟩) :=
  View.ld_unit_apply_of x _ _ _ _ _ fun d => by
    match d with
    | ⟨0, _⟩ => rfl
    | ⟨1, _⟩ => rfl

/-- The last store, at a place of its window. -/
theorem canon_in {Val : EltTy → Type} [∀ e, Nonempty (Val e)] {e : EltTy} {a b h w : ℕ} (o c : ℕ)
    (inb : ∀ d, (![o, c] : Fin 2 → ℕ) d + (![h, w] : Fin 2 → ℕ) d ≤ (⟨2, ![a, b]⟩ : Shape).size d)
    (p : (⟨2, ![h, w]⟩ : Shape).Idx → Val e) (L : List (View.Piece Val ⟨2, ![a, b]⟩ e)) (i : Fin a) (j : Fin b)
    (i' : Fin h) (j' : Fin w) (hi : i.val = o + i'.val) (hj : j.val = c + j'.val) :
    View.canon (⟨Rect.unit (s := ⟨2, ![a, b]⟩) ![o, c] ![h, w] inb, p⟩ :: L) (ValueIdx.ix2 i j) = p (ValueIdx.ix2 i' j') := by
  have e1 : (ValueIdx.ix2 i j : (⟨2, ![a, b]⟩ : Shape).Idx)
      = (Rect.unit (s := ⟨2, ![a, b]⟩) ![o, c] ![h, w] inb).emb (ValueIdx.ix2 i' j') := by
    refine funext fun d => Fin.ext ?_
    match d with
    | ⟨0, _⟩ => exact hi.trans (Rect.idx_unit_val (s := ⟨2, ![a, b]⟩) ![o, c] ![h, w] inb (ValueIdx.ix2 i' j') 0).symm
    | ⟨1, _⟩ => exact hj.trans (Rect.idx_unit_val (s := ⟨2, ![a, b]⟩) ![o, c] ![h, w] inb (ValueIdx.ix2 i' j') 1).symm
  rw [e1]
  exact View.canon_cons_emb _ _ _ _

/-- The last store does not show outside its rows. -/
theorem canon_out {Val : EltTy → Type} [∀ e, Nonempty (Val e)] {e : EltTy} {a b h w : ℕ} (o c : ℕ)
    (inb : ∀ d, (![o, c] : Fin 2 → ℕ) d + (![h, w] : Fin 2 → ℕ) d ≤ (⟨2, ![a, b]⟩ : Shape).size d)
    (p : (⟨2, ![h, w]⟩ : Shape).Idx → Val e) (L : List (View.Piece Val ⟨2, ![a, b]⟩ e)) (i : Fin a) (j : Fin b)
    (hn : i.val < o ∨ o + h ≤ i.val) :
    View.canon (⟨Rect.unit (s := ⟨2, ![a, b]⟩) ![o, c] ![h, w] inb, p⟩ :: L) (ValueIdx.ix2 i j) = View.canon L (ValueIdx.ix2 i j) := by
  refine View.canon_cons_of_not_mem _ _ fun hm => ?_
  have h0 := (Rect.mem_set_unit (inb := inb)).mp hm 0
  have h1 : o ≤ i.val := h0.1
  have h2 : i.val < o + h := h0.2
  omega

/-! ## Which token a row of a block is -/

/-- The token of row `e` of the 544 that block `i` works on. -/
def tok (i e : ℕ) : ℕ :=
  if e < 16 then (32 * i - 1) * 16 + e else if e < 528 then 512 * i + (e - 16) else min (32 * (i + 1)) 4095 * 16 + (e - 528)

/-- The activation of the 512 tokens of block `i`. -/
def actRows (Q : Arrays) (i : ℕ) (y : S512x2816.Idx) : Elt Ideal .bf16 := act Q (512 * i + (y 0).val) (y 1).val

theorem tok_row (i r : ℕ) (hr : r < 512) : tok i (16 + r) = 512 * i + r := by
  unfold tok
  rw [if_neg (by omega), if_pos (by omega)]
  omega

theorem tok_prev (i r : ℕ) (hr : r < 512) (h : ¬ (r = 0 ∧ i % 16 = 0)) : tok i (15 + r) = 512 * i + r - 1 := by
  unfold tok
  by_cases h0 : r = 0
  · rw [if_pos (by omega)]
    omega
  · rw [if_neg (by omega), if_pos (by omega)]
    omega

theorem tok_next (i r : ℕ) (hi : i < 128) (hr : r < 512) (h : ¬ (r = 511 ∧ i % 16 = 15)) : tok i (17 + r) = 512 * i + r + 1 := by
  unfold tok
  by_cases h0 : r = 511
  · rw [if_neg (by omega), if_neg (by omega)]
    omega
  · rw [if_neg (by omega), if_pos (by omega)]
    omega

/-- What the blocks of grid point `i` hold, of the arrays `Q`. -/
structure Holds (Q : Arrays) (i : ℕ) (x0 : Vec Ideal S16x1024 .f32) (x1 : Vec Ideal S512x1024 .f32) (x2 : Vec Ideal S16x1024 .f32) (x3 : Vec Ideal S16x512 .bf16) (x4 : Vec Ideal S512x512 .bf16) (x5 : Vec Ideal S16x512 .bf16) (x6 : Vec Ideal S16x1024 .bf16) (x7 : Vec Ideal S512x1024 .bf16) (x8 : Vec Ideal S16x1024 .bf16) (x9 : Vec Ideal S512x1024 .bf16) (x10 : Vec Ideal S1024x1024 .bf16) (x11 : Vec Ideal S1x1024 .f32) (x12 : Vec Ideal S1x1024 .f32) (x13 : Vec Ideal S1024x2816 .bf16) (x14 : Vec Ideal S1024x2816 .bf16) (x15 : Vec Ideal S2816x1024 .bf16) (x16 : Vec Ideal S3x2816 .f32) (x17 : Vec Ideal S1x2816 .f32) (x18 : Vec Ideal S1x1024 .f32) : Prop where
  xp : ∀ (e : Fin 16) (k : Fin 1024), x0 (ix2 e k) = Q.x ((32 * i - 1) * 16 + e.val) k.val
  xc : ∀ (e : Fin 512) (k : Fin 1024), x1 (ix2 e k) = Q.x (512 * i + e.val) k.val
  xn : ∀ (e : Fin 16) (k : Fin 1024), x2 (ix2 e k) = Q.x (min (32 * (i + 1)) 4095 * 16 + e.val) k.val
  ap : ∀ (e : Fin 16) (k : Fin 512), x3 (ix2 e k) = Q.a ((32 * i - 1) * 16 + e.val) k.val
  ac : ∀ (e : Fin 512) (k : Fin 512), x4 (ix2 e k) = Q.a (512 * i + e.val) k.val
  an : ∀ (e : Fin 16) (k : Fin 512), x5 (ix2 e k) = Q.a (min (32 * (i + 1)) 4095 * 16 + e.val) k.val
  sp : ∀ (e : Fin 16) (k : Fin 1024), x6 (ix2 e k) = Q.s ((32 * i - 1) * 16 + e.val) k.val
  sc : ∀ (e : Fin 512) (k : Fin 1024), x7 (ix2 e k) = Q.s (512 * i + e.val) k.val
  sn : ∀ (e : Fin 16) (k : Fin 1024), x8 (ix2 e k) = Q.s (min (32 * (i + 1)) 4095 * 16 + e.val) k.val
  wa : ∀ (k : Fin 512) (l : Fin 1024), x9 (ix2 k l) = Q.w k.val l.val
  ws : ∀ k l : Fin 1024, x10 (ix2 k l) = Q.w (512 + k.val) l.val
  gMix : ∀ l : Fin 1024, x11 (ix2 0 l) = Q.gMix l.val
  gPre : ∀ l : Fin 1024, x12 (ix2 0 l) = Q.gPre l.val
  wg : ∀ (k : Fin 1024) (l : Fin 2816), x13 (ix2 k l) = Q.wg k.val l.val
  wu : ∀ (k : Fin 1024) (l : Fin 2816), x14 (ix2 k l) = Q.wu k.val l.val
  wd : ∀ (k : Fin 2816) (l : Fin 1024), x15 (ix2 k l) = Q.wd k.val l.val
  cw : ∀ (k : Fin 3) (l : Fin 2816), x16 (ix2 k l) = Q.cw k.val l.val
  cb : ∀ l : Fin 2816, x17 (ix2 0 l) = Q.cb l.val
  gPost : ∀ l : Fin 1024, x18 (ix2 0 l) = Q.gPost l.val

section

variable {Q : Arrays} {i : ℕ} {x0 : Vec Ideal S16x1024 .f32} {x1 : Vec Ideal S512x1024 .f32} {x2 : Vec Ideal S16x1024 .f32} {x3 : Vec Ideal S16x512 .bf16} {x4 : Vec Ideal S512x512 .bf16} {x5 : Vec Ideal S16x512 .bf16} {x6 : Vec Ideal S16x1024 .bf16} {x7 : Vec Ideal S512x1024 .bf16} {x8 : Vec Ideal S16x1024 .bf16} {x9 : Vec Ideal S512x1024 .bf16} {x10 : Vec Ideal S1024x1024 .bf16} {x11 : Vec Ideal S1x1024 .f32} {x12 : Vec Ideal S1x1024 .f32} {x13 : Vec Ideal S1024x2816 .bf16} {x14 : Vec Ideal S1024x2816 .bf16} {x15 : Vec Ideal S2816x1024 .bf16} {x16 : Vec Ideal S3x2816 .f32} {x17 : Vec Ideal S1x2816 .f32} {x18 : Vec Ideal S1x1024 .f32} (H : Holds Q i x0 x1 x2 x3 x4 x5 x6 x7 x8 x9 x10 x11 x12 x13 x14 x15 x16 x17 x18)
include H

theorem aExt_at (e : Fin 544) (k : Fin 512) : aExt x3 x4 x5 (ix2 e k) = Q.a (tok i e.val) k.val := by
  have he := e.isLt
  unfold aExt tok
  by_cases h0 : e.val < 16
  · rw [if_pos h0]
    refine (canon_out 528 0 inb_S544x512_S16x512_528_0 _ _ e k (by omega)).trans ?_
    refine (canon_out 16 0 inb_S544x512_S512x512_16_0 _ _ e k (by omega)).trans ?_
    refine (canon_in 0 0 inb_S544x512_S16x512_0_0 _ _ e k ⟨e.val, h0⟩ k (by simp) (by simp)).trans ?_
    pointwise [k0_pay5]
    exact H.ap ⟨e.val, h0⟩ k
  by_cases h1 : e.val < 528
  · rw [if_neg h0, if_pos h1]
    refine (canon_out 528 0 inb_S544x512_S16x512_528_0 _ _ e k (by omega)).trans ?_
    refine (canon_in 16 0 inb_S544x512_S512x512_16_0 _ _ e k ⟨e.val - 16, by omega⟩ k (by show e.val = 16 + (e.val - 16); omega) (by simp)).trans ?_
    pointwise [k0_pay7, k0_pay6]
    exact H.ac ⟨e.val - 16, by omega⟩ k
  · rw [if_neg h0, if_neg h1]
    refine (canon_in 528 0 inb_S544x512_S16x512_528_0 _ _ e k ⟨e.val - 528, by omega⟩ k (by show e.val = 528 + (e.val - 528); omega) (by simp)).trans ?_
    pointwise [k0_pay8]
    exact H.an ⟨e.val - 528, by omega⟩ k

theorem sExt_at (e : Fin 544) (k : Fin 1024) : sExt x6 x7 x8 (ix2 e k) = Q.s (tok i e.val) k.val := by
  have he := e.isLt
  unfold sExt tok
  by_cases h0 : e.val < 16
  · rw [if_pos h0]
    refine (canon_out 528 0 inb_S544x1024_S16x1024_528_0 _ _ e k (by omega)).trans ?_
    refine (canon_out 16 0 inb_S544x1024_S512x1024_16_0 _ _ e k (by omega)).trans ?_
    refine (canon_in 0 0 inb_S544x1024_S16x1024_0_0 _ _ e k ⟨e.val, h0⟩ k (by simp) (by simp)).trans ?_
    pointwise [k0_pay9]
    exact H.sp ⟨e.val, h0⟩ k
  by_cases h1 : e.val < 528
  · rw [if_neg h0, if_pos h1]
    refine (canon_out 528 0 inb_S544x1024_S16x1024_528_0 _ _ e k (by omega)).trans ?_
    refine (canon_in 16 0 inb_S544x1024_S512x1024_16_0 _ _ e k ⟨e.val - 16, by omega⟩ k (by show e.val = 16 + (e.val - 16); omega) (by simp)).trans ?_
    pointwise [k0_pay10]
    exact H.sc ⟨e.val - 16, by omega⟩ k
  · rw [if_neg h0, if_neg h1]
    refine (canon_in 528 0 inb_S544x1024_S16x1024_528_0 _ _ e k ⟨e.val - 528, by omega⟩ k (by show e.val = 528 + (e.val - 528); omega) (by simp)).trans ?_
    pointwise [k0_pay11]
    exact H.sn ⟨e.val - 528, by omega⟩ k

theorem xExt_at (e : Fin 544) (k : Fin 1024) : View.canon (xPieces x0 x1 x2) (ix2 e k) = Q.x (tok i e.val) k.val := by
  have he := e.isLt
  unfold xPieces tok
  by_cases h0 : e.val < 16
  · rw [if_pos h0]
    refine (canon_out 528 0 inb_S544x1024_S16x1024_528_0 _ _ e k (by omega)).trans ?_
    refine (canon_out 16 0 inb_S544x1024_S512x1024_16_0 _ _ e k (by omega)).trans ?_
    refine (canon_in 0 0 inb_S544x1024_S16x1024_0_0 _ _ e k ⟨e.val, h0⟩ k (by simp) (by simp)).trans ?_
    pointwise [k0_pay2]
    exact H.xp ⟨e.val, h0⟩ k
  by_cases h1 : e.val < 528
  · rw [if_neg h0, if_pos h1]
    refine (canon_out 528 0 inb_S544x1024_S16x1024_528_0 _ _ e k (by omega)).trans ?_
    refine (canon_in 16 0 inb_S544x1024_S512x1024_16_0 _ _ e k ⟨e.val - 16, by omega⟩ k (by show e.val = 16 + (e.val - 16); omega) (by simp)).trans ?_
    pointwise [k0_pay3]
    exact H.xc ⟨e.val - 16, by omega⟩ k
  · rw [if_neg h0, if_neg h1]
    refine (canon_in 528 0 inb_S544x1024_S16x1024_528_0 _ _ e k ⟨e.val - 528, by omega⟩ k (by show e.val = 528 + (e.val - 528); omega) (by simp)).trans ?_
    pointwise [k0_pay4]
    exact H.xn ⟨e.val - 528, by omega⟩ k

theorem xOne_low (e : Fin 544) (k : Fin 1024) (h : e.val < 272) :
    View.canon (xOne x0 x1 x2 x3 x4 x5 x6 x7 x8 x9 x10 x11) (ix2 e k) = Cert.Mix.x1 Q (tok i e.val) k.val := by
  unfold xOne
  refine (canon_in 0 0 inb_S544x1024_S272x1024_0_0 _ _ e k ⟨e.val, h⟩ k (by simp) (by simp)).trans ?_
  refine x1Half_at Q (tok i e.val) _ _ _ _ _ _ ⟨e.val, h⟩ k (fun k => ?_) (fun k => ?_) (fun k => ?_) H.wa H.ws H.gMix
  · refine (ld2 _ 0 0 inb_S544x512_S272x512_0_0 _ k (by show 0 + e.val < 544; omega) (by simp)).trans ((aExt_at H _ _).trans ?_)
    simp
  · refine (ld2 _ 0 0 inb_S544x1024_S272x1024_0_0 _ k (by show 0 + e.val < 544; omega) (by simp)).trans ((sExt_at H _ _).trans ?_)
    simp
  · refine (ld2 _ 0 0 inb_S544x1024_S272x1024_0_0 _ k (by show 0 + e.val < 544; omega) (by simp)).trans ((xExt_at H _ _).trans ?_)
    simp

theorem xOne_high (e : Fin 544) (k : Fin 1024) (h : 272 ≤ e.val) :
    View.canon (xOne x0 x1 x2 x3 x4 x5 x6 x7 x8 x9 x10 x11) (ix2 e k) = Q.x (tok i e.val) k.val := by
  unfold xOne
  exact (canon_out 0 0 inb_S544x1024_S272x1024_0_0 _ _ e k (by omega)).trans (xExt_at H e k)

theorem xTwo_at (e : Fin 544) (k : Fin 1024) : xTwo x0 x1 x2 x3 x4 x5 x6 x7 x8 x9 x10 x11 (ix2 e k) = Cert.Mix.x1 Q (tok i e.val) k.val := by
  have he := e.isLt
  unfold xTwo
  by_cases h : e.val < 272
  · exact (canon_out 272 0 inb_S544x1024_S272x1024_272_0 _ _ e k (by omega)).trans (xOne_low H e k h)
  refine (canon_in 272 0 inb_S544x1024_S272x1024_272_0 _ _ e k ⟨e.val - 272, by omega⟩ k (by show e.val = 272 + (e.val - 272); omega) (by simp)).trans ?_
  refine x1Half_at Q (tok i e.val) _ _ _ _ _ _ ⟨e.val - 272, by omega⟩ k (fun k => ?_) (fun k => ?_) (fun k => ?_) H.wa H.ws H.gMix
  · refine (ld2 _ 272 0 inb_S544x512_S272x512_272_0 _ k (by show 272 + (e.val - 272) < 544; omega) (by simp)).trans ((aExt_at H _ _).trans ?_)
    exact congrArg₂ Q.a (congrArg (tok i) (by show 272 + (e.val - 272) = e.val; omega)) (Nat.zero_add _)
  · refine (ld2 _ 272 0 inb_S544x1024_S272x1024_272_0 _ k (by show 272 + (e.val - 272) < 544; omega) (by simp)).trans ((sExt_at H _ _).trans ?_)
    exact congrArg₂ Q.s (congrArg (tok i) (by show 272 + (e.val - 272) = e.val; omega)) (Nat.zero_add _)
  · refine (ld2 _ 272 0 inb_S544x1024_S272x1024_272_0 _ k (by show 272 + (e.val - 272) < 544; omega) (by simp)).trans ((xOne_high H _ _ (by show 272 ≤ 272 + (e.val - 272); omega)).trans ?_)
    exact congrArg₂ Q.x (congrArg (tok i) (by show 272 + (e.val - 272) = e.val; omega)) (Nat.zero_add _)

theorem hExt_at (e : Fin 544) (k : Fin 1024) : hExt x0 x1 x2 x3 x4 x5 x6 x7 x8 x9 x10 x11 x12 (ix2 e k) = hid Q (tok i e.val) k.val := by
  have he := e.isLt
  unfold hExt
  by_cases h : e.val < 272
  · refine (canon_out 272 0 inb_S544x1024_S272x1024_272_0 _ _ e k (by omega)).trans ?_
    refine (canon_in 0 0 inb_S544x1024_S272x1024_0_0 _ _ e k ⟨e.val, h⟩ k (by simp) (by simp)).trans ?_
    refine hHalf_at Q (tok i e.val) _ _ _ _ _ _ _ ⟨e.val, h⟩ k (fun k => ?_) (fun k => ?_) (fun k => ?_) H.wa H.ws H.gMix H.gPre
    · refine (ld2 _ 0 0 inb_S544x512_S272x512_0_0 _ k (by show 0 + e.val < 544; omega) (by simp)).trans ((aExt_at H _ _).trans ?_)
      simp
    · refine (ld2 _ 0 0 inb_S544x1024_S272x1024_0_0 _ k (by show 0 + e.val < 544; omega) (by simp)).trans ((sExt_at H _ _).trans ?_)
      simp
    · refine (ld2 _ 0 0 inb_S544x1024_S272x1024_0_0 _ k (by show 0 + e.val < 544; omega) (by simp)).trans ((xExt_at H _ _).trans ?_)
      simp

  refine (canon_in 272 0 inb_S544x1024_S272x1024_272_0 _ _ e k ⟨e.val - 272, by omega⟩ k (by show e.val = 272 + (e.val - 272); omega) (by simp)).trans ?_
  refine hHalf_at Q (tok i e.val) _ _ _ _ _ _ _ ⟨e.val - 272, by omega⟩ k (fun k => ?_) (fun k => ?_) (fun k => ?_) H.wa H.ws H.gMix H.gPre
  · refine (ld2 _ 272 0 inb_S544x512_S272x512_272_0 _ k (by show 272 + (e.val - 272) < 544; omega) (by simp)).trans ((aExt_at H _ _).trans ?_)
    exact congrArg₂ Q.a (congrArg (tok i) (by show 272 + (e.val - 272) = e.val; omega)) (Nat.zero_add _)
  · refine (ld2 _ 272 0 inb_S544x1024_S272x1024_272_0 _ k (by show 272 + (e.val - 272) < 544; omega) (by simp)).trans ((sExt_at H _ _).trans ?_)
    exact congrArg₂ Q.s (congrArg (tok i) (by show 272 + (e.val - 272) = e.val; omega)) (Nat.zero_add _)
  · refine (ld2 _ 272 0 inb_S544x1024_S272x1024_272_0 _ k (by show 272 + (e.val - 272) < 544; omega) (by simp)).trans ((xOne_high H _ _ (by show 272 ≤ 272 + (e.val - 272); omega)).trans ?_)
    exact congrArg₂ Q.x (congrArg (tok i) (by show 272 + (e.val - 272) = e.val; omega)) (Nat.zero_add _)

/-- A lane's row of gate values, loaded from row `o` on. -/
theorem gate_row (j : ℕ) (hj : j < 11) (o : ℕ) (inb : ∀ d, (![o, 0] : Fin 2 → ℕ) d + (![512, 256] : Fin 2 → ℕ) d ≤ S544x256.size d)
    (r : Fin 512) (l : Fin 256) (ho : o + r.val < 544) :
    View.ld (Val := Elt Ideal) (S := S544x256) (e' := .f32)
        (k0_pay24 (hExt x0 x1 x2 x3 x4 x5 x6 x7 x8 x9 x10 x11 x12) (View.ld x13 (Rect.unit ![0, 256 * j] ![1024, 256] (lanes_inb 0 j (by decide) hj))))
        (Rect.unit ![o, 0] ![512, 256] inb) (ix2 r l) = lin Q (tok i (o + r.val)) (256 * j + l.val) := by
  have hl := l.isLt
  refine (ld2 _ o 0 inb r l ho (by omega)).trans ((gAll_at _ _ _ _).trans ?_)
  unfold lin
  refine Finset.sum_congr rfl fun k _ => congrArg₂ (· * ·) (hExt_at H _ k) ?_
  refine (ld2 _ 0 (256 * j) (lanes_inb 0 j (by decide) hj) k _ (by omega) (by show 256 * j + (0 + l.val) < 2816; omega)).trans ((H.wg _ _).trans ?_)
  exact congrArg₂ Q.wg (Nat.zero_add _) (congrArg (256 * j + ·) (Nat.zero_add _))

theorem up_row (j : ℕ) (hj : j < 11) (r : Fin 512) (l : Fin 256) :
    k0_pay25 (View.ld (hExt x0 x1 x2 x3 x4 x5 x6 x7 x8 x9 x10 x11 x12) (Rect.unit ![16, 0] ![512, 1024] inb_S544x1024_S512x1024_16_0))
        (View.ld x14 (Rect.unit ![0, 256 * j] ![1024, 256] (lanes_inb 0 j (by decide) hj))) (ix2 r l)
      = up Q (tok i (16 + r.val)) (256 * j + l.val) := by
  have hl := l.isLt
  have hr := r.isLt
  refine (uAll_at _ _ _ _).trans ?_
  unfold up
  refine Finset.sum_congr rfl fun k _ => congrArg₂ (· * ·) ?_ ?_
  · refine (ld2 _ 16 0 inb_S544x1024_S512x1024_16_0 r k (by omega) (by omega)).trans ((hExt_at H _ _).trans ?_)
    exact congrArg (hid Q _) (Nat.zero_add _)
  · refine (ld2 _ 0 (256 * j) (lanes_inb 0 j (by decide) hj) k l (by omega) (by omega)).trans ((H.wu _ _).trans ?_)
    exact congrArg₂ Q.wu (Nat.zero_add _) rfl

theorem tap_row (j : ℕ) (hj : j < 11) (q : ℕ) (hq : q < 3) (inb) (l : Fin 256) :
    View.ld x16 (Rect.unit (s := S3x2816) ![q, 256 * j] ![1, 256] inb) (ix2 0 l) = Q.cw q (256 * j + l.val) := by
  have hl := l.isLt
  refine (ld2 _ q (256 * j) inb 0 l (by simpa using hq) (by omega)).trans ((H.cw _ _).trans ?_)
  exact congrArg₂ Q.cw (Nat.add_zero _) rfl

theorem bias_row (j : ℕ) (hj : j < 11) (inb) (l : Fin 256) :
    View.ld x17 (Rect.unit (s := S1x2816) ![0, 256 * j] ![1, 256] inb) (ix2 0 l) = Q.cb (256 * j + l.val) := by
  have hl := l.isLt
  exact (ld2 _ 0 (256 * j) inb 0 l (by simp) (by omega)).trans (H.cb _)

/-- The activation of 256 lanes of a block's rows is that of the rows' tokens. -/
theorem lanes_at (g : grid0.Coords) (hg : (g 0).val = i) (j : ℕ) (hj : j < 11) (r : Fin 512) (l : Fin 256) :
    lanes g (hExt x0 x1 x2 x3 x4 x5 x6 x7 x8 x9 x10 x11 x12) x13 x14 x16 x17 j hj (ix2 r l) = act Q (512 * i + r.val) (256 * j + l.val) := by
  have hi : i < 128 := hg ▸ (g 0).isLt
  have hr := r.isLt
  unfold lanes
  rw [chunk_at, up_row H, gate_row H, gate_row H, gate_row H, tap_row H, tap_row H, tap_row H, bias_row H, hg, tok_row i r.val hr]
  · unfold act gate taps
    refine congrArg (· * _) (congrArg gelu (congrArg (· + _) (congrArg₂ (· + ·) (congrArg (· + _) (congrArg (· * _) ?_)) (congrArg (· * _) ?_))))
    · by_cases h : r.val = 0 ∧ i % 16 = 0
      · rw [if_pos h, if_pos (by omega)]
      · rw [if_neg h, if_neg (by omega), tok_prev i r.val hr h]
    · by_cases h : r.val = 511 ∧ i % 16 = 15
      · rw [if_pos h, if_pos (by omega)]
      · rw [if_neg h, if_neg (by omega), tok_next i r.val hi hr h]
  all_goals omega

theorem actAll_at (g : grid0.Coords) (hg : (g 0).val = i) (r : Fin 512) (c : Fin 2816) :
    actAll g (hExt x0 x1 x2 x3 x4 x5 x6 x7 x8 x9 x10 x11 x12) x13 x14 x16 x17 (ix2 r c) = act Q (512 * i + r.val) c.val := by
  have piece : ∀ (j : ℕ) (hj : j < 11) (inb) (x : (Rect.unit (s := S512x2816) ![0, 256 * j] ![512, 256] inb).shape.Idx),
      lanes g (hExt x0 x1 x2 x3 x4 x5 x6 x7 x8 x9 x10 x11 x12) x13 x14 x16 x17 j hj x
        = actRows Q i ((Rect.unit (s := S512x2816) ![0, 256 * j] ![512, 256] inb).emb x) := by
    intro j hj inb x
    have ex : x = (ValueIdx.ix2 ⟨(x 0).val, (x 0).isLt⟩ ⟨(x 1).val, (x 1).isLt⟩ : S512x256.Idx) := by
      refine funext fun d => ?_
      match d with
      | ⟨0, _⟩ => rfl
      | ⟨1, _⟩ => rfl
    refine (congrArg (lanes g (hExt x0 x1 x2 x3 x4 x5 x6 x7 x8 x9 x10 x11 x12) x13 x14 x16 x17 j hj) ex).trans ((lanes_at H g hg j hj _ _).trans ?_)
    refine congrArg₂ (act Q) (congrArg (512 * i + ·) ?_) ?_
    · exact ((Rect.idx_unit_val (s := S512x2816) ![0, 256 * j] ![512, 256] inb x 0).trans (Nat.zero_add _)).symm
    · exact (Rect.idx_unit_val (s := S512x2816) ![0, 256 * j] ![512, 256] inb x 1).symm
  unfold actAll
  refine View.canon_apply_of_pieces (actRows Q i) _ (View.PiecesOf.mem (G := actRows Q i) ?_) (ix2 r c) ?_
  · exact ⟨piece 10 (by decide) inb_S512x2816_S512x256_0_2560, piece 9 (by decide) inb_S512x2816_S512x256_0_2304, piece 8 (by decide) inb_S512x2816_S512x256_0_2048, piece 7 (by decide) inb_S512x2816_S512x256_0_1792, piece 6 (by decide) inb_S512x2816_S512x256_0_1536, piece 5 (by decide) inb_S512x2816_S512x256_0_1280, piece 4 (by decide) inb_S512x2816_S512x256_0_1024, piece 3 (by decide) inb_S512x2816_S512x256_0_768, piece 2 (by decide) inb_S512x2816_S512x256_0_512, piece 1 (by decide) inb_S512x2816_S512x256_0_256, piece 0 (by decide) inb_S512x2816_S512x256_0_0, trivial⟩
  · exact View.cover_of_tiledL _ ![512, 256] (by rfl) _

/-- The rows stored from row `o` on. -/
theorem out_at (g : grid0.Coords) (hg : (g 0).val = i) (o : ℕ) (inb inb') (r : Fin 256) (f : Fin 1024) (ho : o + r.val < 512) :
    outRows (View.ld (actAll g (hExt x0 x1 x2 x3 x4 x5 x6 x7 x8 x9 x10 x11 x12) x13 x14 x16 x17) (Rect.unit (s := S512x2816) ![o, 0] ![256, 2816] inb)) x15
        (View.ld (xTwo x0 x1 x2 x3 x4 x5 x6 x7 x8 x9 x10 x11) (Rect.unit (s := S544x1024) ![16 + o, 0] ![256, 1024] inb')) x18 (ix2 r f)
      = out Q (512 * i + (o + r.val)) f.val := by
  refine outRows_at Q (512 * i + (o + r.val)) _ _ _ _ r f (fun k => ?_) H.wd (fun k => ?_) H.gPost
  · refine (ld2 _ o 0 inb r k ho (by omega)).trans ((actAll_at H g hg _ _).trans ?_)
    exact congrArg (act Q _) (Nat.zero_add _)
  · refine (ld2 _ (16 + o) 0 inb' r k (by omega) (by omega)).trans ((xTwo_at H _ _).trans ?_)
    refine congrArg₂ (Cert.Mix.x1 Q) ?_ (Nat.zero_add _)
    show tok i (16 + o + r.val) = _
    rw [Nat.add_assoc]
    exact tok_row i _ ho

end

end Cert.Kernel4Ideal.Mix

end
end
-- ==== Proof.PromptFinal.lean ====
/- The mixing kernel's blocks hold the tokens of its arguments' arrays, and its result array after the run is the layer's
   output.
   The same as `MixFinal`, for the prompt batch of 8 sequences, whose program is another one with its own names. -/
module

public import proofs.«01_k».proof.Proof.PromptPieces
public import proofs.«01_k».proof.Proof.PromptBlock
public import proofs.«01_k».proof.Proof.Gen.Kernel4Ideal.Value
public import Idealize.ShloMosaic.Lib.StableHlo.ReadAt
public import Idealize.ShloMosaic.Lib.Pipeline.ValueKit

@[expose] public section

set_option maxRecDepth 65536

noncomputable section

namespace Cert.Kernel4Ideal.Mix

open Cert.Kernel4Ideal Cert.Kernel4Ideal.Gen Idealize.ShloMosaic Idealize.ShloMosaic.TcCoe Idealize.SL.Sem
open Cert.Att (at2 at2_of)
open Cert.Mix (Arrays out)

variable (m : (ℓ : Loc nD τ sig) → Buf (Elt Ideal) ℓ)

/-! ## The arrays that the host prepares -/

theorem V_v1 (c : Dev nD) : V m c main_v1 = (truncf .bf16 (extractStridedSlice S512x1024 ![0, 0] (m ((c : Thread nD τ).loc main_arg3)) slices_S1536x1024_S512x1024_0_0 : FVec Ideal S512x1024 .f32) bitsLt_bf16_f32 : FVec Ideal S512x1024 .bf16) := by
  unfold V
  after_reads_simp
  try rfl

theorem V_v3 (c : Dev nD) : V m c main_v3 = (truncf .bf16 (extractStridedSlice S1024x1024 ![512, 0] (m ((c : Thread nD τ).loc main_arg3)) slices_S1536x1024_S1024x1024_512_0 : FVec Ideal S1024x1024 .f32) bitsLt_bf16_f32 : FVec Ideal S1024x1024 .bf16) := by
  unfold V
  after_reads_simp
  try rfl

theorem V_v4 (c : Dev nD) : V m c main_v4 = (truncf .bf16 ((m ((c : Thread nD τ).loc main_arg6)) : FVec Ideal S1024x2816 .f32) bitsLt_bf16_f32 : FVec Ideal S1024x2816 .bf16) := by
  unfold V
  after_reads_simp
  try rfl

theorem V_v5 (c : Dev nD) : V m c main_v5 = (truncf .bf16 ((m ((c : Thread nD τ).loc main_arg7)) : FVec Ideal S1024x2816 .f32) bitsLt_bf16_f32 : FVec Ideal S1024x2816 .bf16) := by
  unfold V
  after_reads_simp
  try rfl

theorem V_v6 (c : Dev nD) : V m c main_v6 = (truncf .bf16 ((m ((c : Thread nD τ).loc main_arg8)) : FVec Ideal S2816x1024 .f32) bitsLt_bf16_f32 : FVec Ideal S2816x1024 .bf16) := by
  unfold V
  after_reads_simp
  try rfl

theorem V_v7 (c : Dev nD) : V m c main_v7 = (truncf .bf16 ((m ((c : Thread nD τ).loc main_arg1)) : FVec Ideal S65536x512 .f32) bitsLt_bf16_f32 : FVec Ideal S65536x512 .bf16) := by
  unfold V
  after_reads_simp
  try rfl

theorem V_v8 (c : Dev nD) : V m c main_v8 = (truncf .bf16 ((m ((c : Thread nD τ).loc main_arg2)) : FVec Ideal S65536x1024 .f32) bitsLt_bf16_f32 : FVec Ideal S65536x1024 .bf16) := by
  unfold V
  after_reads_simp
  try rfl

/-- The arguments, as functions of natural numbers. -/
def args (c : Dev nD) : Arrays where
  x := at2 (a := 65536) (b := 1024) (m (c.tc.loc main_arg0))
  a := at2 (a := 65536) (b := 512) (m (c.tc.loc main_arg1))
  s := at2 (a := 65536) (b := 1024) (m (c.tc.loc main_arg2))
  w := at2 (a := 1536) (b := 1024) (m (c.tc.loc main_arg3))
  gMix := at2 (a := 1) (b := 1024) (m (c.tc.loc main_arg4)) 0
  gPre := at2 (a := 1) (b := 1024) (m (c.tc.loc main_arg5)) 0
  wg := at2 (a := 1024) (b := 2816) (m (c.tc.loc main_arg6))
  wu := at2 (a := 1024) (b := 2816) (m (c.tc.loc main_arg7))
  wd := at2 (a := 2816) (b := 1024) (m (c.tc.loc main_arg8))
  cw := at2 (a := 3) (b := 2816) (m (c.tc.loc main_arg9))
  cb := at2 (a := 1) (b := 2816) (m (c.tc.loc main_arg10)) 0
  gPost := at2 (a := 1) (b := 1024) (m (c.tc.loc main_arg11)) 0

/-! ## The blocks -/

theorem index0 : ∀ t : Fin cfg0.N, win0_0.index t = ![32 * (grid0.coords t 0).val - 1, 0] :=
  (by decide +kernel : ∀ t : Fin grid0.N, win0_0.index t = ![32 * (grid0.coords t 0).val - 1, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![min (32 * ((grid0.coords t 0).val + 1)) 4095, 0] :=
  (by decide +kernel : ∀ t : Fin grid0.N, win0_2.index t = ![min (32 * ((grid0.coords t 0).val + 1)) 4095, 0])
theorem index3 : ∀ t : Fin cfg0.N, win0_3.index t = ![32 * (grid0.coords t 0).val - 1, 0] :=
  (by decide +kernel : ∀ t : Fin grid0.N, win0_3.index t = ![32 * (grid0.coords t 0).val - 1, 0])
theorem index4 : ∀ t : Fin cfg0.N, win0_4.index t = ![(grid0.coords t 0).val, 0] :=
  (by decide +kernel : ∀ t : Fin grid0.N, win0_4.index t = ![(grid0.coords t 0).val, 0])
theorem index5 : ∀ t : Fin cfg0.N, win0_5.index t = ![min (32 * ((grid0.coords t 0).val + 1)) 4095, 0] :=
  (by decide +kernel : ∀ t : Fin grid0.N, win0_5.index t = ![min (32 * ((grid0.coords t 0).val + 1)) 4095, 0])
theorem index6 : ∀ t : Fin cfg0.N, win0_6.index t = ![32 * (grid0.coords t 0).val - 1, 0] :=
  (by decide +kernel : ∀ t : Fin grid0.N, win0_6.index t = ![32 * (grid0.coords t 0).val - 1, 0])
theorem index7 : ∀ t : Fin cfg0.N, win0_7.index t = ![(grid0.coords t 0).val, 0] :=
  (by decide +kernel : ∀ t : Fin grid0.N, win0_7.index t = ![(grid0.coords t 0).val, 0])
theorem index8 : ∀ t : Fin cfg0.N, win0_8.index t = ![min (32 * ((grid0.coords t 0).val + 1)) 4095, 0] :=
  (by decide +kernel : ∀ t : Fin grid0.N, win0_8.index t = ![min (32 * ((grid0.coords t 0).val + 1)) 4095, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![0, 0] :=
  (by decide +kernel : ∀ t : Fin grid0.N, win0_14.index t = ![0, 0])
theorem index15 : ∀ t : Fin cfg0.N, win0_15.index t = ![0, 0] :=
  (by decide +kernel : ∀ t : Fin grid0.N, win0_15.index t = ![0, 0])
theorem index16 : ∀ t : Fin cfg0.N, win0_16.index t = ![0, 0] :=
  (by decide +kernel : ∀ t : Fin grid0.N, win0_16.index t = ![0, 0])
theorem index17 : ∀ t : Fin cfg0.N, win0_17.index t = ![0, 0] :=
  (by decide +kernel : ∀ t : Fin grid0.N, win0_17.index t = ![0, 0])
theorem index18 : ∀ t : Fin cfg0.N, win0_18.index t = ![0, 0] :=
  (by decide +kernel : ∀ t : Fin grid0.N, win0_18.index t = ![0, 0])
theorem index19 : ∀ t : Fin cfg0.N, win0_19.index t = ![(grid0.coords t 0).val, 0] :=
  (by decide +kernel : ∀ t : Fin grid0.N, win0_19.index t = ![(grid0.coords t 0).val, 0])

theorem blk0 (c : Dev nD) (t : Fin cfg0.N) (e : Fin 16) (k : Fin 1024) :
    iblk m c 0 t (ix2 e k) = at2 (a := 65536) (b := 1024) (V m c main_arg0) ((32 * (grid0.coords t 0).val - 1) * 16 + e.val) k.val := by
  unfold iblk
  refine at2_of (V m c main_arg0) (((cfg0.win 0).blk t).view.emb (ValueIdx.ix2 e k)) _ _ ?_ ?_
  · blk_simp [index0]
    try omega
  · blk_simp [index0]
    try omega

theorem blk1 (c : Dev nD) (t : Fin cfg0.N) (e : Fin 512) (k : Fin 1024) :
    iblk m c 1 t (ix2 e k) = at2 (a := 65536) (b := 1024) (V m c main_arg0) (512 * (grid0.coords t 0).val + e.val) k.val := by
  unfold iblk
  refine at2_of (V m c main_arg0) (((cfg0.win 1).blk t).view.emb (ValueIdx.ix2 e k)) _ _ ?_ ?_
  · blk_simp [index1]
    show (grid0.coords t 0).val * 512 + e.val = _; omega
  · blk_simp [index1]
    try omega

theorem blk2 (c : Dev nD) (t : Fin cfg0.N) (e : Fin 16) (k : Fin 1024) :
    iblk m c 2 t (ix2 e k) = at2 (a := 65536) (b := 1024) (V m c main_arg0) (min (32 * ((grid0.coords t 0).val + 1)) 4095 * 16 + e.val) k.val := by
  unfold iblk
  refine at2_of (V m c main_arg0) (((cfg0.win 2).blk t).view.emb (ValueIdx.ix2 e k)) _ _ ?_ ?_
  · blk_simp [index2]
    try omega
  · blk_simp [index2]
    try omega

theorem blk3 (c : Dev nD) (t : Fin cfg0.N) (e : Fin 16) (k : Fin 512) :
    iblk m c 3 t (ix2 e k) = at2 (a := 65536) (b := 512) (V m c main_v7) ((32 * (grid0.coords t 0).val - 1) * 16 + e.val) k.val := by
  unfold iblk
  refine at2_of (V m c main_v7) (((cfg0.win 3).blk t).view.emb (ValueIdx.ix2 e k)) _ _ ?_ ?_
  · blk_simp [index3]
    try omega
  · blk_simp [index3]
    try omega

theorem blk4 (c : Dev nD) (t : Fin cfg0.N) (e : Fin 512) (k : Fin 512) :
    iblk m c 4 t (ix2 e k) = at2 (a := 65536) (b := 512) (V m c main_v7) (512 * (grid0.coords t 0).val + e.val) k.val := by
  unfold iblk
  refine at2_of (V m c main_v7) (((cfg0.win 4).blk t).view.emb (ValueIdx.ix2 e k)) _ _ ?_ ?_
  · blk_simp [index4]
    show (grid0.coords t 0).val * 512 + e.val = _; omega
  · blk_simp [index4]
    try omega

theorem blk5 (c : Dev nD) (t : Fin cfg0.N) (e : Fin 16) (k : Fin 512) :
    iblk m c 5 t (ix2 e k) = at2 (a := 65536) (b := 512) (V m c main_v7) (min (32 * ((grid0.coords t 0).val + 1)) 4095 * 16 + e.val) k.val := by
  unfold iblk
  refine at2_of (V m c main_v7) (((cfg0.win 5).blk t).view.emb (ValueIdx.ix2 e k)) _ _ ?_ ?_
  · blk_simp [index5]
    try omega
  · blk_simp [index5]
    try omega

theorem blk6 (c : Dev nD) (t : Fin cfg0.N) (e : Fin 16) (k : Fin 1024) :
    iblk m c 6 t (ix2 e k) = at2 (a := 65536) (b := 1024) (V m c main_v8) ((32 * (grid0.coords t 0).val - 1) * 16 + e.val) k.val := by
  unfold iblk
  refine at2_of (V m c main_v8) (((cfg0.win 6).blk t).view.emb (ValueIdx.ix2 e k)) _ _ ?_ ?_
  · blk_simp [index6]
    try omega
  · blk_simp [index6]
    try omega

theorem blk7 (c : Dev nD) (t : Fin cfg0.N) (e : Fin 512) (k : Fin 1024) :
    iblk m c 7 t (ix2 e k) = at2 (a := 65536) (b := 1024) (V m c main_v8) (512 * (grid0.coords t 0).val + e.val) k.val := by
  unfold iblk
  refine at2_of (V m c main_v8) (((cfg0.win 7).blk t).view.emb (ValueIdx.ix2 e k)) _ _ ?_ ?_
  · blk_simp [index7]
    show (grid0.coords t 0).val * 512 + e.val = _; omega
  · blk_simp [index7]
    try omega

theorem blk8 (c : Dev nD) (t : Fin cfg0.N) (e : Fin 16) (k : Fin 1024) :
    iblk m c 8 t (ix2 e k) = at2 (a := 65536) (b := 1024) (V m c main_v8) (min (32 * ((grid0.coords t 0).val + 1)) 4095 * 16 + e.val) k.val := by
  unfold iblk
  refine at2_of (V m c main_v8) (((cfg0.win 8).blk t).view.emb (ValueIdx.ix2 e k)) _ _ ?_ ?_
  · blk_simp [index8]
    try omega
  · blk_simp [index8]
    try omega

theorem blk9 (c : Dev nD) (t : Fin cfg0.N) (e : Fin 512) (k : Fin 1024) :
    iblk m c 9 t (ix2 e k) = at2 (a := 512) (b := 1024) (V m c main_v1) (e.val) k.val := by
  unfold iblk
  refine at2_of (V m c main_v1) (((cfg0.win 9).blk t).view.emb (ValueIdx.ix2 e k)) _ _ ?_ ?_
  · blk_simp [index9]
    try omega
  · blk_simp [index9]
    try omega

theorem blk10 (c : Dev nD) (t : Fin cfg0.N) (e : Fin 1024) (k : Fin 1024) :
    iblk m c 10 t (ix2 e k) = at2 (a := 1024) (b := 1024) (V m c main_v3) (e.val) k.val := by
  unfold iblk
  refine at2_of (V m c main_v3) (((cfg0.win 10).blk t).view.emb (ValueIdx.ix2 e k)) _ _ ?_ ?_
  · blk_simp [index10]
    try omega
  · blk_simp [index10]
    try omega

theorem blk11 (c : Dev nD) (t : Fin cfg0.N) (e : Fin 1) (k : Fin 1024) :
    iblk m c 11 t (ix2 e k) = at2 (a := 1) (b := 1024) (V m c main_arg4) (e.val) k.val := by
  unfold iblk
  refine at2_of (V m c main_arg4) (((cfg0.win 11).blk t).view.emb (ValueIdx.ix2 e k)) _ _ ?_ ?_
  · blk_simp [index11]
    try omega
  · blk_simp [index11]
    try omega

theorem blk12 (c : Dev nD) (t : Fin cfg0.N) (e : Fin 1) (k : Fin 1024) :
    iblk m c 12 t (ix2 e k) = at2 (a := 1) (b := 1024) (V m c main_arg5) (e.val) k.val := by
  unfold iblk
  refine at2_of (V m c main_arg5) (((cfg0.win 12).blk t).view.emb (ValueIdx.ix2 e k)) _ _ ?_ ?_
  · blk_simp [index12]
    try omega
  · blk_simp [index12]
    try omega

theorem blk13 (c : Dev nD) (t : Fin cfg0.N) (e : Fin 1024) (k : Fin 2816) :
    iblk m c 13 t (ix2 e k) = at2 (a := 1024) (b := 2816) (V m c main_v4) (e.val) k.val := by
  unfold iblk
  refine at2_of (V m c main_v4) (((cfg0.win 13).blk t).view.emb (ValueIdx.ix2 e k)) _ _ ?_ ?_
  · blk_simp [index13]
    try omega
  · blk_simp [index13]
    try omega

theorem blk14 (c : Dev nD) (t : Fin cfg0.N) (e : Fin 1024) (k : Fin 2816) :
    iblk m c 14 t (ix2 e k) = at2 (a := 1024) (b := 2816) (V m c main_v5) (e.val) k.val := by
  unfold iblk
  refine at2_of (V m c main_v5) (((cfg0.win 14).blk t).view.emb (ValueIdx.ix2 e k)) _ _ ?_ ?_
  · blk_simp [index14]
    try omega
  · blk_simp [index14]
    try omega

theorem blk15 (c : Dev nD) (t : Fin cfg0.N) (e : Fin 2816) (k : Fin 1024) :
    iblk m c 15 t (ix2 e k) = at2 (a := 2816) (b := 1024) (V m c main_v6) (e.val) k.val := by
  unfold iblk
  refine at2_of (V m c main_v6) (((cfg0.win 15).blk t).view.emb (ValueIdx.ix2 e k)) _ _ ?_ ?_
  · blk_simp [index15]
    try omega
  · blk_simp [index15]
    try omega

theorem blk16 (c : Dev nD) (t : Fin cfg0.N) (e : Fin 3) (k : Fin 2816) :
    iblk m c 16 t (ix2 e k) = at2 (a := 3) (b := 2816) (V m c main_arg9) (e.val) k.val := by
  unfold iblk
  refine at2_of (V m c main_arg9) (((cfg0.win 16).blk t).view.emb (ValueIdx.ix2 e k)) _ _ ?_ ?_
  · blk_simp [index16]
    try omega
  · blk_simp [index16]
    try omega

theorem blk17 (c : Dev nD) (t : Fin cfg0.N) (e : Fin 1) (k : Fin 2816) :
    iblk m c 17 t (ix2 e k) = at2 (a := 1) (b := 2816) (V m c main_arg10) (e.val) k.val := by
  unfold iblk
  refine at2_of (V m c main_arg10) (((cfg0.win 17).blk t).view.emb (ValueIdx.ix2 e k)) _ _ ?_ ?_
  · blk_simp [index17]
    try omega
  · blk_simp [index17]
    try omega

theorem blk18 (c : Dev nD) (t : Fin cfg0.N) (e : Fin 1) (k : Fin 1024) :
    iblk m c 18 t (ix2 e k) = at2 (a := 1) (b := 1024) (V m c main_arg11) (e.val) k.val := by
  unfold iblk
  refine at2_of (V m c main_arg11) (((cfg0.win 18).blk t).view.emb (ValueIdx.ix2 e k)) _ _ ?_ ?_
  · blk_simp [index18]
    try omega
  · blk_simp [index18]
    try omega

/-- What the launch finds, as the arguments. -/
theorem slice_low (x : FVec Ideal S1536x1024 .f32) (k : Fin 512) (l : Fin 1024) :
    at2 (a := 512) (b := 1024) (truncf .bf16 (extractStridedSlice S512x1024 ![0, 0] x slices_S1536x1024_S512x1024_0_0 : FVec Ideal S512x1024 .f32) bitsLt_bf16_f32 : FVec Ideal S512x1024 .bf16) k.val l.val
      = at2 (a := 1536) (b := 1024) x k.val l.val := by
  rw [← at2_of (a := 512) (b := 1024) _ (ix2 k l) k.val l.val rfl rfl]
  pointwise
  exact at2_of x _ _ _ (by simp) (by simp)

theorem slice_high (x : FVec Ideal S1536x1024 .f32) (k l : Fin 1024) :
    at2 (a := 1024) (b := 1024) (truncf .bf16 (extractStridedSlice S1024x1024 ![512, 0] x slices_S1536x1024_S1024x1024_512_0 : FVec Ideal S1024x1024 .f32) bitsLt_bf16_f32 : FVec Ideal S1024x1024 .bf16) k.val l.val
      = at2 (a := 1536) (b := 1024) x (512 + k.val) l.val := by
  rw [← at2_of (a := 1024) (b := 1024) _ (ix2 k l) k.val l.val rfl rfl]
  pointwise
  exact at2_of x _ _ _ (by simp) (by simp)

theorem holds (c : Dev nD) (t : Fin cfg0.N) : Holds (args m c) (grid0.coords t 0).val
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) where
  xp e k := (blk0 m c t e k).trans (by rw [V_main_arg0]; rfl)
  xc e k := (blk1 m c t e k).trans (by rw [V_main_arg0]; rfl)
  xn e k := (blk2 m c t e k).trans (by rw [V_main_arg0]; rfl)
  ap e k := (blk3 m c t e k).trans (by rw [V_v7]; rfl)
  ac e k := (blk4 m c t e k).trans (by rw [V_v7]; rfl)
  an e k := (blk5 m c t e k).trans (by rw [V_v7]; rfl)
  sp e k := (blk6 m c t e k).trans (by rw [V_v8]; rfl)
  sc e k := (blk7 m c t e k).trans (by rw [V_v8]; rfl)
  sn e k := (blk8 m c t e k).trans (by rw [V_v8]; rfl)
  wa k l := (blk9 m c t k l).trans (by rw [V_v1]; exact slice_low _ k l)
  ws k l := (blk10 m c t k l).trans (by rw [V_v3]; exact slice_high _ k l)
  gMix l := (blk11 m c t 0 l).trans (by rw [V_main_arg4]; rfl)
  gPre l := (blk12 m c t 0 l).trans (by rw [V_main_arg5]; rfl)
  wg k l := (blk13 m c t k l).trans (by rw [V_v4]; rfl)
  wu k l := (blk14 m c t k l).trans (by rw [V_v5]; rfl)
  wd k l := (blk15 m c t k l).trans (by rw [V_v6]; rfl)
  cw k l := (blk16 m c t k l).trans (by rw [V_main_arg9]; rfl)
  cb l := (blk17 m c t 0 l).trans (by rw [V_main_arg10]; rfl)
  gPost l := (blk18 m c t 0 l).trans (by rw [V_main_arg11]; rfl)

/-! ## One grid point's block -/

/-- The output of the 512 tokens of block `n`. -/
def outBlock (Q : Arrays) (n : ℕ) (y : S512x1024.Idx) : Elt Ideal .f32 := out Q (512 * n + (y 0).val) (y 1).val

theorem block_at (c : Dev nD) (i : grid0.Coords) (arg1 : Memref sig .tc .vmem S16x1024 .f32) (harg1 : arg1.IsWhole) (arg2 :
      Memref sig .tc .vmem S512x1024 .f32) (harg2 : arg2.IsWhole) (arg3 : Memref sig .tc .vmem S16x1024 .f32) (harg3
      : arg3.IsWhole) (arg4 : Memref sig .tc .vmem S16x512 .bf16) (harg4 : arg4.IsWhole) (arg5 : Memref sig .tc
      .vmem S512x512 .bf16) (harg5 : arg5.IsWhole) (arg6 : Memref sig .tc .vmem S16x512 .bf16) (harg6 :
      arg6.IsWhole) (arg7 : Memref sig .tc .vmem S16x1024 .bf16) (harg7 : arg7.IsWhole) (arg8 : Memref sig .tc .vmem
      S512x1024 .bf16) (harg8 : arg8.IsWhole) (arg9 : Memref sig .tc .vmem S16x1024 .bf16) (harg9 : arg9.IsWhole)
      (arg10 : Memref sig .tc .vmem S512x1024 .bf16) (harg10 : arg10.IsWhole) (arg11 : Memref sig .tc .vmem
      S1024x1024 .bf16) (harg11 : arg11.IsWhole) (arg12 : Memref sig .tc .vmem S1x1024 .f32) (harg12 :
      arg12.IsWhole) (arg13 : Memref sig .tc .vmem S1x1024 .f32) (harg13 : arg13.IsWhole) (arg14 : Memref sig .tc
      .vmem S1024x2816 .bf16) (harg14 : arg14.IsWhole) (arg15 : Memref sig .tc .vmem S1024x2816 .bf16) (harg15 :
      arg15.IsWhole) (arg16 : Memref sig .tc .vmem S2816x1024 .bf16) (harg16 : arg16.IsWhole) (arg17 : Memref sig
      .tc .vmem S3x2816 .f32) (harg17 : arg17.IsWhole) (arg18 : Memref sig .tc .vmem S1x2816 .f32) (harg18 :
      arg18.IsWhole) (arg19 : Memref sig .tc .vmem S1x1024 .f32) (harg19 : arg19.IsWhole) (arg20 : Memref sig .tc
      .vmem S512x1024 .f32) (harg20 : arg20.IsWhole) (arg21 : Memref sig .tc .vmem S544x1024 .f32) (harg21 :
      arg21.IsWhole) (arg22 : Memref sig .tc .vmem S544x512 .bf16) (harg22 : arg22.IsWhole) (arg23 : Memref sig .tc
      .vmem S544x1024 .bf16) (harg23 : arg23.IsWhole) (arg24 : Memref sig .tc .vmem S544x1024 .bf16) (harg24 :
      arg24.IsWhole) (arg25 : Memref sig .tc .vmem S544x256 .f32) (harg25 : arg25.IsWhole) (arg26 : Memref sig .tc
      .vmem S512x2816 .bf16) (harg26 : arg26.IsWhole) (x0 : Vec Ideal S16x1024 .f32) (x1 : Vec Ideal S512x1024 .f32)
      (x2 : Vec Ideal S16x1024 .f32) (x3 : Vec Ideal S16x512 .bf16) (x4 : Vec Ideal S512x512 .bf16) (x5 : Vec Ideal
      S16x512 .bf16) (x6 : Vec Ideal S16x1024 .bf16) (x7 : Vec Ideal S512x1024 .bf16) (x8 : Vec Ideal S16x1024
      .bf16) (x9 : Vec Ideal S512x1024 .bf16) (x10 : Vec Ideal S1024x1024 .bf16) (x11 : Vec Ideal S1x1024 .f32) (x12
      : Vec Ideal S1x1024 .f32) (x13 : Vec Ideal S1024x2816 .bf16) (x14 : Vec Ideal S1024x2816 .bf16) (x15 : Vec
      Ideal S2816x1024 .bf16) (x16 : Vec Ideal S3x2816 .f32) (x17 : Vec Ideal S1x2816 .f32) (x18 : Vec Ideal S1x1024
      .f32)
      (Q : Arrays) (H : Holds Q (i 0).val x0 x1 x2 x3 x4 x5 x6 x7 x8 x9 x10 x11 x12 x13 x14 x15 x16 x17 x18) (y : S512x1024.Idx) :
    out0_A_19 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 x0 x1
      x2 x3 x4 x5 x6 x7 x8 x9 x10 x11 x12 x13 x14 x15 x16 x17 x18 y = outBlock Q (i 0).val y := by
  have cover := cover0_A_19 (F := Ideal) c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 x0 x1
      x2 x3 x4 x5 x6 x7 x8 x9 x10 x11 x12 x13 x14 x15 x16 x17 x18
  unfold out0_A_19
  rw [View.read_writes_eq_canon _ _ _ cover]
  refine View.canon_apply_of_pieces (outBlock Q (i 0).val) _ ?_ y (cover y)
  rw [pieces]
  have hx : ∀ x : S256x1024.Idx, x = ix2 (x 0) (x 1) := fun x => by
    funext a
    match a with
    | ⟨0, _⟩ => rfl
    | ⟨1, _⟩ => rfl
  refine View.PiecesOf.mem (G := outBlock Q (i 0).val) ⟨fun x => ?_, fun x => ?_, trivial⟩
  · refine (congrArg (outRows _ _ _ _) (hx x)).trans ((out_at H i rfl 256 inb_S512x2816_S256x2816_256_0 inb_S544x1024_S256x1024_272_0 (x 0) (x 1) (by
      have : (x 0).val < 256 := (x 0).isLt
      omega)).trans ?_)
    unfold outBlock
    refine congrArg₂ (out Q) (congrArg (512 * (i 0).val + ·) ?_) ?_
    · exact (Rect.idx_unit_val (s := S512x1024) ![256, 0] ![256, 1024] inb_S512x1024_S256x1024_256_0 x 0).symm
    · exact ((Rect.idx_unit_val (s := S512x1024) ![256, 0] ![256, 1024] inb_S512x1024_S256x1024_256_0 x 1).trans (Nat.zero_add _)).symm
  · refine (congrArg (outRows _ _ _ _) (hx x)).trans ((out_at H i rfl 0 inb_S512x2816_S256x2816_0_0 inb_S544x1024_S256x1024_16_0 (x 0) (x 1) (by
      have : (x 0).val < 256 := (x 0).isLt
      omega)).trans ?_)
    unfold outBlock
    refine congrArg₂ (out Q) (congrArg (512 * (i 0).val + ·) ?_) ?_
    · exact (Rect.idx_unit_val (s := S512x1024) ![0, 0] ![256, 1024] inb_S512x1024_S256x1024_0_0 x 0).symm
    · exact ((Rect.idx_unit_val (s := S512x1024) ![0, 0] ![256, 1024] inb_S512x1024_S256x1024_0_0 x 1).trans (Nat.zero_add _)).symm

/-! ## The array -/

/-- Every element of the result array is the layer's output at its token. -/
theorem array (c : Dev nD) : (dats m 0 c).arrAt 19 cfg0.N = fun y : S65536x1024.Idx => out (args m c) (y 0).val (y 1).val := by
  refine (dats m 0 c).arrAt_eq_of_covers 19 (fun y : S65536x1024.Idx => out (args m c) (y 0).val (y 1).val)
      (by decide +kernel) fun t hf y => ?_
  blk_simp
  rw [after0_19]
  unfold outsAt0
  refine (block_at c (grid0.coords t) _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ (args m c) (holds m c t) y).trans ?_
  unfold outBlock
  refine congrArg₂ (out (args m c)) ?_ ?_
  · blk_simp [index19]
    try omega
  · blk_simp [index19]
    try rfl

end Cert.Kernel4Ideal.Mix

end
end
-- ==== Proof.PromptRef.lean ====
/- The fourth reference's result at an index: the out-projection and the channel mixer in plain terms.
   The same as `MixRef`, for the prompt batch of 8 sequences, whose program is another one with its own names. -/
module

public import proofs.«01_k».proof.Proof.Gen.Reference4Ideal.Read
public import proofs.«01_k».proof.Proof.MixSpec
public import Idealize.ShloMosaic.Lib.KernelVsHost

@[expose] public section

set_option maxRecDepth 65536

noncomputable section

namespace Cert.Reference4Ideal.Mix

open Cert.Reference4Ideal Cert.Reference4Ideal.Gen Cert.Reference4Ideal.Read Idealize.ShloMosaic Idealize.SL.Sem
open Cert.Att (at2 at2_of)
open Cert.Mix (Arrays rms mix x1 hid lin up taps gate gelu act down out)

variable (X : FVec Ideal S65536x1024 .f32) (A : FVec Ideal S65536x512 .f32) (S : FVec Ideal S65536x1024 .f32)
  (W : FVec Ideal S1536x1024 .f32) (G1 G2 : FVec Ideal S1x1024 .f32) (Wg Wu : FVec Ideal S1024x2816 .f32)
  (Wd : FVec Ideal S2816x1024 .f32) (Cw : FVec Ideal S3x2816 .f32) (Cb : FVec Ideal S1x2816 .f32) (G3 : FVec Ideal S1x1024 .f32)

/-- The reference's arguments, as functions of natural numbers. -/
def arrays : Arrays where
  x := at2 X
  a := at2 A
  s := at2 S
  w := at2 W
  gMix := at2 G1 0
  gPre := at2 G2 0
  wg := at2 Wg
  wu := at2 Wu
  wd := at2 Wd
  cw := at2 Cw
  cb := at2 Cb 0
  gPost := at2 G3 0

local notation "𝔓" => arrays X A S W G1 G2 Wg Wu Wd Cw Cb G3

theorem zero_bits : Ideal.ofBits .f32 0x00000000#32 = 0 := by
  simp [Ideal.ofBits, Ideal.ieee]

theorem mix_at (i : S65536x1024.Idx) : val_main_v1 (F := Ideal) A S W i = mix 𝔓 (i 0).val (i 1).val := by
  rw [val_main_v1_apply]
  refine (Fin.sum_univ_add (a := 512) (b := 1024) _).trans ?_
  unfold mix
  refine congrArg₂ (· + ·) (Finset.sum_congr rfl fun k _ => congrArg₂ (· * ·) ?_ ?_) (Finset.sum_congr rfl fun k _ => congrArg₂ (· * ·) ?_ ?_)
  · refine (concatenate_pair_apply_left 1 A S concatenates_S65536x512_S65536x1024_S65536x1536_d1 _ rfl (ValueIdx.ix2 ⟨(i 0).val, (i 0).isLt⟩ k) fun b => ?_).trans (at2_of A _ _ _ rfl rfl)
    match b with
    | ⟨0, _⟩ => rfl
    | ⟨1, _⟩ => rfl
  · exact at2_of W _ _ _ rfl rfl
  · refine (concatenate_pair_apply_right 1 A S concatenates_S65536x512_S65536x1024_S65536x1536_d1 _ rfl rfl (ValueIdx.ix2 ⟨(i 0).val, (i 0).isLt⟩ k) (fun b hb => ?_) ?_).trans (at2_of S _ _ _ rfl rfl)
    · match b, hb with
      | ⟨0, _⟩, _ => rfl
      | ⟨1, _⟩, hb => exact absurd rfl hb
    · show k.val + 512 = 512 + k.val
      omega
  · exact at2_of W _ _ _ rfl rfl

theorem x1_at (i : S65536x1024.Idx) : val_main_v14 (F := Ideal) X A S W G1 i = x1 𝔓 (i 0).val (i 1).val := by
  rw [val_main_v14_apply, val_main_v13_apply, val_main_v11_apply, val_main_v10_apply, val_main_v9_apply, val_main_v8_apply,
    val_main_v6_apply, val_main_v4_apply, val_main_v3_apply, val_main_v5_apply, val_main_v7_apply, val_main_v12_apply,
    val_main_cst_apply, val_main_cst_0_apply, val_main_cst_1_apply, mix_at X A S W G1 G2 Wg Wu Wd Cw Cb G3]
  simp only [val_main_v2_apply, mix_at X A S W G1 G2 Wg Wu Wd Cw Cb G3]
  unfold x1 rms
  refine congrArg₂ (· + ·) (at2_of X _ _ _ rfl rfl) (congrArg₂ (· * ·) (congrArg (mix 𝔓 (i 0).val (i 1).val * ·) ?_) (at2_of G1 _ _ _ rfl rfl))
  refine congrArg Ideal.rsqrt (congrArg (· + Ideal.ofBits .f32 0x358637BD#32) (congrArg (Ideal.div · (Ideal.ofBits .f32 0x44800000#32)) ?_))
  exact (congrArg (· + _) zero_bits).trans (zero_add _)

theorem hid_at (i : S65536x1024.Idx) : val_main_v26 (F := Ideal) X A S W G1 G2 i = hid 𝔓 (i 0).val (i 1).val := by
  rw [val_main_v26_apply, val_main_v24_apply, val_main_v23_apply, val_main_v22_apply, val_main_v21_apply,
    val_main_v19_apply, val_main_v17_apply, val_main_v16_apply, val_main_v18_apply, val_main_v20_apply, val_main_v25_apply,
    val_main_cst_2_apply, val_main_cst_3_apply, val_main_cst_4_apply, x1_at X A S W G1 G2 Wg Wu Wd Cw Cb G3]
  simp only [val_main_v15_apply, x1_at X A S W G1 G2 Wg Wu Wd Cw Cb G3]
  unfold hid rms
  refine congrArg₂ (· * ·) (congrArg (x1 𝔓 (i 0).val (i 1).val * ·) ?_) (at2_of G2 _ _ _ rfl rfl)
  refine congrArg Ideal.rsqrt (congrArg (· + Ideal.ofBits .f32 0x358637BD#32) (congrArg (Ideal.div · (Ideal.ofBits .f32 0x44800000#32)) ?_))
  exact (congrArg (· + _) zero_bits).trans (zero_add _)

theorem lin_at (i : S65536x2816.Idx) : val_main_v27 (F := Ideal) X A S W G1 G2 Wg i = lin 𝔓 (i 0).val (i 1).val := by
  rw [val_main_v27_apply]
  simp only [hid_at X A S W G1 G2 Wg Wu Wd Cw Cb G3]
  exact Finset.sum_congr rfl fun k _ => congrArg₂ (· * ·) rfl (at2_of Wg _ _ _ rfl rfl)

theorem up_at (i : S65536x2816.Idx) : val_main_v66 (F := Ideal) X A S W G1 G2 Wu i = up 𝔓 (i 0).val (i 1).val := by
  rw [val_main_v66_apply]
  simp only [hid_at X A S W G1 G2 Wg Wu Wd Cw Cb G3]
  exact Finset.sum_congr rfl fun k _ => congrArg₂ (· * ·) rfl (at2_of Wu _ _ _ rfl rfl)

/-- The padded gate at a place of its sequence counted from one. -/
theorem padded_at (i : S8x8194x2816.Idx) :
    val_main_v29 (F := Ideal) X A S W G1 G2 Wg i
      = if 1 ≤ (i 1).val ∧ (i 1).val ≤ 8192 then lin 𝔓 ((i 0).val * 8192 + (i 1).val - 1) (i 2).val else 0 := by
  have h0 : (i 0).val < 8 := (i 0).isLt
  have h2 : (i 2).val < 2816 := (i 2).isLt
  unfold val_main_v29
  by_cases h : 1 ≤ (i 1).val ∧ (i 1).val ≤ 8192
  · rw [if_pos h]
    refine (pad_apply_of_inside _ _ _ _ _ _ _ i (ValueIdx.ix3 ⟨(i 0).val, h0⟩ ⟨(i 1).val - 1, by omega⟩ ⟨(i 2).val, h2⟩) fun b => ?_).trans ?_
    · match b with
      | ⟨0, _⟩ => show (i 0).val = 0 + (i 0).val * (0 + 1); omega
      | ⟨1, _⟩ => show (i 1).val = 1 + ((i 1).val - 1) * (0 + 1); omega
      | ⟨2, _⟩ => show (i 2).val = 0 + (i 2).val * (0 + 1); omega
    · rw [val_main_v28_apply, lin_at X A S W G1 G2 Wg Wu Wd Cw Cb G3]
      refine congrArg₂ (lin 𝔓) ?_ ?_
      · show (((i 0).val * 8192 + ((i 1).val - 1)) * 2816 + (i 2).val) / 2816 = _
        omega
      · show (((i 0).val * 8192 + ((i 1).val - 1)) * 2816 + (i 2).val) % 2816 = _
        omega
  · rw [if_neg h]
    refine (pad_apply_of_not_inside _ _ _ _ _ _ _ i 1 fun hin => h ?_).trans ?_
    · have a1 : 1 ≤ (i 1).val := hin.1
      have a2 : ((i 1).val - 1) / (0 + 1) < 8192 := hin.2.2
      rw [Nat.div_one] at a2
      omega
    · rw [val_main_call0_v0_apply, val_main_c_apply]
      show ((((0#32 : BitVec 32).toInt : ℝ)) : EReal) = 0
      simp

theorem gate_at (i : S65536x2816.Idx) : val_main_v52 (F := Ideal) X A S W G1 G2 Wg Cw Cb i = gate 𝔓 (i 0).val (i 1).val := by
  have h0 : (i 0).val < 65536 := (i 0).isLt
  have h1 : (i 1).val < 2816 := (i 1).isLt
  rw [val_main_v52_apply, val_main_v50_apply, val_main_v49_apply, val_main_v42_apply, val_main_v35_apply, val_main_v41_apply, val_main_v48_apply,
    val_main_v30_apply, val_main_v36_apply, val_main_v43_apply, val_main_v34_apply, val_main_v33_apply, val_main_v32_apply, val_main_v31_apply,
    val_main_v40_apply, val_main_v39_apply, val_main_v38_apply, val_main_v37_apply, val_main_v47_apply, val_main_v46_apply, val_main_v45_apply,
    val_main_v44_apply, val_main_v51_apply,
    padded_at X A S W G1 G2 Wg Wu Wd Cw Cb G3, padded_at X A S W G1 G2 Wg Wu Wd Cw Cb G3, padded_at X A S W G1 G2 Wg Wu Wd Cw Cb G3]
  have e0 : (idx_main_v50 i 0).val = (i 0).val / 8192 := by
    show ((i 0).val * 2816 + (i 1).val) / (8192 * 2816) = _
    omega
  have e1 : (idx_main_v50 i 1).val = (i 0).val % 8192 := by
    show ((i 0).val * 2816 + (i 1).val) / 2816 % 8192 = _
    omega
  have e2 : (idx_main_v50 i 2).val = (i 1).val := by
    show ((i 0).val * 2816 + (i 1).val) % 2816 = _
    omega
  have e3 : (idx_main_v50 i 2).val % 2816 = (i 1).val := by omega
  unfold gate taps
  refine congrArg₂ (· + ·) (congrArg₂ (· + ·) (congrArg₂ (· + ·) (congrArg₂ (· * ·) ?_ (at2_of Cw _ _ _ rfl ?_)) (congrArg₂ (· * ·) ?_ (at2_of Cw _ _ _ rfl ?_)))
    (congrArg₂ (· * ·) ?_ (at2_of Cw _ _ _ rfl ?_))) (at2_of Cb _ _ _ rfl ?_)
  · show (if 1 ≤ (idx_main_v50 i 1).val ∧ (idx_main_v50 i 1).val ≤ 8192 then
      lin 𝔓 ((idx_main_v50 i 0).val * 8192 + (idx_main_v50 i 1).val - 1) (idx_main_v50 i 2).val else 0) = _
    rw [e0, e1, e2]
    by_cases h : (i 0).val % 8192 = 0
    · rw [if_pos h, if_neg (by omega)]
    · rw [if_neg h, if_pos (by omega)]
      exact congrArg (lin 𝔓 · _) (by omega)
  · exact e3
  · show (if 1 ≤ 1 + (idx_main_v50 i 1).val ∧ 1 + (idx_main_v50 i 1).val ≤ 8192 then
      lin 𝔓 ((idx_main_v50 i 0).val * 8192 + (1 + (idx_main_v50 i 1).val) - 1) (idx_main_v50 i 2).val else 0) = _
    rw [e0, e1, e2, if_pos (by omega)]
    exact congrArg (lin 𝔓 · _) (by omega)
  · exact e3
  · show (if 1 ≤ 2 + (idx_main_v50 i 1).val ∧ 2 + (idx_main_v50 i 1).val ≤ 8192 then
      lin 𝔓 ((idx_main_v50 i 0).val * 8192 + (2 + (idx_main_v50 i 1).val) - 1) (idx_main_v50 i 2).val else 0) = _
    rw [e0, e1, e2]
    by_cases h : (i 0).val % 8192 = 8191
    · rw [if_pos h, if_neg (by omega)]
    · rw [if_neg h, if_pos (by omega)]
      exact congrArg (lin 𝔓 · _) (by omega)
  · exact e3
  · rfl

theorem act_at (i : S65536x2816.Idx) : val_main_v67 (F := Ideal) X A S W G1 G2 Wg Wu Cw Cb i = act 𝔓 (i 0).val (i 1).val := by
  rw [val_main_v67_apply, up_at X A S W G1 G2 Wg Wu Wd Cw Cb G3]
  refine congrArg (· * up 𝔓 (i 0).val (i 1).val) ?_
  rw [val_main_v65_apply, val_main_v64_apply, val_main_v63_apply, val_main_v62_apply, val_main_v61_apply, val_main_v60_apply, val_main_v59_apply,
    val_main_v58_apply, val_main_v57_apply, val_main_v56_apply, val_main_v55_apply, val_main_v54_apply, val_main_v53_apply,
    gate_at X A S W G1 G2 Wg Wu Wd Cw Cb G3]
  rfl

theorem down_at (i : S65536x1024.Idx) : val_main_v68 (F := Ideal) X A S W G1 G2 Wg Wu Wd Cw Cb i = down 𝔓 (i 0).val (i 1).val := by
  rw [val_main_v68_apply]
  simp only [act_at X A S W G1 G2 Wg Wu Wd Cw Cb G3]
  exact Finset.sum_congr rfl fun k _ => congrArg₂ (· * ·) rfl (at2_of Wd _ _ _ rfl rfl)

theorem out_at (i : S65536x1024.Idx) : val_main_v81 (F := Ideal) X A S W G1 G2 Wg Wu Wd Cw Cb G3 i = out 𝔓 (i 0).val (i 1).val := by
  rw [val_main_v81_apply, x1_at X A S W G1 G2 Wg Wu Wd Cw Cb G3, val_main_v80_apply, val_main_v78_apply, val_main_v77_apply, val_main_v76_apply, val_main_v75_apply,
    val_main_v73_apply, val_main_v71_apply, val_main_v70_apply, val_main_v72_apply, val_main_v74_apply, val_main_v79_apply,
    down_at X A S W G1 G2 Wg Wu Wd Cw Cb G3]
  simp only [val_main_v69_apply, down_at X A S W G1 G2 Wg Wu Wd Cw Cb G3]
  unfold out rms
  refine congrArg (x1 𝔓 (i 0).val (i 1).val + ·) (congrArg₂ (· * ·) (congrArg (down 𝔓 (i 0).val (i 1).val * ·) ?_) (at2_of G3 _ _ _ rfl rfl))
  refine congrArg Ideal.rsqrt (congrArg (· + Ideal.ofBits .f32 0x358637BD#32) (congrArg (Ideal.div · (Ideal.ofBits .f32 0x44800000#32)) ?_))
  exact (congrArg (· + _) zero_bits).trans (zero_add _)

end Cert.Reference4Ideal.Mix

end
end
-- ==== Proof.InBody.lean ====
/- What the input projection's body computes at one grid point, as named arrays: the normalised rows with those of the two
   neighbouring blocks, and the convolution of 256 columns. -/
module

public import proofs.«01_k».proof.Proof.Gen.Kernel3Ideal.Frame.RunA
public import Idealize.ShloMosaic.Lib.Pipeline.ReadBack

@[expose] public section

set_option maxRecDepth 65536

noncomputable section

namespace Cert.Kernel3Ideal.In

open Cert.Kernel3Ideal Cert.Kernel3Ideal.Gen Idealize.ShloMosaic Idealize.ShloMosaic.TcCoe Idealize.SL.Sem

variable {F : FTy → Type} [FloatOps F]

/-- A block's number within its sequence of 8, as the body computes it. -/
def blockWord (i : grid0.Coords) : BitVec 32 :=
  Scalar.select
    (Scalar.andi (Scalar.xori (Scalar.cmpi .slt (Scalar.remsi (BitVec.ofNat 32 (i 0).val) 8#32) 0#32) 0#1)
      (Scalar.cmpi .ne (Scalar.remsi (BitVec.ofNat 32 (i 0).val) 8#32) 0#32))
    (Scalar.addi (Scalar.remsi (BitVec.ofNat 32 (i 0).val) 8#32) 8#32) (Scalar.remsi (BitVec.ofNat 32 (i 0).val) 8#32)

/-- The normalised rows that a block works on: the 16 before it, its 1024, the 16 after; the rows before a sequence's first
    block and after its last are multiplied by zero. -/
def hExt (i : grid0.Coords) (x0 : Vec F S16x1024 .f32) (x1 : Vec F S1024x1024 .f32) (x2 : Vec F S16x1024 .f32) (x3 : Vec F S1x1024 .f32) : Vec F S1056x1024 .bf16 :=
  View.canon [⟨Rect.unit ![1040, 0] ![16, 1024] inb_S1056x1024_S16x1024_1040_0, k0_pay5 (blockWord i) x3 x2⟩,
    ⟨Rect.unit ![16, 0] ![1024, 1024] inb_S1056x1024_S1024x1024_16_0, k0_pay4 x3 x1 (k0_pay3 x1) (FloatOps.ofBits .f32 0x44800000#32)⟩,
    ⟨Rect.unit ![0, 0] ![16, 1024] inb_S1056x1024_S16x1024_0_0, k0_pay2 i x3 x0⟩]

/-- A window of 256 of the 1536 columns, over `n` rows from row `r`. -/
theorem lanes_inb {R n : ℕ} (r j : ℕ) (hr : r + n ≤ R) (hj : j < 6) :
    ∀ d, (![r, 256 * j] : Fin 2 → ℕ) d + (![n, 256] : Fin 2 → ℕ) d ≤ (⟨2, ![R, 1536]⟩ : Shape).size d := by
  intro d
  match d with
  | ⟨0, _⟩ => exact hr
  | ⟨1, _⟩ => show 256 * j + 256 ≤ 1536; omega

/-- The projection of the rows onto 256 columns. -/
def buf (h : Vec F S1056x1024 .bf16) (x6 : Vec F S1024x1536 .bf16) (j : ℕ) (hj : j < 6) : Vec F S1056x256 .f32 :=
  k0_pay8 h (View.ld x6 (Rect.unit ![0, 256 * j] ![1024, 256] (lanes_inb 0 j (by decide) hj)))

/-- The convolution of 256 columns under its activation, from the projection at the five neighbouring rows. -/
def conv (b : Vec F S1x256 .f32) (u0 u1 u2 u3 u4 : Vec F S1024x256 .f32) (t0 t1 t2 t3 t4 : Vec F S1x256 .f32) : FVec F S1024x256 .bf16 :=
  k0_pay13 b u0 t0 u1 t1 u2 t2 u3 t3 u4 t4

/-- The convolution of 256 columns, from the normalised rows. -/
def lanes (h : Vec F S1056x1024 .bf16) (x6 : Vec F S1024x1536 .bf16) (x8 : Vec F S5x1536 .f32) (x9 : Vec F S1x1536 .f32) (j : ℕ) (hj : j < 6) : FVec F S1024x256 .bf16 :=
  conv (View.ld x9 (Rect.unit ![0, 256 * j] ![1, 256] (lanes_inb 0 j (by decide) hj)))
    (View.ld (Val := Elt F) (S := S1056x256) (e' := .f32) (buf h x6 j hj) (Rect.unit ![14, 0] ![1024, 256] inb_S1056x256_S1024x256_14_0))
    (View.ld (Val := Elt F) (S := S1056x256) (e' := .f32) (buf h x6 j hj) (Rect.unit ![15, 0] ![1024, 256] inb_S1056x256_S1024x256_15_0))
    (View.ld (Val := Elt F) (S := S1056x256) (e' := .f32) (buf h x6 j hj) (Rect.unit ![16, 0] ![1024, 256] inb_S1056x256_S1024x256_16_0))
    (View.ld (Val := Elt F) (S := S1056x256) (e' := .f32) (buf h x6 j hj) (Rect.unit ![17, 0] ![1024, 256] inb_S1056x256_S1024x256_17_0))
    (View.ld (Val := Elt F) (S := S1056x256) (e' := .f32) (buf h x6 j hj) (Rect.unit ![18, 0] ![1024, 256] inb_S1056x256_S1024x256_18_0))
    (View.ld x8 (Rect.unit ![0, 256 * j] ![1, 256] (lanes_inb 0 j (by decide) hj)))
    (View.ld x8 (Rect.unit ![1, 256 * j] ![1, 256] (lanes_inb 1 j (by decide) hj)))
    (View.ld x8 (Rect.unit ![2, 256 * j] ![1, 256] (lanes_inb 2 j (by decide) hj)))
    (View.ld x8 (Rect.unit ![3, 256 * j] ![1, 256] (lanes_inb 3 j (by decide) hj)))
    (View.ld x8 (Rect.unit ![4, 256 * j] ![1, 256] (lanes_inb 4 j (by decide) hj)))

end Cert.Kernel3Ideal.In

end
end
-- ==== Proof.InPieces.lean ====
/- The pieces that the input projection's body stores at one grid point are the arrays of `InBody`: the body's terms, folded from
   the inside out. -/
module

public import proofs.«01_k».proof.Proof.InBody
public import Idealize.ShloMosaic.Lib.Pipeline.ValueKit.Basic

@[expose] public section

set_option maxRecDepth 65536

noncomputable section

namespace Cert.Kernel3Ideal.In

open Cert.Kernel3Ideal Cert.Kernel3Ideal.Gen Idealize.ShloMosaic Idealize.ShloMosaic.TcCoe Idealize.SL.Sem

variable {F : FTy → Type} [FloatOps F]

/-! ## Loads -/

theorem full16x1024 {Val : EltTy → Type} {e : EltTy} (x : S16x1024.Idx → Val e) :
    View.ld x (Rect.unit ![0, 0] ![16, 1024] inb_S16x1024_S16x1024_0_0) = x :=
  View.ld_unit_zero (by funext a; fin_cases a <;> rfl) _ _

theorem full1024x1024 {Val : EltTy → Type} {e : EltTy} (x : S1024x1024.Idx → Val e) :
    View.ld x (Rect.unit ![0, 0] ![1024, 1024] inb_S1024x1024_S1024x1024_0_0) = x :=
  View.ld_unit_zero (by funext a; fin_cases a <;> rfl) _ _

theorem full1x1024 {Val : EltTy → Type} {e : EltTy} (x : S1x1024.Idx → Val e) :
    View.ld x (Rect.unit ![0, 0] ![1, 1024] inb_S1x1024_S1x1024_0_0) = x :=
  View.ld_unit_zero (by funext a; fin_cases a <;> rfl) _ _

theorem full1024x1536 {Val : EltTy → Type} {e : EltTy} (x : S1024x1536.Idx → Val e) :
    View.ld x (Rect.unit ![0, 0] ![1024, 1536] inb_S1024x1536_S1024x1536_0_0) = x :=
  View.ld_unit_zero (by funext a; fin_cases a <;> rfl) _ _

theorem full1024x128 {Val : EltTy → Type} {e : EltTy} (x : S1024x128.Idx → Val e) :
    View.ld x (Rect.unit ![0, 0] ![1024, 128] inb_S1024x128_S1024x128_0_0) = x :=
  View.ld_unit_zero (by funext a; fin_cases a <;> rfl) _ _

theorem full1056x1024 {Val : EltTy → Type} {e : EltTy} (x : S1056x1024.Idx → Val e) :
    View.ld x (Rect.unit ![0, 0] ![1056, 1024] inb_S1056x1024_S1056x1024_0_0) = x :=
  View.ld_unit_zero (by funext a; fin_cases a <;> rfl) _ _

/-- A store of the whole convolution buffer hides the earlier ones. -/
theorem stored (Z : S1056x256.Idx → Elt F .f32) (L : List (View.Piece (Elt F) S1056x256 .f32)) :
    View.canon (⟨Rect.unit ![0, 0] ![1056, 256] inb_S1056x256_S1056x256_0_0, Z⟩ :: L) = Z :=
  View.canon_cons_unit_zero (by funext a; fin_cases a <;> rfl) inb_S1056x256_S1056x256_0_0 Z L

theorem load_canon {s : Shape} {e : EltTy} {κ sp} (v : View sig κ sp s e)
    (L : List (View.Piece (Elt F) s e)) (r : Rect s) : v.readCov (Val := Elt F) L r.toLoadRect = View.ld (View.canon L) r :=
  View.readCov_eq_canon' v L r

/-! ## The 256 columns' projection and convolution -/

theorem proj7 (h : Vec F S1056x1024 .bf16) (w : Vec F S1024x256 .bf16) :
    k0_pay7 (k0_pay6 h w) =
      k0_pay8 h w := rfl

theorem proj12 (h : Vec F S1056x1024 .bf16) (w : Vec F S1024x256 .bf16) :
    k0_pay12 h w =
      k0_pay8 h w := rfl

theorem proj14 (h : Vec F S1056x1024 .bf16) (w : Vec F S1024x256 .bf16) :
    k0_pay14 h w =
      k0_pay8 h w := rfl

theorem proj18 (h : Vec F S1056x1024 .bf16) (w : Vec F S1024x256 .bf16) :
    k0_pay18 h w =
      k0_pay8 h w := rfl

theorem proj22 (h : Vec F S1056x1024 .bf16) (w : Vec F S1024x256 .bf16) :
    k0_pay22 (k0_pay21 h w) =
      k0_pay8 h w := rfl

theorem conv0 (b : Vec F S1x256 .f32) (u0 u1 u2 u3 u4 : Vec F S1024x256 .f32) (t0 t1 t2 t3 t4 : Vec F S1x256 .f32) :
    k0_pay11 (k0_pay10 b u0 t0 u1 t1) u2 t2 u3 t3 u4 t4 =
      conv b u0 u1 u2 u3 u4 t0 t1 t2 t3 t4 := rfl

theorem conv1 (b : Vec F S1x256 .f32) (u0 u1 u2 u3 u4 : Vec F S1024x256 .f32) (t0 t1 t2 t3 t4 : Vec F S1x256 .f32) :
    k0_pay13 b u0 t0 u1 t1 u2 t2 u3 t3 u4 t4 =
      conv b u0 u1 u2 u3 u4 t0 t1 t2 t3 t4 := rfl

theorem conv2 (b : Vec F S1x256 .f32) (u0 u1 u2 u3 u4 : Vec F S1024x256 .f32) (t0 t1 t2 t3 t4 : Vec F S1x256 .f32) :
    k0_pay17 (k0_pay16 b u0 t0 u1 t1 u2 t2) u3 t3 u4 t4 =
      conv b u0 u1 u2 u3 u4 t0 t1 t2 t3 t4 := rfl

theorem conv3 (b : Vec F S1x256 .f32) (u0 u1 u2 u3 u4 : Vec F S1024x256 .f32) (t0 t1 t2 t3 t4 : Vec F S1x256 .f32) :
    k0_pay20 (k0_pay19 b u0 t0) u1 t1 u2 t2 u3 t3 u4 t4 =
      conv b u0 u1 u2 u3 u4 t0 t1 t2 t3 t4 := rfl

theorem conv4 (b : Vec F S1x256 .f32) (u0 u1 u2 u3 u4 : Vec F S1024x256 .f32) (t0 t1 t2 t3 t4 : Vec F S1x256 .f32) :
    k0_pay25 (k0_pay23 b u0 t0 u1 t1 u2 t2 u3 t3 u4 t4) (k0_pay24 b u0 t0 u1 t1 u2 t2 u3 t3 u4 t4) (FloatOps.ofBits .f32 0x3F800000#32) =
      conv b u0 u1 u2 u3 u4 t0 t1 t2 t3 t4 := rfl

theorem conv5 (b : Vec F S1x256 .f32) (u0 u1 u2 u3 u4 : Vec F S1024x256 .f32) (t0 t1 t2 t3 t4 : Vec F S1x256 .f32) :
    k0_pay1 (k0_pay27 b u0 t0 u1 t1) u2 t2 u3 t3 u4 t4 =
      conv b u0 u1 u2 u3 u4 t0 t1 t2 t3 t4 := rfl

theorem word (i : grid0.Coords) :
    Scalar.select
    (Scalar.andi (Scalar.xori (Scalar.cmpi .slt (Scalar.remsi (BitVec.ofNat 32 (i 0).val) 8#32) 0#32) 0#1)
      (Scalar.cmpi .ne (Scalar.remsi (BitVec.ofNat 32 (i 0).val) 8#32) 0#32))
    (Scalar.addi (Scalar.remsi (BitVec.ofNat 32 (i 0).val) 8#32) 8#32) (Scalar.remsi (BitVec.ofNat 32 (i 0).val) 8#32) =
      blockWord i := rfl

theorem lanes0 (h : Vec F S1056x1024 .bf16) (x6 : Vec F S1024x1536 .bf16) (x8 : Vec F S5x1536 .f32) (x9 : Vec F S1x1536 .f32) :
    conv (View.ld x9 (Rect.unit ![0, 0] ![1, 256] inb_S1x1536_S1x256_0_0))
      (View.ld (Val := Elt F) (S := S1056x256) (e' := .f32) (k0_pay8 h (View.ld x6 (Rect.unit ![0, 0] ![1024, 256] inb_S1024x1536_S1024x256_0_0))) (Rect.unit ![14, 0] ![1024, 256] inb_S1056x256_S1024x256_14_0))
      (View.ld (Val := Elt F) (S := S1056x256) (e' := .f32) (k0_pay8 h (View.ld x6 (Rect.unit ![0, 0] ![1024, 256] inb_S1024x1536_S1024x256_0_0))) (Rect.unit ![15, 0] ![1024, 256] inb_S1056x256_S1024x256_15_0))
      (View.ld (Val := Elt F) (S := S1056x256) (e' := .f32) (k0_pay8 h (View.ld x6 (Rect.unit ![0, 0] ![1024, 256] inb_S1024x1536_S1024x256_0_0))) (Rect.unit ![16, 0] ![1024, 256] inb_S1056x256_S1024x256_16_0))
      (View.ld (Val := Elt F) (S := S1056x256) (e' := .f32) (k0_pay8 h (View.ld x6 (Rect.unit ![0, 0] ![1024, 256] inb_S1024x1536_S1024x256_0_0))) (Rect.unit ![17, 0] ![1024, 256] inb_S1056x256_S1024x256_17_0))
      (View.ld (Val := Elt F) (S := S1056x256) (e' := .f32) (k0_pay8 h (View.ld x6 (Rect.unit ![0, 0] ![1024, 256] inb_S1024x1536_S1024x256_0_0))) (Rect.unit ![18, 0] ![1024, 256] inb_S1056x256_S1024x256_18_0))
      (View.ld x8 (Rect.unit ![0, 0] ![1, 256] inb_S5x1536_S1x256_0_0)) (View.ld x8 (Rect.unit ![1, 0] ![1, 256] inb_S5x1536_S1x256_1_0)) (View.ld x8 (Rect.unit ![2, 0] ![1, 256] inb_S5x1536_S1x256_2_0)) (View.ld x8 (Rect.unit ![3, 0] ![1, 256] inb_S5x1536_S1x256_3_0)) (View.ld x8 (Rect.unit ![4, 0] ![1, 256] inb_S5x1536_S1x256_4_0)) =
      lanes h x6 x8 x9 0 (by decide) := rfl

theorem lanes1 (h : Vec F S1056x1024 .bf16) (x6 : Vec F S1024x1536 .bf16) (x8 : Vec F S5x1536 .f32) (x9 : Vec F S1x1536 .f32) :
    conv (View.ld x9 (Rect.unit ![0, 256] ![1, 256] inb_S1x1536_S1x256_0_256))
      (View.ld (Val := Elt F) (S := S1056x256) (e' := .f32) (k0_pay8 h (View.ld x6 (Rect.unit ![0, 256] ![1024, 256] inb_S1024x1536_S1024x256_0_256))) (Rect.unit ![14, 0] ![1024, 256] inb_S1056x256_S1024x256_14_0))
      (View.ld (Val := Elt F) (S := S1056x256) (e' := .f32) (k0_pay8 h (View.ld x6 (Rect.unit ![0, 256] ![1024, 256] inb_S1024x1536_S1024x256_0_256))) (Rect.unit ![15, 0] ![1024, 256] inb_S1056x256_S1024x256_15_0))
      (View.ld (Val := Elt F) (S := S1056x256) (e' := .f32) (k0_pay8 h (View.ld x6 (Rect.unit ![0, 256] ![1024, 256] inb_S1024x1536_S1024x256_0_256))) (Rect.unit ![16, 0] ![1024, 256] inb_S1056x256_S1024x256_16_0))
      (View.ld (Val := Elt F) (S := S1056x256) (e' := .f32) (k0_pay8 h (View.ld x6 (Rect.unit ![0, 256] ![1024, 256] inb_S1024x1536_S1024x256_0_256))) (Rect.unit ![17, 0] ![1024, 256] inb_S1056x256_S1024x256_17_0))
      (View.ld (Val := Elt F) (S := S1056x256) (e' := .f32) (k0_pay8 h (View.ld x6 (Rect.unit ![0, 256] ![1024, 256] inb_S1024x1536_S1024x256_0_256))) (Rect.unit ![18, 0] ![1024, 256] inb_S1056x256_S1024x256_18_0))
      (View.ld x8 (Rect.unit ![0, 256] ![1, 256] inb_S5x1536_S1x256_0_256)) (View.ld x8 (Rect.unit ![1, 256] ![1, 256] inb_S5x1536_S1x256_1_256)) (View.ld x8 (Rect.unit ![2, 256] ![1, 256] inb_S5x1536_S1x256_2_256)) (View.ld x8 (Rect.unit ![3, 256] ![1, 256] inb_S5x1536_S1x256_3_256)) (View.ld x8 (Rect.unit ![4, 256] ![1, 256] inb_S5x1536_S1x256_4_256)) =
      lanes h x6 x8 x9 1 (by decide) := rfl

theorem lanes2 (h : Vec F S1056x1024 .bf16) (x6 : Vec F S1024x1536 .bf16) (x8 : Vec F S5x1536 .f32) (x9 : Vec F S1x1536 .f32) :
    conv (View.ld x9 (Rect.unit ![0, 512] ![1, 256] inb_S1x1536_S1x256_0_512))
      (View.ld (Val := Elt F) (S := S1056x256) (e' := .f32) (k0_pay8 h (View.ld x6 (Rect.unit ![0, 512] ![1024, 256] inb_S1024x1536_S1024x256_0_512))) (Rect.unit ![14, 0] ![1024, 256] inb_S1056x256_S1024x256_14_0))
      (View.ld (Val := Elt F) (S := S1056x256) (e' := .f32) (k0_pay8 h (View.ld x6 (Rect.unit ![0, 512] ![1024, 256] inb_S1024x1536_S1024x256_0_512))) (Rect.unit ![15, 0] ![1024, 256] inb_S1056x256_S1024x256_15_0))
      (View.ld (Val := Elt F) (S := S1056x256) (e' := .f32) (k0_pay8 h (View.ld x6 (Rect.unit ![0, 512] ![1024, 256] inb_S1024x1536_S1024x256_0_512))) (Rect.unit ![16, 0] ![1024, 256] inb_S1056x256_S1024x256_16_0))
      (View.ld (Val := Elt F) (S := S1056x256) (e' := .f32) (k0_pay8 h (View.ld x6 (Rect.unit ![0, 512] ![1024, 256] inb_S1024x1536_S1024x256_0_512))) (Rect.unit ![17, 0] ![1024, 256] inb_S1056x256_S1024x256_17_0))
      (View.ld (Val := Elt F) (S := S1056x256) (e' := .f32) (k0_pay8 h (View.ld x6 (Rect.unit ![0, 512] ![1024, 256] inb_S1024x1536_S1024x256_0_512))) (Rect.unit ![18, 0] ![1024, 256] inb_S1056x256_S1024x256_18_0))
      (View.ld x8 (Rect.unit ![0, 512] ![1, 256] inb_S5x1536_S1x256_0_512)) (View.ld x8 (Rect.unit ![1, 512] ![1, 256] inb_S5x1536_S1x256_1_512)) (View.ld x8 (Rect.unit ![2, 512] ![1, 256] inb_S5x1536_S1x256_2_512)) (View.ld x8 (Rect.unit ![3, 512] ![1, 256] inb_S5x1536_S1x256_3_512)) (View.ld x8 (Rect.unit ![4, 512] ![1, 256] inb_S5x1536_S1x256_4_512)) =
      lanes h x6 x8 x9 2 (by decide) := rfl

theorem lanes3 (h : Vec F S1056x1024 .bf16) (x6 : Vec F S1024x1536 .bf16) (x8 : Vec F S5x1536 .f32) (x9 : Vec F S1x1536 .f32) :
    conv (View.ld x9 (Rect.unit ![0, 768] ![1, 256] inb_S1x1536_S1x256_0_768))
      (View.ld (Val := Elt F) (S := S1056x256) (e' := .f32) (k0_pay8 h (View.ld x6 (Rect.unit ![0, 768] ![1024, 256] inb_S1024x1536_S1024x256_0_768))) (Rect.unit ![14, 0] ![1024, 256] inb_S1056x256_S1024x256_14_0))
      (View.ld (Val := Elt F) (S := S1056x256) (e' := .f32) (k0_pay8 h (View.ld x6 (Rect.unit ![0, 768] ![1024, 256] inb_S1024x1536_S1024x256_0_768))) (Rect.unit ![15, 0] ![1024, 256] inb_S1056x256_S1024x256_15_0))
      (View.ld (Val := Elt F) (S := S1056x256) (e' := .f32) (k0_pay8 h (View.ld x6 (Rect.unit ![0, 768] ![1024, 256] inb_S1024x1536_S1024x256_0_768))) (Rect.unit ![16, 0] ![1024, 256] inb_S1056x256_S1024x256_16_0))
      (View.ld (Val := Elt F) (S := S1056x256) (e' := .f32) (k0_pay8 h (View.ld x6 (Rect.unit ![0, 768] ![1024, 256] inb_S1024x1536_S1024x256_0_768))) (Rect.unit ![17, 0] ![1024, 256] inb_S1056x256_S1024x256_17_0))
      (View.ld (Val := Elt F) (S := S1056x256) (e' := .f32) (k0_pay8 h (View.ld x6 (Rect.unit ![0, 768] ![1024, 256] inb_S1024x1536_S1024x256_0_768))) (Rect.unit ![18, 0] ![1024, 256] inb_S1056x256_S1024x256_18_0))
      (View.ld x8 (Rect.unit ![0, 768] ![1, 256] inb_S5x1536_S1x256_0_768)) (View.ld x8 (Rect.unit ![1, 768] ![1, 256] inb_S5x1536_S1x256_1_768)) (View.ld x8 (Rect.unit ![2, 768] ![1, 256] inb_S5x1536_S1x256_2_768)) (View.ld x8 (Rect.unit ![3, 768] ![1, 256] inb_S5x1536_S1x256_3_768)) (View.ld x8 (Rect.unit ![4, 768] ![1, 256] inb_S5x1536_S1x256_4_768)) =
      lanes h x6 x8 x9 3 (by decide) := rfl

theorem lanes4 (h : Vec F S1056x1024 .bf16) (x6 : Vec F S1024x1536 .bf16) (x8 : Vec F S5x1536 .f32) (x9 : Vec F S1x1536 .f32) :
    conv (View.ld x9 (Rect.unit ![0, 1024] ![1, 256] inb_S1x1536_S1x256_0_1024))
      (View.ld (Val := Elt F) (S := S1056x256) (e' := .f32) (k0_pay8 h (View.ld x6 (Rect.unit ![0, 1024] ![1024, 256] inb_S1024x1536_S1024x256_0_1024))) (Rect.unit ![14, 0] ![1024, 256] inb_S1056x256_S1024x256_14_0))
      (View.ld (Val := Elt F) (S := S1056x256) (e' := .f32) (k0_pay8 h (View.ld x6 (Rect.unit ![0, 1024] ![1024, 256] inb_S1024x1536_S1024x256_0_1024))) (Rect.unit ![15, 0] ![1024, 256] inb_S1056x256_S1024x256_15_0))
      (View.ld (Val := Elt F) (S := S1056x256) (e' := .f32) (k0_pay8 h (View.ld x6 (Rect.unit ![0, 1024] ![1024, 256] inb_S1024x1536_S1024x256_0_1024))) (Rect.unit ![16, 0] ![1024, 256] inb_S1056x256_S1024x256_16_0))
      (View.ld (Val := Elt F) (S := S1056x256) (e' := .f32) (k0_pay8 h (View.ld x6 (Rect.unit ![0, 1024] ![1024, 256] inb_S1024x1536_S1024x256_0_1024))) (Rect.unit ![17, 0] ![1024, 256] inb_S1056x256_S1024x256_17_0))
      (View.ld (Val := Elt F) (S := S1056x256) (e' := .f32) (k0_pay8 h (View.ld x6 (Rect.unit ![0, 1024] ![1024, 256] inb_S1024x1536_S1024x256_0_1024))) (Rect.unit ![18, 0] ![1024, 256] inb_S1056x256_S1024x256_18_0))
      (View.ld x8 (Rect.unit ![0, 1024] ![1, 256] inb_S5x1536_S1x256_0_1024)) (View.ld x8 (Rect.unit ![1, 1024] ![1, 256] inb_S5x1536_S1x256_1_1024)) (View.ld x8 (Rect.unit ![2, 1024] ![1, 256] inb_S5x1536_S1x256_2_1024)) (View.ld x8 (Rect.unit ![3, 1024] ![1, 256] inb_S5x1536_S1x256_3_1024)) (View.ld x8 (Rect.unit ![4, 1024] ![1, 256] inb_S5x1536_S1x256_4_1024)) =
      lanes h x6 x8 x9 4 (by decide) := rfl

theorem lanes5 (h : Vec F S1056x1024 .bf16) (x6 : Vec F S1024x1536 .bf16) (x8 : Vec F S5x1536 .f32) (x9 : Vec F S1x1536 .f32) :
    conv (View.ld x9 (Rect.unit ![0, 1280] ![1, 256] inb_S1x1536_S1x256_0_1280))
      (View.ld (Val := Elt F) (S := S1056x256) (e' := .f32) (k0_pay8 h (View.ld x6 (Rect.unit ![0, 1280] ![1024, 256] inb_S1024x1536_S1024x256_0_1280))) (Rect.unit ![14, 0] ![1024, 256] inb_S1056x256_S1024x256_14_0))
      (View.ld (Val := Elt F) (S := S1056x256) (e' := .f32) (k0_pay8 h (View.ld x6 (Rect.unit ![0, 1280] ![1024, 256] inb_S1024x1536_S1024x256_0_1280))) (Rect.unit ![15, 0] ![1024, 256] inb_S1056x256_S1024x256_15_0))
      (View.ld (Val := Elt F) (S := S1056x256) (e' := .f32) (k0_pay8 h (View.ld x6 (Rect.unit ![0, 1280] ![1024, 256] inb_S1024x1536_S1024x256_0_1280))) (Rect.unit ![16, 0] ![1024, 256] inb_S1056x256_S1024x256_16_0))
      (View.ld (Val := Elt F) (S := S1056x256) (e' := .f32) (k0_pay8 h (View.ld x6 (Rect.unit ![0, 1280] ![1024, 256] inb_S1024x1536_S1024x256_0_1280))) (Rect.unit ![17, 0] ![1024, 256] inb_S1056x256_S1024x256_17_0))
      (View.ld (Val := Elt F) (S := S1056x256) (e' := .f32) (k0_pay8 h (View.ld x6 (Rect.unit ![0, 1280] ![1024, 256] inb_S1024x1536_S1024x256_0_1280))) (Rect.unit ![18, 0] ![1024, 256] inb_S1056x256_S1024x256_18_0))
      (View.ld x8 (Rect.unit ![0, 1280] ![1, 256] inb_S5x1536_S1x256_0_1280)) (View.ld x8 (Rect.unit ![1, 1280] ![1, 256] inb_S5x1536_S1x256_1_1280)) (View.ld x8 (Rect.unit ![2, 1280] ![1, 256] inb_S5x1536_S1x256_2_1280)) (View.ld x8 (Rect.unit ![3, 1280] ![1, 256] inb_S5x1536_S1x256_3_1280)) (View.ld x8 (Rect.unit ![4, 1280] ![1, 256] inb_S5x1536_S1x256_4_1280)) =
      lanes h x6 x8 x9 5 (by decide) := rfl

theorem rows (i : grid0.Coords) (x0 : Vec F S16x1024 .f32) (x1 : Vec F S1024x1024 .f32) (x2 : Vec F S16x1024 .f32) (x3 : Vec F S1x1024 .f32) :
    View.canon [⟨Rect.unit ![1040, 0] ![16, 1024] inb_S1056x1024_S16x1024_1040_0, k0_pay5 (blockWord i) x3 x2⟩,
      ⟨Rect.unit ![16, 0] ![1024, 1024] inb_S1056x1024_S1024x1024_16_0, k0_pay4 x3 x1 (k0_pay3 x1) (FloatOps.ofBits .f32 0x44800000#32)⟩,
      ⟨Rect.unit ![0, 0] ![16, 1024] inb_S1056x1024_S16x1024_0_0, k0_pay2 i x3 x0⟩] =
      hExt i x0 x1 x2 x3 := rfl

/-! ## The four blocks -/

theorem pieces_qkv (c : Dev nD) (i : grid0.Coords) (arg1 : Memref sig .tc .vmem S16x1024 .f32) (harg1 : arg1.IsWhole)
    (arg2 : Memref sig .tc .vmem S1024x1024 .f32) (harg2 : arg2.IsWhole) (arg3 : Memref sig .tc .vmem S16x1024 .f32)
    (harg3 : arg3.IsWhole) (arg4 : Memref sig .tc .vmem S1x1024 .f32) (harg4 : arg4.IsWhole) (arg5 : Memref sig .tc
    .vmem S1024x1536 .bf16) (harg5 : arg5.IsWhole) (arg6 : Memref sig .tc .vmem S1024x1024 .bf16) (harg6 :
    arg6.IsWhole) (arg7 : Memref sig .tc .vmem S1024x1536 .bf16) (harg7 : arg7.IsWhole) (arg8 : Memref sig .tc .vmem
    S1024x128 .bf16) (harg8 : arg8.IsWhole) (arg9 : Memref sig .tc .vmem S5x1536 .f32) (harg9 : arg9.IsWhole) (arg10 :
    Memref sig .tc .vmem S1x1536 .f32) (harg10 : arg10.IsWhole) (arg11 : Memref sig .tc .vmem S1024x1536 .bf16)
    (harg11 : arg11.IsWhole) (arg12 : Memref sig .tc .vmem S1024x1024 .bf16) (harg12 : arg12.IsWhole) (arg13 : Memref
    sig .tc .vmem S1024x1536 .bf16) (harg13 : arg13.IsWhole) (arg14 : Memref sig .tc .vmem S1024x128 .f32) (harg14 :
    arg14.IsWhole) (arg15 : Memref sig .tc .vmem S1056x1024 .bf16) (harg15 : arg15.IsWhole) (arg16 : Memref sig .tc
    .vmem S1056x256 .f32) (harg16 : arg16.IsWhole) (arg17 : Memref sig .tc .vmem S1056x256 .f32) (harg17 :
    arg17.IsWhole) (x0 : Vec F S16x1024 .f32) (x1 : Vec F S1024x1024 .f32) (x2 : Vec F S16x1024 .f32) (x3 : Vec F
    S1x1024 .f32) (x4 : Vec F S1024x1536 .bf16) (x5 : Vec F S1024x1024 .bf16) (x6 : Vec F S1024x1536 .bf16) (x7 : Vec
    F S1024x128 .bf16) (x8 : Vec F S5x1536 .f32) (x9 : Vec F S1x1536 .f32) :
    (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 x0
      x1 x2 x3 x4 x5 x6 x7 x8 x9).1 =
      [⟨Rect.unit ![0, 0] ![1024, 1536] inb_S1024x1536_S1024x1536_0_0, k0_pay15 (View.ld (hExt i x0 x1 x2 x3) (Rect.unit ![16, 0] ![1024, 1024] inb_S1056x1024_S1024x1024_16_0)) x4⟩] := by
  unfold kernelRun0_A
  dsimp only
  sl_unfold_words
  simp only [load_canon, stored, View.readAt_eq_ld, harg1.read_unread, harg2.read_unread, harg3.read_unread,
    harg4.read_unread, harg5.read_unread, harg6.read_unread, harg7.read_unread, harg8.read_unread, harg9.read_unread,
    harg10.read_unread, full16x1024, full1024x1024, full1x1024, full1024x1536, full1024x128, full1056x1024, proj7,
    proj12, proj14, proj18, proj22, conv0, conv1, conv2, conv3, conv4, conv5, word, lanes0, lanes1, lanes2, lanes3,
    lanes4, lanes5, rows]

theorem pieces_z (c : Dev nD) (i : grid0.Coords) (arg1 : Memref sig .tc .vmem S16x1024 .f32) (harg1 : arg1.IsWhole)
    (arg2 : Memref sig .tc .vmem S1024x1024 .f32) (harg2 : arg2.IsWhole) (arg3 : Memref sig .tc .vmem S16x1024 .f32)
    (harg3 : arg3.IsWhole) (arg4 : Memref sig .tc .vmem S1x1024 .f32) (harg4 : arg4.IsWhole) (arg5 : Memref sig .tc
    .vmem S1024x1536 .bf16) (harg5 : arg5.IsWhole) (arg6 : Memref sig .tc .vmem S1024x1024 .bf16) (harg6 :
    arg6.IsWhole) (arg7 : Memref sig .tc .vmem S1024x1536 .bf16) (harg7 : arg7.IsWhole) (arg8 : Memref sig .tc .vmem
    S1024x128 .bf16) (harg8 : arg8.IsWhole) (arg9 : Memref sig .tc .vmem S5x1536 .f32) (harg9 : arg9.IsWhole) (arg10 :
    Memref sig .tc .vmem S1x1536 .f32) (harg10 : arg10.IsWhole) (arg11 : Memref sig .tc .vmem S1024x1536 .bf16)
    (harg11 : arg11.IsWhole) (arg12 : Memref sig .tc .vmem S1024x1024 .bf16) (harg12 : arg12.IsWhole) (arg13 : Memref
    sig .tc .vmem S1024x1536 .bf16) (harg13 : arg13.IsWhole) (arg14 : Memref sig .tc .vmem S1024x128 .f32) (harg14 :
    arg14.IsWhole) (arg15 : Memref sig .tc .vmem S1056x1024 .bf16) (harg15 : arg15.IsWhole) (arg16 : Memref sig .tc
    .vmem S1056x256 .f32) (harg16 : arg16.IsWhole) (arg17 : Memref sig .tc .vmem S1056x256 .f32) (harg17 :
    arg17.IsWhole) (x0 : Vec F S16x1024 .f32) (x1 : Vec F S1024x1024 .f32) (x2 : Vec F S16x1024 .f32) (x3 : Vec F
    S1x1024 .f32) (x4 : Vec F S1024x1536 .bf16) (x5 : Vec F S1024x1024 .bf16) (x6 : Vec F S1024x1536 .bf16) (x7 : Vec
    F S1024x128 .bf16) (x8 : Vec F S5x1536 .f32) (x9 : Vec F S1x1536 .f32) :
    (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 x0
      x1 x2 x3 x4 x5 x6 x7 x8 x9).2.1 =
      [⟨Rect.unit ![0, 0] ![1024, 1024] inb_S1024x1024_S1024x1024_0_0, k0_pay26 (View.ld (hExt i x0 x1 x2 x3) (Rect.unit ![16, 0] ![1024, 1024] inb_S1056x1024_S1024x1024_16_0)) x5⟩] := by
  unfold kernelRun0_A
  dsimp only
  sl_unfold_words
  simp only [load_canon, stored, View.readAt_eq_ld, harg1.read_unread, harg2.read_unread, harg3.read_unread,
    harg4.read_unread, harg5.read_unread, harg6.read_unread, harg7.read_unread, harg8.read_unread, harg9.read_unread,
    harg10.read_unread, full16x1024, full1024x1024, full1x1024, full1024x1536, full1024x128, full1056x1024, proj7,
    proj12, proj14, proj18, proj22, conv0, conv1, conv2, conv3, conv4, conv5, word, lanes0, lanes1, lanes2, lanes3,
    lanes4, lanes5, rows]

theorem pieces_xbc (c : Dev nD) (i : grid0.Coords) (arg1 : Memref sig .tc .vmem S16x1024 .f32) (harg1 : arg1.IsWhole)
    (arg2 : Memref sig .tc .vmem S1024x1024 .f32) (harg2 : arg2.IsWhole) (arg3 : Memref sig .tc .vmem S16x1024 .f32)
    (harg3 : arg3.IsWhole) (arg4 : Memref sig .tc .vmem S1x1024 .f32) (harg4 : arg4.IsWhole) (arg5 : Memref sig .tc
    .vmem S1024x1536 .bf16) (harg5 : arg5.IsWhole) (arg6 : Memref sig .tc .vmem S1024x1024 .bf16) (harg6 :
    arg6.IsWhole) (arg7 : Memref sig .tc .vmem S1024x1536 .bf16) (harg7 : arg7.IsWhole) (arg8 : Memref sig .tc .vmem
    S1024x128 .bf16) (harg8 : arg8.IsWhole) (arg9 : Memref sig .tc .vmem S5x1536 .f32) (harg9 : arg9.IsWhole) (arg10 :
    Memref sig .tc .vmem S1x1536 .f32) (harg10 : arg10.IsWhole) (arg11 : Memref sig .tc .vmem S1024x1536 .bf16)
    (harg11 : arg11.IsWhole) (arg12 : Memref sig .tc .vmem S1024x1024 .bf16) (harg12 : arg12.IsWhole) (arg13 : Memref
    sig .tc .vmem S1024x1536 .bf16) (harg13 : arg13.IsWhole) (arg14 : Memref sig .tc .vmem S1024x128 .f32) (harg14 :
    arg14.IsWhole) (arg15 : Memref sig .tc .vmem S1056x1024 .bf16) (harg15 : arg15.IsWhole) (arg16 : Memref sig .tc
    .vmem S1056x256 .f32) (harg16 : arg16.IsWhole) (arg17 : Memref sig .tc .vmem S1056x256 .f32) (harg17 :
    arg17.IsWhole) (x0 : Vec F S16x1024 .f32) (x1 : Vec F S1024x1024 .f32) (x2 : Vec F S16x1024 .f32) (x3 : Vec F
    S1x1024 .f32) (x4 : Vec F S1024x1536 .bf16) (x5 : Vec F S1024x1024 .bf16) (x6 : Vec F S1024x1536 .bf16) (x7 : Vec
    F S1024x128 .bf16) (x8 : Vec F S5x1536 .f32) (x9 : Vec F S1x1536 .f32) :
    (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 x0
      x1 x2 x3 x4 x5 x6 x7 x8 x9).2.2.1 =
      [⟨Rect.unit ![0, 1280] ![1024, 256] inb_S1024x1536_S1024x256_0_1280, lanes (hExt i x0 x1 x2 x3) x6 x8 x9 5 (by decide)⟩,
       ⟨Rect.unit ![0, 1024] ![1024, 256] inb_S1024x1536_S1024x256_0_1024, lanes (hExt i x0 x1 x2 x3) x6 x8 x9 4 (by decide)⟩,
       ⟨Rect.unit ![0, 768] ![1024, 256] inb_S1024x1536_S1024x256_0_768, lanes (hExt i x0 x1 x2 x3) x6 x8 x9 3 (by decide)⟩,
       ⟨Rect.unit ![0, 512] ![1024, 256] inb_S1024x1536_S1024x256_0_512, lanes (hExt i x0 x1 x2 x3) x6 x8 x9 2 (by decide)⟩,
       ⟨Rect.unit ![0, 256] ![1024, 256] inb_S1024x1536_S1024x256_0_256, lanes (hExt i x0 x1 x2 x3) x6 x8 x9 1 (by decide)⟩,
       ⟨Rect.unit ![0, 0] ![1024, 256] inb_S1024x1536_S1024x256_0_0, lanes (hExt i x0 x1 x2 x3) x6 x8 x9 0 (by decide)⟩] := by
  unfold kernelRun0_A
  dsimp only
  sl_unfold_words
  simp only [load_canon, stored, View.readAt_eq_ld, harg1.read_unread, harg2.read_unread, harg3.read_unread,
    harg4.read_unread, harg5.read_unread, harg6.read_unread, harg7.read_unread, harg8.read_unread, harg9.read_unread,
    harg10.read_unread, full16x1024, full1024x1024, full1x1024, full1024x1536, full1024x128, full1056x1024, proj7,
    proj12, proj14, proj18, proj22, conv0, conv1, conv2, conv3, conv4, conv5, word, lanes0, lanes1, lanes2, lanes3,
    lanes4, lanes5, rows]

theorem pieces_dt (c : Dev nD) (i : grid0.Coords) (arg1 : Memref sig .tc .vmem S16x1024 .f32) (harg1 : arg1.IsWhole)
    (arg2 : Memref sig .tc .vmem S1024x1024 .f32) (harg2 : arg2.IsWhole) (arg3 : Memref sig .tc .vmem S16x1024 .f32)
    (harg3 : arg3.IsWhole) (arg4 : Memref sig .tc .vmem S1x1024 .f32) (harg4 : arg4.IsWhole) (arg5 : Memref sig .tc
    .vmem S1024x1536 .bf16) (harg5 : arg5.IsWhole) (arg6 : Memref sig .tc .vmem S1024x1024 .bf16) (harg6 :
    arg6.IsWhole) (arg7 : Memref sig .tc .vmem S1024x1536 .bf16) (harg7 : arg7.IsWhole) (arg8 : Memref sig .tc .vmem
    S1024x128 .bf16) (harg8 : arg8.IsWhole) (arg9 : Memref sig .tc .vmem S5x1536 .f32) (harg9 : arg9.IsWhole) (arg10 :
    Memref sig .tc .vmem S1x1536 .f32) (harg10 : arg10.IsWhole) (arg11 : Memref sig .tc .vmem S1024x1536 .bf16)
    (harg11 : arg11.IsWhole) (arg12 : Memref sig .tc .vmem S1024x1024 .bf16) (harg12 : arg12.IsWhole) (arg13 : Memref
    sig .tc .vmem S1024x1536 .bf16) (harg13 : arg13.IsWhole) (arg14 : Memref sig .tc .vmem S1024x128 .f32) (harg14 :
    arg14.IsWhole) (arg15 : Memref sig .tc .vmem S1056x1024 .bf16) (harg15 : arg15.IsWhole) (arg16 : Memref sig .tc
    .vmem S1056x256 .f32) (harg16 : arg16.IsWhole) (arg17 : Memref sig .tc .vmem S1056x256 .f32) (harg17 :
    arg17.IsWhole) (x0 : Vec F S16x1024 .f32) (x1 : Vec F S1024x1024 .f32) (x2 : Vec F S16x1024 .f32) (x3 : Vec F
    S1x1024 .f32) (x4 : Vec F S1024x1536 .bf16) (x5 : Vec F S1024x1024 .bf16) (x6 : Vec F S1024x1536 .bf16) (x7 : Vec
    F S1024x128 .bf16) (x8 : Vec F S5x1536 .f32) (x9 : Vec F S1x1536 .f32) :
    (kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 x0
      x1 x2 x3 x4 x5 x6 x7 x8 x9).2.2.2.1 =
      [⟨Rect.unit ![0, 0] ![1024, 128] inb_S1024x128_S1024x128_0_0, k0_pay9 (View.ld (hExt i x0 x1 x2 x3) (Rect.unit ![16, 0] ![1024, 1024] inb_S1056x1024_S1024x1024_16_0)) x7⟩] := by
  unfold kernelRun0_A
  dsimp only
  sl_unfold_words
  simp only [load_canon, stored, View.readAt_eq_ld, harg1.read_unread, harg2.read_unread, harg3.read_unread,
    harg4.read_unread, harg5.read_unread, harg6.read_unread, harg7.read_unread, harg8.read_unread, harg9.read_unread,
    harg10.read_unread, full16x1024, full1024x1024, full1x1024, full1024x1536, full1024x128, full1056x1024, proj7,
    proj12, proj14, proj18, proj22, conv0, conv1, conv2, conv3, conv4, conv5, word, lanes0, lanes1, lanes2, lanes3,
    lanes4, lanes5, rows]

end Cert.Kernel3Ideal.In

end
end
-- ==== Proof.InSpec.lean ====
/- The layer's input projection in plain terms, over arrays as functions of natural numbers, and the laws of extended reals that
   carry the kernel's grouping of it to the reference's. -/
module

public import proofs.«01_k».proof.Proof.MixSpec

@[expose] public section

noncomputable section

namespace Cert.In

open Idealize.ShloMosaic Cert.Att

/-- The arrays the input projection reads. -/
structure Arrays where
  /-- the layer's input -/
  x : ℕ → ℕ → EReal
  /-- the gain before mixing -/
  g : ℕ → EReal
  /-- the projection -/
  w : ℕ → ℕ → EReal
  /-- the convolution's five taps -/
  cw : ℕ → ℕ → EReal
  /-- the convolution's bias -/
  cb : ℕ → EReal

variable (P : Arrays)

/-- The normalised input at token `t`. -/
def hid (t f : ℕ) : EReal := Cert.Mix.rms (P.x t) P.g f

/-- The projection onto column `c`. -/
def proj (t c : ℕ) : EReal := ∑ k : Fin 1024, hid P t k.val * P.w k.val c

/-- The attention's inputs: 512 scaled columns of queries, then the keys and the values. -/
def qkv (t c : ℕ) : EReal := if c < 512 then proj P t c * Ideal.ofBits .f32 0x3E000000#32 else proj P t c

/-- The logistic-weighted unit. -/
def silu (v : EReal) : EReal :=
  v * Ideal.div (Ideal.ofBits .f32 0x3F800000#32) (Ideal.ofBits .f32 0x3F800000#32 + Ideal.exp (-v))

/-- The SSD mixer's gate. -/
def z (t c : ℕ) : EReal := silu (proj P t (1536 + c))

/-- The SSD projection at the token `d - 2` places after `t`, zero outside the token's own sequence of 8192. -/
def tap (t d c : ℕ) : EReal :=
  if t % 8192 + d < 2 ∨ 8194 ≤ t % 8192 + d then 0 else proj P (t + d - 2) (2560 + c)

/-- The convolution of five places, and its bias. -/
def conv (t c : ℕ) : EReal :=
  tap P t 0 c * P.cw 0 c + tap P t 1 c * P.cw 1 c + tap P t 2 c * P.cw 2 c + tap P t 3 c * P.cw 3 c + tap P t 4 c * P.cw 4 c + P.cb c

/-- The SSD mixer's inputs. -/
def xbc (t c : ℕ) : EReal := silu (conv P t c)

/-- The SSD mixer's step sizes before their bias, 32 columns repeated. -/
def dt (t j : ℕ) : EReal := proj P t (4096 + j % 32)

/-- A scale on the projection's column is a scale on its result. -/
theorem scaled (h w : Fin 1024 → EReal) :
    ∑ k, h k * (w k * Ideal.ofBits .f32 0x3E000000#32) = (∑ k, h k * w k) * Ideal.ofBits .f32 0x3E000000#32 := by
  have e : Ideal.ofBits .f32 0x3E000000#32 = ((1 / 8 : ℝ) : EReal) := by
    simp [Ideal.ofBits, Ideal.ieee]
    norm_num
    rw [← EReal.coe_mul]
    norm_num
  rw [e, sum_mul_coe _ _ _ (by norm_num)]
  exact Finset.sum_congr rfl fun k _ => (mul_assoc _ _ _).symm

/-- The bias may come first. -/
theorem bias_first (b p0 p1 p2 p3 p4 : EReal) : b + p0 + p1 + p2 + p3 + p4 = p0 + p1 + p2 + p3 + p4 + b := by
  rw [add_comm b p0, add_right_comm p0 b p1, add_right_comm _ b p2, add_right_comm _ b p3, add_right_comm _ b p4]

/-- Zero less a value is its negation. -/
theorem zero_less (v : EReal) : Ideal.ofBits .f32 0x00000000#32 - v = -v := by
  have e : Ideal.ofBits .f32 0x00000000#32 = 0 := by simp [Ideal.ofBits, Ideal.ieee]
  rw [e, sub_eq_add_neg, zero_add]

end Cert.In

end
end
-- ==== Proof.InTile.lean ====
/- The input projection's arithmetic at an index: each step on rows that hold the arrays' tokens gives the tokens' values. -/
module

public import proofs.«01_k».proof.Proof.InBody
public import proofs.«01_k».proof.Proof.InSpec
public import Idealize.ShloMosaic.Lib.Pointwise
public import Idealize.ShloMosaic.PureOps.Ideal.Laws

@[expose] public section

set_option maxRecDepth 65536

noncomputable section

namespace Cert.Kernel3Ideal.In

open Cert.Kernel3Ideal Cert.Kernel3Ideal.Gen Idealize.ShloMosaic Idealize.ShloMosaic.TcCoe Idealize.SL.Sem
open Cert.Att (at2 at2_of)
open Cert.In (Arrays hid proj qkv silu z tap xbc dt bias_first zero_less)

variable (P : Arrays) (T : ℕ)

theorem zero_bits : Ideal.ofBits .f32 0x00000000#32 = 0 := by
  simp [Ideal.ofBits, Ideal.ieee]

theorem one_bits : Ideal.ofBits .f32 0x3F800000#32 = 1 := by
  simp [Ideal.ofBits, Ideal.ieee]
  rw [← EReal.coe_mul]
  norm_num

theorem keep_prev (i : grid0.Coords) : (Scalar.select (Scalar.cmpi .eq (blockWord i) 0#32) (Ideal.ofBits .f32 0x00000000#32)
    (Ideal.ofBits .f32 0x3F800000#32) : EReal) = if (i 0).val % 8 = 0 then 0 else 1 := by
  have h : ∀ i : grid0.Coords, Scalar.cmpi .eq (blockWord i) 0#32 = if (i 0).val % 8 = 0 then 1#1 else 0#1 := by decide +kernel
  rw [h i]
  by_cases hi : (i 0).val % 8 = 0
  · rw [if_pos hi, if_pos hi]
    exact zero_bits
  · rw [if_neg hi, if_neg hi]
    exact one_bits

theorem keep_next (i : grid0.Coords) : (Scalar.select (Scalar.cmpi .eq (blockWord i) 7#32) (Ideal.ofBits .f32 0x00000000#32)
    (Ideal.ofBits .f32 0x3F800000#32) : EReal) = if (i 0).val % 8 = 7 then 0 else 1 := by
  have h : ∀ i : grid0.Coords, Scalar.cmpi .eq (blockWord i) 7#32 = if (i 0).val % 8 = 7 then 1#1 else 0#1 := by decide +kernel
  rw [h i]
  by_cases hi : (i 0).val % 8 = 7
  · rw [if_pos hi, if_pos hi]
    exact zero_bits
  · rw [if_neg hi, if_neg hi]
    exact one_bits

theorem kept (p : Prop) [Decidable p] (x : EReal) : x * (if p then 0 else 1) = if p then 0 else x := by
  by_cases h : p
  · rw [if_pos h, if_pos h, mul_zero]
  · rw [if_neg h, if_neg h, mul_one]

theorem prev_at (i : grid0.Coords) (g : Vec Ideal S1x1024 .f32) (x : Vec Ideal S16x1024 .f32) (R : Fin 16) (f : Fin 1024)
    (hx : ∀ k : Fin 1024, x (ix2 R k) = P.x T k.val) (hg : ∀ l : Fin 1024, g (ix2 0 l) = P.g l.val) :
    k0_pay2 i g x (ix2 R f) = if (i 0).val % 8 = 0 then 0 else hid P T f.val := by
  rw [← kept, ← keep_prev i]
  pointwise [k0_pay2]
  simp only [hx, hg]
  rfl

theorem rows_at (g : Vec Ideal S1x1024 .f32) (x : Vec Ideal S1024x1024 .f32) (R : Fin 1024) (f : Fin 1024)
    (hx : ∀ k : Fin 1024, x (ix2 R k) = P.x T k.val) (hg : ∀ l : Fin 1024, g (ix2 0 l) = P.g l.val) :
    k0_pay4 g x (k0_pay3 x) (FloatOps.ofBits .f32 0x44800000#32) (ix2 R f) = hid P T f.val := by
  pointwise [k0_pay4, k0_pay3]
  simp only [hx, hg]
  rfl

theorem next_at (i : grid0.Coords) (g : Vec Ideal S1x1024 .f32) (x : Vec Ideal S16x1024 .f32) (R : Fin 16) (f : Fin 1024)
    (hx : ∀ k : Fin 1024, x (ix2 R k) = P.x T k.val) (hg : ∀ l : Fin 1024, g (ix2 0 l) = P.g l.val) :
    k0_pay5 (blockWord i) g x (ix2 R f) = if (i 0).val % 8 = 7 then 0 else hid P T f.val := by
  rw [← kept, ← keep_next i]
  pointwise [k0_pay5]
  simp only [hx, hg]
  rfl

theorem buf_at (h : Vec Ideal S1056x1024 .bf16) (w : Vec Ideal S1024x256 .bf16) (e : Fin 1056) (l : Fin 256) :
    k0_pay8 h w (ix2 e l) = ∑ k : Fin 1024, h (ix2 e k) * w (ix2 k l) := by
  pointwise [k0_pay8]

theorem dtRows_at (h : Vec Ideal S1024x1024 .bf16) (w : Vec Ideal S1024x128 .bf16) (e : Fin 1024) (l : Fin 128) :
    k0_pay9 h w (ix2 e l) = ∑ k : Fin 1024, h (ix2 e k) * w (ix2 k l) := by
  pointwise [k0_pay9]

theorem qkvRows_at (h : Vec Ideal S1024x1024 .bf16) (w : Vec Ideal S1024x1536 .bf16) (e : Fin 1024) (l : Fin 1536) :
    k0_pay15 h w (ix2 e l) = ∑ k : Fin 1024, h (ix2 e k) * w (ix2 k l) := by
  pointwise [k0_pay15]

theorem zRows_at (h : Vec Ideal S1024x1024 .bf16) (w : Vec Ideal S1024x1024 .bf16) (e : Fin 1024) (l : Fin 1024) :
    k0_pay26 h w (ix2 e l) = silu (∑ k : Fin 1024, h (ix2 e k) * w (ix2 k l)) := by
  unfold silu
  rw [← zero_less]
  pointwise [k0_pay26]
  try rfl

theorem conv_apply (b : Vec Ideal S1x256 .f32) (u0 u1 u2 u3 u4 : Vec Ideal S1024x256 .f32) (t0 t1 t2 t3 t4 : Vec Ideal S1x256 .f32)
    (r : Fin 1024) (l : Fin 256) :
    conv b u0 u1 u2 u3 u4 t0 t1 t2 t3 t4 (ix2 r l)
      = silu (u0 (ix2 r l) * t0 (ix2 0 l) + u1 (ix2 r l) * t1 (ix2 0 l) + u2 (ix2 r l) * t2 (ix2 0 l) + u3 (ix2 r l) * t3 (ix2 0 l)
          + u4 (ix2 r l) * t4 (ix2 0 l) + b (ix2 0 l)) := by
  unfold silu conv
  rw [← zero_less, ← bias_first]
  pointwise [k0_pay13]
  try rfl

end Cert.Kernel3Ideal.In

end
end
-- ==== Proof.InBlock.lean ====
/- What one grid point of the input projection computes: given which tokens its blocks hold, each row that it stores is the
   projection's row at that row's token. -/
module

public import proofs.«01_k».proof.Proof.InTile
public import proofs.«01_k».proof.Proof.MixBlock
public import Idealize.ShloMosaic.Lib.Pipeline.ValueKit.Tiles

@[expose] public section

set_option maxRecDepth 65536

noncomputable section

namespace Cert.Kernel3Ideal.In

open Cert.Kernel3Ideal Cert.Kernel3Ideal.Gen Idealize.ShloMosaic Idealize.ShloMosaic.TcCoe Idealize.SL.Sem
open Cert.Att (at2 at2_of)
open Cert.In (Arrays hid proj qkv silu z tap xbc dt scaled)
open Cert.Kernel2Ideal.Mix (ld2 canon_in canon_out)

/-- Row `e` of the 1056 that block `n` works on lies outside the block's sequence. -/
abbrev Edge (n e : ℕ) : Prop := (n % 8 = 0 ∧ e < 16) ∨ (n % 8 = 7 ∧ 1040 ≤ e)

/-- What the blocks of grid point `n` hold, of the arrays `Q`. -/
structure Holds (Q : Arrays) (n : ℕ) (x0 : Vec Ideal S16x1024 .f32) (x1 : Vec Ideal S1024x1024 .f32) (x2 : Vec Ideal S16x1024 .f32) (x3 : Vec Ideal S1x1024 .f32) (x4 : Vec Ideal S1024x1536 .bf16) (x5 : Vec Ideal S1024x1024 .bf16) (x6 : Vec Ideal S1024x1536 .bf16) (x7 : Vec Ideal S1024x128 .bf16) (x8 : Vec Ideal S5x1536 .f32) (x9 : Vec Ideal S1x1536 .f32) : Prop where
  xp : ∀ (e : Fin 16) (k : Fin 1024), x0 (ix2 e k) = Q.x ((64 * n - 1) * 16 + e.val) k.val
  xc : ∀ (e : Fin 1024) (k : Fin 1024), x1 (ix2 e k) = Q.x (1024 * n + e.val) k.val
  xn : ∀ (e : Fin 16) (k : Fin 1024), x2 (ix2 e k) = Q.x (min (64 * (n + 1)) 1023 * 16 + e.val) k.val
  g : ∀ l : Fin 1024, x3 (ix2 0 l) = Q.g l.val
  wq : ∀ (k : Fin 1024) (l : Fin 1536), x4 (ix2 k l)
    = if l.val < 512 then Q.w k.val l.val * Ideal.ofBits .f32 0x3E000000#32 else Q.w k.val l.val
  wz : ∀ k l : Fin 1024, x5 (ix2 k l) = Q.w k.val (1536 + l.val)
  wx : ∀ (k : Fin 1024) (l : Fin 1536), x6 (ix2 k l) = Q.w k.val (2560 + l.val)
  wd : ∀ (k : Fin 1024) (l : Fin 128), x7 (ix2 k l) = Q.w k.val (4096 + l.val % 32)
  cw : ∀ (k : Fin 5) (l : Fin 1536), x8 (ix2 k l) = Q.cw k.val l.val
  cb : ∀ l : Fin 1536, x9 (ix2 0 l) = Q.cb l.val

section

variable {Q : Arrays} {i : grid0.Coords} {x0 : Vec Ideal S16x1024 .f32} {x1 : Vec Ideal S1024x1024 .f32} {x2 : Vec Ideal S16x1024 .f32} {x3 : Vec Ideal S1x1024 .f32} {x4 : Vec Ideal S1024x1536 .bf16} {x5 : Vec Ideal S1024x1024 .bf16} {x6 : Vec Ideal S1024x1536 .bf16} {x7 : Vec Ideal S1024x128 .bf16} {x8 : Vec Ideal S5x1536 .f32} {x9 : Vec Ideal S1x1536 .f32} (H : Holds Q (i 0).val x0 x1 x2 x3 x4 x5 x6 x7 x8 x9)
include H

theorem hExt_at (e : Fin 1056) (k : Fin 1024) :
    hExt i x0 x1 x2 x3 (ix2 e k) = if Edge (i 0).val e.val then 0 else hid Q (1024 * (i 0).val + e.val - 16) k.val := by
  have he := e.isLt
  have hn : (i 0).val < 16 := (i 0).isLt
  unfold hExt
  by_cases h0 : e.val < 16
  · refine (canon_out 1040 0 inb_S1056x1024_S16x1024_1040_0 _ _ e k (by omega)).trans ?_
    refine (canon_out 16 0 inb_S1056x1024_S1024x1024_16_0 _ _ e k (by omega)).trans ?_
    refine (canon_in 0 0 inb_S1056x1024_S16x1024_0_0 _ _ e k ⟨e.val, h0⟩ k (by simp) (by simp)).trans ?_
    refine (prev_at Q ((64 * (i 0).val - 1) * 16 + e.val) i _ _ ⟨e.val, h0⟩ k (H.xp ⟨e.val, h0⟩) H.g).trans ?_
    by_cases hi : (i 0).val % 8 = 0
    · rw [if_pos hi, if_pos (Or.inl ⟨hi, h0⟩)]
    · rw [if_neg hi, if_neg (by unfold Edge; omega)]
      exact congrArg (hid Q · _) (by omega)
  by_cases h1 : e.val < 1040
  · refine (canon_out 1040 0 inb_S1056x1024_S16x1024_1040_0 _ _ e k (by omega)).trans ?_
    refine (canon_in 16 0 inb_S1056x1024_S1024x1024_16_0 _ _ e k ⟨e.val - 16, by omega⟩ k (by show e.val = 16 + (e.val - 16); omega) (by simp)).trans ?_
    refine (rows_at Q (1024 * (i 0).val + (e.val - 16)) _ _ ⟨e.val - 16, by omega⟩ k (H.xc ⟨e.val - 16, by omega⟩) H.g).trans ?_
    rw [if_neg (by unfold Edge; omega)]
    exact congrArg (hid Q · _) (by omega)
  · refine (canon_in 1040 0 inb_S1056x1024_S16x1024_1040_0 _ _ e k ⟨e.val - 1040, by omega⟩ k (by show e.val = 1040 + (e.val - 1040); omega) (by simp)).trans ?_
    refine (next_at Q (min (64 * ((i 0).val + 1)) 1023 * 16 + (e.val - 1040)) i _ _ ⟨e.val - 1040, by omega⟩ k (H.xn ⟨e.val - 1040, by omega⟩) H.g).trans ?_
    by_cases hi : (i 0).val % 8 = 7
    · rw [if_pos hi, if_pos (Or.inr ⟨hi, by omega⟩)]
    · rw [if_neg hi, if_neg (by unfold Edge; omega)]
      exact congrArg (hid Q · _) (by omega)

/-- The block's own rows. -/
theorem own_at (r : Fin 1024) (k : Fin 1024) :
    View.ld (hExt i x0 x1 x2 x3) (Rect.unit ![16, 0] ![1024, 1024] inb_S1056x1024_S1024x1024_16_0) (ix2 r k)
      = hid Q (1024 * (i 0).val + r.val) k.val := by
  have hr := r.isLt
  refine (ld2 _ 16 0 inb_S1056x1024_S1024x1024_16_0 r k (by omega) (by simp)).trans ((hExt_at H _ _).trans ?_)
  rw [if_neg (by show ¬ (((i 0).val % 8 = 0 ∧ 16 + r.val < 16) ∨ ((i 0).val % 8 = 7 ∧ 1040 ≤ 16 + r.val)); omega)]
  refine congrArg₂ (hid Q) ?_ ?_
  · show 1024 * (i 0).val + (16 + r.val) - 16 = _
    omega
  · show 0 + k.val = _
    omega

theorem qkv_at (r : Fin 1024) (l : Fin 1536) :
    k0_pay15 (View.ld (hExt i x0 x1 x2 x3) (Rect.unit ![16, 0] ![1024, 1024] inb_S1056x1024_S1024x1024_16_0)) x4 (ix2 r l)
      = qkv Q (1024 * (i 0).val + r.val) l.val := by
  rw [qkvRows_at]
  simp only [own_at H, H.wq]
  unfold qkv proj
  by_cases h : l.val < 512
  · simp only [if_pos h]
    exact scaled _ _
  · simp only [if_neg h]

theorem z_at (r : Fin 1024) (l : Fin 1024) :
    k0_pay26 (View.ld (hExt i x0 x1 x2 x3) (Rect.unit ![16, 0] ![1024, 1024] inb_S1056x1024_S1024x1024_16_0)) x5 (ix2 r l)
      = z Q (1024 * (i 0).val + r.val) l.val := by
  rw [zRows_at]
  simp only [own_at H, H.wz]
  rfl

theorem dt_at (r : Fin 1024) (l : Fin 128) :
    k0_pay9 (View.ld (hExt i x0 x1 x2 x3) (Rect.unit ![16, 0] ![1024, 1024] inb_S1056x1024_S1024x1024_16_0)) x7 (ix2 r l)
      = dt Q (1024 * (i 0).val + r.val) l.val := by
  rw [dtRows_at]
  simp only [own_at H, H.wd]
  rfl

theorem bufRow_at (j : ℕ) (hj : j < 6) (e : Fin 1056) (l : Fin 256) :
    buf (hExt i x0 x1 x2 x3) x6 j hj (ix2 e l)
      = if Edge (i 0).val e.val then 0 else proj Q (1024 * (i 0).val + e.val - 16) (2560 + (256 * j + l.val)) := by
  have hl := l.isLt
  unfold buf
  rw [buf_at]
  simp only [hExt_at H]
  by_cases h : Edge (i 0).val e.val
  · simp only [if_pos h, zero_mul, Finset.sum_const_zero]
  · simp only [if_neg h]
    unfold proj
    refine Finset.sum_congr rfl fun k _ => congrArg (hid Q (1024 * (i 0).val + e.val - 16) k.val * ·) ?_
    refine (ld2 _ 0 (256 * j) (lanes_inb 0 j (by decide) hj) k l (by omega) (by omega)).trans ((H.wx _ _).trans ?_)
    exact congrArg (Q.w · _) (Nat.zero_add _)

/-- One tap's rows. -/
theorem tap_at (j : ℕ) (hj : j < 6) (o : ℕ) (d : ℕ) (ho : o = 14 + d) (hd : d < 5)
    (inb : ∀ a, (![o, 0] : Fin 2 → ℕ) a + (![1024, 256] : Fin 2 → ℕ) a ≤ S1056x256.size a) (r : Fin 1024) (l : Fin 256) :
    View.ld (Val := Elt Ideal) (S := S1056x256) (e' := .f32) (buf (hExt i x0 x1 x2 x3) x6 j hj) (Rect.unit ![o, 0] ![1024, 256] inb) (ix2 r l)
      = tap Q (1024 * (i 0).val + r.val) d (256 * j + l.val) := by
  subst ho
  have hr := r.isLt
  have hn : (i 0).val < 16 := (i 0).isLt
  refine (ld2 (Val := Elt Ideal) (e := .f32) (buf (hExt i x0 x1 x2 x3) x6 j hj) (14 + d) 0 inb r l (by omega) (by simp)).trans ((bufRow_at H j hj _ _).trans ?_)
  unfold tap
  show (if Edge (i 0).val (14 + d + r.val) then (0 : EReal) else
    proj Q (1024 * (i 0).val + (14 + d + r.val) - 16) (2560 + (256 * j + (0 + l.val)))) = _
  by_cases h : Edge (i 0).val (14 + d + r.val)
  · rw [if_pos h, if_pos (by unfold Edge at h; omega)]
  · rw [if_neg h, if_neg (by unfold Edge at h; omega)]
    exact congrArg₂ (proj Q) (by omega) (by omega)

theorem weight_at (j : ℕ) (hj : j < 6) (d : ℕ) (hd : d + 1 ≤ 5) (l : Fin 256) :
    View.ld x8 (Rect.unit ![d, 256 * j] ![1, 256] (lanes_inb d j hd hj)) (ix2 0 l) = Q.cw d (256 * j + l.val) := by
  have hl := l.isLt
  refine (ld2 _ d (256 * j) (lanes_inb d j hd hj) 0 l (by simp; omega) (by omega)).trans ((H.cw _ _).trans ?_)
  exact congrArg (Q.cw · _) (Nat.add_zero d)

theorem bias_at (j : ℕ) (hj : j < 6) (l : Fin 256) :
    View.ld x9 (Rect.unit ![0, 256 * j] ![1, 256] (lanes_inb 0 j (by decide) hj)) (ix2 0 l) = Q.cb (256 * j + l.val) := by
  have hl := l.isLt
  exact (ld2 _ 0 (256 * j) (lanes_inb 0 j (by decide) hj) 0 l (by simp) (by omega)).trans (H.cb _)

theorem lanes_at (j : ℕ) (hj : j < 6) (r : Fin 1024) (l : Fin 256) :
    lanes (hExt i x0 x1 x2 x3) x6 x8 x9 j hj (ix2 r l) = xbc Q (1024 * (i 0).val + r.val) (256 * j + l.val) := by
  unfold lanes
  rw [conv_apply, tap_at H j hj 14 0 rfl (by decide), tap_at H j hj 15 1 rfl (by decide), tap_at H j hj 16 2 rfl (by decide),
    tap_at H j hj 17 3 rfl (by decide), tap_at H j hj 18 4 rfl (by decide), weight_at H j hj 0 (by decide), weight_at H j hj 1 (by decide),
    weight_at H j hj 2 (by decide), weight_at H j hj 3 (by decide), weight_at H j hj 4 (by decide), bias_at H j hj]
  rfl

end

end Cert.Kernel3Ideal.In

end
end
-- ==== Proof.InBlocks.lean ====
/- The input projection's blocks hold the tokens of its arguments' arrays, and the four blocks that one grid point leaves are
   the projection at those tokens. -/
module

public import proofs.«01_k».proof.Proof.InPieces
public import proofs.«01_k».proof.Proof.InBlock
public import proofs.«01_k».proof.Proof.Gen.Kernel3Ideal.Value
public import Idealize.ShloMosaic.Lib.StableHlo.ReadAt
public import Idealize.ShloMosaic.Lib.Pipeline.ValueKit

@[expose] public section

set_option maxRecDepth 65536

noncomputable section

namespace Cert.Kernel3Ideal.In

open Cert.Kernel3Ideal Cert.Kernel3Ideal.Gen Idealize.ShloMosaic Idealize.ShloMosaic.TcCoe Idealize.SL.Sem
open Cert.Att (at2 at2_of)
open Cert.In (Arrays qkv z xbc dt)

variable (m : (ℓ : Loc nD τ sig) → Buf (Elt Ideal) ℓ)

/-! ## The arrays that the host prepares -/

/-- The projection's columns of queries, scaled, with those of keys and values. -/
def hostQ (w : FVec Ideal S1024x4128 .f32) : FVec Ideal S1024x1536 .bf16 :=
  truncf .bf16 (concatenate S1024x1536 1 [⟨S1024x512, (mulf (extractStridedSlice S1024x512 ![0, 0] w slices_S1024x4128_S1024x512_0_0 : FVec Ideal S1024x512 .f32)
    (broadcastInDim S1024x512 ![] bcast_S_S1024x512 (constant S_ .f32 0x3E000000#32 : FVec Ideal S_ .f32) : FVec Ideal S1024x512 .f32) : FVec Ideal S1024x512 .f32)⟩,
    ⟨S1024x1024, (extractStridedSlice S1024x1024 ![0, 512] w slices_S1024x4128_S1024x1024_0_512 : FVec Ideal S1024x1024 .f32)⟩]
    concatenates_S1024x512_S1024x1024_S1024x1536_d1 : FVec Ideal S1024x1536 .f32) bitsLt_bf16_f32

/-- The columns of step sizes, four times side by side. -/
def hostDt (w : FVec Ideal S1024x4128 .f32) : FVec Ideal S1024x128 .bf16 :=
  truncf .bf16 (shapeCast S1024x128 (broadcastInDim S1x1024x4x32 ![0, 1, 2, 3] bcast_S1x1024x1x32_S1x1024x4x32_0_1_2_3
    (shapeCast S1x1024x1x32 (extractStridedSlice S1024x32 ![0, 4096] w slices_S1024x4128_S1024x32_0_4096 : FVec Ideal S1024x32 .f32) shapeCasts_S1024x32_S1x1024x1x32 : FVec Ideal S1x1024x1x32 .f32) : FVec Ideal S1x1024x4x32 .f32) shapeCasts_S1x1024x4x32_S1024x128 : FVec Ideal S1024x128 .f32) bitsLt_bf16_f32

theorem V_v5 (c : Dev nD) : V m c main_v5 = (hostQ (m ((c : Thread nD τ).loc main_arg2))) := by
  unfold V
  after_reads_simp
  try rfl

theorem V_v7 (c : Dev nD) : V m c main_v7 = (truncf .bf16 (extractStridedSlice S1024x1024 ![0, 1536] (m ((c : Thread nD τ).loc main_arg2)) slices_S1024x4128_S1024x1024_0_1536 : FVec Ideal S1024x1024 .f32) bitsLt_bf16_f32 : FVec Ideal S1024x1024 .bf16) := by
  unfold V
  after_reads_simp
  try rfl

theorem V_v9 (c : Dev nD) : V m c main_v9 = (truncf .bf16 (extractStridedSlice S1024x1536 ![0, 2560] (m ((c : Thread nD τ).loc main_arg2)) slices_S1024x4128_S1024x1536_0_2560 : FVec Ideal S1024x1536 .f32) bitsLt_bf16_f32 : FVec Ideal S1024x1536 .bf16) := by
  unfold V
  after_reads_simp
  try rfl

theorem V_v14 (c : Dev nD) : V m c main_v14 = (hostDt (m ((c : Thread nD τ).loc main_arg2))) := by
  unfold V
  after_reads_simp
  try rfl

theorem hostQ_at (w : FVec Ideal S1024x4128 .f32) (k : Fin 1024) (l : Fin 1536) :
    at2 (a := 1024) (b := 1536) (hostQ w) k.val l.val
      = if l.val < 512 then at2 (a := 1024) (b := 4128) w k.val l.val * Ideal.ofBits .f32 0x3E000000#32
        else at2 (a := 1024) (b := 4128) w k.val l.val := by
  rw [← at2_of (a := 1024) (b := 1536) _ (ix2 k l) k.val l.val rfl rfl]
  have hl := l.isLt
  unfold hostQ
  pointwise
  by_cases h : l.val < 512
  · rw [if_pos h, dif_pos h]
    exact congrArg (· * _) (at2_of w _ _ _ (by simp) (by simp))
  · rw [if_neg h, dif_neg h]
    exact at2_of w _ _ _ (by simp) (by simp; omega)

theorem hostDt_at (w : FVec Ideal S1024x4128 .f32) (k : Fin 1024) (l : Fin 128) :
    at2 (a := 1024) (b := 128) (hostDt w) k.val l.val = at2 (a := 1024) (b := 4128) w k.val (4096 + l.val % 32) := by
  rw [← at2_of (a := 1024) (b := 128) _ (ix2 k l) k.val l.val rfl rfl]
  have hl := l.isLt
  unfold hostDt
  pointwise
  exact at2_of w _ _ _ (by simp) (by simp)

theorem slice_z (w : FVec Ideal S1024x4128 .f32) (k l : Fin 1024) :
    at2 (a := 1024) (b := 1024) (truncf .bf16 (extractStridedSlice S1024x1024 ![0, 1536] w slices_S1024x4128_S1024x1024_0_1536 : FVec Ideal S1024x1024 .f32) bitsLt_bf16_f32 : FVec Ideal S1024x1024 .bf16) k.val l.val
      = at2 (a := 1024) (b := 4128) w k.val (1536 + l.val) := by
  rw [← at2_of (a := 1024) (b := 1024) _ (ix2 k l) k.val l.val rfl rfl]
  pointwise
  exact at2_of w _ _ _ (by simp) (by simp)

theorem slice_x (w : FVec Ideal S1024x4128 .f32) (k : Fin 1024) (l : Fin 1536) :
    at2 (a := 1024) (b := 1536) (truncf .bf16 (extractStridedSlice S1024x1536 ![0, 2560] w slices_S1024x4128_S1024x1536_0_2560 : FVec Ideal S1024x1536 .f32) bitsLt_bf16_f32 : FVec Ideal S1024x1536 .bf16) k.val l.val
      = at2 (a := 1024) (b := 4128) w k.val (2560 + l.val) := by
  rw [← at2_of (a := 1024) (b := 1536) _ (ix2 k l) k.val l.val rfl rfl]
  pointwise
  exact at2_of w _ _ _ (by simp) (by simp)

/-- The arguments, as functions of natural numbers. -/
def args (c : Dev nD) : Arrays where
  x := at2 (a := 16384) (b := 1024) (m (c.tc.loc main_arg0))
  g := at2 (a := 1) (b := 1024) (m (c.tc.loc main_arg1)) 0
  w := at2 (a := 1024) (b := 4128) (m (c.tc.loc main_arg2))
  cw := at2 (a := 5) (b := 1536) (m (c.tc.loc main_arg3))
  cb := at2 (a := 1) (b := 1536) (m (c.tc.loc main_arg4)) 0

/-! ## The blocks -/

theorem index0 : ∀ t : Fin cfg0.N, win0_0.index t = ![64 * (grid0.coords t 0).val - 1, 0] :=
  (by decide +kernel : ∀ t : Fin grid0.N, win0_0.index t = ![64 * (grid0.coords t 0).val - 1, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![min (64 * ((grid0.coords t 0).val + 1)) 1023, 0] :=
  (by decide +kernel : ∀ t : Fin grid0.N, win0_2.index t = ![min (64 * ((grid0.coords t 0).val + 1)) 1023, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![(grid0.coords t 0).val, 0] :=
  (by decide +kernel : ∀ t : Fin grid0.N, win0_10.index t = ![(grid0.coords t 0).val, 0])
theorem index11 : ∀ t : Fin cfg0.N, win0_11.index t = ![(grid0.coords t 0).val, 0] :=
  (by decide +kernel : ∀ t : Fin grid0.N, win0_11.index t = ![(grid0.coords t 0).val, 0])
theorem index12 : ∀ t : Fin cfg0.N, win0_12.index t = ![(grid0.coords t 0).val, 0] :=
  (by decide +kernel : ∀ t : Fin grid0.N, win0_12.index t = ![(grid0.coords t 0).val, 0])
theorem index13 : ∀ t : Fin cfg0.N, win0_13.index t = ![(grid0.coords t 0).val, 0] :=
  (by decide +kernel : ∀ t : Fin grid0.N, win0_13.index t = ![(grid0.coords t 0).val, 0])

theorem blk0 (c : Dev nD) (t : Fin cfg0.N) (e : Fin 16) (k : Fin 1024) :
    iblk m c 0 t (ix2 e k) = at2 (a := 16384) (b := 1024) (V m c main_arg0) ((64 * (grid0.coords t 0).val - 1) * 16 + e.val) k.val := by
  unfold iblk
  refine at2_of (V m c main_arg0) (((cfg0.win 0).blk t).view.emb (ValueIdx.ix2 e k)) _ _ ?_ ?_
  · blk_simp [index0]
    try omega
  · blk_simp [index0]
    try omega

theorem blk1 (c : Dev nD) (t : Fin cfg0.N) (e : Fin 1024) (k : Fin 1024) :
    iblk m c 1 t (ix2 e k) = at2 (a := 16384) (b := 1024) (V m c main_arg0) (1024 * (grid0.coords t 0).val + e.val) k.val := by
  unfold iblk
  refine at2_of (V m c main_arg0) (((cfg0.win 1).blk t).view.emb (ValueIdx.ix2 e k)) _ _ ?_ ?_
  · blk_simp [index1]
    show (grid0.coords t 0).val * 1024 + e.val = _; omega
  · blk_simp [index1]
    try omega

theorem blk2 (c : Dev nD) (t : Fin cfg0.N) (e : Fin 16) (k : Fin 1024) :
    iblk m c 2 t (ix2 e k) = at2 (a := 16384) (b := 1024) (V m c main_arg0) (min (64 * ((grid0.coords t 0).val + 1)) 1023 * 16 + e.val) k.val := by
  unfold iblk
  refine at2_of (V m c main_arg0) (((cfg0.win 2).blk t).view.emb (ValueIdx.ix2 e k)) _ _ ?_ ?_
  · blk_simp [index2]
    try omega
  · blk_simp [index2]
    try omega

theorem blk3 (c : Dev nD) (t : Fin cfg0.N) (e : Fin 1) (k : Fin 1024) :
    iblk m c 3 t (ix2 e k) = at2 (a := 1) (b := 1024) (V m c main_arg1) e.val k.val := by
  unfold iblk
  refine at2_of (V m c main_arg1) (((cfg0.win 3).blk t).view.emb (ValueIdx.ix2 e k)) _ _ ?_ ?_
  · blk_simp [index3]
    try omega
  · blk_simp [index3]
    try omega

theorem blk4 (c : Dev nD) (t : Fin cfg0.N) (e : Fin 1024) (k : Fin 1536) :
    iblk m c 4 t (ix2 e k) = at2 (a := 1024) (b := 1536) (V m c main_v5) e.val k.val := by
  unfold iblk
  refine at2_of (V m c main_v5) (((cfg0.win 4).blk t).view.emb (ValueIdx.ix2 e k)) _ _ ?_ ?_
  · blk_simp [index4]
    try omega
  · blk_simp [index4]
    try omega

theorem blk5 (c : Dev nD) (t : Fin cfg0.N) (e : Fin 1024) (k : Fin 1024) :
    iblk m c 5 t (ix2 e k) = at2 (a := 1024) (b := 1024) (V m c main_v7) e.val k.val := by
  unfold iblk
  refine at2_of (V m c main_v7) (((cfg0.win 5).blk t).view.emb (ValueIdx.ix2 e k)) _ _ ?_ ?_
  · blk_simp [index5]
    try omega
  · blk_simp [index5]
    try omega

theorem blk6 (c : Dev nD) (t : Fin cfg0.N) (e : Fin 1024) (k : Fin 1536) :
    iblk m c 6 t (ix2 e k) = at2 (a := 1024) (b := 1536) (V m c main_v9) e.val k.val := by
  unfold iblk
  refine at2_of (V m c main_v9) (((cfg0.win 6).blk t).view.emb (ValueIdx.ix2 e k)) _ _ ?_ ?_
  · blk_simp [index6]
    try omega
  · blk_simp [index6]
    try omega

theorem blk7 (c : Dev nD) (t : Fin cfg0.N) (e : Fin 1024) (k : Fin 128) :
    iblk m c 7 t (ix2 e k) = at2 (a := 1024) (b := 128) (V m c main_v14) e.val k.val := by
  unfold iblk
  refine at2_of (V m c main_v14) (((cfg0.win 7).blk t).view.emb (ValueIdx.ix2 e k)) _ _ ?_ ?_
  · blk_simp [index7]
    try omega
  · blk_simp [index7]
    try omega

theorem blk8 (c : Dev nD) (t : Fin cfg0.N) (e : Fin 5) (k : Fin 1536) :
    iblk m c 8 t (ix2 e k) = at2 (a := 5) (b := 1536) (V m c main_arg3) e.val k.val := by
  unfold iblk
  refine at2_of (V m c main_arg3) (((cfg0.win 8).blk t).view.emb (ValueIdx.ix2 e k)) _ _ ?_ ?_
  · blk_simp [index8]
    try omega
  · blk_simp [index8]
    try omega

theorem blk9 (c : Dev nD) (t : Fin cfg0.N) (e : Fin 1) (k : Fin 1536) :
    iblk m c 9 t (ix2 e k) = at2 (a := 1) (b := 1536) (V m c main_arg4) e.val k.val := by
  unfold iblk
  refine at2_of (V m c main_arg4) (((cfg0.win 9).blk t).view.emb (ValueIdx.ix2 e k)) _ _ ?_ ?_
  · blk_simp [index9]
    try omega
  · blk_simp [index9]
    try omega

/-- What the launch finds, as the arguments. -/
theorem holds (c : Dev nD) (t : Fin cfg0.N) : Holds (args m c) (grid0.coords t 0).val
    (iblk m c 0 t) (iblk m c 1 t) (iblk m c 2 t) (iblk m c 3 t) (iblk m c 4 t) (iblk m c 5 t) (iblk m c 6 t) (iblk m c 7 t) (iblk m c 8 t) (iblk m c 9 t) where
  xp e k := (blk0 m c t e k).trans (by rw [V_main_arg0]; rfl)
  xc e k := (blk1 m c t e k).trans (by rw [V_main_arg0]; rfl)
  xn e k := (blk2 m c t e k).trans (by rw [V_main_arg0]; rfl)
  g l := (blk3 m c t 0 l).trans (by rw [V_main_arg1]; rfl)
  wq k l := (blk4 m c t k l).trans (by rw [V_v5]; exact hostQ_at _ k l)
  wz k l := (blk5 m c t k l).trans (by rw [V_v7]; exact slice_z _ k l)
  wx k l := (blk6 m c t k l).trans (by rw [V_v9]; exact slice_x _ k l)
  wd k l := (blk7 m c t k l).trans (by rw [V_v14]; exact hostDt_at _ k l)
  cw k l := (blk8 m c t k l).trans (by rw [V_main_arg3]; rfl)
  cb l := (blk9 m c t 0 l).trans (by rw [V_main_arg4]; rfl)

/-! ## One grid point's blocks -/

/-- The rows of `qkv` of the 1024 tokens of block `n`. -/
def qkvBlock (Q : Arrays) (n : ℕ) (y : S1024x1536.Idx) : Elt Ideal .bf16 := qkv Q (1024 * n + (y 0).val) (y 1).val

/-- The rows of `z` of the 1024 tokens of block `n`. -/
def zBlock (Q : Arrays) (n : ℕ) (y : S1024x1024.Idx) : Elt Ideal .bf16 := z Q (1024 * n + (y 0).val) (y 1).val

/-- The rows of `xbc` of the 1024 tokens of block `n`. -/
def xbcBlock (Q : Arrays) (n : ℕ) (y : S1024x1536.Idx) : Elt Ideal .bf16 := xbc Q (1024 * n + (y 0).val) (y 1).val

/-- The rows of `dt` of the 1024 tokens of block `n`. -/
def dtBlock (Q : Arrays) (n : ℕ) (y : S1024x128.Idx) : Elt Ideal .f32 := dt Q (1024 * n + (y 0).val) (y 1).val

theorem place {w : ℕ} (x : (⟨2, ![1024, w]⟩ : Shape).Idx) : x = ix2 (x 0) (x 1) := by
  funext a
  match a with
  | ⟨0, _⟩ => rfl
  | ⟨1, _⟩ => rfl

theorem qkv_block (c : Dev nD) (i : grid0.Coords) (arg1 : Memref sig .tc .vmem S16x1024 .f32) (harg1 : arg1.IsWhole)
      (arg2 : Memref sig .tc .vmem S1024x1024 .f32) (harg2 : arg2.IsWhole) (arg3 : Memref sig .tc .vmem S16x1024 .f32)
      (harg3 : arg3.IsWhole) (arg4 : Memref sig .tc .vmem S1x1024 .f32) (harg4 : arg4.IsWhole) (arg5 : Memref sig .tc
      .vmem S1024x1536 .bf16) (harg5 : arg5.IsWhole) (arg6 : Memref sig .tc .vmem S1024x1024 .bf16) (harg6 :
      arg6.IsWhole) (arg7 : Memref sig .tc .vmem S1024x1536 .bf16) (harg7 : arg7.IsWhole) (arg8 : Memref sig .tc .vmem
      S1024x128 .bf16) (harg8 : arg8.IsWhole) (arg9 : Memref sig .tc .vmem S5x1536 .f32) (harg9 : arg9.IsWhole) (arg10
      : Memref sig .tc .vmem S1x1536 .f32) (harg10 : arg10.IsWhole) (arg11 : Memref sig .tc .vmem S1024x1536 .bf16)
      (harg11 : arg11.IsWhole) (arg12 : Memref sig .tc .vmem S1024x1024 .bf16) (harg12 : arg12.IsWhole) (arg13 :
      Memref sig .tc .vmem S1024x1536 .bf16) (harg13 : arg13.IsWhole) (arg14 : Memref sig .tc .vmem S1024x128 .f32)
      (harg14 : arg14.IsWhole) (arg15 : Memref sig .tc .vmem S1056x1024 .bf16) (harg15 : arg15.IsWhole) (arg16 :
      Memref sig .tc .vmem S1056x256 .f32) (harg16 : arg16.IsWhole) (arg17 : Memref sig .tc .vmem S1056x256 .f32)
      (harg17 : arg17.IsWhole) (x0 : Vec Ideal S16x1024 .f32) (x1 : Vec Ideal S1024x1024 .f32) (x2 : Vec Ideal
      S16x1024 .f32) (x3 : Vec Ideal S1x1024 .f32) (x4 : Vec Ideal S1024x1536 .bf16) (x5 : Vec Ideal S1024x1024 .bf16)
      (x6 : Vec Ideal S1024x1536 .bf16) (x7 : Vec Ideal S1024x128 .bf16) (x8 : Vec Ideal S5x1536 .f32) (x9 : Vec Ideal
      S1x1536 .f32)
      (Q : Arrays) (H : Holds Q (i 0).val x0 x1 x2 x3 x4 x5 x6 x7 x8 x9) (y : S1024x1536.Idx) :
    out0_A_10 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 x0 x1 x2
      x3 x4 x5 x6 x7 x8 x9 y = qkvBlock Q (i 0).val y := by
  have cover := cover0_A_10 (F := Ideal) c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16
      harg16 arg17 harg17 x0 x1 x2 x3 x4 x5 x6 x7 x8 x9
  unfold out0_A_10
  rw [View.read_writes_eq_canon _ _ _ cover]
  refine View.canon_apply_of_pieces (qkvBlock Q (i 0).val) _ ?_ y (cover y)
  rw [pieces_qkv]
  refine View.PiecesOf.mem (G := qkvBlock Q (i 0).val) ⟨fun x => ?_, trivial⟩
  refine (congrArg _ (place x)).trans ((qkv_at H (x 0) (x 1)).trans ?_)
  unfold qkvBlock
  refine congrArg₂ (qkv Q) (congrArg (1024 * (i 0).val + ·) ?_) ?_
  · exact ((Rect.idx_unit_val (s := S1024x1536) ![0, 0] ![1024, 1536] inb_S1024x1536_S1024x1536_0_0 x 0).trans (Nat.zero_add _)).symm
  · exact ((Rect.idx_unit_val (s := S1024x1536) ![0, 0] ![1024, 1536] inb_S1024x1536_S1024x1536_0_0 x 1).trans (Nat.zero_add _)).symm

theorem z_block (c : Dev nD) (i : grid0.Coords) (arg1 : Memref sig .tc .vmem S16x1024 .f32) (harg1 : arg1.IsWhole)
      (arg2 : Memref sig .tc .vmem S1024x1024 .f32) (harg2 : arg2.IsWhole) (arg3 : Memref sig .tc .vmem S16x1024 .f32)
      (harg3 : arg3.IsWhole) (arg4 : Memref sig .tc .vmem S1x1024 .f32) (harg4 : arg4.IsWhole) (arg5 : Memref sig .tc
      .vmem S1024x1536 .bf16) (harg5 : arg5.IsWhole) (arg6 : Memref sig .tc .vmem S1024x1024 .bf16) (harg6 :
      arg6.IsWhole) (arg7 : Memref sig .tc .vmem S1024x1536 .bf16) (harg7 : arg7.IsWhole) (arg8 : Memref sig .tc .vmem
      S1024x128 .bf16) (harg8 : arg8.IsWhole) (arg9 : Memref sig .tc .vmem S5x1536 .f32) (harg9 : arg9.IsWhole) (arg10
      : Memref sig .tc .vmem S1x1536 .f32) (harg10 : arg10.IsWhole) (arg11 : Memref sig .tc .vmem S1024x1536 .bf16)
      (harg11 : arg11.IsWhole) (arg12 : Memref sig .tc .vmem S1024x1024 .bf16) (harg12 : arg12.IsWhole) (arg13 :
      Memref sig .tc .vmem S1024x1536 .bf16) (harg13 : arg13.IsWhole) (arg14 : Memref sig .tc .vmem S1024x128 .f32)
      (harg14 : arg14.IsWhole) (arg15 : Memref sig .tc .vmem S1056x1024 .bf16) (harg15 : arg15.IsWhole) (arg16 :
      Memref sig .tc .vmem S1056x256 .f32) (harg16 : arg16.IsWhole) (arg17 : Memref sig .tc .vmem S1056x256 .f32)
      (harg17 : arg17.IsWhole) (x0 : Vec Ideal S16x1024 .f32) (x1 : Vec Ideal S1024x1024 .f32) (x2 : Vec Ideal
      S16x1024 .f32) (x3 : Vec Ideal S1x1024 .f32) (x4 : Vec Ideal S1024x1536 .bf16) (x5 : Vec Ideal S1024x1024 .bf16)
      (x6 : Vec Ideal S1024x1536 .bf16) (x7 : Vec Ideal S1024x128 .bf16) (x8 : Vec Ideal S5x1536 .f32) (x9 : Vec Ideal
      S1x1536 .f32)
      (Q : Arrays) (H : Holds Q (i 0).val x0 x1 x2 x3 x4 x5 x6 x7 x8 x9) (y : S1024x1024.Idx) :
    out0_A_11 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 x0 x1 x2
      x3 x4 x5 x6 x7 x8 x9 y = zBlock Q (i 0).val y := by
  have cover := cover0_A_11 (F := Ideal) c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16
      harg16 arg17 harg17 x0 x1 x2 x3 x4 x5 x6 x7 x8 x9
  unfold out0_A_11
  rw [View.read_writes_eq_canon _ _ _ cover]
  refine View.canon_apply_of_pieces (zBlock Q (i 0).val) _ ?_ y (cover y)
  rw [pieces_z]
  refine View.PiecesOf.mem (G := zBlock Q (i 0).val) ⟨fun x => ?_, trivial⟩
  refine (congrArg _ (place x)).trans ((z_at H (x 0) (x 1)).trans ?_)
  unfold zBlock
  refine congrArg₂ (z Q) (congrArg (1024 * (i 0).val + ·) ?_) ?_
  · exact ((Rect.idx_unit_val (s := S1024x1024) ![0, 0] ![1024, 1024] inb_S1024x1024_S1024x1024_0_0 x 0).trans (Nat.zero_add _)).symm
  · exact ((Rect.idx_unit_val (s := S1024x1024) ![0, 0] ![1024, 1024] inb_S1024x1024_S1024x1024_0_0 x 1).trans (Nat.zero_add _)).symm

theorem xbc_block (c : Dev nD) (i : grid0.Coords) (arg1 : Memref sig .tc .vmem S16x1024 .f32) (harg1 : arg1.IsWhole)
      (arg2 : Memref sig .tc .vmem S1024x1024 .f32) (harg2 : arg2.IsWhole) (arg3 : Memref sig .tc .vmem S16x1024 .f32)
      (harg3 : arg3.IsWhole) (arg4 : Memref sig .tc .vmem S1x1024 .f32) (harg4 : arg4.IsWhole) (arg5 : Memref sig .tc
      .vmem S1024x1536 .bf16) (harg5 : arg5.IsWhole) (arg6 : Memref sig .tc .vmem S1024x1024 .bf16) (harg6 :
      arg6.IsWhole) (arg7 : Memref sig .tc .vmem S1024x1536 .bf16) (harg7 : arg7.IsWhole) (arg8 : Memref sig .tc .vmem
      S1024x128 .bf16) (harg8 : arg8.IsWhole) (arg9 : Memref sig .tc .vmem S5x1536 .f32) (harg9 : arg9.IsWhole) (arg10
      : Memref sig .tc .vmem S1x1536 .f32) (harg10 : arg10.IsWhole) (arg11 : Memref sig .tc .vmem S1024x1536 .bf16)
      (harg11 : arg11.IsWhole) (arg12 : Memref sig .tc .vmem S1024x1024 .bf16) (harg12 : arg12.IsWhole) (arg13 :
      Memref sig .tc .vmem S1024x1536 .bf16) (harg13 : arg13.IsWhole) (arg14 : Memref sig .tc .vmem S1024x128 .f32)
      (harg14 : arg14.IsWhole) (arg15 : Memref sig .tc .vmem S1056x1024 .bf16) (harg15 : arg15.IsWhole) (arg16 :
      Memref sig .tc .vmem S1056x256 .f32) (harg16 : arg16.IsWhole) (arg17 : Memref sig .tc .vmem S1056x256 .f32)
      (harg17 : arg17.IsWhole) (x0 : Vec Ideal S16x1024 .f32) (x1 : Vec Ideal S1024x1024 .f32) (x2 : Vec Ideal
      S16x1024 .f32) (x3 : Vec Ideal S1x1024 .f32) (x4 : Vec Ideal S1024x1536 .bf16) (x5 : Vec Ideal S1024x1024 .bf16)
      (x6 : Vec Ideal S1024x1536 .bf16) (x7 : Vec Ideal S1024x128 .bf16) (x8 : Vec Ideal S5x1536 .f32) (x9 : Vec Ideal
      S1x1536 .f32)
      (Q : Arrays) (H : Holds Q (i 0).val x0 x1 x2 x3 x4 x5 x6 x7 x8 x9) (y : S1024x1536.Idx) :
    out0_A_12 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 x0 x1 x2
      x3 x4 x5 x6 x7 x8 x9 y = xbcBlock Q (i 0).val y := by
  have cover := cover0_A_12 (F := Ideal) c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16
      harg16 arg17 harg17 x0 x1 x2 x3 x4 x5 x6 x7 x8 x9
  unfold out0_A_12
  rw [View.read_writes_eq_canon _ _ _ cover]
  refine View.canon_apply_of_pieces (xbcBlock Q (i 0).val) _ ?_ y (cover y)
  rw [pieces_xbc]
  refine View.PiecesOf.mem (G := xbcBlock Q (i 0).val) ⟨fun x => ?_, fun x => ?_, fun x => ?_, fun x => ?_, fun x => ?_, fun x => ?_, trivial⟩
  · refine (congrArg (lanes _ _ _ _ 5 _) (place x)).trans ((lanes_at H 5 (by decide) (x 0) (x 1)).trans ?_)
    unfold xbcBlock
    refine congrArg₂ (xbc Q) (congrArg (1024 * (i 0).val + ·) ?_) ?_
    · exact ((Rect.idx_unit_val (s := S1024x1536) ![0, 1280] ![1024, 256] inb_S1024x1536_S1024x256_0_1280 x 0).trans (Nat.zero_add _)).symm
    · exact (Rect.idx_unit_val (s := S1024x1536) ![0, 1280] ![1024, 256] inb_S1024x1536_S1024x256_0_1280 x 1).symm
  · refine (congrArg (lanes _ _ _ _ 4 _) (place x)).trans ((lanes_at H 4 (by decide) (x 0) (x 1)).trans ?_)
    unfold xbcBlock
    refine congrArg₂ (xbc Q) (congrArg (1024 * (i 0).val + ·) ?_) ?_
    · exact ((Rect.idx_unit_val (s := S1024x1536) ![0, 1024] ![1024, 256] inb_S1024x1536_S1024x256_0_1024 x 0).trans (Nat.zero_add _)).symm
    · exact (Rect.idx_unit_val (s := S1024x1536) ![0, 1024] ![1024, 256] inb_S1024x1536_S1024x256_0_1024 x 1).symm
  · refine (congrArg (lanes _ _ _ _ 3 _) (place x)).trans ((lanes_at H 3 (by decide) (x 0) (x 1)).trans ?_)
    unfold xbcBlock
    refine congrArg₂ (xbc Q) (congrArg (1024 * (i 0).val + ·) ?_) ?_
    · exact ((Rect.idx_unit_val (s := S1024x1536) ![0, 768] ![1024, 256] inb_S1024x1536_S1024x256_0_768 x 0).trans (Nat.zero_add _)).symm
    · exact (Rect.idx_unit_val (s := S1024x1536) ![0, 768] ![1024, 256] inb_S1024x1536_S1024x256_0_768 x 1).symm
  · refine (congrArg (lanes _ _ _ _ 2 _) (place x)).trans ((lanes_at H 2 (by decide) (x 0) (x 1)).trans ?_)
    unfold xbcBlock
    refine congrArg₂ (xbc Q) (congrArg (1024 * (i 0).val + ·) ?_) ?_
    · exact ((Rect.idx_unit_val (s := S1024x1536) ![0, 512] ![1024, 256] inb_S1024x1536_S1024x256_0_512 x 0).trans (Nat.zero_add _)).symm
    · exact (Rect.idx_unit_val (s := S1024x1536) ![0, 512] ![1024, 256] inb_S1024x1536_S1024x256_0_512 x 1).symm
  · refine (congrArg (lanes _ _ _ _ 1 _) (place x)).trans ((lanes_at H 1 (by decide) (x 0) (x 1)).trans ?_)
    unfold xbcBlock
    refine congrArg₂ (xbc Q) (congrArg (1024 * (i 0).val + ·) ?_) ?_
    · exact ((Rect.idx_unit_val (s := S1024x1536) ![0, 256] ![1024, 256] inb_S1024x1536_S1024x256_0_256 x 0).trans (Nat.zero_add _)).symm
    · exact (Rect.idx_unit_val (s := S1024x1536) ![0, 256] ![1024, 256] inb_S1024x1536_S1024x256_0_256 x 1).symm
  · refine (congrArg (lanes _ _ _ _ 0 _) (place x)).trans ((lanes_at H 0 (by decide) (x 0) (x 1)).trans ?_)
    unfold xbcBlock
    refine congrArg₂ (xbc Q) (congrArg (1024 * (i 0).val + ·) ?_) ?_
    · exact ((Rect.idx_unit_val (s := S1024x1536) ![0, 0] ![1024, 256] inb_S1024x1536_S1024x256_0_0 x 0).trans (Nat.zero_add _)).symm
    · exact (Rect.idx_unit_val (s := S1024x1536) ![0, 0] ![1024, 256] inb_S1024x1536_S1024x256_0_0 x 1).symm

theorem dt_block (c : Dev nD) (i : grid0.Coords) (arg1 : Memref sig .tc .vmem S16x1024 .f32) (harg1 : arg1.IsWhole)
      (arg2 : Memref sig .tc .vmem S1024x1024 .f32) (harg2 : arg2.IsWhole) (arg3 : Memref sig .tc .vmem S16x1024 .f32)
      (harg3 : arg3.IsWhole) (arg4 : Memref sig .tc .vmem S1x1024 .f32) (harg4 : arg4.IsWhole) (arg5 : Memref sig .tc
      .vmem S1024x1536 .bf16) (harg5 : arg5.IsWhole) (arg6 : Memref sig .tc .vmem S1024x1024 .bf16) (harg6 :
      arg6.IsWhole) (arg7 : Memref sig .tc .vmem S1024x1536 .bf16) (harg7 : arg7.IsWhole) (arg8 : Memref sig .tc .vmem
      S1024x128 .bf16) (harg8 : arg8.IsWhole) (arg9 : Memref sig .tc .vmem S5x1536 .f32) (harg9 : arg9.IsWhole) (arg10
      : Memref sig .tc .vmem S1x1536 .f32) (harg10 : arg10.IsWhole) (arg11 : Memref sig .tc .vmem S1024x1536 .bf16)
      (harg11 : arg11.IsWhole) (arg12 : Memref sig .tc .vmem S1024x1024 .bf16) (harg12 : arg12.IsWhole) (arg13 :
      Memref sig .tc .vmem S1024x1536 .bf16) (harg13 : arg13.IsWhole) (arg14 : Memref sig .tc .vmem S1024x128 .f32)
      (harg14 : arg14.IsWhole) (arg15 : Memref sig .tc .vmem S1056x1024 .bf16) (harg15 : arg15.IsWhole) (arg16 :
      Memref sig .tc .vmem S1056x256 .f32) (harg16 : arg16.IsWhole) (arg17 : Memref sig .tc .vmem S1056x256 .f32)
      (harg17 : arg17.IsWhole) (x0 : Vec Ideal S16x1024 .f32) (x1 : Vec Ideal S1024x1024 .f32) (x2 : Vec Ideal
      S16x1024 .f32) (x3 : Vec Ideal S1x1024 .f32) (x4 : Vec Ideal S1024x1536 .bf16) (x5 : Vec Ideal S1024x1024 .bf16)
      (x6 : Vec Ideal S1024x1536 .bf16) (x7 : Vec Ideal S1024x128 .bf16) (x8 : Vec Ideal S5x1536 .f32) (x9 : Vec Ideal
      S1x1536 .f32)
      (Q : Arrays) (H : Holds Q (i 0).val x0 x1 x2 x3 x4 x5 x6 x7 x8 x9) (y : S1024x128.Idx) :
    out0_A_13 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 x0 x1 x2
      x3 x4 x5 x6 x7 x8 x9 y = dtBlock Q (i 0).val y := by
  have cover := cover0_A_13 (F := Ideal) c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16
      harg16 arg17 harg17 x0 x1 x2 x3 x4 x5 x6 x7 x8 x9
  unfold out0_A_13
  rw [View.read_writes_eq_canon _ _ _ cover]
  refine View.canon_apply_of_pieces (dtBlock Q (i 0).val) _ ?_ y (cover y)
  rw [pieces_dt]
  refine View.PiecesOf.mem (G := dtBlock Q (i 0).val) ⟨fun x => ?_, trivial⟩
  refine (congrArg _ (place x)).trans ((dt_at H (x 0) (x 1)).trans ?_)
  unfold dtBlock
  refine congrArg₂ (dt Q) (congrArg (1024 * (i 0).val + ·) ?_) ?_
  · exact ((Rect.idx_unit_val (s := S1024x128) ![0, 0] ![1024, 128] inb_S1024x128_S1024x128_0_0 x 0).trans (Nat.zero_add _)).symm
  · exact ((Rect.idx_unit_val (s := S1024x128) ![0, 0] ![1024, 128] inb_S1024x128_S1024x128_0_0 x 1).trans (Nat.zero_add _)).symm

end Cert.Kernel3Ideal.In

end
end
-- ==== Proof.InFinal.lean ====
/- The input projection's four result arrays after the run are the projection. -/
module

public import proofs.«01_k».proof.Proof.InBlocks

@[expose] public section

set_option maxRecDepth 65536

noncomputable section

namespace Cert.Kernel3Ideal.In

open Cert.Kernel3Ideal Cert.Kernel3Ideal.Gen Idealize.ShloMosaic Idealize.ShloMosaic.TcCoe Idealize.SL.Sem
open Cert.Att (at2 at2_of)
open Cert.In (Arrays qkv z xbc dt)

variable (m : (ℓ : Loc nD τ sig) → Buf (Elt Ideal) ℓ)

/-! ## The arrays -/

theorem qkv_array (c : Dev nD) : (dats m 0 c).arrAt 10 cfg0.N = fun y : S16384x1536.Idx => qkv (args m c) (y 0).val (y 1).val := by
  refine (dats m 0 c).arrAt_eq_of_covers 10 (fun y : S16384x1536.Idx => qkv (args m c) (y 0).val (y 1).val)
      (by decide +kernel) fun t hf y => ?_
  blk_simp
  rw [after0_10]
  unfold outsAt0
  dsimp only
  refine (qkv_block c (grid0.coords t) _ _ _ _ _ _ _ _ _ _ _ _ _ _ _ _ _ _ _ _ _ _ _ _ _ _ _ _ _ _ _ _ _ _ _ _ _ _ _ _
      _ _ _ _ (args m c) (holds m c t) y).trans ?_
  unfold qkvBlock
  refine congrArg₂ (qkv (args m c)) ?_ ?_
  · blk_simp [index10]
    try omega
  · blk_simp [index10]
    try rfl

theorem z_array (c : Dev nD) : (dats m 0 c).arrAt 11 cfg0.N = fun y : S16384x1024.Idx => z (args m c) (y 0).val (y 1).val := by
  refine (dats m 0 c).arrAt_eq_of_covers 11 (fun y : S16384x1024.Idx => z (args m c) (y 0).val (y 1).val)
      (by decide +kernel) fun t hf y => ?_
  blk_simp
  rw [after0_11]
  unfold outsAt0
  dsimp only
  refine (z_block c (grid0.coords t) _ _ _ _ _ _ _ _ _ _ _ _ _ _ _ _ _ _ _ _ _ _ _ _ _ _ _ _ _ _ _ _ _ _ _ _ _ _ _ _ _
      _ _ _ (args m c) (holds m c t) y).trans ?_
  unfold zBlock
  refine congrArg₂ (z (args m c)) ?_ ?_
  · blk_simp [index11]
    try omega
  · blk_simp [index11]
    try rfl

theorem xbc_array (c : Dev nD) : (dats m 0 c).arrAt 12 cfg0.N = fun y : S16384x1536.Idx => xbc (args m c) (y 0).val (y 1).val := by
  refine (dats m 0 c).arrAt_eq_of_covers 12 (fun y : S16384x1536.Idx => xbc (args m c) (y 0).val (y 1).val)
      (by decide +kernel) fun t hf y => ?_
  blk_simp
  rw [after0_12]
  unfold outsAt0
  dsimp only
  refine (xbc_block c (grid0.coords t) _ _ _ _ _ _ _ _ _ _ _ _ _ _ _ _ _ _ _ _ _ _ _ _ _ _ _ _ _ _ _ _ _ _ _ _ _ _ _ _
      _ _ _ _ (args m c) (holds m c t) y).trans ?_
  unfold xbcBlock
  refine congrArg₂ (xbc (args m c)) ?_ ?_
  · blk_simp [index12]
    try omega
  · blk_simp [index12]
    try rfl

theorem dt_array (c : Dev nD) : (dats m 0 c).arrAt 13 cfg0.N = fun y : S16384x128.Idx => dt (args m c) (y 0).val (y 1).val := by
  refine (dats m 0 c).arrAt_eq_of_covers 13 (fun y : S16384x128.Idx => dt (args m c) (y 0).val (y 1).val)
      (by decide +kernel) fun t hf y => ?_
  blk_simp
  rw [after0_13]
  unfold outsAt0
  dsimp only
  refine (dt_block c (grid0.coords t) _ _ _ _ _ _ _ _ _ _ _ _ _ _ _ _ _ _ _ _ _ _ _ _ _ _ _ _ _ _ _ _ _ _ _ _ _ _ _ _
      _ _ _ _ (args m c) (holds m c t) y).trans ?_
  unfold dtBlock
  refine congrArg₂ (dt (args m c)) ?_ ?_
  · blk_simp [index13]
    try omega
  · blk_simp [index13]
    try rfl

end Cert.Kernel3Ideal.In

end
end
-- ==== Proof.InRef.lean ====
/- The third reference's four results at an index: the input projection in plain terms. -/
module

public import proofs.«01_k».proof.Proof.Gen.Reference3Ideal.Read
public import proofs.«01_k».proof.Proof.InSpec
public import Idealize.ShloMosaic.Lib.KernelVsHost
public import Idealize.ShloMosaic.Lib.Pipeline.Value

@[expose] public section

set_option maxRecDepth 65536

noncomputable section

namespace Cert.Reference3Ideal.In

open Cert.Reference3Ideal Cert.Reference3Ideal.Gen Cert.Reference3Ideal.Read Idealize.ShloMosaic Idealize.SL.Sem
open Cert.Att (at2 at2_of)
open Cert.In (Arrays hid proj qkv silu z tap conv xbc dt)

variable (X : FVec Ideal S16384x1024 .f32) (G : FVec Ideal S1x1024 .f32) (W : FVec Ideal S1024x4128 .f32)
  (Cw : FVec Ideal S5x1536 .f32) (Cb : FVec Ideal S1x1536 .f32)

/-- The reference's arguments, as functions of natural numbers. -/
def arrays : Arrays where
  x := at2 X
  g := at2 G 0
  w := at2 W
  cw := at2 Cw
  cb := at2 Cb 0

theorem zero_bits : Ideal.ofBits .f32 0x00000000#32 = 0 := by
  simp [Ideal.ofBits, Ideal.ieee]

theorem hid_at (i : S16384x1024.Idx) : val_main_v11 (F := Ideal) X G i = hid (arrays X G W Cw Cb) (i 0).val (i 1).val := by
  rw [val_main_v11_apply, val_main_v9_apply, val_main_v8_apply, val_main_v7_apply, val_main_v6_apply,
    val_main_v4_apply, val_main_v2_apply, val_main_v1_apply, val_main_v3_apply, val_main_v5_apply, val_main_v10_apply,
    val_main_cst_apply, val_main_cst_0_apply, val_main_cst_1_apply]
  simp only [val_main_v0_apply]
  unfold hid Cert.Mix.rms
  refine congrArg₂ (· * ·) (congrArg₂ (· * ·) (at2_of X _ _ _ rfl rfl) ?_) (at2_of G _ _ _ rfl rfl)
  refine congrArg Ideal.rsqrt (congrArg (· + Ideal.ofBits .f32 0x358637BD#32) (congrArg (Ideal.div · (Ideal.ofBits .f32 0x44800000#32)) ?_))
  refine (congrArg (· + _) zero_bits).trans ((zero_add _).trans ?_)
  exact Finset.sum_congr rfl fun k _ => congrArg₂ (· * ·) (at2_of X _ _ _ rfl rfl) (at2_of X _ _ _ rfl rfl)

theorem proj_at (i : S16384x4128.Idx) : val_main_v12 (F := Ideal) X G W i = proj (arrays X G W Cw Cb) (i 0).val (i 1).val := by
  rw [val_main_v12_apply]
  simp only [hid_at X G W Cw Cb]
  exact Finset.sum_congr rfl fun k _ => congrArg₂ (· * ·) rfl (at2_of W _ _ _ rfl rfl)

theorem qkv_at (i : S16384x1536.Idx) : val_main_v62 (F := Ideal) X G W i = qkv (arrays X G W Cw Cb) (i 0).val (i 1).val := by
  have h1 : (i 1).val < 1536 := (i 1).isLt
  rw [val_main_v62_apply]
  show val_main_v17 (F := Ideal) X G W i = _
  unfold val_main_v17 qkv
  by_cases h : (i 1).val < 512
  · rw [if_pos h]
    refine (concatenate_pair_apply_left 1 (val_main_v15 (F := Ideal) X G W) (val_main_v16 (F := Ideal) X G W) concatenates_S16384x512_S16384x1024_S16384x1536_d1 i rfl
      (ValueIdx.ix2 ⟨(i 0).val, (i 0).isLt⟩ ⟨(i 1).val, h⟩) fun b => ?_).trans ?_
    · match b with
      | ⟨0, _⟩ => rfl
      | ⟨1, _⟩ => rfl
    · rw [val_main_v15_apply, val_main_v13_apply, val_main_v14_apply, val_main_cst_2_apply, proj_at X G W Cw Cb]
      rfl
  · rw [if_neg h]
    refine (concatenate_pair_apply_right 1 (val_main_v15 (F := Ideal) X G W) (val_main_v16 (F := Ideal) X G W) concatenates_S16384x512_S16384x1024_S16384x1536_d1 i rfl rfl
      (ValueIdx.ix2 ⟨(i 0).val, (i 0).isLt⟩ ⟨(i 1).val - 512, by omega⟩) (fun b hb => ?_) ?_).trans ?_
    · match b, hb with
      | ⟨0, _⟩, _ => rfl
      | ⟨1, _⟩, hb => exact absurd rfl hb
    · show (i 1).val - 512 + 512 = (i 1).val
      omega
    · rw [val_main_v16_apply, proj_at X G W Cw Cb]
      refine congrArg₂ (proj _) rfl ?_
      show 512 + ((i 1).val - 512) = (i 1).val
      omega

theorem z_at (i : S16384x1024.Idx) : val_main_v63 (F := Ideal) X G W i = z (arrays X G W Cw Cb) (i 0).val (i 1).val := by
  rw [val_main_v63_apply]
  show val_main_v19 (F := Ideal) X G W i = _
  rw [val_main_v19_apply, val_main_call0_v5_apply, val_main_call0_v4_apply, val_main_call0_v3_apply, val_main_call0_v2_apply,
    val_main_call0_v1_apply, val_main_call0_v0_apply, val_main_call0_cst_apply, val_main_call0_cst_0_apply, val_main_v18_apply,
    proj_at X G W Cw Cb]
  rfl

theorem dt_at (i : S16384x128.Idx) : val_main_v65 (F := Ideal) X G W i = dt (arrays X G W Cw Cb) (i 0).val (i 1).val := by
  unfold val_main_v65 dt
  refine (concatenate_replicate_apply (1 : Fin S16384x128.rank) 4 (val_main_v61 (F := Ideal) X G W) _ rfl i
    (ValueIdx.ix2 ⟨(i 0).val, (i 0).isLt⟩ ⟨(i 1).val % 32, Nat.mod_lt _ (by decide)⟩) rfl fun b hb => ?_).trans ?_
  · match b, hb with
    | ⟨0, _⟩, _ => rfl
    | ⟨1, _⟩, hb => exact absurd rfl hb
  · rw [val_main_v61_apply, proj_at X G W Cw Cb]

/-- The padded projection at a place of its sequence counted from two. -/
theorem padded_at (i : S2x8196x1536.Idx) :
    val_main_v22 (F := Ideal) X G W i
      = if (i 1).val < 2 ∨ 8194 ≤ (i 1).val then 0 else proj (arrays X G W Cw Cb) ((i 0).val * 8192 + (i 1).val - 2) (2560 + (i 2).val) := by
  have h0 : (i 0).val < 2 := (i 0).isLt
  have h2 : (i 2).val < 1536 := (i 2).isLt
  unfold val_main_v22
  by_cases h : (i 1).val < 2 ∨ 8194 ≤ (i 1).val
  · rw [if_pos h]
    refine (pad_apply_of_not_inside _ _ _ _ _ _ _ i 1 fun hin => ?_).trans ?_
    · have a1 : 2 ≤ (i 1).val := hin.1
      have a2 : ((i 1).val - 2) / (0 + 1) < 8192 := hin.2.2
      rw [Nat.div_one] at a2
      omega
    · rw [val_main_call1_v0_apply, val_main_c_apply]
      show ((((0#32 : BitVec 32).toInt : ℝ)) : EReal) = 0
      simp
  · rw [if_neg h]
    refine (pad_apply_of_inside _ _ _ _ _ _ _ i (ValueIdx.ix3 ⟨(i 0).val, h0⟩ ⟨(i 1).val - 2, by omega⟩ ⟨(i 2).val, h2⟩) fun b => ?_).trans ?_
    · match b with
      | ⟨0, _⟩ => show (i 0).val = 0 + (i 0).val * (0 + 1); omega
      | ⟨1, _⟩ => show (i 1).val = 2 + ((i 1).val - 2) * (0 + 1); omega
      | ⟨2, _⟩ => show (i 2).val = 0 + (i 2).val * (0 + 1); omega
    · rw [val_main_v21_apply, val_main_v20_apply, proj_at X G W Cw Cb]
      refine congrArg₂ (proj _) ?_ ?_
      · show (((i 0).val * 8192 + ((i 1).val - 2)) * 1536 + (i 2).val) / 1536 = _
        omega
      · show 2560 + (((i 0).val * 8192 + ((i 1).val - 2)) * 1536 + (i 2).val) % 1536 = _
        omega

theorem conv_at (i : S16384x1536.Idx) : val_main_v59 (F := Ideal) X G W Cw Cb i = conv (arrays X G W Cw Cb) (i 0).val (i 1).val := by
  have h0 : (i 0).val < 16384 := (i 0).isLt
  have h1 : (i 1).val < 1536 := (i 1).isLt
  rw [val_main_v59_apply, val_main_v57_apply, val_main_v56_apply, val_main_v49_apply, val_main_v42_apply, val_main_v35_apply, val_main_v28_apply,
    val_main_v34_apply, val_main_v41_apply, val_main_v48_apply, val_main_v55_apply,
    val_main_v23_apply, val_main_v29_apply, val_main_v36_apply, val_main_v43_apply, val_main_v50_apply,
    val_main_v27_apply, val_main_v26_apply, val_main_v25_apply, val_main_v24_apply,
    val_main_v33_apply, val_main_v32_apply, val_main_v31_apply, val_main_v30_apply,
    val_main_v40_apply, val_main_v39_apply, val_main_v38_apply, val_main_v37_apply,
    val_main_v47_apply, val_main_v46_apply, val_main_v45_apply, val_main_v44_apply,
    val_main_v54_apply, val_main_v53_apply, val_main_v52_apply, val_main_v51_apply, val_main_v58_apply,
    padded_at X G W Cw Cb, padded_at X G W Cw Cb, padded_at X G W Cw Cb, padded_at X G W Cw Cb, padded_at X G W Cw Cb]
  have e0 : (idx_main_v57 i 0).val = (i 0).val / 8192 := by
    show ((i 0).val * 1536 + (i 1).val) / (8192 * 1536) = _
    omega
  have e1 : (idx_main_v57 i 1).val = (i 0).val % 8192 := by
    show ((i 0).val * 1536 + (i 1).val) / 1536 % 8192 = _
    omega
  have e2 : (idx_main_v57 i 2).val = (i 1).val := by
    show ((i 0).val * 1536 + (i 1).val) % 1536 = _
    omega
  have e3 : (idx_main_v57 i 2).val % 1536 = (i 1).val := by omega
  have place : ∀ d : ℕ, (if d + (idx_main_v57 i 1).val < 2 ∨ 8194 ≤ d + (idx_main_v57 i 1).val then 0 else
      proj (arrays X G W Cw Cb) ((idx_main_v57 i 0).val * 8192 + (d + (idx_main_v57 i 1).val) - 2) (2560 + (idx_main_v57 i 2).val))
        = tap (arrays X G W Cw Cb) (i 0).val d (i 1).val := fun d => by
    rw [e0, e1, e2]
    unfold tap
    by_cases h : (i 0).val % 8192 + d < 2 ∨ 8194 ≤ (i 0).val % 8192 + d
    · rw [if_pos h, if_pos (by omega)]
    · rw [if_neg h, if_neg (by omega)]
      exact congrArg (proj _ · _) (by omega)
  have first := place 0
  rw [Nat.zero_add] at first
  unfold conv
  refine congrArg₂ (· + ·) (congrArg₂ (· + ·) (congrArg₂ (· + ·) (congrArg₂ (· + ·) (congrArg₂ (· + ·) (congrArg₂ (· * ·) first (at2_of Cw _ _ _ rfl e3))
    (congrArg₂ (· * ·) (place 1) (at2_of Cw _ _ _ rfl e3))) (congrArg₂ (· * ·) (place 2) (at2_of Cw _ _ _ rfl e3)))
    (congrArg₂ (· * ·) (place 3) (at2_of Cw _ _ _ rfl e3))) (congrArg₂ (· * ·) (place 4) (at2_of Cw _ _ _ rfl e3))) (at2_of Cb _ _ _ rfl rfl)

theorem xbc_at (i : S16384x1536.Idx) : val_main_v64 (F := Ideal) X G W Cw Cb i = xbc (arrays X G W Cw Cb) (i 0).val (i 1).val := by
  rw [val_main_v64_apply]
  show val_main_v60 (F := Ideal) X G W Cw Cb i = _
  rw [val_main_v60_apply, val_main_call2_v5_apply, val_main_call2_v4_apply, val_main_call2_v3_apply, val_main_call2_v2_apply,
    val_main_call2_v1_apply, val_main_call2_v0_apply, val_main_call2_cst_apply, val_main_call2_cst_0_apply, conv_at X G W Cw Cb]
  rfl

end Cert.Reference3Ideal.In

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Final
public import proofs.«01_k».proof.Proof.RefAt
public import proofs.«01_k».proof.Proof.MixFinal
public import proofs.«01_k».proof.Proof.MixRef
public import proofs.«01_k».proof.Proof.PromptFinal
public import proofs.«01_k».proof.Proof.PromptRef
public import proofs.«01_k».proof.Proof.InFinal
public import proofs.«01_k».proof.Proof.InRef
public import Idealize.ShloMosaic.Adequacy
public import Idealize.ShloMosaic.Init

@[expose] public section

set_option maxRecDepth 65536

noncomputable section

namespace Cert.Proof

open Idealize.ShloMosaic Idealize.SL.Sem Cert.Kernel

/-- The side conditions of the precondition's operations. -/
theorem facts_finite : Cert.Pre_finite.Facts where
  slices_S16384x1536_S16384x1024_0_0 := by decide
  bcast_S_S16384x1024 := by decide
  bcast_S_S8x15x31 := by decide

/-- An extended real whose absolute value is below `+∞` is a real number. -/
theorem real_of_below (x : EReal) (h : FloatOps.cmpf (F := Ideal) .olt (φ := .f32) (FloatOps.hostAbsf (F := Ideal) (φ := .f32) x) (FloatOps.ofBits (F := Ideal) .f32 0x7F800000#32) = 1#1) :
    ∃ r : ℝ, x = r := by
  have hb : FloatOps.ofBits (F := Ideal) .f32 0x7F800000#32 = (⊤ : EReal) := by
    show Ideal.ofBits .f32 0x7F800000#32 = ⊤
    simp [Ideal.ofBits, Ideal.ieee]
  rw [hb] at h
  have h' : max x (-x) < (⊤ : EReal) := by
    by_contra hn
    have : BitVec.ofBool (decide (max x (-x) < (⊤ : EReal))) = 1#1 := h
    rw [decide_eq_false hn] at this
    exact absurd this (by decide)
  induction x using EReal.rec with
  | bot => simp at h'
  | coe r => exact ⟨r, rfl⟩
  | top => simp at h'

/-- Under the precondition the queries and the keys are real numbers. -/
theorem real_keys (m : (ℓ : Loc Cert.KernelIdeal.nD Cert.KernelIdeal.τ Cert.KernelIdeal.sig) → Buf (Elt Ideal) ℓ)
    (h : Cert.Pre_KernelIdeal_finite (hPre_finite := facts_finite) m) (c : Dev Cert.KernelIdeal.nD) (T j : ℕ) (hj : j < 1024) :
    ∃ r : ℝ, Cert.Att.at2 (a := 16384) (b := 1536) (m (c.tc.loc Cert.KernelIdeal.main_arg0)) T j = r := by
  by_cases hT : T < 16384
  · rw [← Cert.Att.at2_of (m (c.tc.loc Cert.KernelIdeal.main_arg0)) (ix2 ⟨T, hT⟩ ⟨j, by omega⟩) T j rfl rfl]
    refine real_of_below _ ?_
    have e := congrFun (h c).1 (ix2 ⟨T, hT⟩ ⟨j, hj⟩)
    refine Eq.trans ?_ e
    refine congrArg (fun z : EReal => FloatOps.cmpf (F := Ideal) .olt (φ := .f32) (FloatOps.hostAbsf (F := Ideal) (φ := .f32) z)
      (FloatOps.ofBits (F := Ideal) .f32 0x7F800000#32)) (congrArg (m (c.tc.loc Cert.KernelIdeal.main_arg0)) ?_)
    funext a
    match a with
    | ⟨0, _⟩ => exact Fin.ext (by show T = 0 + T; omega)
    | ⟨1, _⟩ => exact Fin.ext (by show j = 0 + j; omega)
  · refine ⟨0, ?_⟩
    unfold Cert.Att.at2
    rw [dif_neg (fun h => hT h.1)]
    rfl

/-- Under the precondition the biases are real numbers. -/
theorem real_biases (m : (ℓ : Loc Cert.KernelIdeal.nD Cert.KernelIdeal.τ Cert.KernelIdeal.sig) → Buf (Elt Ideal) ℓ)
    (h : Cert.Pre_KernelIdeal_finite (hPre_finite := facts_finite) m) (c : Dev Cert.KernelIdeal.nD) (a b d : ℕ) :
    ∃ r : ℝ, Cert.Att.at3 (a := 8) (b := 15) (c := 31) (m (c.tc.loc Cert.KernelIdeal.main_arg1)) a b d = r := by
  by_cases hT : a < 8 ∧ b < 15 ∧ d < 31
  · rw [← Cert.Att.at3_of (m (c.tc.loc Cert.KernelIdeal.main_arg1)) (ix3 ⟨a, hT.1⟩ ⟨b, hT.2.1⟩ ⟨d, hT.2.2⟩) a b d rfl rfl rfl]
    exact real_of_below _ (congrFun (h c).2 (ix3 ⟨a, hT.1⟩ ⟨b, hT.2.1⟩ ⟨d, hT.2.2⟩))
  · refine ⟨0, ?_⟩
    unfold Cert.Att.at3
    rw [dif_neg hT]
    rfl

/-- The kernel and its reference give equal results. -/
theorem equal : Cert.algebraic_KernelIdeal_ReferenceIdeal_pre_finite (hKernelIdeal := Cert.KernelIdeal.Gen.facts)
    (hReferenceIdeal := Cert.ReferenceIdeal.Gen.facts) (hPre_finite := facts_finite) := by
  intro m g m' g' hp hm
  refine ⟨fun c => (Cert.KernelIdeal.Gen.dats m 0 c).arrAt 5 Cert.KernelIdeal.cfg0.N, Cert.KernelIdeal.Value.run_blocks m g, ?_⟩
  refine (θ_run _ _ _).mono (fun r hr c => ⟨(hr c).1.trans ?_, (hr c).2⟩) (Cert.ReferenceIdeal.Value.run m' g')
  refine Eq.trans ?_ (Cert.KernelIdeal.Att.array m c (real_keys m hp c) (real_biases m hp c)).symm
  rw [Cert.ReferenceIdeal.Read.val_main_v87_eq, (hm c).1, (hm c).2.1, (hm c).2.2]
  exact funext fun i => Cert.ReferenceIdeal.Att.result_at _ _ _ i

/-- The reference runs, keeps its arguments and declares no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩) (Cert.ReferenceIdeal.Value.run (F := Ideal) m g)

/-- The second kernel and its reference give equal results, whatever the arguments. -/
theorem equal_mix : Cert.algebraic_Kernel2Ideal_Reference2Ideal (hKernel2Ideal := Cert.Kernel2Ideal.Gen.facts)
    (hReference2Ideal := Cert.Reference2Ideal.Gen.facts) := by
  intro m g m' g' _ hm
  refine ⟨fun c => (Cert.Kernel2Ideal.Gen.dats m 0 c).arrAt 19 Cert.Kernel2Ideal.cfg0.N, Cert.Kernel2Ideal.Value.run_blocks m g, ?_⟩
  refine (θ_run _ _ _).mono (fun r hr c => ⟨(hr c).1.trans ?_, (hr c).2⟩) (Cert.Reference2Ideal.Value.run m' g')
  refine Eq.trans ?_ (Cert.Kernel2Ideal.Mix.array m c).symm
  obtain ⟨h0, h1, h2, h3, h4, h5, h6, h7, h8, h9, h10, h11⟩ := hm c
  rw [Cert.Reference2Ideal.Read.val_main_v81_eq]
  change Cert.Reference2Ideal.Read.val_main_v81 (F := Ideal) (m' (c.tc.loc Cert.Reference2Ideal.main_arg0)) (m' (c.tc.loc Cert.Reference2Ideal.main_arg1)) (m' (c.tc.loc
      Cert.Reference2Ideal.main_arg2)) (m' (c.tc.loc Cert.Reference2Ideal.main_arg3)) (m' (c.tc.loc
      Cert.Reference2Ideal.main_arg4)) (m' (c.tc.loc Cert.Reference2Ideal.main_arg5)) (m' (c.tc.loc
      Cert.Reference2Ideal.main_arg6)) (m' (c.tc.loc Cert.Reference2Ideal.main_arg7)) (m' (c.tc.loc
      Cert.Reference2Ideal.main_arg8)) (m' (c.tc.loc Cert.Reference2Ideal.main_arg9)) (m' (c.tc.loc
      Cert.Reference2Ideal.main_arg10)) (m' (c.tc.loc Cert.Reference2Ideal.main_arg11)) = _
  rw [h0, h1, h2, h3, h4, h5, h6, h7, h8, h9, h10, h11]
  exact funext fun i => Cert.Reference2Ideal.Mix.out_at _ _ _ _ _ _ _ _ _ _ _ _ i

/-- The second reference runs, keeps its arguments and declares no semaphore. -/
theorem frame_reference_mix (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0) :=
  (θ_run Cert.Reference2Ideal.defs _ _).mono (fun r h => ⟨fun c => (h c).2, sem_eq_zero_of_no_sems (by decide) r.2⟩) (Cert.Reference2Ideal.Value.run (F := Ideal) m g)

/-- The third kernel and its reference give equal results, whatever the arguments. -/
theorem equal_in : Cert.algebraic_Kernel3Ideal_Reference3Ideal (hKernel3Ideal := Cert.Kernel3Ideal.Gen.facts)
    (hReference3Ideal := Cert.Reference3Ideal.Gen.facts) := by
  intro m g m' g' _ hm
  refine ⟨fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 13 Cert.Kernel3Ideal.cfg0.N,
    Cert.Kernel3Ideal.Value.run_blocks m g, ?_⟩
  refine (θ_run _ _ _).mono (fun r hr c => ⟨(hr c).1.trans ?_, (hr c).2.1.trans ?_, (hr c).2.2.1.trans ?_, (hr c).2.2.2.1.trans ?_, (hr c).2.2.2.2⟩)
    (Cert.Reference3Ideal.Value.run m' g')
  · refine Eq.trans ?_ (Cert.Kernel3Ideal.In.qkv_array m c).symm
    obtain ⟨h0, h1, h2, h3, h4⟩ := hm c
    rw [Cert.Reference3Ideal.Read.val_main_v62_eq]
    change Cert.Reference3Ideal.Read.val_main_v62 (F := Ideal) (m' (c.tc.loc Cert.Reference3Ideal.main_arg0)) (m' (c.tc.loc Cert.Reference3Ideal.main_arg1)) (m' (c.tc.loc Cert.Reference3Ideal.main_arg2)) = _
    rw [h0, h1, h2]
    exact funext fun i => Cert.Reference3Ideal.In.qkv_at _ _ _ (m (c.tc.loc Cert.Kernel3Ideal.main_arg3)) (m (c.tc.loc Cert.Kernel3Ideal.main_arg4)) i
  · refine Eq.trans ?_ (Cert.Kernel3Ideal.In.z_array m c).symm
    obtain ⟨h0, h1, h2, h3, h4⟩ := hm c
    rw [Cert.Reference3Ideal.Read.val_main_v63_eq]
    change Cert.Reference3Ideal.Read.val_main_v63 (F := Ideal) (m' (c.tc.loc Cert.Reference3Ideal.main_arg0)) (m' (c.tc.loc Cert.Reference3Ideal.main_arg1)) (m' (c.tc.loc Cert.Reference3Ideal.main_arg2)) = _
    rw [h0, h1, h2]
    exact funext fun i => Cert.Reference3Ideal.In.z_at _ _ _ (m (c.tc.loc Cert.Kernel3Ideal.main_arg3)) (m (c.tc.loc Cert.Kernel3Ideal.main_arg4)) i
  · refine Eq.trans ?_ (Cert.Kernel3Ideal.In.xbc_array m c).symm
    obtain ⟨h0, h1, h2, h3, h4⟩ := hm c
    rw [Cert.Reference3Ideal.Read.val_main_v64_eq]
    change Cert.Reference3Ideal.Read.val_main_v64 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) = _
    rw [h0, h1, h2, h3, h4]
    exact funext fun i => Cert.Reference3Ideal.In.xbc_at _ _ _ _ _ i
  · refine Eq.trans ?_ (Cert.Kernel3Ideal.In.dt_array m c).symm
    obtain ⟨h0, h1, h2, h3, h4⟩ := hm c
    rw [Cert.Reference3Ideal.Read.val_main_v65_eq]
    change Cert.Reference3Ideal.Read.val_main_v65 (F := Ideal) (m' (c.tc.loc Cert.Reference3Ideal.main_arg0)) (m' (c.tc.loc Cert.Reference3Ideal.main_arg1)) (m' (c.tc.loc Cert.Reference3Ideal.main_arg2)) = _
    rw [h0, h1, h2]
    exact funext fun i => Cert.Reference3Ideal.In.dt_at _ _ _ (m (c.tc.loc Cert.Kernel3Ideal.main_arg3)) (m (c.tc.loc Cert.Kernel3Ideal.main_arg4)) i

/-- The third reference runs, keeps its arguments and declares no semaphore. -/
theorem frame_reference_in (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run Cert.Reference3Ideal.defs _ _).mono (fun r h => ⟨fun c => (h c).2.2.2.2, sem_eq_zero_of_no_sems (by decide) r.2⟩) (Cert.Reference3Ideal.Value.run (F := Ideal) m g)

/-- The fourth kernel and its reference give equal results, whatever the arguments. -/
theorem equal_prompt : Cert.algebraic_Kernel4Ideal_Reference4Ideal (hKernel4Ideal := Cert.Kernel4Ideal.Gen.facts)
    (hReference4Ideal := Cert.Reference4Ideal.Gen.facts) := by
  intro m g m' g' _ hm
  refine ⟨fun c => (Cert.Kernel4Ideal.Gen.dats m 0 c).arrAt 19 Cert.Kernel4Ideal.cfg0.N, Cert.Kernel4Ideal.Value.run_blocks m g, ?_⟩
  refine (θ_run _ _ _).mono (fun r hr c => ⟨(hr c).1.trans ?_, (hr c).2⟩) (Cert.Reference4Ideal.Value.run m' g')
  refine Eq.trans ?_ (Cert.Kernel4Ideal.Mix.array m c).symm
  obtain ⟨h0, h1, h2, h3, h4, h5, h6, h7, h8, h9, h10, h11⟩ := hm c
  rw [Cert.Reference4Ideal.Read.val_main_v81_eq]
  change Cert.Reference4Ideal.Read.val_main_v81 (F := Ideal) (m' (c.tc.loc Cert.Reference4Ideal.main_arg0)) (m' (c.tc.loc Cert.Reference4Ideal.main_arg1)) (m' (c.tc.loc
      Cert.Reference4Ideal.main_arg2)) (m' (c.tc.loc Cert.Reference4Ideal.main_arg3)) (m' (c.tc.loc
      Cert.Reference4Ideal.main_arg4)) (m' (c.tc.loc Cert.Reference4Ideal.main_arg5)) (m' (c.tc.loc
      Cert.Reference4Ideal.main_arg6)) (m' (c.tc.loc Cert.Reference4Ideal.main_arg7)) (m' (c.tc.loc
      Cert.Reference4Ideal.main_arg8)) (m' (c.tc.loc Cert.Reference4Ideal.main_arg9)) (m' (c.tc.loc
      Cert.Reference4Ideal.main_arg10)) (m' (c.tc.loc Cert.Reference4Ideal.main_arg11)) = _
  rw [h0, h1, h2, h3, h4, h5, h6, h7, h8, h9, h10, h11]
  exact funext fun i => Cert.Reference4Ideal.Mix.out_at _ _ _ _ _ _ _ _ _ _ _ _ i

/-- The fourth reference runs, keeps its arguments and declares no semaphore. -/
theorem frame_reference_prompt (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0) :=
  (θ_run Cert.Reference4Ideal.defs _ _).mono (fun r h => ⟨fun c => (h c).2, sem_eq_zero_of_no_sems (by decide) r.2⟩) (Cert.Reference4Ideal.Value.run (F := Ideal) m g)

/-- The claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, facts_finite,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ,
    fun m ρ _ => Cert.Kernel2.Gen.frame m ρ, fun m ρ _ => Cert.Kernel2Ideal.Gen.frame m ρ, fun m ρ _ => frame_reference_mix m ρ,
    fun m ρ _ => Cert.Kernel3.Gen.frame m ρ, fun m ρ _ => Cert.Kernel3Ideal.Gen.frame m ρ, fun m ρ _ => frame_reference_in m ρ,
    fun m ρ _ => Cert.Kernel4.Gen.frame m ρ, fun m ρ _ => Cert.Kernel4Ideal.Gen.frame m ρ, fun m ρ _ => frame_reference_prompt m ρ,
    trivial, equal, trivial, equal_mix, trivial, equal_in, trivial, equal_prompt⟩

end Cert.Proof

end
